-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def preserves_Kernel_KernelIdeal : Prop :=
  IdealRules.named_const.Statement Cert.KernelIdeal.κ "inv_sqrt_160" .bf16 0x3DA2#16 (((Real.sqrt 160)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def preserves_Proj_ProjIdeal : Prop :=
  IdealRules.named_const.Statement Cert.ProjIdeal.κ "inv_sqrt_160" .bf16 0x3DA2#16 (((Real.sqrt 160)⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m ((c.tc : Thread Cert.ProjIdeal.nD Cert.ProjIdeal.τ).loc Cert.ProjIdeal.main_arg0) = m' (((0 : Dev Cert.ProjReferenceIdeal.nD).tc : Thread Cert.ProjReferenceIdeal.nD Cert.ProjReferenceIdeal.τ).loc Cert.ProjReferenceIdeal.main_arg0)
      ∧ m ((c.tc : Thread Cert.ProjIdeal.nD Cert.ProjIdeal.τ).loc Cert.ProjIdeal.main_arg1) = Layout.blockN ⟨2, ![2048, 128]⟩ ⟨2, ![2048, 256]⟩ (Layout.meshBlock [2, 2] ![[], [1]] c) (m' (((0 : Dev Cert.ProjReferenceIdeal.nD).tc : Thread Cert.ProjReferenceIdeal.nD Cert.ProjReferenceIdeal.τ).loc Cert.ProjReferenceIdeal.main_arg1))
      ∧ m ((c.tc : Thread Cert.ProjIdeal.nD Cert.ProjIdeal.τ).loc Cert.ProjIdeal.main_arg2) = Layout.blockN ⟨2, ![128, 2048]⟩ ⟨2, ![256, 2048]⟩ (Layout.meshBlock [2, 2] ![[1], []] c) (m' (((0 : Dev Cert.ProjReferenceIdeal.nD).tc : Thread Cert.ProjReferenceIdeal.nD Cert.ProjReferenceIdeal.τ).loc Cert.ProjReferenceIdeal.main_arg2))
      ∧ m ((c.tc : Thread Cert.ProjIdeal.nD Cert.ProjIdeal.τ).loc Cert.ProjIdeal.main_arg3) = Layout.blockN ⟨2, ![128, 2048]⟩ ⟨2, ![256, 2048]⟩ (Layout.meshBlock [2, 2] ![[1], []] c) (m' (((0 : Dev Cert.ProjReferenceIdeal.nD).tc : Thread Cert.ProjReferenceIdeal.nD Cert.ProjReferenceIdeal.τ).loc Cert.ProjReferenceIdeal.main_arg3))
      ∧ m ((c.tc : Thread Cert.ProjIdeal.nD Cert.ProjIdeal.τ).loc Cert.ProjIdeal.main_arg4) = m' (((0 : Dev Cert.ProjReferenceIdeal.nD).tc : Thread Cert.ProjReferenceIdeal.nD Cert.ProjReferenceIdeal.τ).loc Cert.ProjReferenceIdeal.main_arg4)
      ∧ m ((c.tc : Thread Cert.ProjIdeal.nD Cert.ProjIdeal.τ).loc Cert.ProjIdeal.main_arg5) = m' (((0 : Dev Cert.ProjReferenceIdeal.nD).tc : Thread Cert.ProjReferenceIdeal.nD Cert.ProjReferenceIdeal.τ).loc Cert.ProjReferenceIdeal.main_arg5)
      ∧ m ((c.tc : Thread Cert.ProjIdeal.nD Cert.ProjIdeal.τ).loc Cert.ProjIdeal.main_arg6) = m' (((0 : Dev Cert.ProjReferenceIdeal.nD).tc : Thread Cert.ProjReferenceIdeal.nD Cert.ProjReferenceIdeal.τ).loc Cert.ProjReferenceIdeal.main_arg6)) →
    ∃ (v0 : Buf (Elt Ideal) (((0 : Dev Cert.ProjReferenceIdeal.nD).tc : Thread Cert.ProjReferenceIdeal.nD Cert.ProjReferenceIdeal.τ).loc Cert.ProjReferenceIdeal.main_v19)) (v1 : Buf (Elt Ideal) (((0 : Dev Cert.ProjReferenceIdeal.nD).tc : Thread Cert.ProjReferenceIdeal.nD Cert.ProjReferenceIdeal.τ).loc Cert.ProjReferenceIdeal.main_v20)) (v2 : Buf (Elt Ideal) (((0 : Dev Cert.ProjReferenceIdeal.nD).tc : Thread Cert.ProjReferenceIdeal.nD Cert.ProjReferenceIdeal.τ).loc Cert.ProjReferenceIdeal.main_v21)) (v3 : Buf (Elt Ideal) (((0 : Dev Cert.ProjReferenceIdeal.nD).tc : Thread Cert.ProjReferenceIdeal.nD Cert.ProjReferenceIdeal.τ).loc Cert.ProjReferenceIdeal.main_v22)) (v4 : Buf (Elt Ideal) (((0 : Dev Cert.ProjReferenceIdeal.nD).tc : Thread Cert.ProjReferenceIdeal.nD Cert.ProjReferenceIdeal.τ).loc Cert.ProjReferenceIdeal.main_v23)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = Layout.blockN ⟨2, ![512, 2048]⟩ ⟨2, ![1024, 2048]⟩ (Layout.meshBlock [2, 2] ![[0], []] c) v0
          ∧ r.2.mem ((c.tc : Thread Cert.ProjIdeal.nD Cert.ProjIdeal.τ).loc Cert.ProjIdeal.main_v1_1) = Layout.blockN ⟨3, ![16, 512, 32]⟩ ⟨3, ![16, 1024, 32]⟩ (Layout.meshBlock [2, 2] ![[], [0], []] c) v1
          ∧ r.2.mem ((c.tc : Thread Cert.ProjIdeal.nD Cert.ProjIdeal.τ).loc Cert.ProjIdeal.main_v1_2) = v2
          ∧ r.2.mem ((c.tc : Thread Cert.ProjIdeal.nD Cert.ProjIdeal.τ).loc Cert.ProjIdeal.main_v1_3) = v3
          ∧ r.2.mem ((c.tc : Thread Cert.ProjIdeal.nD Cert.ProjIdeal.τ).loc Cert.ProjIdeal.main_v1_4) = v4
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r =>
          r.2.mem (((0 : Dev Cert.ProjReferenceIdeal.nD).tc : Thread Cert.ProjReferenceIdeal.nD Cert.ProjReferenceIdeal.τ).loc Cert.ProjReferenceIdeal.main_v19) = v0
          ∧ r.2.mem (((0 : Dev Cert.ProjReferenceIdeal.nD).tc : Thread Cert.ProjReferenceIdeal.nD Cert.ProjReferenceIdeal.τ).loc Cert.ProjReferenceIdeal.main_v20) = v1
          ∧ r.2.mem (((0 : Dev Cert.ProjReferenceIdeal.nD).tc : Thread Cert.ProjReferenceIdeal.nD Cert.ProjReferenceIdeal.τ).loc Cert.ProjReferenceIdeal.main_v21) = v2
          ∧ r.2.mem (((0 : Dev Cert.ProjReferenceIdeal.nD).tc : Thread Cert.ProjReferenceIdeal.nD Cert.ProjReferenceIdeal.τ).loc Cert.ProjReferenceIdeal.main_v22) = v3
          ∧ r.2.mem (((0 : Dev Cert.ProjReferenceIdeal.nD).tc : Thread Cert.ProjReferenceIdeal.nD Cert.ProjReferenceIdeal.τ).loc Cert.ProjReferenceIdeal.main_v23) = v4
          ∧ r.2.mem (((0 : Dev Cert.ProjReferenceIdeal.nD).tc : Thread Cert.ProjReferenceIdeal.nD Cert.ProjReferenceIdeal.τ).loc Cert.ProjReferenceIdeal.main_arg0) = m' (((0 : Dev Cert.ProjReferenceIdeal.nD).tc : Thread Cert.ProjReferenceIdeal.nD Cert.ProjReferenceIdeal.τ).loc Cert.ProjReferenceIdeal.main_arg0)
          ∧ r.2.mem (((0 : Dev Cert.ProjReferenceIdeal.nD).tc : Thread Cert.ProjReferenceIdeal.nD Cert.ProjReferenceIdeal.τ).loc Cert.ProjReferenceIdeal.main_arg1) = m' (((0 : Dev Cert.ProjReferenceIdeal.nD).tc : Thread Cert.ProjReferenceIdeal.nD Cert.ProjReferenceIdeal.τ).loc Cert.ProjReferenceIdeal.main_arg1)
          ∧ r.2.mem (((0 : Dev Cert.ProjReferenceIdeal.nD).tc : Thread Cert.ProjReferenceIdeal.nD Cert.ProjReferenceIdeal.τ).loc Cert.ProjReferenceIdeal.main_arg2) = m' (((0 : Dev Cert.ProjReferenceIdeal.nD).tc : Thread Cert.ProjReferenceIdeal.nD Cert.ProjReferenceIdeal.τ).loc Cert.ProjReferenceIdeal.main_arg2)
          ∧ r.2.mem (((0 : Dev Cert.ProjReferenceIdeal.nD).tc : Thread Cert.ProjReferenceIdeal.nD Cert.ProjReferenceIdeal.τ).loc Cert.ProjReferenceIdeal.main_arg3) = m' (((0 : Dev Cert.ProjReferenceIdeal.nD).tc : Thread Cert.ProjReferenceIdeal.nD Cert.ProjReferenceIdeal.τ).loc Cert.ProjReferenceIdeal.main_arg3)
          ∧ r.2.mem (((0 : Dev Cert.ProjReferenceIdeal.nD).tc : Thread Cert.ProjReferenceIdeal.nD Cert.ProjReferenceIdeal.τ).loc Cert.ProjReferenceIdeal.main_arg4) = m' (((0 : Dev Cert.ProjReferenceIdeal.nD).tc : Thread Cert.ProjReferenceIdeal.nD Cert.ProjReferenceIdeal.τ).loc Cert.ProjReferenceIdeal.main_arg4)
          ∧ r.2.mem (((0 : Dev Cert.ProjReferenceIdeal.nD).tc : Thread Cert.ProjReferenceIdeal.nD Cert.ProjReferenceIdeal.τ).loc Cert.ProjReferenceIdeal.main_arg5) = m' (((0 : Dev Cert.ProjReferenceIdeal.nD).tc : Thread Cert.ProjReferenceIdeal.nD Cert.ProjReferenceIdeal.τ).loc Cert.ProjReferenceIdeal.main_arg5)
          ∧ r.2.mem (((0 : Dev Cert.ProjReferenceIdeal.nD).tc : Thread Cert.ProjReferenceIdeal.nD Cert.ProjReferenceIdeal.τ).loc Cert.ProjReferenceIdeal.main_arg6) = m' (((0 : Dev Cert.ProjReferenceIdeal.nD).tc : Thread Cert.ProjReferenceIdeal.nD Cert.ProjReferenceIdeal.τ).loc Cert.ProjReferenceIdeal.main_arg6))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
    ∧ preserves_Proj_ProjIdeal
    ∧ algebraic_ProjIdeal_ProjReferenceIdeal (hProjIdeal := hProjIdeal) (hProjReferenceIdeal := hProjReferenceIdeal)
-- ==== Pre_finite_KernelIdeal.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S1x1024x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S1x1024x2048 1 × IVec S2048x128 1 × IVec S128x2048 1 × IVec S2048x2048 1 × IVec S2048x512 1 × IVec S2048x32 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x2048 .f32 := Host.absf main_arg2
  let main_cst_1 : FVec F S_ .f32 := constant S_ .f32 0x7F800000#32
  let main_v7 : FVec F S128x2048 .f32 := broadcastInDim S128x2048 ![] bcast_S_S128x2048 main_cst_1
  let main_v8 : IVec S128x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Pre_finite_ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  bcast_S_S2048x256 : S_.BroadcastsInDim S2048x256 (![] : Fin 0 → Fin S2048x256.rank)
  bcast_S_S256x2048 : S_.BroadcastsInDim S256x2048 (![] : Fin 0 → Fin S256x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S1x1024x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S1x1024x2048 1 × IVec S2048x256 1 × IVec S256x2048 1 × IVec S2048x2048 1 × IVec S2048x512 1 × IVec S2048x32 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S256x2048 .f32 := Host.absf main_arg2
  let main_cst_1 : FVec F S_ .f32 := constant S_ .f32 0x7F800000#32
  let main_v7 : FVec F S256x2048 .f32 := broadcastInDim S256x2048 ![] bcast_S_S256x2048 main_cst_1
  let main_v8 : IVec S256x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S512x2048 : Shape := ⟨2, ![512, 2048]⟩
abbrev S16x512x32 : Shape := ⟨3, ![16, 512, 32]⟩
abbrev S1024x32 : Shape := ⟨2, ![1024, 32]⟩
abbrev S1024x128 : Shape := ⟨2, ![1024, 128]⟩
abbrev S3 : Shape := ⟨1, ![3]⟩
abbrev S2 : Shape := ⟨1, ![2]⟩
abbrev S_ : Shape := ⟨0, ![]⟩
abbrev S1 : Shape := ⟨1, ![1]⟩
abbrev S512x512 : Shape := ⟨2, ![512, 512]⟩
abbrev S512x32 : Shape := ⟨2, ![512, 32]⟩
abbrev S1x512x32 : Shape := ⟨3, ![1, 512, 32]⟩
abbrev S512x128 : Shape := ⟨2, ![512, 128]⟩
abbrev S16x512x128 : Shape := ⟨3, ![16, 512, 128]⟩
abbrev S16 : Shape := ⟨1, ![16]⟩
abbrev S512x1024 : Shape := ⟨2, ![512, 1024]⟩
abbrev S512 : Shape := ⟨1, ![512]⟩
abbrev S512x1 : Shape := ⟨2, ![512, 1]⟩
abbrev S1x512x128 : Shape := ⟨3, ![1, 512, 128]⟩

abbrev nBuf : Space → Nat
  | .hbm => 20
  | .vmem => 30
  | .smem => 0
  | _ => 0

abbrev bufTy : (tb : Table) → Fin (tcTables nBuf tb) → BufTy
  | .hbm, ⟨0, _⟩ => ⟨S1x1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x2048, .bf16⟩
  | .hbm, ⟨10, _⟩ => ⟨S2048x128, .bf16⟩
  | .hbm, ⟨11, _⟩ => ⟨S128x2048, .bf16⟩
  | .hbm, ⟨12, _⟩ => ⟨S128x2048, .bf16⟩
  | .hbm, ⟨13, _⟩ => ⟨S2048x32, .bf16⟩
  | .hbm, ⟨14, _⟩ => ⟨S512x2048, .bf16⟩
  | .hbm, ⟨15, _⟩ => ⟨S16x512x32, .bf16⟩
  | .hbm, ⟨16, _⟩ => ⟨S1024x32, .bf16⟩
  | .hbm, ⟨17, _⟩ => ⟨S1024x2048, .bf16⟩
  | .hbm, ⟨18, _⟩ => ⟨S1024x2048, .bf16⟩
  | .hbm, ⟨19, _⟩ => ⟨S1x1024x2048, .bf16⟩
  | .local _ .vmem, ⟨0, _⟩ => ⟨S1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x32, .bf16⟩
  | .local _ .vmem, ⟨5, _⟩ => ⟨S512x2048, .bf16⟩
  | .local _ .vmem, ⟨6, _⟩ => ⟨S16x512x32, .bf16⟩
  | .local _ .vmem, ⟨7, _⟩ => ⟨S1024x32, .bf16⟩
  | .local _ .vmem, ⟨8, _⟩ => ⟨S1024x2048, .bf16⟩
  | .local _ .vmem, ⟨9, _⟩ => ⟨S1024x2048, .bf16⟩
  | .local _ .vmem, ⟨10, _⟩ => ⟨S1024x128, .bf16⟩
  | .local _ .vmem, ⟨11, _⟩ => ⟨S1024x128, .bf16⟩
  | .local _ .vmem, ⟨12, _⟩ => ⟨S128x2048, .bf16⟩
  | .local _ .vmem, ⟨13, _⟩ => ⟨S128x2048, .bf16⟩
  | .local _ .vmem, ⟨14, _⟩ => ⟨S2048x2048, .f32⟩
  | .local _ .vmem, ⟨15, _⟩ => ⟨S2048x512, .f32⟩
  | .local _ .vmem, ⟨16, _⟩ => ⟨S512x128, .bf16⟩
  | .local _ .vmem, ⟨17, _⟩ => ⟨S512x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1x512x32, .bf16⟩
  | .local _ .vmem, ⟨23, _⟩ => ⟨S1x512x32, .bf16⟩
  | .local _ .vmem, ⟨24, _⟩ => ⟨S1024x32, .bf16⟩
  | .local _ .vmem, ⟨25, _⟩ => ⟨S1x1024x2048, .bf16⟩
  | .local _ .vmem, ⟨26, _⟩ => ⟨S16x512x128, .bf16⟩
  | .local _ .vmem, ⟨27, _⟩ => ⟨S16x512x128, .bf16⟩
  | .local _ .vmem, ⟨28, _⟩ => ⟨S1024x2048, .bf16⟩
  | .local _ .vmem, ⟨29, _⟩ => ⟨S2048x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 2 → Bool
  | ⟨0, _⟩ => false
  | ⟨1, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 2 61 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v21 : BitVec 32 := Scalar.muli v2 c2_i32_14
  let v22 : BitVec 32 := Scalar.addi c0_i32_15 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_16 : BitVec 32 := 1#32
  let v23 : BitVec 32 := Scalar.muli v6 c1_i32_16
  let v24 : BitVec 32 := Scalar.addi v22 v23
  v24.toNat
def k0_dev3 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v29 : BitVec 32 := Scalar.muli v2 c2_i32_19
  let v30 : BitVec 32 := Scalar.addi c0_i32_20 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v31 : BitVec 32 := Scalar.muli v6 c1_i32_21
  let v32 : BitVec 32 := Scalar.addi v30 v31
  v32.toNat
def k0_dev4 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v37 : BitVec 32 := Scalar.muli v2 c2_i32_24
  let v38 : BitVec 32 := Scalar.addi c0_i32_25 v37
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v39 : BitVec 32 := Scalar.muli v6 c1_i32_26
  let v40 : BitVec 32 := Scalar.addi v38 v39
  v40.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v65 : BitVec 32 := Scalar.muli v2 c512_i32
  let v66 : Index := Scalar.indexCast v65
  let c0_46 : Index := 0#32
  ![v66.toNat, 0]
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x512x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_4 : BitVec 32 := 0#32
  let v9 : BitVec 1 := Scalar.cmpi .ne v8 c0_i32_4
  v9

def k1_dev1 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v51 : BitVec 32 := Scalar.muli v6 c2_i32_30
  let v52 : BitVec 32 := Scalar.addi c0_i32_31 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v53 : BitVec 32 := Scalar.muli v5 c1_i32_32
  let v54 : BitVec 32 := Scalar.addi v52 v53
  v54.toNat
def k1_off1 (i : grid1.Coords) : Fin 3 → Nat :=
  let arg0 : BitVec 32 := BitVec.ofNat 32 (i 0).val
  let v31 : Index := Scalar.indexCast arg0
  let c0_18 : Index := 0#32
  let c0_19 : Index := 0#32
  ![v31.toNat, 0, 0]
def k1_off2 (i : grid1.Coords) : Fin 1 → Nat :=
  let arg0 : BitVec 32 := BitVec.ofNat 32 (i 0).val
  ![arg0.toNat]
def k1_off3 (i : grid1.Coords) : Fin 3 → Nat :=
  let arg0 : BitVec 32 := BitVec.ofNat 32 (i 0).val
  let c0_i32_23 : BitVec 32 := 0#32
  let c0_i32_24 : BitVec 32 := 0#32
  ![arg0.toNat, 0, 0]
def k1_dev2 (d0 : Dev nD) : Nat :=
  let c0_i32_21 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_20 : BitVec 32 := 2#32
  let v35 : BitVec 32 := Scalar.muli v6 c2_i32_20
  let v36 : BitVec 32 := Scalar.addi c0_i32_21 v35
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_22 : BitVec 32 := 1#32
  let v37 : BitVec 32 := Scalar.muli v5 c1_i32_22
  let v38 : BitVec 32 := Scalar.addi v36 v37
  v38.toNat
def k1_cond2 (i : grid1.Coords) : BitVec 1 :=
  let arg0 : BitVec 32 := BitVec.ofNat 32 (i 0).val
  let c15_i32 : BitVec 32 := 15#32
  let v47 : BitVec 1 := Scalar.cmpi .eq arg0 c15_i32
  let v48 : BitVec 32 := Scalar.extui v47
  let c0_i32_28 : BitVec 32 := 0#32
  let v49 : BitVec 1 := Scalar.cmpi .ne v48 c0_i32_28
  v49

def k1_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v311 : Index := Scalar.indexCast v306
  let c0_342 : Index := 0#32
  ![v311.toNat, 0]
def k1_off5 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v317 : Index := Scalar.indexCast v308
  let c0_346 : Index := 0#32
  ![v317.toNat, 0]
def k1_off6 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v323 : Index := Scalar.indexCast v306
  let c128 : Index := 128#32
  ![v323.toNat, 128]
def k1_off7 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v329 : Index := Scalar.indexCast v308
  let c128_352 : Index := 128#32
  ![v329.toNat, 128]
def k1_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v335 : Index := Scalar.indexCast v306
  let c256 : Index := 256#32
  ![v335.toNat, 256]
def k1_off9 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v341 : Index := Scalar.indexCast v308
  let c256_358 : Index := 256#32
  ![v341.toNat, 256]
def k1_off10 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v347 : Index := Scalar.indexCast v306
  let c384 : Index := 384#32
  ![v347.toNat, 384]
def k1_off11 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v353 : Index := Scalar.indexCast v308
  let c384_364 : Index := 384#32
  ![v353.toNat, 384]
def k1_off12 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v359 : Index := Scalar.indexCast v306
  let c512 : Index := 512#32
  ![v359.toNat, 512]
def k1_off13 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v365 : Index := Scalar.indexCast v308
  let c512_370 : Index := 512#32
  ![v365.toNat, 512]
def k1_off14 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v371 : Index := Scalar.indexCast v306
  let c640 : Index := 640#32
  ![v371.toNat, 640]
def k1_off15 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v377 : Index := Scalar.indexCast v308
  let c640_376 : Index := 640#32
  ![v377.toNat, 640]
def k1_off16 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v383 : Index := Scalar.indexCast v306
  let c768 : Index := 768#32
  ![v383.toNat, 768]
def k1_off17 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v389 : Index := Scalar.indexCast v308
  let c768_382 : Index := 768#32
  ![v389.toNat, 768]
def k1_off18 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v395 : Index := Scalar.indexCast v306
  let c896 : Index := 896#32
  ![v395.toNat, 896]
def k1_off19 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v401 : Index := Scalar.indexCast v308
  let c896_388 : Index := 896#32
  ![v401.toNat, 896]
def k1_off20 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v407 : Index := Scalar.indexCast v306
  let c1024 : Index := 1024#32
  ![v407.toNat, 1024]
def k1_off21 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v413 : Index := Scalar.indexCast v308
  let c1024_394 : Index := 1024#32
  ![v413.toNat, 1024]
def k1_off22 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v419 : Index := Scalar.indexCast v306
  let c1152 : Index := 1152#32
  ![v419.toNat, 1152]
def k1_off23 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v425 : Index := Scalar.indexCast v308
  let c1152_400 : Index := 1152#32
  ![v425.toNat, 1152]
def k1_off24 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v431 : Index := Scalar.indexCast v306
  let c1280 : Index := 1280#32
  ![v431.toNat, 1280]
def k1_off25 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v437 : Index := Scalar.indexCast v308
  let c1280_406 : Index := 1280#32
  ![v437.toNat, 1280]
def k1_off26 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v443 : Index := Scalar.indexCast v306
  let c1408 : Index := 1408#32
  ![v443.toNat, 1408]
def k1_off27 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v449 : Index := Scalar.indexCast v308
  let c1408_412 : Index := 1408#32
  ![v449.toNat, 1408]
def k1_off28 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v455 : Index := Scalar.indexCast v306
  let c1536 : Index := 1536#32
  ![v455.toNat, 1536]
def k1_off29 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v461 : Index := Scalar.indexCast v308
  let c1536_418 : Index := 1536#32
  ![v461.toNat, 1536]
def k1_off30 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v467 : Index := Scalar.indexCast v306
  let c1664 : Index := 1664#32
  ![v467.toNat, 1664]
def k1_off31 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v473 : Index := Scalar.indexCast v308
  let c1664_424 : Index := 1664#32
  ![v473.toNat, 1664]
def k1_off32 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v479 : Index := Scalar.indexCast v306
  let c1792 : Index := 1792#32
  ![v479.toNat, 1792]
def k1_off33 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v485 : Index := Scalar.indexCast v308
  let c1792_430 : Index := 1792#32
  ![v485.toNat, 1792]
def k1_off34 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v306 : BitVec 32 := Scalar.muli v2 c512_i32
  let v491 : Index := Scalar.indexCast v306
  let c1920 : Index := 1920#32
  ![v491.toNat, 1920]
def k1_off35 (d0 : Dev nD) : Fin 2 → Nat :=
  let c1_i32_337 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v307 : BitVec 32 := Scalar.subi c1_i32_337 v2
  let c512_i32_338 : BitVec 32 := 512#32
  let v308 : BitVec 32 := Scalar.muli v307 c512_i32_338
  let v497 : Index := Scalar.indexCast v308
  let c1920_436 : Index := 1920#32
  ![v497.toNat, 1920]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== KernelIdeal.lean ====
variable {F : FTy → Type} [FloatOps F] [Named F]
def κ : String → Option EReal := fun
  | "inv_sqrt_160" => some (((Real.sqrt 160)⁻¹ : ℝ) : EReal)
  | _ => none
-- ==== ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x256 : Shape := ⟨2, ![1024, 256]⟩
abbrev S1024x16x128 : Shape := ⟨3, ![1024, 16, 128]⟩
abbrev S1024x512 : Shape := ⟨2, ![1024, 512]⟩
abbrev S1024x16x32 : Shape := ⟨3, ![1024, 16, 32]⟩
abbrev S1024x32 : Shape := ⟨2, ![1024, 32]⟩
abbrev S_ : Shape := ⟨0, ![]⟩
abbrev S16x1024x1024 : Shape := ⟨3, ![16, 1024, 1024]⟩
abbrev S1024x1024x16 : Shape := ⟨3, ![1024, 1024, 16]⟩
abbrev S16x1024 : Shape := ⟨2, ![16, 1024]⟩
abbrev S16x1024x1 : Shape := ⟨3, ![16, 1024, 1]⟩
abbrev S16x128x1024 : Shape := ⟨3, ![16, 128, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x256, .f32⟩
  | .hbm, ⟨10, _⟩ => ⟨S1024x2048, .f32⟩
  | .hbm, ⟨11, _⟩ => ⟨S1024x16x128, .f32⟩
  | .hbm, ⟨12, _⟩ => ⟨S1024x2048, .f32⟩
  | .hbm, ⟨13, _⟩ => ⟨S1024x16x128, .f32⟩
  | .hbm, ⟨14, _⟩ => ⟨S1024x2048, .f32⟩
  | .hbm, ⟨15, _⟩ => ⟨S1024x16x128, .f32⟩
  | .hbm, ⟨16, _⟩ => ⟨S1024x512, .f32⟩
  | .hbm, ⟨17, _⟩ => ⟨S1024x16x32, .f32⟩
  | .hbm, ⟨18, _⟩ => ⟨S1024x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x1024x1024, .f32⟩
  | .hbm, ⟨24, _⟩ => ⟨S1024x1024x16, .f32⟩
  | .hbm, ⟨25, _⟩ => ⟨S16x1024x1024, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S_, .f32⟩
  | .hbm, ⟨30, _⟩ => ⟨S16x1024, .f32⟩
  | .hbm, ⟨31, _⟩ => ⟨S16x1024x1, .f32⟩
  | .hbm, ⟨32, _⟩ => ⟨S16x1024x1024, .f32⟩
  | .hbm, ⟨33, _⟩ => ⟨S16x1024x1024, .f32⟩
  | .hbm, ⟨34, _⟩ => ⟨S16x1024x1024, .f32⟩
  | .hbm, ⟨35, _⟩ => ⟨S_, .f32⟩
  | .hbm, ⟨36, _⟩ => ⟨S16x1024, .f32⟩
  | .hbm, ⟨37, _⟩ => ⟨S16x1024x1, .f32⟩
  | .hbm, ⟨38, _⟩ => ⟨S16x1024x1024, .f32⟩
  | .hbm, ⟨39, _⟩ => ⟨S16x1024x1024, .f32⟩
  | .hbm, ⟨40, _⟩ => ⟨S16x128x1024, .f32⟩
  | .hbm, ⟨41, _⟩ => ⟨S1024x16x128, .f32⟩
  | .hbm, ⟨42, _⟩ => ⟨S1024x2048, .f32⟩
  | .hbm, ⟨43, _⟩ => ⟨S1024x2048, .f32⟩
  | .hbm, ⟨44, _⟩ => ⟨S1024x2048, .bf16⟩
  | .hbm, ⟨45, _⟩ => ⟨S1x1024x2048, .bf16⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proj.lean ====
abbrev S1024x2048 : Shape := ⟨2, ![1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S512x2048 : Shape := ⟨2, ![512, 2048]⟩
abbrev S16x512x32 : Shape := ⟨3, ![16, 512, 32]⟩
abbrev S1024x32 : Shape := ⟨2, ![1024, 32]⟩
abbrev S1024x128 : Shape := ⟨2, ![1024, 128]⟩
abbrev S3 : Shape := ⟨1, ![3]⟩
abbrev S2 : Shape := ⟨1, ![2]⟩
abbrev S_ : Shape := ⟨0, ![]⟩
abbrev S1 : Shape := ⟨1, ![1]⟩
abbrev S512x512 : Shape := ⟨2, ![512, 512]⟩
abbrev S512x32 : Shape := ⟨2, ![512, 32]⟩
abbrev S1x512x32 : Shape := ⟨3, ![1, 512, 32]⟩

abbrev nBuf : Space → Nat
  | .hbm => 12
  | .vmem => 16
  | .smem => 0
  | _ => 0

abbrev bufTy : (tb : Table) → Fin (tcTables nBuf tb) → BufTy
  | .hbm, ⟨0, _⟩ => ⟨S1024x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x2048, .f32⟩
  | .hbm, ⟨5, _⟩ => ⟨S2048x512, .f32⟩
  | .hbm, ⟨6, _⟩ => ⟨S2048x32, .bf16⟩
  | .hbm, ⟨7, _⟩ => ⟨S512x2048, .bf16⟩
  | .hbm, ⟨8, _⟩ => ⟨S16x512x32, .bf16⟩
  | .hbm, ⟨9, _⟩ => ⟨S1024x32, .bf16⟩
  | .hbm, ⟨10, _⟩ => ⟨S1024x2048, .bf16⟩
  | .hbm, ⟨11, _⟩ => ⟨S1024x2048, .bf16⟩
  | .local _ .vmem, ⟨0, _⟩ => ⟨S1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x32, .bf16⟩
  | .local _ .vmem, ⟨5, _⟩ => ⟨S512x2048, .bf16⟩
  | .local _ .vmem, ⟨6, _⟩ => ⟨S16x512x32, .bf16⟩
  | .local _ .vmem, ⟨7, _⟩ => ⟨S1024x32, .bf16⟩
  | .local _ .vmem, ⟨8, _⟩ => ⟨S1024x2048, .bf16⟩
  | .local _ .vmem, ⟨9, _⟩ => ⟨S1024x2048, .bf16⟩
  | .local _ .vmem, ⟨10, _⟩ => ⟨S1024x128, .bf16⟩
  | .local _ .vmem, ⟨11, _⟩ => ⟨S1024x128, .bf16⟩
  | .local _ .vmem, ⟨12, _⟩ => ⟨S128x2048, .bf16⟩
  | .local _ .vmem, ⟨13, _⟩ => ⟨S128x2048, .bf16⟩
  | .local _ .vmem, ⟨14, _⟩ => ⟨S2048x2048, .f32⟩
  | .local _ .vmem, ⟨15, _⟩ => ⟨S2048x512, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v21 : BitVec 32 := Scalar.muli v2 c2_i32_14
  let v22 : BitVec 32 := Scalar.addi c0_i32_15 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_16 : BitVec 32 := 1#32
  let v23 : BitVec 32 := Scalar.muli v6 c1_i32_16
  let v24 : BitVec 32 := Scalar.addi v22 v23
  v24.toNat
def k0_dev3 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v29 : BitVec 32 := Scalar.muli v2 c2_i32_19
  let v30 : BitVec 32 := Scalar.addi c0_i32_20 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v31 : BitVec 32 := Scalar.muli v6 c1_i32_21
  let v32 : BitVec 32 := Scalar.addi v30 v31
  v32.toNat
def k0_dev4 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v37 : BitVec 32 := Scalar.muli v2 c2_i32_24
  let v38 : BitVec 32 := Scalar.addi c0_i32_25 v37
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v39 : BitVec 32 := Scalar.muli v6 c1_i32_26
  let v40 : BitVec 32 := Scalar.addi v38 v39
  v40.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v65 : BitVec 32 := Scalar.muli v2 c512_i32
  let v66 : Index := Scalar.indexCast v65
  let c0_46 : Index := 0#32
  ![v66.toNat, 0]
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x512x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ProjIdeal.lean ====
variable {F : FTy → Type} [FloatOps F] [Named F]
def κ : String → Option EReal := fun
  | "inv_sqrt_160" => some (((Real.sqrt 160)⁻¹ : ℝ) : EReal)
  | _ => none
-- ==== ProjReferenceIdeal.lean ====
abbrev S1024x2048 : Shape := ⟨2, ![1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩
abbrev S1024x256 : Shape := ⟨2, ![1024, 256]⟩
abbrev S1024x512 : Shape := ⟨2, ![1024, 512]⟩
abbrev S1024x16x32 : Shape := ⟨3, ![1024, 16, 32]⟩
abbrev S16x1024x32 : Shape := ⟨3, ![16, 1024, 32]⟩
abbrev S1024x32 : Shape := ⟨2, ![1024, 32]⟩

abbrev nBuf : Space → Nat
  | .hbm => 33
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x256, .bf16⟩
  | .hbm, ⟨2, _⟩ => ⟨S256x2048, .bf16⟩
  | .hbm, ⟨3, _⟩ => ⟨S256x2048, .bf16⟩
  | .hbm, ⟨4, _⟩ => ⟨S2048x2048, .f32⟩
  | .hbm, ⟨5, _⟩ => ⟨S2048x512, .f32⟩
  | .hbm, ⟨6, _⟩ => ⟨S2048x32, .bf16⟩
  | .hbm, ⟨7, _⟩ => ⟨S1024x2048, .f32⟩
  | .hbm, ⟨8, _⟩ => ⟨S2048x256, .f32⟩
  | .hbm, ⟨9, _⟩ => ⟨S256x2048, .f32⟩
  | .hbm, ⟨10, _⟩ => ⟨S256x2048, .f32⟩
  | .hbm, ⟨11, _⟩ => ⟨S2048x32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024x256, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x16x32, .f32⟩
  | .hbm, ⟨26, _⟩ => ⟨S16x1024x32, .f32⟩
  | .hbm, ⟨27, _⟩ => ⟨S1024x32, .f32⟩
  | .hbm, ⟨28, _⟩ => ⟨S1024x2048, .bf16⟩
  | .hbm, ⟨29, _⟩ => ⟨S16x1024x32, .bf16⟩
  | .hbm, ⟨30, _⟩ => ⟨S1024x32, .bf16⟩
  | .hbm, ⟨31, _⟩ => ⟨S1024x2048, .bf16⟩
  | .hbm, ⟨32, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Rows.lean ====
/- How the sixteen row stores of one result make up its contents: row `h` is columns `32 h … 32 h + 31` of one
   product. -/
module

public import proofs.«01_k».proof.Proof.Common
public import Idealize.ShloMosaic.Lib.ValueLayout
public import Idealize.ShloMosaic.Lib.Writes

@[expose] public section

noncomputable section

namespace Cert.KernelIdeal.Run

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat Cfg BodyObligation cellOf)
open Cert.KernelIdeal Cert.KernelIdeal.Gen

variable {F : FTy → Type} [FloatOps F] [Named F]

local notation "𝕄" => MT nD τ sig Unit (Elt F) ℕ UU ℕ

/-- Row `h` of the result: columns `32 h` to `32 h + 31` of the product. -/
def headRows (v : FVec F S512x512 .bf16) : cc0_stg6_0.ty.Contents (Elt F) := fun y =>
  v (ix2 (y (1 : Fin 3)) (⟨32 * (y (0 : Fin 3)).val + (y (2 : Fin 3)).val, by
    have h0 : (y (0 : Fin 3)).val < 16 := (y (0 : Fin 3)).isLt
    have h2 : (y (2 : Fin 3)).val < 32 := (y (2 : Fin 3)).isLt
    omega⟩ : Fin 512))

/-- One stored row agrees with the whole. -/
theorem head_piece (v : FVec F S512x512 .bf16) (h o : ℕ) (ho : o = 32 * h) (inb : ∀ a, (![h, 0, 0] : Fin 3 → ℕ) a + S1x512x32.size a ≤ S16x512x32.size a)
    (sl : S512x512.Slices ![0, o] S512x32) (x : S1x512x32.Idx) :
    shapeCast S1x512x32 (extractStridedSlice S512x32 ![0, o] v sl) shapeCasts_S512x32_S1x512x32 x
      = headRows v ((Rect.unit (s := S16x512x32) ![h, 0, 0] S1x512x32.size inb).emb x) := by
  rw [eq_ix3 x]
  refine (shapeCast_ab_1ab_apply _ _ _ _ _).trans ?_
  unfold headRows
  refine extractStridedSlice_apply _ _ _ _ _ fun a => ?_
  have hu : (x (0 : Fin 3)).val < 1 := (x (0 : Fin 3)).isLt
  subst ho
  fin_cases a
  · show 0 + 1 * (x (1 : Fin 3)).val = 0 + (x (1 : Fin 3)).val
    omega
  · show 32 * (h + 1 * (x (0 : Fin 3)).val) + (0 + 1 * (x (2 : Fin 3)).val) = 32 * h + (x (2 : Fin 3)).val
    omega

/-- The sixteen stores, the last one first. -/
abbrev headStores (x : Vec F S512x2048 .bf16) (w : Vec F S2048x512 .f32) : List (View.Piece (Elt F) S16x512x32 .bf16) :=
  [⟨Rect.unit ![15, 0, 0] S1x512x32.size inb_S16x512x32_S1x512x32_15_0_0, k0_pay26 (k0_pay9 x w)⟩,
      ⟨Rect.unit ![14, 0, 0] S1x512x32.size inb_S16x512x32_S1x512x32_14_0_0, k0_pay25 (k0_pay9 x w)⟩,
      ⟨Rect.unit ![13, 0, 0] S1x512x32.size inb_S16x512x32_S1x512x32_13_0_0, k0_pay24 (k0_pay9 x w)⟩,
      ⟨Rect.unit ![12, 0, 0] S1x512x32.size inb_S16x512x32_S1x512x32_12_0_0, k0_pay23 (k0_pay9 x w)⟩,
      ⟨Rect.unit ![11, 0, 0] S1x512x32.size inb_S16x512x32_S1x512x32_11_0_0, k0_pay22 (k0_pay9 x w)⟩,
      ⟨Rect.unit ![10, 0, 0] S1x512x32.size inb_S16x512x32_S1x512x32_10_0_0, k0_pay21 (k0_pay9 x w)⟩,
      ⟨Rect.unit ![9, 0, 0] S1x512x32.size inb_S16x512x32_S1x512x32_9_0_0, k0_pay20 (k0_pay19 (k0_pay9 x w))⟩,
      ⟨Rect.unit ![8, 0, 0] S1x512x32.size inb_S16x512x32_S1x512x32_8_0_0, k0_pay18 (k0_pay9 x w)⟩,
      ⟨Rect.unit ![7, 0, 0] S1x512x32.size inb_S16x512x32_S1x512x32_7_0_0, k0_pay17 (k0_pay9 x w)⟩,
      ⟨Rect.unit ![6, 0, 0] S1x512x32.size inb_S16x512x32_S1x512x32_6_0_0, k0_pay16 (k0_pay9 x w)⟩,
      ⟨Rect.unit ![5, 0, 0] S1x512x32.size inb_S16x512x32_S1x512x32_5_0_0, k0_pay15 (k0_pay9 x w)⟩,
      ⟨Rect.unit ![4, 0, 0] S1x512x32.size inb_S16x512x32_S1x512x32_4_0_0, k0_pay14 (k0_pay9 x w)⟩,
      ⟨Rect.unit ![3, 0, 0] S1x512x32.size inb_S16x512x32_S1x512x32_3_0_0, k0_pay13 (k0_pay9 x w)⟩,
      ⟨Rect.unit ![2, 0, 0] S1x512x32.size inb_S16x512x32_S1x512x32_2_0_0, k0_pay12 (k0_pay9 x w)⟩,
      ⟨Rect.unit ![1, 0, 0] S1x512x32.size inb_S16x512x32_S1x512x32_1_0_0, k0_pay11 x w⟩,
      ⟨Rect.unit ![0, 0, 0] S1x512x32.size inb_S16x512x32_S1x512x32_0_0_0, k0_pay10 x w⟩]

/-- The stores cover the buffer. -/
theorem head_cover (x : Vec F S512x2048 .bf16) (w : Vec F S2048x512 .f32) (y : S16x512x32.Idx) : ∃ p ∈ headStores x w, y ∈ p.1.set :=
  View.cover_of_tiled (headStores x w) S1x512x32.size rfl y

/-- Every store's payload is its row of the product. -/
theorem head_agree (x : Vec F S512x2048 .bf16) (w : Vec F S2048x512 .f32) :
    ∀ p ∈ headStores x w, ∀ y : p.1.shape.Idx, p.2 y = headRows (k0_pay9 x w) (p.1.emb y) := by
  refine List.forall_mem_cons.mpr ⟨fun y => head_piece (k0_pay9 x w) 15 480 rfl inb_S16x512x32_S1x512x32_15_0_0 slices_S512x512_o0_480_S512x32 y, ?_⟩
  refine List.forall_mem_cons.mpr ⟨fun y => head_piece (k0_pay9 x w) 14 448 rfl inb_S16x512x32_S1x512x32_14_0_0 slices_S512x512_o0_448_S512x32 y, ?_⟩
  refine List.forall_mem_cons.mpr ⟨fun y => head_piece (k0_pay9 x w) 13 416 rfl inb_S16x512x32_S1x512x32_13_0_0 slices_S512x512_o0_416_S512x32 y, ?_⟩
  refine List.forall_mem_cons.mpr ⟨fun y => head_piece (k0_pay9 x w) 12 384 rfl inb_S16x512x32_S1x512x32_12_0_0 slices_S512x512_o0_384_S512x32 y, ?_⟩
  refine List.forall_mem_cons.mpr ⟨fun y => head_piece (k0_pay9 x w) 11 352 rfl inb_S16x512x32_S1x512x32_11_0_0 slices_S512x512_o0_352_S512x32 y, ?_⟩
  refine List.forall_mem_cons.mpr ⟨fun y => head_piece (k0_pay9 x w) 10 320 rfl inb_S16x512x32_S1x512x32_10_0_0 slices_S512x512_o0_320_S512x32 y, ?_⟩
  refine List.forall_mem_cons.mpr ⟨fun y => head_piece (k0_pay9 x w) 9 288 rfl inb_S16x512x32_S1x512x32_9_0_0 slices_S512x512_o0_288_S512x32 y, ?_⟩
  refine List.forall_mem_cons.mpr ⟨fun y => head_piece (k0_pay9 x w) 8 256 rfl inb_S16x512x32_S1x512x32_8_0_0 slices_S512x512_o0_256_S512x32 y, ?_⟩
  refine List.forall_mem_cons.mpr ⟨fun y => head_piece (k0_pay9 x w) 7 224 rfl inb_S16x512x32_S1x512x32_7_0_0 slices_S512x512_o0_224_S512x32 y, ?_⟩
  refine List.forall_mem_cons.mpr ⟨fun y => head_piece (k0_pay9 x w) 6 192 rfl inb_S16x512x32_S1x512x32_6_0_0 slices_S512x512_o0_192_S512x32 y, ?_⟩
  refine List.forall_mem_cons.mpr ⟨fun y => head_piece (k0_pay9 x w) 5 160 rfl inb_S16x512x32_S1x512x32_5_0_0 slices_S512x512_o0_160_S512x32 y, ?_⟩
  refine List.forall_mem_cons.mpr ⟨fun y => head_piece (k0_pay9 x w) 4 128 rfl inb_S16x512x32_S1x512x32_4_0_0 slices_S512x512_o0_128_S512x32 y, ?_⟩
  refine List.forall_mem_cons.mpr ⟨fun y => head_piece (k0_pay9 x w) 3 96 rfl inb_S16x512x32_S1x512x32_3_0_0 slices_S512x512_o0_96_S512x32 y, ?_⟩
  refine List.forall_mem_cons.mpr ⟨fun y => head_piece (k0_pay9 x w) 2 64 rfl inb_S16x512x32_S1x512x32_2_0_0 slices_S512x512_o0_64_S512x32 y, ?_⟩
  refine List.forall_mem_cons.mpr ⟨fun y => head_piece (k0_pay9 x w) 1 32 rfl inb_S16x512x32_S1x512x32_1_0_0 slices_S512x512_o0_32_S512x32 y, ?_⟩
  refine List.forall_mem_cons.mpr ⟨fun y => head_piece (k0_pay9 x w) 0 0 rfl inb_S16x512x32_S1x512x32_0_0_0 slices_S512x512_o0_0_S512x32 y, ?_⟩
  exact fun p hp => absurd hp List.not_mem_nil

/-- After the sixteen stores the buffer holds the product, cut in rows. -/
theorem head_stores (x : Vec F S512x2048 .bf16) (w : Vec F S2048x512 .f32) (f : cc0_stg6_0.ty.Contents (Elt F)) :
    (Memref.whole cc0_stg6_0).view.writes (Elt F) f (headStores x w) = headRows (k0_pay9 x w) :=
  (View.read_whole cc0_stg6_0 _).symm.trans (funext fun y => View.read_writes_apply_of_pieces (Memref.whole cc0_stg6_0).view f (headRows (k0_pay9 x w)) (headStores x w)
    (head_agree x w) y (head_cover x w y))

end Cert.KernelIdeal.Run

end
-- ==== Proof.Proj.lean ====
/- The projection call's body, run once on one device. -/
module

public import proofs.«01_k».proof.Proof.Rows

@[expose] public section

noncomputable section

namespace Cert.KernelIdeal.Run

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen

variable {F : FTy → Type} [FloatOps F] [Named F]

local notation "𝕄" => MT nD τ sig Unit (Elt F) ℕ UU ℕ

variable (D : Mail F)

/-- What a device knows of the cells it pays or waits on in the projection call: their invariants, and that they are open. -/
@[irreducible] def projInvs (K : GSem nD τ sig → ℕ) (c : Dev nD) : sProp 𝕄 :=
  iprop((cellInv ER (sched D) (K (barC0 c)) (barC0 c)) ∗ (cellInv ER (sched D) (K (barC0 (mate0 c))) (barC0 (mate0 c)) ∗ reached ER (barC0 (mate0 c)) 0)
    ∗ (bigSep Finset.univ fun i : Fin 3 => iprop(cellInv ER (sched D) (K (outC0 c i)) (outC0 c i) ∗ reached ER (outC0 c i) 0))
    ∗ (bigSep Finset.univ fun i : Fin 3 => iprop(cellInv ER (sched D) (K (inC0 c i)) (inC0 c i) ∗ reached ER (inC0 c i) 0))
    ∗ (bigSep Finset.univ fun i : Fin 3 => cellInv ER (sched D) (K (inC0 (mate0 c) i)) (inC0 (mate0 c) i)))
instance projInvs_persistent (K : GSem nD τ sig → ℕ) (c : Dev nD) : BI.Persistent (projInvs D K c) := by unfold projInvs; infer_instance

theorem inv_bar (K : GSem nD τ sig → ℕ) (c : Dev nD) : projInvs D K c ⊢ cellInv ER (sched D) (K (barC0 c)) (barC0 c) := by
  unfold projInvs; iintro ⟨H, -⟩; iexact H
theorem inv_barN (K : GSem nD τ sig → ℕ) (c : Dev nD) : projInvs D K c ⊢ cellInv ER (sched D) (K (barC0 (mate0 c))) (barC0 (mate0 c)) := by
  unfold projInvs; iintro ⟨-, ⟨H, -⟩, -⟩; iexact H
theorem open_barN (K : GSem nD τ sig → ℕ) (c : Dev nD) : projInvs D K c ⊢ reached ER (barC0 (mate0 c)) 0 := by
  unfold projInvs; iintro ⟨-, ⟨-, H⟩, -⟩; iexact H
theorem inv_out (K : GSem nD τ sig → ℕ) (c : Dev nD) (i : Fin 3) : projInvs D K c ⊢ cellInv ER (sched D) (K (outC0 c i)) (outC0 c i) := by
  unfold projInvs; iintro ⟨-, -, H, -⟩
  ihave H := (big_at i (fun i : Fin 3 => iprop(cellInv ER (sched D) (K (outC0 c i)) (outC0 c i) ∗ reached ER (outC0 c i) 0))) $$ H
  icases H with ⟨H, -⟩; iexact H
theorem open_out (K : GSem nD τ sig → ℕ) (c : Dev nD) (i : Fin 3) : projInvs D K c ⊢ reached ER (outC0 c i) 0 := by
  unfold projInvs; iintro ⟨-, -, H, -⟩
  ihave H := (big_at i (fun i : Fin 3 => iprop(cellInv ER (sched D) (K (outC0 c i)) (outC0 c i) ∗ reached ER (outC0 c i) 0))) $$ H
  icases H with ⟨-, H⟩; iexact H
theorem inv_in (K : GSem nD τ sig → ℕ) (c : Dev nD) (i : Fin 3) : projInvs D K c ⊢ cellInv ER (sched D) (K (inC0 c i)) (inC0 c i) := by
  unfold projInvs; iintro ⟨-, -, -, H, -⟩
  ihave H := (big_at i (fun i : Fin 3 => iprop(cellInv ER (sched D) (K (inC0 c i)) (inC0 c i) ∗ reached ER (inC0 c i) 0))) $$ H
  icases H with ⟨H, -⟩; iexact H
theorem open_in (K : GSem nD τ sig → ℕ) (c : Dev nD) (i : Fin 3) : projInvs D K c ⊢ reached ER (inC0 c i) 0 := by
  unfold projInvs; iintro ⟨-, -, -, H, -⟩
  ihave H := (big_at i (fun i : Fin 3 => iprop(cellInv ER (sched D) (K (inC0 c i)) (inC0 c i) ∗ reached ER (inC0 c i) 0))) $$ H
  icases H with ⟨-, H⟩; iexact H
theorem inv_inN (K : GSem nD τ sig → ℕ) (c : Dev nD) (i : Fin 3) : projInvs D K c ⊢ cellInv ER (sched D) (K (inC0 (mate0 c) i)) (inC0 (mate0 c) i) := by
  unfold projInvs; iintro ⟨-, -, -, -, H⟩
  iapply (big_at i (fun i : Fin 3 => cellInv ER (sched D) (K (inC0 (mate0 c) i)) (inC0 (mate0 c) i))); iexact H

/-- What lands at the partner is what the arrival hands over there. -/
theorem sent0 (c : Dev nD) (g : cc0_scratch1.ty.Contents (Elt F)) :
    ((Memref.whole cc0_scratch1).view.loc (mate0 c : Thread nD τ) ↦[(Memref.whole cc0_scratch1).view.set]{fullShare}
      ((Memref.whole cc0_scratch1).view.write (Elt F) g ((Memref.whole cc0_scratch0).view.read (Elt F) (D.cs c)) Finset.univ) : sProp 𝕄) ⊢ pay D (mate0 c) (.in0 0) :=
  (Entails.of_eq (landed (mate0 c) cc0_scratch1 g (D.cs c))).trans (Entails.of_eq (congrArg (fun d => pt (F := F) (mate0 c) cc0_scratch1 (D.cs d)) (mate0_mate0 c).symm))
theorem sent1 (c : Dev nD) (g : cc0_scratch2.ty.Contents (Elt F)) :
    ((Memref.whole cc0_scratch2).view.loc (mate0 c : Thread nD τ) ↦[(Memref.whole cc0_scratch2).view.set]{fullShare}
      ((Memref.whole cc0_scratch2).view.write (Elt F) g ((Memref.whole cc0_stg2_0).view.read (Elt F) (D.wk c)) Finset.univ) : sProp 𝕄) ⊢ pay D (mate0 c) (.in0 1) :=
  (Entails.of_eq (landed (mate0 c) cc0_scratch2 g (D.wk c))).trans (Entails.of_eq (congrArg (fun d => pt (F := F) (mate0 c) cc0_scratch2 (D.wk d)) (mate0_mate0 c).symm))
theorem sent2 (c : Dev nD) (g : cc0_scratch3.ty.Contents (Elt F)) :
    ((Memref.whole cc0_scratch3).view.loc (mate0 c : Thread nD τ) ↦[(Memref.whole cc0_scratch3).view.set]{fullShare}
      ((Memref.whole cc0_scratch3).view.write (Elt F) g ((Memref.whole cc0_stg3_0).view.read (Elt F) (D.wv c)) Finset.univ) : sProp 𝕄) ⊢ pay D (mate0 c) (.in0 2) :=
  (Entails.of_eq (landed (mate0 c) cc0_scratch3 g (D.wv c))).trans (Entails.of_eq (congrArg (fun d => pt (F := F) (mate0 c) cc0_scratch3 (D.wv d)) (mate0_mate0 c).symm))

/-- The body on the buffers the call binds. -/
abbrev projBody : Prog (TpuEff nD τ sig (Elt F) Λ₀ .tc) PUnit :=
  cc0__proj_body_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole main_arg4) (Memref.isWhole_whole _) (Memref.whole main_arg5) (Memref.isWhole_whole _) (Memref.whole cc0_stg4_0) (Memref.isWhole_whole _)
    (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8

theorem projBody_eq : bodyAt0 (F := F) t0_0 = projBody := by
  unfold bodyAt0; rw [cc0__proj_body_eq_skeleton]

/-- The device's half of the rows. -/
abbrev xHalf (c : Dev nD) (xb : cc0_stg0_0.ty.Contents (Elt F)) : Vec F S512x2048 .bf16 :=
  View.readAt (Elt F) (Memref.whole cc0_stg0_0).view (Rect.unit (s := S1024x2048) (k0_off1 c) S512x2048.size (Facts₀.k0_off1_inb c)).toLoadRect xb
/-- The five results, by the contents of the inputs (and of the partner's inputs, through the mail). -/
def qOf (c : Dev nD) (xb : cc0_stg0_0.ty.Contents (Elt F)) (wq : main_arg4.ty.Contents (Elt F)) : cc0_stg5_0.ty.Contents (Elt F) := k0_pay8 (xHalf c xb) wq
def qrOf (c : Dev nD) (xb : cc0_stg0_0.ty.Contents (Elt F)) (wqr : main_arg5.ty.Contents (Elt F)) : cc0_stg6_0.ty.Contents (Elt F) := headRows (k0_pay9 (xHalf c xb) wqr)
def krOf (xb : cc0_stg0_0.ty.Contents (Elt F)) (wkr : cc0_stg4_0.ty.Contents (Elt F)) : cc0_stg7_0.ty.Contents (Elt F) := k0_pay4 (k0_pay2 xb) wkr
def kOf (c : Dev nD) : cc0_stg8_0.ty.Contents (Elt F) := k0_pay27 (D.cs (mate0 c)) (k0_pay5 (D.cs c) (D.wk c)) (D.wk (mate0 c))
def vOf (c : Dev nD) : cc0_stg9_0.ty.Contents (Elt F) := k0_pay1 (D.cs (mate0 c)) (k0_pay6 (D.cs c) (D.wv c)) (D.wv (mate0 c))

/-- What the body leaves: its semaphores at zero, the inputs as they were, the five results, the scratch buffers. -/
def projPost (c : Dev nD) (O : CellTallies nD τ sig Unit) (xb : cc0_stg0_0.ty.Contents (Elt F)) (wd : cc0_stg1_0.ty.Contents (Elt F)) (wkr : cc0_stg4_0.ty.Contents (Elt F))
    (wq : main_arg4.ty.Contents (Elt F)) (wqr : main_arg5.ty.Contents (Elt F)) : sProp 𝕄 :=
  iprop(semVal (barC0 c) 0 ∗ semVal (outC0 c 0) 0 ∗ semVal (outC0 c 1) 0 ∗ semVal (outC0 c 2) 0 ∗ semVal (inC0 c 0) 0 ∗ semVal (inC0 c 1) 0 ∗ semVal (inC0 c 2) 0
    ∗ semVal ((c : Thread nD τ), .dma (16 : DmaSem sig)) 0 ∗ semVal ((c : Thread nD τ), .dma (17 : DmaSem sig)) 0
    ∗ pt c cc0_stg0_0 xb ∗ pt c cc0_stg1_0 wd ∗ pt c cc0_stg2_0 (D.wk c) ∗ pt c cc0_stg3_0 (D.wv c) ∗ pt c cc0_stg4_0 wkr ∗ pt c main_arg4 wq ∗ pt c main_arg5 wqr
    ∗ pt c cc0_stg5_0 (qOf c xb wq) ∗ pt c cc0_stg6_0 (qrOf c xb wqr) ∗ pt c cc0_stg7_0 (krOf xb wkr) ∗ pt c cc0_stg8_0 (kOf D c) ∗ pt c cc0_stg9_0 (vOf D c)
    ∗ (∃ W', owes (c : Thread nD τ) O W')
    ∗ (∃ g, pt (F := F) c cc0_scratch0 g) ∗ (∃ g, pt (F := F) c cc0_scratch1 g) ∗ (∃ g, pt (F := F) c cc0_scratch2 g) ∗ (∃ g, pt (F := F) c cc0_scratch3 g)
    ∗ (∃ g, pt (F := F) c cc0_scratch4 g) ∗ (∃ g, pt (F := F) c cc0_scratch5 g))

set_option maxHeartbeats 1000000 in
theorem projRun (K : GSem nD τ sig → ℕ) (c : Dev nD) (W : Waits sig Unit) (O : CellTallies nD τ sig Unit) (hO : Above 2 O)
    (xb : cc0_stg0_0.ty.Contents (Elt F)) (wd : cc0_stg1_0.ty.Contents (Elt F)) (wkr : cc0_stg4_0.ty.Contents (Elt F))
    (wq : main_arg4.ty.Contents (Elt F)) (wqr : main_arg5.ty.Contents (Elt F))
    (f5 : cc0_stg5_0.ty.Contents (Elt F)) (f6 : cc0_stg6_0.ty.Contents (Elt F)) (f7 : cc0_stg7_0.ty.Contents (Elt F))
    (f8 : cc0_stg8_0.ty.Contents (Elt F)) (f9 : cc0_stg9_0.ty.Contents (Elt F))
    (g0 : cc0_scratch0.ty.Contents (Elt F)) (g1 : cc0_scratch1.ty.Contents (Elt F)) (g2 : cc0_scratch2.ty.Contents (Elt F))
    (g3 : cc0_scratch3.ty.Contents (Elt F)) (g4 : cc0_scratch4.ty.Contents (Elt F)) (g5 : cc0_scratch5.ty.Contents (Elt F))
    (hcs : k0_pay3 xb wd = D.cs c) :
    iprop(projInvs D K c
      ∗ atPos ER (barC0 c) 0 ∅ 0 ∗ atPos ER (outC0 c 0) 0 ∅ 0 ∗ atPos ER (outC0 c 1) 0 ∅ 0 ∗ atPos ER (outC0 c 2) 0 ∅ 0
      ∗ atPos ER (inC0 c 0) 0 ∅ 0 ∗ atPos ER (inC0 c 1) 0 ∅ 0 ∗ atPos ER (inC0 c 2) 0 ∅ 0
      ∗ dutyTok ER (barC0 (mate0 c)) 0 () ∗ dutyTok ER (inC0 (mate0 c) 0) 0 () ∗ dutyTok ER (inC0 (mate0 c) 1) 0 () ∗ dutyTok ER (inC0 (mate0 c) 2) 0 ()
      ∗ dutyTok ER (outC0 c 0) 0 () ∗ dutyTok ER (outC0 c 1) 0 () ∗ dutyTok ER (outC0 c 2) 0 ()
      ∗ cred (tallyAt (barC0 c) () 1) ∗ cred (tallyAt (inC0 c 0) () N1) ∗ cred (tallyAt (inC0 c 1) () N2) ∗ cred (tallyAt (inC0 c 2) () N2)
      ∗ levAts L lv
      ∗ semVal ((c : Thread nD τ), .dma (16 : DmaSem sig)) 0 ∗ semVal ((c : Thread nD τ), .dma (17 : DmaSem sig)) 0
      ∗ pt c cc0_stg0_0 xb ∗ pt c cc0_stg1_0 wd ∗ pq c cc0_stg2_0 kept (D.wk c) ∗ pq c cc0_stg2_0 lent (D.wk c)
      ∗ pq c cc0_stg3_0 kept (D.wv c) ∗ pq c cc0_stg3_0 lent (D.wv c) ∗ pt c cc0_stg4_0 wkr
      ∗ pt c main_arg4 wq ∗ pt c main_arg5 wqr
      ∗ pt c cc0_stg5_0 f5 ∗ pt c cc0_stg6_0 f6 ∗ pt c cc0_stg7_0 f7 ∗ pt c cc0_stg8_0 f8 ∗ pt c cc0_stg9_0 f9
      ∗ pt c cc0_scratch0 g0 ∗ pt c cc0_scratch1 g1 ∗ pt c cc0_scratch2 g2 ∗ pt c cc0_scratch3 g3 ∗ pt c cc0_scratch4 g4 ∗ pt c cc0_scratch5 g5
      ∗ owes (c : Thread nD τ) (O + tallyAt (inC0 (mate0 c) 2) () N2 + tallyAt (inC0 (mate0 c) 1) () N2 + tallyAt (inC0 (mate0 c) 0) () N1 + tallyAt (barC0 (mate0 c)) () 1) W)
      ⊢ wp frame (wpE (defs₀ (F := F)) 𝒱₀ (c : Thread nD τ) none) Set.univ (projBody (F := F))
          (fun _ => projPost D c O xb wd wkr wq wqr) := by
  have hO0 : Above (lvC (.out0 0)) O := hO.mono (by decide)
  have hO1 : ∀ i k, Above (lvC .bar0) (tallyAt (inC0 (mate0 c) i) () k) := fun i k => Above.tally _ _ _ (by rw [lvl_of (cl_in0 i) (by intro e; cases e)]; exact Nat.one_lt_two)
  have hO3 : Above (lvC .bar0) (O + tallyAt (inC0 (mate0 c) 2) () N2 + tallyAt (inC0 (mate0 c) 1) () N2 + tallyAt (inC0 (mate0 c) 0) () N1) :=
    (((hO.mono (by decide)).add (hO1 _ _)).add (hO1 _ _)).add (hO1 _ _)
  have r0 : View.readAt (Elt F) (Memref.whole cc0_stg0_0).view (Rect.unit ![0, 0] S1024x2048.size inb_S1024x2048_S1024x2048_0_0).toLoadRect xb = xb := rd_all cc0_stg0_0 xb _ (by decide)
  have r1 : View.readAt (Elt F) (Memref.whole cc0_stg1_0).view (Rect.unit ![0, 0] S2048x128.size inb_S2048x128_S2048x128_0_0).toLoadRect wd = wd := rd_all cc0_stg1_0 wd _ (by decide)
  have r2 : View.readAt (Elt F) (Memref.whole cc0_scratch0).view (Rect.unit ![0, 0] S1024x128.size inb_S1024x128_S1024x128_0_0).toLoadRect (D.cs c) = (D.cs c) := rd_all cc0_scratch0 (D.cs c) _ (by decide)
  have r3 : View.readAt (Elt F) (Memref.whole cc0_stg2_0).view (Rect.unit ![0, 0] S128x2048.size inb_S128x2048_S128x2048_0_0).toLoadRect (D.wk c) = (D.wk c) := rd_all cc0_stg2_0 (D.wk c) _ (by decide)
  have r4 : View.readAt (Elt F) (Memref.whole cc0_stg3_0).view (Rect.unit ![0, 0] S128x2048.size inb_S128x2048_S128x2048_0_0).toLoadRect (D.wv c) = (D.wv c) := rd_all cc0_stg3_0 (D.wv c) _ (by decide)
  have r5 : View.readAt (Elt F) (Memref.whole cc0_stg4_0).view (Rect.unit ![0, 0] S2048x32.size inb_S2048x32_S2048x32_0_0).toLoadRect wkr = wkr := rd_all cc0_stg4_0 wkr _ (by decide)
  have r6 : View.readAt (Elt F) (Memref.whole cc0_scratch1).view (Rect.unit ![0, 0] S1024x128.size inb_S1024x128_S1024x128_0_0).toLoadRect (D.cs (mate0 c)) = (D.cs (mate0 c)) := rd_all cc0_scratch1 (D.cs (mate0 c)) _ (by decide)
  have r7 : View.readAt (Elt F) (Memref.whole cc0_scratch2).view (Rect.unit ![0, 0] S128x2048.size inb_S128x2048_S128x2048_0_0).toLoadRect (D.wk (mate0 c)) = (D.wk (mate0 c)) := rd_all cc0_scratch2 (D.wk (mate0 c)) _ (by decide)
  have r8 : View.readAt (Elt F) (Memref.whole cc0_scratch3).view (Rect.unit ![0, 0] S128x2048.size inb_S128x2048_S128x2048_0_0).toLoadRect (D.wv (mate0 c)) = (D.wv (mate0 c)) := rd_all cc0_scratch3 (D.wv (mate0 c)) _ (by decide)
  have r9 : View.readAt (Elt F) (Memref.whole cc0_scratch4).view (Rect.unit ![0, 0] S2048x2048.size inb_S2048x2048_S2048x2048_0_0).toLoadRect wq = wq := rd_all cc0_scratch4 wq _ (by decide)
  have r10 : View.readAt (Elt F) (Memref.whole cc0_scratch5).view (Rect.unit ![0, 0] S2048x512.size inb_S2048x512_S2048x512_0_0).toLoadRect wqr = wqr := rd_all cc0_scratch5 wqr _ (by decide)
  have mw16 := mayWait (F := F) c (.dma 16) O (hO.mono (by decide))
  have mw17 := mayWait (F := F) c (.dma 17) O (hO.mono (by decide))
  iintro ⟨#HI, Ab, Ao0, Ao1, Ao2, Ai0, Ai1, Ai2,
    Tb, Tn0, Tn1, Tn2, To0, To1, To2, Cb, Ci0, Ci1, Ci2, #Hlev, V16, V17, X0, X1, X2, X2l, X3, X3l, X4, XA4, XA5, X5, X6, X7, X8, X9, S0, S1, S2, S3, S4, S5, HO⟩
  ihave Ab := (box_in _) $$ Ab
  ihave Ao0 := (box_in _) $$ Ao0
  ihave Ao1 := (box_in _) $$ Ao1
  ihave Ao2 := (box_in _) $$ Ao2
  ihave Ai0 := (box_in _) $$ Ai0
  ihave Ai1 := (box_in _) $$ Ai1
  ihave Ai2 := (box_in _) $$ Ai2
  ihave Tb := (box_in _) $$ Tb
  ihave Tn0 := (box_in _) $$ Tn0
  ihave Tn1 := (box_in _) $$ Tn1
  ihave Tn2 := (box_in _) $$ Tn2
  ihave To0 := (box_in _) $$ To0
  ihave To1 := (box_in _) $$ To1
  ihave To2 := (box_in _) $$ To2
  ihave Cb := (box_in _) $$ Cb
  ihave Ci0 := (box_in _) $$ Ci0
  ihave Ci1 := (box_in _) $$ Ci1
  ihave Ci2 := (box_in _) $$ Ci2
  ihave S1 := (box_in _) $$ S1
  ihave S2 := (box_in _) $$ S2
  ihave S3 := (box_in _) $$ S3
  ihave HO := (box_in _) $$ HO
  ihave X2l := (box_in _) $$ X2l
  ihave X3l := (box_in _) $$ X3l
  unfold projBody
  unfold cc0__proj_body_skel
  simp only [k0_part1_eq_skeleton, k0_part2_eq_skeleton, k0_part3_eq_skeleton, k0_part4_eq_skeleton, k0_part5_eq_skeleton, k0_part6_eq_skeleton]
  sl_exec
  ihave HO := (box_out _) $$ HO
  ihave Tb := (box_out _) $$ Tb
  ihave S1 := (box_out _) $$ S1
  ihave S2 := (box_out _) $$ S2
  ihave S3 := (box_out _) $$ S3
  iapply (exSignal D (κ := .bar0) (K (barC0 (mate0 c))) c (mate0 c) barrier0 cl_bar0 (by decide) rfl 1 rfl (dev0_1 c) rfl _ W) $$ [HO Tb S1 S2 S3]
  · isplitr; · iapply (inv_barN D K c); iexact HI
    isplitl [HO]; · iexact HO
    isplitl [Tb]; · iexact Tb
    isplitr; · iapply (open_barN D K c); iexact HI
    unfold pay; rw [mate0_mate0]
    isplitl [S1]; · iexists _; iexact S1
    isplitl [S2]; · iexists _; iexact S2
    isplitl [S3]; · iexists _; iexact S3
    isplitr; · iapply (open_in D K c 0); iexact HI
    isplitr; · iapply (open_in D K c 1); iexact HI
    iapply (open_in D K c 2); iexact HI
  iintro HO
  ihave HO := (box_in _) $$ HO
  sl_exec
  ihave HO := (box_out _) $$ HO
  ihave Ab := (box_out _) $$ Ab
  ihave Cb := (box_out _) $$ Cb
  iapply (exWaitReg D (κ := .bar0) (K (barC0 c)) c barrier0 cl_bar0 (by decide) rfl rfl rfl _ W hO3) $$ [HO Ab Cb]
  · isplitr; · iapply (inv_bar D K c); iexact HI
    isplitl [Cb]; · iexact Cb
    isplitl [HO]; · iexact HO
    isplitr; · iexact Hlev
    iexact Ab
  unfold pay
  iintro ⟨HO, Ab, ⟨%gN1, N1⟩, ⟨%gN2, N2⟩, ⟨%gN3, N3⟩, #RN0, #RN1, #RN2⟩
  ihave HO := (box_in _) $$ HO
  ihave Ab := (box_in _) $$ Ab
  ihave N1 := (box_in _) $$ N1
  ihave N2 := (box_in _) $$ N2
  ihave N3 := (box_in _) $$ N3
  sl_exec
  ihave S0 := (halve c cc0_scratch0 (D.cs c) (wr_all cc0_scratch0 _ _ _ (by decide) hcs)) $$ S0
  icases S0 with ⟨S0, S0l⟩
  ihave HO := (box_out _) $$ HO
  ihave Tn0 := (box_out _) $$ Tn0
  ihave To0 := (box_out _) $$ To0
  ihave N1 := (box_out _) $$ N1
  iapply (exSend D (src := Memref.whole cc0_scratch0) (dst := Memref.whole cc0_scratch1) (κo := .out0 0) (κi := .in0 0) (K (outC0 c 0)) (K (inC0 (mate0 c) 0)) c (mate0 c) (outS0 0) (inS0 0) (dev0_2 c) rfl rfl lent (D.cs c) gN1
      (cl_out0 0) (by decide) (cl_in0 0) (by decide) N1 N1_eq rfl rfl _ _ (Entails.of_eq (toSet c cc0_scratch0 lent _)) (sent0 D c gN1) (by routes)) $$ [HO Tn0 To0 N1 S0l]
  · isplitr; · iapply (inv_out D K c 0); iexact HI
    isplitr; · iapply (inv_inN D K c 0); iexact HI
    isplitl [S0l]; · rw [toSet]; iexact S0l
    isplitl [N1]; · rw [toSet]; iexact N1
    isplitl [HO]; · iexact HO
    isplitl [To0]; · iexact To0
    isplitr; · iapply (open_out D K c 0); iexact HI
    isplitl [Tn0]; · iexact Tn0
    iexact RN0
  iintro ⟨Co0, HO⟩
  ihave Co0 := (box_in _) $$ Co0
  ihave HO := (box_in _) $$ HO
  sl_exec
  ihave HO := (box_out _) $$ HO
  ihave Tn1 := (box_out _) $$ Tn1
  ihave To1 := (box_out _) $$ To1
  ihave N2 := (box_out _) $$ N2
  ihave X2l := (box_out _) $$ X2l
  iapply (exSend D (src := Memref.whole cc0_stg2_0) (dst := Memref.whole cc0_scratch2) (κo := .out0 1) (κi := .in0 1) (K (outC0 c 1)) (K (inC0 (mate0 c) 1)) c (mate0 c) (outS0 1) (inS0 1) (dev0_3 c) rfl rfl lent (D.wk c) gN2
      (cl_out0 1) (by decide) (cl_in0 1) (by decide) N2 N2_eq2 rfl rfl _ _ (Entails.of_eq (toSet c cc0_stg2_0 lent _)) (sent1 D c gN2) (by routes)) $$ [HO Tn1 To1 N2 X2l]
  · isplitr; · iapply (inv_out D K c 1); iexact HI
    isplitr; · iapply (inv_inN D K c 1); iexact HI
    isplitl [X2l]; · rw [toSet]; iexact X2l
    isplitl [N2]; · rw [toSet]; iexact N2
    isplitl [HO]; · iexact HO
    isplitl [To1]; · iexact To1
    isplitr; · iapply (open_out D K c 1); iexact HI
    isplitl [Tn1]; · iexact Tn1
    iexact RN1
  iintro ⟨Co1, HO⟩
  ihave Co1 := (box_in _) $$ Co1
  ihave HO := (box_in _) $$ HO
  sl_exec
  ihave HO := (box_out _) $$ HO
  ihave Tn2 := (box_out _) $$ Tn2
  ihave To2 := (box_out _) $$ To2
  ihave N3 := (box_out _) $$ N3
  ihave X3l := (box_out _) $$ X3l
  iapply (exSend D (src := Memref.whole cc0_stg3_0) (dst := Memref.whole cc0_scratch3) (κo := .out0 2) (κi := .in0 2) (K (outC0 c 2)) (K (inC0 (mate0 c) 2)) c (mate0 c) (outS0 2) (inS0 2) (dev0_4 c) rfl rfl lent (D.wv c) gN3
      (cl_out0 2) (by decide) (cl_in0 2) (by decide) N2 N2_eq3 rfl rfl _ _ (Entails.of_eq (toSet c cc0_stg3_0 lent _)) (sent2 D c gN3) (by routes)) $$ [HO Tn2 To2 N3 X3l]
  · isplitr; · iapply (inv_out D K c 2); iexact HI
    isplitr; · iapply (inv_inN D K c 2); iexact HI
    isplitl [X3l]; · rw [toSet]; iexact X3l
    isplitl [N3]; · rw [toSet]; iexact N3
    isplitl [HO]; · iexact HO
    isplitl [To2]; · iexact To2
    isplitr; · iapply (open_out D K c 2); iexact HI
    isplitl [Tn2]; · iexact Tn2
    iexact RN2
  iintro ⟨Co2, HO⟩
  ihave Co2 := (box_in _) $$ Co2
  sl_exec
  ihave Ao0 := (box_out _) $$ Ao0
  ihave Co0 := (box_out _) $$ Co0
  iapply (exWaitDma D (κ := .out0 0) (K (outC0 c 0)) c (outS0 0) (cl_out0 0) (by decide) N1 rfl rfl N1_eq0 O _ hO0) $$ [HO Ao0 Co0]
  · isplitr; · iapply (inv_out D K c 0); iexact HI
    isplitl [Co0]; · iexact Co0
    isplitl [HO]; · iexact HO
    isplitr; · iexact Hlev
    iexact Ao0
  iintro ⟨HO, Ao0, S0l⟩
  unfold pay
  ihave Ao0 := (box_in _) $$ Ao0
  ihave S0l := (box_in _) $$ S0l
  sl_exec
  ihave Ai0 := (box_out _) $$ Ai0
  ihave Ci0 := (box_out _) $$ Ci0
  iapply (exWaitDma D (κ := .in0 0) (K (inC0 c 0)) c (inS0 0) (cl_in0 0) (by decide) N1 rfl rfl N1_eq O _ hO) $$ [HO Ai0 Ci0]
  · isplitr; · iapply (inv_in D K c 0); iexact HI
    isplitl [Ci0]; · iexact Ci0
    isplitl [HO]; · iexact HO
    isplitr; · iexact Hlev
    iexact Ai0
  iintro ⟨HO, Ai0, S1⟩
  unfold pay
  ihave Ai0 := (box_in _) $$ Ai0
  sl_exec
  ihave Ao1 := (box_out _) $$ Ao1
  ihave Co1 := (box_out _) $$ Co1
  iapply (exWaitDma D (κ := .out0 1) (K (outC0 c 1)) c (outS0 1) (cl_out0 1) (by decide) N2 rfl rfl N2_eqw2 O _ hO0) $$ [HO Ao1 Co1]
  · isplitr; · iapply (inv_out D K c 1); iexact HI
    isplitl [Co1]; · iexact Co1
    isplitl [HO]; · iexact HO
    isplitr; · iexact Hlev
    iexact Ao1
  iintro ⟨HO, Ao1, X2l⟩
  unfold pay
  ihave Ao1 := (box_in _) $$ Ao1
  ihave X2l := (box_in _) $$ X2l
  sl_exec
  ihave Ai1 := (box_out _) $$ Ai1
  ihave Ci1 := (box_out _) $$ Ci1
  iapply (exWaitDma D (κ := .in0 1) (K (inC0 c 1)) c (inS0 1) (cl_in0 1) (by decide) N2 rfl rfl N2_eq2 O _ hO) $$ [HO Ai1 Ci1]
  · isplitr; · iapply (inv_in D K c 1); iexact HI
    isplitl [Ci1]; · iexact Ci1
    isplitl [HO]; · iexact HO
    isplitr; · iexact Hlev
    iexact Ai1
  iintro ⟨HO, Ai1, S2⟩
  unfold pay
  ihave Ai1 := (box_in _) $$ Ai1
  sl_exec
  ihave Ao2 := (box_out _) $$ Ao2
  ihave Co2 := (box_out _) $$ Co2
  iapply (exWaitDma D (κ := .out0 2) (K (outC0 c 2)) c (outS0 2) (cl_out0 2) (by decide) N2 rfl rfl N2_eqw3 O _ hO0) $$ [HO Ao2 Co2]
  · isplitr; · iapply (inv_out D K c 2); iexact HI
    isplitl [Co2]; · iexact Co2
    isplitl [HO]; · iexact HO
    isplitr; · iexact Hlev
    iexact Ao2
  iintro ⟨HO, Ao2, X3l⟩
  unfold pay
  ihave Ao2 := (box_in _) $$ Ao2
  ihave X3l := (box_in _) $$ X3l
  sl_exec
  ihave Ai2 := (box_out _) $$ Ai2
  ihave Ci2 := (box_out _) $$ Ci2
  iapply (exWaitDma D (κ := .in0 2) (K (inC0 c 2)) c (inS0 2) (cl_in0 2) (by decide) N2 rfl rfl N2_eq3 O _ hO) $$ [HO Ai2 Ci2]
  · isplitr; · iapply (inv_in D K c 2); iexact HI
    isplitl [Ci2]; · iexact Ci2
    isplitl [HO]; · iexact HO
    isplitr; · iexact Hlev
    iexact Ai2
  iintro ⟨HO, Ai2, S3⟩
  unfold pay
  ihave Ai2 := (box_in _) $$ Ai2
  sl_exec
  ihave Ab := (box_out _) $$ Ab
  ihave Ao0 := (box_out _) $$ Ao0
  ihave Ao1 := (box_out _) $$ Ao1
  ihave Ao2 := (box_out _) $$ Ao2
  ihave Ai0 := (box_out _) $$ Ai0
  ihave Ai1 := (box_out _) $$ Ai1
  ihave Ai2 := (box_out _) $$ Ai2
  ihave S0l := (box_out _) $$ S0l
  ihave X2l := (box_out _) $$ X2l
  ihave X3l := (box_out _) $$ X3l
  ihave S0 := (unhalve c cc0_scratch0 (D.cs c)) $$ [S0 S0l]
  · isplitl [S0]; · iexact S0
    iexact S0l
  ihave X2 := (unhalve c cc0_stg2_0 (D.wk c)) $$ [X2 X2l]
  · isplitl [X2]; · iexact X2
    iexact X2l
  ihave X3 := (unhalve c cc0_stg3_0 (D.wv c)) $$ [X3 X3l]
  · isplitl [X3]; · iexact X3
    iexact X3l
  have e73 : projRun.sl.v73 wq g4 = wq := by
    refine Eq.trans ?_ r9
    exact congrArg (View.readAt (Elt F) (Memref.whole cc0_scratch4).view (Rect.unit ![0, 0] S2048x2048.size inb_S2048x2048_S2048x2048_0_0).toLoadRect) (View.write_whole_univ cc0_scratch4 g4 wq)
  have e80 : projRun.sl.v80 wqr g5 = wqr := by
    refine Eq.trans ?_ r10
    exact congrArg (View.readAt (Elt F) (Memref.whole cc0_scratch5).view (Rect.unit ![0, 0] S2048x512.size inb_S2048x512_S2048x512_0_0).toLoadRect) (View.write_whole_univ cc0_scratch5 g5 wqr)
  have er : projRun.sl.r c xb wqr g5 = k0_pay9 (xHalf c xb) wqr := by
    unfold projRun.sl.r; rw [e80]
  have er1 : projRun.sl.r_1 c xb wqr g5 = k0_pay19 (k0_pay9 (xHalf c xb) wqr) := by
    unfold projRun.sl.r_1; rw [er]
  rw [e73, e80, er, er1]
  have e173 : projRun.sl.v173 D c = k0_pay5 (D.cs c) (D.wk c) := by
    unfold projRun.sl.v173
    rw [View.readCov_cons_toLoadRect]
  have e180 : projRun.sl.v180 D c = k0_pay6 (D.cs c) (D.wv c) := by
    unfold projRun.sl.v180
    rw [View.readCov_cons_toLoadRect]
  have er3 : projRun.sl.r_3 D c = kOf D c := by
    unfold projRun.sl.r_3; rw [e173]; rfl
  have er2 : projRun.sl.r_2 D c = D.cs (mate0 c) := rfl
  have w5 : (Memref.whole cc0_stg5_0).view.writes (Elt F) f5
      [⟨Rect.unit ![0, 0] S512x2048.size inb_S512x2048_S512x2048_0_0, k0_pay8 (xHalf c xb) wq⟩] = qOf c xb wq := wr_top cc0_stg5_0 f5 (qOf c xb wq) [] _ (by decide)
  have w6 := head_stores (xHalf c xb) wqr f6
  have w7 : (Memref.whole cc0_stg7_0).view.writes (Elt F) f7
      [⟨Rect.unit ![0, 0] S1024x32.size inb_S1024x32_S1024x32_0_0, k0_pay4 (k0_pay2 xb) wkr⟩] = krOf xb wkr := wr_top cc0_stg7_0 f7 (krOf xb wkr) [] _ (by decide)
  have w8 : (Memref.whole cc0_stg8_0).view.writes (Elt F) f8
      [⟨Rect.unit ![0, 0] ![1024, 2048] inb_S1024x2048_S1024x2048_0_0, projRun.sl.r_3 D c⟩,
        ⟨Rect.unit ![0, 0] S1024x2048.size inb_S1024x2048_S1024x2048_0_0, k0_pay5 (D.cs c) (D.wk c)⟩] = kOf D c := by
    rw [er3]
    exact wr_top cc0_stg8_0 f8 (kOf D c) _ _ (by decide)
  have w9 : (Memref.whole cc0_stg9_0).view.writes (Elt F) f9
      [⟨Rect.unit ![0, 0] ![1024, 2048] inb_S1024x2048_S1024x2048_0_0, k0_pay1 (projRun.sl.r_2 D c) (projRun.sl.v180 D c) (D.wv (mate0 c))⟩,
        ⟨Rect.unit ![0, 0] S1024x2048.size inb_S1024x2048_S1024x2048_0_0, k0_pay6 (D.cs c) (D.wv c)⟩] = vOf D c := by
    rw [e180, er2]
    exact wr_top cc0_stg9_0 f9 (vOf D c) _ _ (by decide)
  rw [w5, w6, w7, w8, w9]
  rw [wp_ret]
  imod (exClose D (K (barC0 c)) (barC0 c)) $$ [Ab] with Ab
  · isplitr; · iapply (inv_bar D K c); iexact HI
    iexact Ab
  imod (exClose D (K (outC0 c 0)) (outC0 c 0)) $$ [Ao0] with Ao0
  · isplitr; · iapply (inv_out D K c 0); iexact HI
    iexact Ao0
  imod (exClose D (K (outC0 c 1)) (outC0 c 1)) $$ [Ao1] with Ao1
  · isplitr; · iapply (inv_out D K c 1); iexact HI
    iexact Ao1
  imod (exClose D (K (outC0 c 2)) (outC0 c 2)) $$ [Ao2] with Ao2
  · isplitr; · iapply (inv_out D K c 2); iexact HI
    iexact Ao2
  imod (exClose D (K (inC0 c 0)) (inC0 c 0)) $$ [Ai0] with Ai0
  · isplitr; · iapply (inv_in D K c 0); iexact HI
    iexact Ai0
  imod (exClose D (K (inC0 c 1)) (inC0 c 1)) $$ [Ai1] with Ai1
  · isplitr; · iapply (inv_in D K c 1); iexact HI
    iexact Ai1
  imod (exClose D (K (inC0 c 2)) (inC0 c 2)) $$ [Ai2] with Ai2
  · isplitr; · iapply (inv_in D K c 2); iexact HI
    iexact Ai2
  imodintro
  unfold projPost
  isplitl [Ab]; · iexact Ab
  isplitl [Ao0]; · iexact Ao0
  isplitl [Ao1]; · iexact Ao1
  isplitl [Ao2]; · iexact Ao2
  isplitl [Ai0]; · iexact Ai0
  isplitl [Ai1]; · iexact Ai1
  isplitl [Ai2]; · iexact Ai2
  isplitl [V16]; · iexact V16
  isplitl [V17]; · iexact V17
  isplitl [X0]; · iexact X0
  isplitl [X1]; · iexact X1
  isplitl [X2]; · iexact X2
  isplitl [X3]; · iexact X3
  isplitl [X4]; · iexact X4
  isplitl [XA4]; · iexact XA4
  isplitl [XA5]; · iexact XA5
  isplitl [X5]; · iexact X5
  isplitl [X6]; · iexact X6
  isplitl [X7]; · iexact X7
  isplitl [X8]; · iexact X8
  isplitl [X9]; · iexact X9
  isplitl [HO]; · iexists _; iexact HO
  isplitl [S0]; · iexists _; iexact S0
  isplitl [S1]; · iexists _; iexact S1
  isplitl [S2]; · iexists _; iexact S2
  isplitl [S3]; · iexists _; iexact S3
  isplitl [S4]; · iexists _; iexact S4
  iexists _; iexact S5

end Cert.KernelIdeal.Run

end
-- ==== Proof.Ghost.lean ====
/- What the run's start hands out: every exchange cell's invariant made from its counter at zero, the positions, the
   tokens of what each device pays, dealt to the payer, and the credits for what others owe a device. -/
module

public import proofs.«01_k».proof.Proof.Proj

@[expose] public section

noncomputable section

namespace Cert.KernelIdeal.Run

open Idealize.ShloMosaic Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen

variable {F : FTy → Type} [FloatOps F] [Named F]

local notation "𝕄" => MT nD τ sig Unit (Elt F) ℕ UU ℕ

variable (D : Mail F)

/-! ## The cells, numbered -/

/-- A device's seven exchange cells: the barrier's, three departures, three arrivals. -/
abbrev csem : Fin 7 → SemLoc sig := fun
  | 0 => .reg barrier0 | 1 => .dma (outS0 0) | 2 => .dma (outS0 1) | 3 => .dma (outS0 2) | 4 => .dma (inS0 0) | 5 => .dma (inS0 1) | 6 => .dma (inS0 2)
abbrev kcell (ck : Dev nD × Fin 7) : GSem nD τ sig := ((ck.1 : Thread nD τ), csem ck.2)

theorem csem_inj : Function.Injective csem := by decide
theorem cell_eq_iff {a b : Dev nD} {s s' : SemLoc sig} : (((a : Thread nD τ), s) : GSem nD τ sig) = ((b : Thread nD τ), s') ↔ a = b ∧ s = s' :=
  ⟨fun h => ⟨congrArg (fun g : GSem nD τ sig => g.1.1) h, congrArg Prod.snd h⟩, fun ⟨h, h'⟩ => by rw [h, h']⟩
theorem kcell_inj : Function.Injective (kcell : Dev nD × Fin 7 → GSem nD τ sig) := by
  rintro ⟨c, k⟩ ⟨c', k'⟩ h
  obtain ⟨h1, h2⟩ := cell_eq_iff.mp h
  have h3 : c = c' := h1
  have h4 : k = k' := csem_inj h2
  rw [h3, h4]

/-- The kernel's own semaphores: the departures, the arrivals and the two of its local copies. -/
abbrev osem : Fin 8 → SemLoc sig := fun
  | 0 => .dma (outS0 0) | 1 => .dma (outS0 1) | 2 => .dma (outS0 2) | 3 => .dma (inS0 0) | 4 => .dma (inS0 1) | 5 => .dma (inS0 2)
  | 6 => .dma (16 : DmaSem sig) | 7 => .dma (17 : DmaSem sig)
theorem ownSemFacts : Pipeline.OwnSemFacts cfg0.spec osem := by decide

def xcells : Finset (GSem nD τ sig) := Finset.univ.map ⟨kcell, kcell_inj⟩
theorem mem_xcells (ck : Dev nD × Fin 7) : kcell ck ∈ xcells := Finset.mem_map.mpr ⟨ck, Finset.mem_univ _, rfl⟩
abbrev tokOf (ck : Dev nD × Fin 7) : GSem nD τ sig × ℕ × Unit := (kcell ck, 0, ())
theorem tokOf_inj : Function.Injective tokOf := fun a b h => kcell_inj (congrArg Prod.fst h)
def xtoks : Finset (GSem nD τ sig × ℕ × Unit) := Finset.univ.map ⟨tokOf, tokOf_inj⟩

def toks (c : Dev nD) : sProp 𝕄 := bigSep Finset.univ fun k : Fin 7 => dutyTok ER (kcell (c, k)) 0 ()

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem toks_eq : bigSep xtoks (fun x => (dutyTok ER x.1 x.2.1 x.2.2 : sProp 𝕄)) = bigSep Finset.univ fun c : Dev nD => toks c := by
  unfold xtoks; rw [bigSep_map, bigSep_univ_prod]; rfl

/-! ## The call's own counters -/

/-- The two counters of the local copies: no other device knows them. -/
def locals (c : Dev nD) : sProp 𝕄 := iprop(semVal ((c : Thread nD τ), .dma (16 : DmaSem sig)) 0 ∗ semVal ((c : Thread nD τ), .dma (17 : DmaSem sig)) 0)

theorem ownSems0_eq (c : Dev nD) : (Pipeline.ownSems0 (Ix := Unit) (Name := ℕ) (U := UU) (Lvl := ℕ) (Val := Elt F) (τ := τ) osem c : sProp 𝕄)
    = iprop(semVal (outC0 c 0) 0 ∗ semVal (outC0 c 1) 0 ∗ semVal (outC0 c 2) 0 ∗ semVal (inC0 c 0) 0 ∗ semVal (inC0 c 1) 0 ∗ semVal (inC0 c 2) 0
      ∗ semVal ((c : Thread nD τ), .dma (16 : DmaSem sig)) 0 ∗ semVal ((c : Thread nD τ), .dma (17 : DmaSem sig)) 0) := by
  rw [Pipeline.ownSems0_eq_of_list c osem [0, 1, 2, 3, 4, 5, 6, 7] (by decide) (by decide)]; rfl
/-! ## The cells at launch: the barriers open, the call's own still closed -/

def barEmb : Dev nD ↪ GSem nD τ sig := ⟨fun c => barC0 c, fun _ _ h => congrArg (fun g : GSem nD τ sig => g.1.1) h⟩
def scEmb : Dev nD × Fin 6 ↪ GSem nD τ sig := ⟨fun ck => kcell (ck.1, ck.2.succ), fun a b h => by
  have e := kcell_inj h
  have e1 : a.1 = b.1 := (Prod.mk.inj e).1
  have e2 : a.2.succ = b.2.succ := (Prod.mk.inj e).2
  exact Prod.ext e1 (Fin.succ_injective _ e2)⟩
/-- The barrier cells, and the cells of the call's own exchanges. -/
abbrev barCells : Finset (GSem nD τ sig) := Finset.univ.map barEmb
abbrev scCells : Finset (GSem nD τ sig) := Finset.univ.map scEmb
theorem own_ne_bar : ∀ k : Fin 6, csem k.succ ≠ .reg barrier0 := by decide
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact own_ne_bar ck.2 (congrArg Prod.snd h)
theorem bar_mem (c : Dev nD) : barC0 c ∈ (barCells ∪ scCells : Finset (GSem nD τ sig)) :=
  Finset.mem_union_left _ (Finset.mem_map_of_mem barEmb (Finset.mem_univ c))
theorem own_mem (c : Dev nD) (k : Fin 6) : kcell (c, k.succ) ∈ (barCells ∪ scCells : Finset (GSem nD τ sig)) :=
  Finset.mem_union_right _ (Finset.mem_map_of_mem scEmb (Finset.mem_univ (c, k)))

/-- Every cell's invariant, under its name, and that the barriers are open. -/
def records (K : GSem nD τ sig → ℕ) : sProp 𝕄 :=
  iprop((bigSep (barCells ∪ scCells) fun g => cellInv ER (sched D) (K g) g) ∗ bigSep barCells fun g => reached ER g 0)
instance records_persistent (K : GSem nD τ sig → ℕ) : BI.Persistent (records D K) := by unfold records; infer_instance
theorem inv_at (K : GSem nD τ sig → ℕ) {g : GSem nD τ sig} (hg : g ∈ (barCells ∪ scCells : Finset (GSem nD τ sig))) :
    records D K ⊢ cellInv ER (sched D) (K g) g := by
  unfold records; iintro ⟨H, -⟩
  iapply (show (bigSep (barCells ∪ scCells) (fun g => cellInv ER (sched D) (K g) g) : sProp 𝕄) ⊢ cellInv ER (sched D) (K g) g from bigSep_elim hg); iexact H
theorem reached_at (K : GSem nD τ sig → ℕ) (c : Dev nD) : records D K ⊢ reached ER (barC0 c) 0 := by
  unfold records; iintro ⟨-, H⟩
  iapply (show (bigSep barCells (fun g => reached ER g 0) : sProp 𝕄) ⊢ reached ER (barC0 c) 0 from bigSep_elim (Finset.mem_map_of_mem barEmb (Finset.mem_univ c))); iexact H

theorem projInvs_intro (K : GSem nD τ sig → ℕ) (c : Dev nD) :
    iprop(records D K ∗ (reached ER (outC0 c 0) 0 ∗ reached ER (outC0 c 1) 0 ∗ reached ER (outC0 c 2) 0 ∗ reached ER (inC0 c 0) 0 ∗ reached ER (inC0 c 1) 0 ∗ reached ER (inC0 c 2) 0)) ⊢ projInvs D K c := by
  unfold projInvs
  rw [bigSep_fin3, bigSep_fin3, bigSep_fin3]
  iintro ⟨#H, #R1, #R2, #R3, #R4, #R5, #R6⟩
  isplitr; · iapply (inv_at D K (bar_mem c)); iexact H
  isplitr
  · isplitr; · iapply (inv_at D K (bar_mem (mate0 c))); iexact H
    iapply (reached_at D K (mate0 c)); iexact H
  isplitr
  · isplitr
    · isplitr; · iapply (inv_at D K (own_mem c 0)); iexact H
      iexact R1
    isplitr
    · isplitr; · iapply (inv_at D K (own_mem c 1)); iexact H
      iexact R2
    isplitr; · iapply (inv_at D K (own_mem c 2)); iexact H
    iexact R3
  isplitr
  · isplitr
    · isplitr; · iapply (inv_at D K (own_mem c 3)); iexact H
      iexact R4
    isplitr
    · isplitr; · iapply (inv_at D K (own_mem c 4)); iexact H
      iexact R5
    isplitr; · iapply (inv_at D K (own_mem c 5)); iexact H
    iexact R6
  isplitr; · iapply (inv_at D K (own_mem (mate0 c) 3)); iexact H
  isplitr; · iapply (inv_at D K (own_mem (mate0 c) 4)); iexact H
  iapply (inv_at D K (own_mem (mate0 c) 5)); iexact H

/-! ## The tokens go to the payers -/

/-- The tokens of what device `c` pays: its partner's barrier and arrivals, its own departures. -/
def payToks (c : Dev nD) : sProp 𝕄 :=
  iprop(dutyTok ER (barC0 (mate0 c)) 0 () ∗ dutyTok ER (inC0 (mate0 c) 0) 0 () ∗ dutyTok ER (inC0 (mate0 c) 1) 0 () ∗ dutyTok ER (inC0 (mate0 c) 2) 0 ()
    ∗ dutyTok ER (outC0 c 0) 0 () ∗ dutyTok ER (outC0 c 1) 0 () ∗ dutyTok ER (outC0 c 2) 0 ())

theorem toks_around : (bigSep Finset.univ fun c : Dev nD => (toks c : sProp 𝕄)) ⊢ bigSep Finset.univ fun c : Dev nD => payToks c := by
  unfold toks payToks
  simp only [bigSep_fin7]
  rw [bigSep_sep', bigSep_sep', bigSep_sep', bigSep_sep', bigSep_sep', bigSep_sep',
    bigSep_sep', bigSep_sep', bigSep_sep', bigSep_sep', bigSep_sep', bigSep_sep',
    bigSep_univ_equiv swap0 (fun c : Dev nD => (dutyTok ER (kcell (c, 0)) 0 () : sProp 𝕄)),
    bigSep_univ_equiv swap0 (fun c : Dev nD => (dutyTok ER (kcell (c, 4)) 0 () : sProp 𝕄)),
    bigSep_univ_equiv swap0 (fun c : Dev nD => (dutyTok ER (kcell (c, 5)) 0 () : sProp 𝕄)),
    bigSep_univ_equiv swap0 (fun c : Dev nD => (dutyTok ER (kcell (c, 6)) 0 () : sProp 𝕄))]
  iintro ⟨H0, H1, H2, H3, H4, H5, H6⟩
  isplitl [H0]; · iexact H0
  isplitl [H4]; · iexact H4
  isplitl [H5]; · iexact H5
  isplitl [H6]; · iexact H6
  isplitl [H1]; · iexact H1
  isplitl [H2]; · iexact H2
  iexact H3

/-- What a device starts from: the invariants, its positions, its tokens, its local counters. -/
def positions (c : Dev nD) : sProp 𝕄 := bigSep Finset.univ fun k : Fin 7 => atPos ER (kcell (c, k)) 0 ∅ 0
def ghost (c : Dev nD) : sProp 𝕄 := iprop(∃ K, projInvs D K c ∗ positions c ∗ payToks c ∗ locals c)

/-! ## From the launch to the call's entry -/

/-- The rights to open a device's own cells. -/
def opens (c : Dev nD) : sProp 𝕄 :=
  iprop(openTok ER (outC0 c 0) ∗ openTok ER (outC0 c 1) ∗ openTok ER (outC0 c 2) ∗ openTok ER (inC0 c 0) ∗ openTok ER (inC0 c 1) ∗ openTok ER (inC0 c 2))
/-- What a device holds of the call before it: its barrier position, the rights to open its own cells, its tokens. -/
def linear (c : Dev nD) : sProp 𝕄 := iprop(atPos ER (barC0 c) 0 ∅ 0 ∗ opens c ∗ payToks c)
def asleep (c : Dev nD) : sProp 𝕄 := iprop(∃ K, records D K ∗ linear c)

/-- A record that persists is had for every member of a family. -/
theorem forAll {ι : Type} [Fintype ι] [DecidableEq ι] {Φ Ψ : ι → sProp 𝕄} {R : sProp 𝕄} [BI.Persistent R]
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem opens_eq : bigSep scCells (fun g => (openTok ER g : sProp 𝕄)) = bigSep Finset.univ fun c : Dev nD => opens c := by
  rw [bigSep_map, bigSep_univ_prod]
  refine bigSep_congr fun c _ => ?_
  exact bigSep_fin6 (fun k : Fin 6 => (openTok ER (kcell (c, k.succ)) : sProp 𝕄))

/-- All devices' barrier counters and the launch element give every device its part. -/
theorem launch : iprop((bigSep Finset.univ fun c : Dev nD => semVal (barC0 c) 0) ∗ BI.own (ER (F := F) (launchOf barCells scCells xtoks)))
    ⊢ (|={Set.univ}=> bigSep Finset.univ (asleep D) : sProp 𝕄) := by
  have hv : bigSep Finset.univ (fun c : Dev nD => (semVal (barC0 c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC0 c) 0 ∅ 0 : sProp 𝕄)) :=
    Entails.of_eq (bigSep_map (s := Finset.univ) barEmb (Φ := fun g : GSem nD τ sig => (atPos ER g 0 ∅ 0 : sProp 𝕄)))
  iintro ⟨Hv, Hu⟩
  imod (Rounds.fund_launch ER (sched D) disjoint_cells (fun g _ h => h) xtoks) $$ [Hv Hu] with ⟨%κ, -, #Hinv, #Hr, Hat, Hopen, Htok⟩
  · isplitl [Hv]
    · iapply hv $$ Hv
    · iexact Hu
  imodintro
  iapply (forAll (R := records D κ) (Φ := fun c => linear c) fun c => by
    unfold asleep; iintro ⟨#H, Hl⟩; iexists κ
    isplitr; · iexact H
    iexact Hl)
  isplitr
  · unfold records
    isplitr; · iexact Hinv
    iexact Hr
  unfold linear
  rw [bigSep_sep', bigSep_sep']
  isplitl [Hat]; · iapply hat $$ Hat
  isplitl [Hopen]; · iapply (Entails.of_eq (opens_eq (F := F))) $$ Hopen
  iapply (toks_around (F := F))
  iapply (Entails.of_eq (toks_eq (F := F))) $$ Htok

/-- At the call's entry a device's own counters open its cells. -/
theorem awake (c : Dev nD) :
    iprop(asleep D c ∗ Pipeline.ownSems0 (Ix := Unit) (Name := ℕ) (U := UU) (Lvl := ℕ) (Val := Elt F) (τ := τ) osem c) ⊢ |={Set.univ}=> ghost D c := by
  have h (K : GSem nD τ sig → ℕ) (k : Fin 6) :
      iprop(records D K ∗ (openTok ER (kcell (c, k.succ)) ∗ semVal (kcell (c, k.succ)) 0)) ⊢ (|={Set.univ}=> iprop(atPos ER (kcell (c, k.succ)) 0 ∅ 0 ∗ reached ER (kcell (c, k.succ)) 0) : sProp 𝕄) :=
    (sep_mono_left (inv_at D K (own_mem c k))).trans (Rounds.cell_open ER (sched D) (Set.mem_univ (K (kcell (c, k.succ)))))
  rw [ownSems0_eq]
  unfold asleep linear opens
  iintro ⟨⟨%K, #HI, Hb, ⟨O0, O1, O2, O3, O4, O5⟩, Ht⟩, V0, V1, V2, V3, V4, V5, L0, L1⟩
  imod (h K 0) $$ [O0 V0] with ⟨A0, #R0⟩
  · isplitr; · iexact HI
    isplitl [O0]; · iexact O0
    iexact V0
  imod (h K 1) $$ [O1 V1] with ⟨A1, #R1⟩
  · isplitr; · iexact HI
    isplitl [O1]; · iexact O1
    iexact V1
  imod (h K 2) $$ [O2 V2] with ⟨A2, #R2⟩
  · isplitr; · iexact HI
    isplitl [O2]; · iexact O2
    iexact V2
  imod (h K 3) $$ [O3 V3] with ⟨A3, #R3⟩
  · isplitr; · iexact HI
    isplitl [O3]; · iexact O3
    iexact V3
  imod (h K 4) $$ [O4 V4] with ⟨A4, #R4⟩
  · isplitr; · iexact HI
    isplitl [O4]; · iexact O4
    iexact V4
  imod (h K 5) $$ [O5 V5] with ⟨A5, #R5⟩
  · isplitr; · iexact HI
    isplitl [O5]; · iexact O5
    iexact V5
  imodintro
  unfold ghost positions locals
  rw [bigSep_fin7]
  iexists K
  isplitr
  · iapply (projInvs_intro D K c)
    isplitr; · iexact HI
    isplitr; · iexact R0
    isplitr; · iexact R1
    isplitr; · iexact R2
    isplitr; · iexact R3
    isplitr; · iexact R4
    iexact R5
  isplitr [Ht L0 L1]
  · isplitl [Hb]; · iexact Hb
    isplitl [A0]; · iexact A0
    isplitl [A1]; · iexact A1
    isplitl [A2]; · iexact A2
    isplitl [A3]; · iexact A3
    isplitl [A4]; · iexact A4
    iexact A5
  isplitl [Ht]; · iexact Ht
  isplitl [L0]; · iexact L0
  iexact L1

/-! ## The credits for what is owed a device -/

theorem mate0_eq_iff {c d : Dev nD} : c = mate0 d ↔ d = mate0 c :=
  ⟨fun h => by rw [h, mate0_mate0], fun h => by rw [h, mate0_mate0]⟩

theorem owed_bar (d c : Dev nD) : O0 d (barC0 c) () = if d = mate0 c then 1 else 0 := by
  unfold O0
  simp only [Pi.add_apply, Finsupp.add_apply, tallyAt_apply, Pi.zero_apply, Finsupp.zero_apply, cell_eq_iff, mate0_eq_iff (c := c)]
  simp
theorem owed_in0 (d c : Dev nD) : O0 d (inC0 c 0) () = if d = mate0 c then N1 else 0 := by
  unfold O0
  simp only [Pi.add_apply, Finsupp.add_apply, tallyAt_apply, Pi.zero_apply, Finsupp.zero_apply, cell_eq_iff, mate0_eq_iff (c := c)]
  have h1 : inS0 0 ≠ inS0 1 := by decide
  have h2 : inS0 0 ≠ inS0 2 := by decide
  simp [h1, h2]
theorem owed_in1 (d c : Dev nD) : O0 d (inC0 c 1) () = if d = mate0 c then N2 else 0 := by
  unfold O0
  simp only [Pi.add_apply, Finsupp.add_apply, tallyAt_apply, Pi.zero_apply, Finsupp.zero_apply, cell_eq_iff, mate0_eq_iff (c := c)]
  have h1 : inS0 1 ≠ inS0 0 := by decide
  have h2 : inS0 1 ≠ inS0 2 := by decide
  simp [h1, h2]
theorem owed_in2 (d c : Dev nD) : O0 d (inC0 c 2) () = if d = mate0 c then N2 else 0 := by
  unfold O0
  simp only [Pi.add_apply, Finsupp.add_apply, tallyAt_apply, Pi.zero_apply, Finsupp.zero_apply, cell_eq_iff, mate0_eq_iff (c := c)]
  have h1 : inS0 2 ≠ inS0 0 := by decide
  have h2 : inS0 2 ≠ inS0 1 := by decide
  simp [h1, h2]

theorem launch_at (c : Dev nD) (s : SemLoc sig) (n : ℕ) (h : ∀ d, O0 d ((c : Thread nD τ), s) () = if d = mate0 c then n else 0) :
    tallyOn ((c : Thread nD τ), s) (launchCredit (Pipeline.owing O0) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate0 c) fun _ => n,
    if_pos (Finset.mem_univ _)]

/-- The four cells on which a device is paid by its partner. -/
theorem creds (c : Dev nD) :
    (Pipeline.launchCred O0 c : sProp 𝕄)
      ⊢ iprop(cred (tallyAt (barC0 c) () 1) ∗ cred (tallyAt (inC0 c 0) () N1) ∗ cred (tallyAt (inC0 c 1) () N2) ∗ cred (tallyAt (inC0 c 2) () N2)) := by
  unfold Pipeline.launchCred
  refine (show (_ : sProp 𝕄) ⊢ _ from BI.bigSep_subset (Finset.subset_univ ([SemLoc.reg barrier0, .dma (inS0 0), .dma (inS0 1), .dma (inS0 2)] : List (SemLoc sig)).toFinset)).trans (Entails.of_eq ?_)
  rw [bigSep_eq_bigSepL_of_eq [SemLoc.reg barrier0, .dma (inS0 0), .dma (inS0 1), .dma (inS0 2)] rfl (by decide),
    ← launch_at c (.reg barrier0) 1 (fun d => owed_bar d c), ← launch_at c (.dma (inS0 0)) N1 (fun d => owed_in0 d c),
    ← launch_at c (.dma (inS0 1)) N2 (fun d => owed_in1 d c), ← launch_at c (.dma (inS0 2)) N2 (fun d => owed_in2 d c)]
  rfl

end Cert.KernelIdeal.Run

end
-- ==== Proof.Run.lean ====
/- The projection call's part of the run: the pipeline's data (each window's block before and after the one point), the
   body's obligation from `projRun`, what a device enters the call with and what it leaves it with, to named contents.
   The call is entered from any contents `V` of the buffers, and with any further debt `B` to the cells of a later call. -/
module

public import proofs.«01_k».proof.Proof.Ghost
public import Idealize.ShloMosaic.Lib.Pipeline.CollectiveSegs
public import Idealize.ShloMosaic.Lib.Pipeline.ValueKit

@[expose] public section

noncomputable section

namespace Cert.KernelIdeal.Run

open Idealize.ShloMosaic Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen

variable {F : FTy → Type} [FloatOps F] [Named F]

local notation "𝕄" => MT nD τ sig Unit (Elt F) ℕ UU ℕ

variable (V : Dev nD → Valuation τ sig (Elt F)) (B : Dev nD → CellTallies nD τ sig Unit)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the devices exchange: the product of the whole input with the device's part of the first weight, and its parts
    of the two others. -/
def mail : Mail F where
  cs c := k0_pay3 (iblk V c 0 t0_0) (iblk V c 1 t0_0)
  wk c := iblk V c 2 t0_0
  wv c := iblk V c 3 t0_0

/-- The contents a device's body ends with in each output window. -/
def qFin (c : Dev nD) : cc0_stg5_0.ty.Contents (Elt F) := qOf c (iblk V c 0 t0_0) (V c (Proc.devRef .tc main_arg4))
def qrFin (c : Dev nD) : cc0_stg6_0.ty.Contents (Elt F) := qrOf c (iblk V c 0 t0_0) (V c (Proc.devRef .tc main_arg5))
def krFin (c : Dev nD) : cc0_stg7_0.ty.Contents (Elt F) := krOf (iblk V c 0 t0_0) (iblk V c 4 t0_0)
def kFin (c : Dev nD) : cc0_stg8_0.ty.Contents (Elt F) := kOf (mail V) c
def vFin (c : Dev nD) : cc0_stg9_0.ty.Contents (Elt F) := vOf (mail V) c

def scratches (c : Dev nD) : sProp 𝕄 := iprop((∃ g, pt (F := F) c cc0_scratch0 g) ∗ (∃ g, pt (F := F) c cc0_scratch1 g) ∗ (∃ g, pt (F := F) c cc0_scratch2 g) ∗ (∃ g, pt (F := F) c cc0_scratch3 g) ∗ (∃ g, pt (F := F) c cc0_scratch4 g) ∗ (∃ g, pt (F := F) c cc0_scratch5 g))
def argsHeld (c : Dev nD) : sProp 𝕄 :=
  iprop(pt c main_arg4 (V c (Proc.devRef .tc main_arg4)) ∗ pt c main_arg5 (V c (Proc.devRef .tc main_arg5)))
/-- What a device's body starts from, and what it leaves. -/
def start (c : Dev nD) : sProp 𝕄 :=
  iprop(ghost (mail V) c ∗ (cred (tallyAt (barC0 c) () 1) ∗ cred (tallyAt (inC0 c 0) () N1) ∗ cred (tallyAt (inC0 c 1) () N2) ∗ cred (tallyAt (inC0 c 2) () N2))
    ∗ levAts L lv ∗ argsHeld V c)
def Φ₀ (c : Dev nD) : sProp 𝕄 := iprop(start V c ∗ scratches c)
def Φ₁ (c : Dev nD) : sProp 𝕄 :=
  iprop((semVal (barC0 c) 0 ∗ semVal (outC0 c 0) 0 ∗ semVal (outC0 c 1) 0 ∗ semVal (outC0 c 2) 0 ∗ semVal (inC0 c 0) 0 ∗ semVal (inC0 c 1) 0 ∗ semVal (inC0 c 2) 0 ∗ locals c) ∗ argsHeld V c ∗ scratches c)

/-- What rides along: the other call's buffers, and the generator register. -/
def others (c : Dev nD) : sProp 𝕄 := iprop((∃ g, pt (F := F) c cc1_stg0_0 g) ∗ (∃ g, pt (F := F) c cc1_stg0_1 g) ∗ (∃ g, pt (F := F) c cc1_stg1_0 g) ∗ (∃ g, pt (F := F) c cc1_stg1_1 g) ∗ (∃ g, pt (F := F) c cc1_stg2_0 g) ∗ (∃ g, pt (F := F) c cc1_stg2_1 g) ∗ (∃ g, pt (F := F) c cc1_stg3_0 g) ∗ (∃ g, pt (F := F) c cc1_stg3_1 g) ∗ (∃ g, pt (F := F) c cc1_stg4_0 g) ∗ (∃ g, pt (F := F) c cc1_stg5_0 g) ∗ (∃ g, pt (F := F) c cc1_scratch0 g) ∗ (∃ g, pt (F := F) c cc1_scratch1 g) ∗ (∃ g, pt (F := F) c cc1_scratch2 g) ∗ (∃ g, pt (F := F) c cc1_scratch3 g))
def aside (c : Dev nD) : sProp 𝕄 := iprop(others c ∗ ∃ r, prngReg c r)

def dat (c : Dev nD) : Dat τ (Elt F) Unit ℕ UU ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => qFin V c
    | ⟨6, _⟩ => qrFin V c
    | ⟨7, _⟩ => krFin V c
    | ⟨8, _⟩ => kFin V c
    | ⟨9, _⟩ => vFin V c
  Φ t := iprop((match t with
    | ⟨0, _⟩ => Φ₀ V c
    | ⟨_ + 1, _⟩ => Φ₁ V c) ∗ aside c)
  q _ := fullShare
  owed t := match t with
    | ⟨0, _⟩ => B c + O0 c
    | ⟨_ + 1, _⟩ => B c

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_at (c : Dev nD) (b : Ref sig .tc) (X : b.ty.Contents (Elt F)) : pt c b X ⊢ stg c b X := by
  iintro H; iexists X; isplitr; · ipureintro; rfl
  iexact H

theorem before_0 (c : Dev nD) (d) : (dat V B c).before 0 t0_0 d = iblk V c 0 t0_0 := by
  unfold Dat.before; rw [if_pos (fetch0_0 t0_0)]; rfl
theorem before_1 (c : Dev nD) (d) : (dat V B c).before 1 t0_0 d = iblk V c 1 t0_0 := by
  unfold Dat.before; rw [if_pos (fetch0_1 t0_0)]; rfl
theorem before_2 (c : Dev nD) (d) : (dat V B c).before 2 t0_0 d = iblk V c 2 t0_0 := by
  unfold Dat.before; rw [if_pos (fetch0_2 t0_0)]; rfl
theorem before_3 (c : Dev nD) (d) : (dat V B c).before 3 t0_0 d = iblk V c 3 t0_0 := by
  unfold Dat.before; rw [if_pos (fetch0_3 t0_0)]; rfl
theorem before_4 (c : Dev nD) (d) : (dat V B c).before 4 t0_0 d = iblk V c 4 t0_0 := by
  unfold Dat.before; rw [if_pos (fetch0_4 t0_0)]; rfl

set_option maxRecDepth 8000 in
def bodyPre (c : Dev nD) : sProp 𝕄 :=
  iprop(Φ₀ V c ∗ (dat V B c).owesAt () t0_0.castSucc
    ∗ (∃ d, stg c cc0_stg0_0 ((dat V B c).before (0 : Fin 10) t0_0 d))
    ∗ (∃ d, stg c cc0_stg1_0 ((dat V B c).before (1 : Fin 10) t0_0 d))
    ∗ (∃ d, stg c cc0_stg2_0 ((dat V B c).before (2 : Fin 10) t0_0 d))
    ∗ (∃ d, stg c cc0_stg3_0 ((dat V B c).before (3 : Fin 10) t0_0 d))
    ∗ (∃ d, stg c cc0_stg4_0 ((dat V B c).before (4 : Fin 10) t0_0 d))
    ∗ (∃ d, stg c cc0_stg5_0 ((dat V B c).before (5 : Fin 10) t0_0 d))
    ∗ (∃ d, stg c cc0_stg6_0 ((dat V B c).before (6 : Fin 10) t0_0 d))
    ∗ (∃ d, stg c cc0_stg7_0 ((dat V B c).before (7 : Fin 10) t0_0 d))
    ∗ (∃ d, stg c cc0_stg8_0 ((dat V B c).before (8 : Fin 10) t0_0 d))
    ∗ (∃ d, stg c cc0_stg9_0 ((dat V B c).before (9 : Fin 10) t0_0 d)))

def bodyPost (c : Dev nD) : sProp 𝕄 :=
  iprop(Φ₁ V c ∗ (dat V B c).owesAt () t0_0.succ
    ∗ stg c cc0_stg0_0 (iblk V c 0 t0_0)
    ∗ stg c cc0_stg1_0 (iblk V c 1 t0_0)
    ∗ stg c cc0_stg2_0 (iblk V c 2 t0_0)
    ∗ stg c cc0_stg3_0 (iblk V c 3 t0_0)
    ∗ stg c cc0_stg4_0 (iblk V c 4 t0_0)
    ∗ stg c cc0_stg5_0 (qFin V c)
    ∗ stg c cc0_stg6_0 (qrFin V c)
    ∗ stg c cc0_stg7_0 (krFin V c)
    ∗ stg c cc0_stg8_0 (kFin V c)
    ∗ stg c cc0_stg9_0 (vFin V c))

theorem body_end (c : Dev nD) :
    projPost (mail V) c (B c) (iblk V c 0 t0_0) (iblk V c 1 t0_0) (iblk V c 4 t0_0) (V c (Proc.devRef .tc main_arg4)) (V c (Proc.devRef .tc main_arg5)) ⊢ bodyPost V B c := by
  unfold projPost bodyPost Φ₁ locals argsHeld scratches Dat.owesAt Pipeline.owesWithin
  iintro ⟨Vb, Vo0, Vo1, Vo2, Vi0, Vi1, Vi2, V16, V17, X0, X1, X2, X3, X4, XA4, XA5, X5, X6, X7, X8, X9, ⟨%W, HO⟩, S⟩
  isplitl [Vb Vo0 Vo1 Vo2 Vi0 Vi1 Vi2 V16 V17 XA4 XA5 S]
  · isplitl [Vb Vo0 Vo1 Vo2 Vi0 Vi1 Vi2 V16 V17]
    · isplitl [Vb]; · iexact Vb
      isplitl [Vo0]; · iexact Vo0
      isplitl [Vo1]; · iexact Vo1
      isplitl [Vo2]; · iexact Vo2
      isplitl [Vi0]; · iexact Vi0
      isplitl [Vi1]; · iexact Vi1
      isplitl [Vi2]; · iexact Vi2
      isplitl [V16]; · iexact V16
      iexact V17
    isplitl [XA4 XA5]
    · isplitl [XA4]; · iexact XA4
      iexact XA5
    iexact S
  isplitl [HO]
  · iexists W; isplitr; · ipureintro; exact fun _ _ => Or.inl trivial
    iexact HO
  isplitl [X0]; · iapply (stg_at c cc0_stg0_0 _); iexact X0
  isplitl [X1]; · iapply (stg_at c cc0_stg1_0 _); iexact X1
  isplitl [X2]; · iapply (stg_at c cc0_stg2_0 _); iexact X2
  isplitl [X3]; · iapply (stg_at c cc0_stg3_0 _); iexact X3
  isplitl [X4]; · iapply (stg_at c cc0_stg4_0 _); iexact X4
  isplitl [X5]; · iapply (stg_at c cc0_stg5_0 _); iexact X5
  isplitl [X6]; · iapply (stg_at c cc0_stg6_0 _); iexact X6
  isplitl [X7]; · iapply (stg_at c cc0_stg7_0 _); iexact X7
  isplitl [X8]; · iapply (stg_at c cc0_stg8_0 _); iexact X8
  iapply (stg_at c cc0_stg9_0 _); iexact X9

theorem owed_start (c : Dev nD) : (dat V B c).owed t0_0.castSucc
    = B c + tallyAt (inC0 (mate0 c) 2) () N2 + tallyAt (inC0 (mate0 c) 1) () N2 + tallyAt (inC0 (mate0 c) 0) () N1 + tallyAt (barC0 (mate0 c)) () 1 := by
  show B c + O0 c = _
  unfold O0; simp only [zero_add, add_assoc]

variable (hB : ∀ c, Above 2 (B c))

include hB in
set_option maxHeartbeats 800000 in
theorem body_run (c : Dev nD) :
    bodyPre V B c ⊢ wp frame (wpE (defs₀ (F := F)) 𝒱₀ (c : Thread nD τ) none) Set.univ (projBody (F := F)) (fun _ => bodyPost V B c) := by
  unfold bodyPre Φ₀ start ghost positions payToks locals argsHeld scratches
  rw [bigSep_fin7]
  iintro ⟨⟨⟨⟨%K, HI, ⟨Ab, Ao0, Ao1, Ao2, Ai0, Ai1, Ai2⟩, ⟨Tb, Tn0, Tn1, Tn2, To0, To1, To2⟩, V16, V17⟩, ⟨Cb, Ci0, Ci1, Ci2⟩, Hlev, XA4, XA5⟩,
      ⟨%g0, S0⟩, ⟨%g1, S1⟩, ⟨%g2, S2⟩, ⟨%g3, S3⟩, ⟨%g4, S4⟩, ⟨%g5, S5⟩⟩, Ho,
    ⟨%d0, %f0, %h0, X0⟩, ⟨%d1, %f1, %h1, X1⟩, ⟨%d2, %f2, %h2, X2⟩, ⟨%d3, %f3, %h3, X3⟩, ⟨%d4, %f4, %h4, X4⟩,
    ⟨%d5, %f5, %h5, X5⟩, ⟨%d6, %f6, %h6, X6⟩, ⟨%d7, %f7, %h7, X7⟩, ⟨%d8, %f8, %h8, X8⟩, ⟨%d9, %f9, %h9, X9⟩⟩
  obtain rfl : f0 = iblk V c 0 t0_0 := h0.trans (before_0 V B c d0)
  obtain rfl : f1 = iblk V c 1 t0_0 := h1.trans (before_1 V B c d1)
  obtain rfl : f2 = iblk V c 2 t0_0 := h2.trans (before_2 V B c d2)
  obtain rfl : f3 = iblk V c 3 t0_0 := h3.trans (before_3 V B c d3)
  obtain rfl : f4 = iblk V c 4 t0_0 := h4.trans (before_4 V B c d4)
  unfold Dat.owesAt Pipeline.owesWithin
  icases Ho with ⟨%W, %hW, HO⟩
  ihave X2h := (halve c cc0_stg2_0 (f := iblk V c 2 t0_0) ((mail V).wk c) rfl) $$ X2
  icases X2h with ⟨X2, X2l⟩
  ihave X3h := (halve c cc0_stg3_0 (f := iblk V c 3 t0_0) ((mail V).wv c) rfl) $$ X3
  icases X3h with ⟨X3, X3l⟩
  ihave HO := (Entails.of_eq (congrArg (fun O => (owes (c : Thread nD τ) O W : sProp 𝕄)) (owed_start V B c))) $$ HO
  iapply ((projRun (mail V) K c W (B c) (hB c) (iblk V c 0 t0_0) (iblk V c 1 t0_0) (iblk V c 4 t0_0) (V c (Proc.devRef .tc main_arg4)) (V c (Proc.devRef .tc main_arg5))
      f5 f6 f7 f8 f9 g0 g1 g2 g3 g4 g5 rfl).trans (wp_mono _ _ _ fun _ => body_end V B c))
  isplitl [HI]; · iexact HI
  isplitl [Ab]; · iexact Ab
  isplitl [Ao0]; · iexact Ao0
  isplitl [Ao1]; · iexact Ao1
  isplitl [Ao2]; · iexact Ao2
  isplitl [Ai0]; · iexact Ai0
  isplitl [Ai1]; · iexact Ai1
  isplitl [Ai2]; · iexact Ai2
  isplitl [Tb]; · iexact Tb
  isplitl [Tn0]; · iexact Tn0
  isplitl [Tn1]; · iexact Tn1
  isplitl [Tn2]; · iexact Tn2
  isplitl [To0]; · iexact To0
  isplitl [To1]; · iexact To1
  isplitl [To2]; · iexact To2
  isplitl [Cb]; · iexact Cb
  isplitl [Ci0]; · iexact Ci0
  isplitl [Ci1]; · iexact Ci1
  isplitl [Ci2]; · iexact Ci2
  isplitl [Hlev]; · iexact Hlev
  isplitl [V16]; · iexact V16
  isplitl [V17]; · iexact V17
  isplitl [X0]; · iexact X0
  isplitl [X1]; · iexact X1
  isplitl [X2]; · iexact X2
  isplitl [X2l]; · iexact X2l
  isplitl [X3]; · iexact X3
  isplitl [X3l]; · iexact X3l
  isplitl [X4]; · iexact X4
  isplitl [XA4]; · iexact XA4
  isplitl [XA5]; · iexact XA5
  isplitl [X5]; · iexact X5
  isplitl [X6]; · iexact X6
  isplitl [X7]; · iexact X7
  isplitl [X8]; · iexact X8
  isplitl [X9]; · iexact X9
  isplitl [S0]; · iexact S0
  isplitl [S1]; · iexact S1
  isplitl [S2]; · iexact S2
  isplitl [S3]; · iexact S3
  isplitl [S4]; · iexact S4
  isplitl [S5]; · iexact S5
  iexact HO

/-- A resource the program does not use is had after it. -/
theorem keep (c : Dev nD) {P : sProp 𝕄} (R : sProp 𝕄) {p : Prog (TpuEff nD τ sig (Elt F) Λ₀ .tc) PUnit} {Q Q' : PUnit → sProp 𝕄}
    (h : P ⊢ wp frame (wpE (defs₀ (F := F)) 𝒱₀ (c : Thread nD τ) none) Set.univ p Q) (h' : ∀ u, iprop(Q u ∗ R) ⊢ Q' u) :
    iprop(P ∗ R) ⊢ wp frame (wpE (defs₀ (F := F)) 𝒱₀ (c : Thread nD τ) none) Set.univ p Q' :=
  (sep_mono_left h).trans ((wp_frame_r frame (wpE (defs₀ (F := F)) 𝒱₀ (c : Thread nD τ) none) Set.univ).trans (wp_mono _ _ _ h'))

theorem put_aside (P R Q : sProp 𝕄) : iprop((P ∗ R) ∗ Q) ⊢ iprop((P ∗ Q) ∗ R) := by
  iintro ⟨⟨HP, HR⟩, HQ⟩
  isplitr [HR]
  · isplitl [HP] <;> iassumption
  iexact HR
theorem take_back (P R Q : sProp 𝕄) : iprop((P ∗ Q) ∗ R) ⊢ iprop((P ∗ R) ∗ Q) := put_aside P Q R

set_option maxRecDepth 8000 in
include hB in
/-- The pipeline library's obligation on a device's body. -/
theorem body_obligation (c : Dev nD) : BodyObligation (dat (F := F) V B c) (defs₀ (F := F)) 𝒱₀ () Set.univ := fun t => by
  rw [fin_N0 t]
  rw [bigSep_W0, bigSep_W0]
  simp only [owns_eq]
  refine (put_aside (Φ₀ V c) (aside c) _).trans (?_ : _ ⊢ wp frame (wpE (defs₀ (F := F)) 𝒱₀ (c : Thread nD τ) none) Set.univ (bodyAt0 (F := F) t0_0) _)
  refine keep c (aside c) (Q := fun _ => bodyPost V B c) ?_ (fun _ => take_back (Φ₁ V c) (aside c) _)
  show bodyPre V B c ⊢ wp frame (wpE (defs₀ (F := F)) 𝒱₀ (c : Thread nD τ) none) Set.univ (bodyAt0 (F := F) t0_0) (fun _ => bodyPost V B c)
  rw [projBody_eq]
  exact body_run V B hB c

/-! ## Entering and leaving the call -/

theorem share_eq (c : Dev nD) (w : Fin cfg0.W) : (dat V B c).share w = fullShare := by unfold Dat.share; split <;> rfl

/-- The arrays a device's body copies from by itself. -/
abbrev byHand : Finset (DevRef τ sig) := {Proc.devRef .tc main_arg4, Proc.devRef .tc main_arg5}
theorem byHand_eq (c : Dev nD) (W : Valuation τ sig (Elt F)) : (StableHlo.held (c.tc : Thread nD τ) byHand W : sProp 𝕄)
    = iprop(pt c main_arg4 (W (Proc.devRef .tc main_arg4)) ∗ pt c main_arg5 (W (Proc.devRef .tc main_arg5))) := by
  unfold StableHlo.held
  rw [bigSep_eq_bigSepL_of_eq [Proc.devRef .tc main_arg4, Proc.devRef .tc main_arg5] (by decide) (by decide)]
  rfl

/-- The credits for what the partner owes a device. -/
def dues (c : Dev nD) : sProp 𝕄 :=
  iprop(cred (tallyAt (barC0 c) () 1) ∗ cred (tallyAt (inC0 c 0) () N1) ∗ cred (tallyAt (inC0 c 1) () N2) ∗ cred (tallyAt (inC0 c 2) () N2))
/-- What a device keeps for the call from the launch on, what it makes of it at the call's entry, and what is left of it. -/
def before (c : Dev nD) : sProp 𝕄 := iprop(asleep (mail V) c ∗ dues c)
def entered (c : Dev nD) : sProp 𝕄 := iprop(ghost (mail V) c ∗ dues c ∗ levAts L lv)
def left (c : Dev nD) : sProp 𝕄 := semVal (barC0 c) 0

theorem opened (c : Dev nD) : iprop(before V c ∗ Pipeline.ownSems0 osem c ∗ levAts L lv) ⊢ (|={Set.univ}=> entered V c : sProp 𝕄) := by
  unfold before entered
  iintro ⟨⟨HA, HD⟩, HS, HL⟩
  imod (awake (mail V) c) $$ [HA HS] with HG
  · isplitl [HA] <;> iassumption
  imodintro
  isplitl [HG]; · iexact HG
  isplitl [HD]; · iexact HD
  iexact HL

theorem enter (c : Dev nD) :
    iprop(Pipeline.scopedRest cfg0.spec c ∗ (∃ r, prngReg c r) ∗ StableHlo.held (c.tc : Thread nD τ) byHand (V c) ∗ entered V c) ⊢ (dat V B c).Φ 0 := by
  rw [show (dat V B c).Φ 0 = iprop(Φ₀ V c ∗ aside c) from rfl, scopedRest0_eq, byHand_eq]
  unfold Φ₀ start entered dues argsHeld scratches aside others
  iintro ⟨⟨S0, S1, S2, S3, S4, S5, HR⟩, Hp, Ha, HG, HD, HL⟩
  isplitr [HR Hp]
  · isplitl [HG HD HL Ha]
    · isplitl [HG]; · iexact HG
      isplitl [HD]; · iexact HD
      isplitl [HL]; · iexact HL
      iexact Ha
    isplitl [S0]; · iexact S0
    isplitl [S1]; · iexact S1
    isplitl [S2]; · iexact S2
    isplitl [S3]; · iexact S3
    isplitl [S4]; · iexact S4
    iexact S5
  isplitl [HR]; · iexact HR
  iexact Hp

theorem leave (c : Dev nD) :
    (dat V B c).Φ (Fin.last cfg0.N)
      ⊢ iprop(Pipeline.scopedRest cfg0.spec c ∗ (∃ r, prngReg c r) ∗ StableHlo.held (c.tc : Thread nD τ) byHand (V c) ∗ Pipeline.ownSems0 osem c ∗ left c) := by
  rw [show (dat V B c).Φ (Fin.last cfg0.N) = iprop(Φ₁ V c ∗ aside c) from rfl, scopedRest0_eq, ownSems0_eq, byHand_eq]
  unfold Φ₁ left locals argsHeld scratches aside others
  iintro ⟨⟨⟨Hb, Hrest⟩, Ha, S0, S1, S2, S3, S4, S5⟩, HR, Hp⟩
  isplitl [HR S0 S1 S2 S3 S4 S5]
  · isplitl [S0]; · iexact S0
    isplitl [S1]; · iexact S1
    isplitl [S2]; · iexact S2
    isplitl [S3]; · iexact S3
    isplitl [S4]; · iexact S4
    isplitl [S5]; · iexact S5
    iexact HR
  isplitl [Hp]; · iexact Hp
  isplitl [Ha]; · iexact Ha
  isplitl [Hrest]; · iexact Hrest
  iexact Hb

include hB in
/-- Everything owed during the call is above the pipeline's own waits. -/
theorem owed_above (c : Dev nD) (t : Fin (cfg0.N + 1)) : Above 0 ((dat V B c).owed t) := by
  have hi : ∀ i k, Above 0 (tallyAt (inC0 (mate0 c) i) () k) := fun i k => Above.tally _ _ _ (by rw [lvl_of (cl_in0 i) (by intro e; cases e)]; exact Nat.zero_lt_two)
  have h2 : Above 0 (B c) := (hB c).mono (Nat.zero_le 2)
  rcases t with ⟨_ | _, ht⟩
  · exact h2.add (((((Above.zero 0).add (hi _ _)).add (hi _ _)).add (hi _ _)).add (Above.tally _ _ _ (by rw [lvl_of cl_bar0 (by intro e; cases e)]; exact Nat.one_pos)))
  · exact h2

end Cert.KernelIdeal.Run

end
-- ==== Proof.AttnCommon.lean ====
/- What the attention call exchanges between devices: the semaphore cells on which a device is told of another's
   progress, who pays each of them and what the payer hands over, what every device owes when the run starts, and the
   order of levels in which it may wait. The exchange is along the mesh's first axis (device `c` with `mate1 c`), one
   head's rows at a time: sixteen transfers, one per grid point.
   Contents are parameters (`Mail`): the module that runs the body says what they are. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Common
public import Idealize.ShloMosaic.Lib.Pipeline.Launch
public import Idealize.ShloMosaic.Lib.Pipeline.Kit
public import Idealize.ShloMosaic.Lib.Rounds
public import Idealize.ShloMosaic.Lib.StableHlo
public import Idealize.ShloMosaic.Lib.Tactic

@[expose] public section

noncomputable section

namespace Cert.KernelIdeal.Run1

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen
open Cert.KernelIdeal.Run (UU EP L lv lvl Above L_of_ne L_tc mayWait)

variable {F : FTy → Type} [FloatOps F] [Named F]

/-! ## The partners -/

/-- The device at the other place of the mesh's first axis: the attention call's partner. -/
noncomputable def mate1 (c : Dev nD) : Dev nD := ⟨(1 - c.val / 2) * 2 + c.val % 2, by have : c.val < 4 := c.isLt; show _ < 4; omega⟩
theorem mate1_mate1 (c : Dev nD) : mate1 (mate1 c) = c := by revert c; decide
noncomputable def swap1 : Dev nD ≃ Dev nD := ⟨mate1, mate1, mate1_mate1, mate1_mate1⟩
theorem dev1_val (c : Dev nD) : k1_dev1 c = (mate1 c).val := by revert c; decide
theorem dev2_val (c : Dev nD) : k1_dev2 c = (mate1 c).val := by revert c; decide
theorem dev1_eq (c : Dev nD) (h : k1_dev1 c < nD) : (⟨k1_dev1 c, h⟩ : Dev nD) = mate1 c := Fin.ext (dev1_val c)
theorem dev2_eq (c : Dev nD) (h : k1_dev2 c < nD) : (⟨k1_dev2 c, h⟩ : Dev nD) = mate1 c := Fin.ext (dev2_val c)

/-! ## The resource algebra: the pipeline library's part and the exchanges' -/

local notation "𝕄" => MT nD τ sig Unit (Elt F) ℕ UU ℕ

noncomputable abbrev ER : Emb (UR sig nD τ) (MT nD τ sig Unit (Elt F) ℕ UU ℕ) :=
  ((Emb.inl : Emb (UR sig nD τ) (UR sig nD τ × Counters)).trans (Emb.inr : Emb (UR sig nD τ × Counters) (UR sig nD τ × (UR sig nD τ × Counters)))).trans embR

/-! ## The semaphores, classified -/

/-- Which exchange a semaphore belongs to: the call's opening barrier, the departure or the arrival of one of its
    sixteen transfers, the local copy of the last weight, or none. -/
inductive Cl where
  | bar0 | out0 (i : Fin 16) | in0 (i : Fin 16) | wo | none
  deriving DecidableEq

/-- The departure semaphores are numbers 28 to 43 of the pool, the arrival semaphores 44 to 59, the local copy's 60. -/
noncomputable def outS0 (i : Fin 16) : DmaSem sig := ⟨28 + i.val, by have := i.isLt; show 28 + i.val < 61; omega⟩
noncomputable def inS0 (i : Fin 16) : DmaSem sig := ⟨44 + i.val, by have := i.isLt; show 44 + i.val < 61; omega⟩
noncomputable def woS : DmaSem sig := ⟨60, by show 60 < 61; omega⟩

/-- The class of a DMA semaphore by its number in the pool. -/
noncomputable def clDma (n : ℕ) : Cl :=
  if n < 28 then .none else if n < 44 then .out0 ⟨(n - 28) % 16, Nat.mod_lt _ (by decide)⟩
  else if n < 60 then .in0 ⟨(n - 44) % 16, Nat.mod_lt _ (by decide)⟩ else .wo

noncomputable def cl : SemLoc sig → Cl
  | .reg s => if s = barrier1 then .bar0 else .none
  | .dma s => clDma s.val

theorem cl_bar0 : cl (.reg barrier1) = .bar0 := by decide
theorem cl_out0 (i : Fin 16) : cl (.dma (outS0 i)) = .out0 i := by revert i; decide
theorem cl_in0 (i : Fin 16) : cl (.dma (inS0 i)) = .in0 i := by revert i; decide
theorem cl_wo : cl (.dma woS) = .wo := by decide

noncomputable abbrev barC0 (c : Dev nD) : GSem nD τ sig := ((c : Thread nD τ), .reg barrier1)
noncomputable abbrev outC0 (c : Dev nD) (i : Fin 16) : GSem nD τ sig := ((c : Thread nD τ), .dma (outS0 i))
noncomputable abbrev inC0 (c : Dev nD) (i : Fin 16) : GSem nD τ sig := ((c : Thread nD τ), .dma (inS0 i))
noncomputable abbrev woC (c : Dev nD) : GSem nD τ sig := ((c : Thread nD τ), .dma woS)

/-! ## Buffers -/

/-- Device `c`'s buffer `b`, whole, at contents `f`, share `q`. -/
noncomputable abbrev pq (c : Dev nD) (b : Ref sig .tc) (q : PosShare TreeShare) (f : b.ty.Contents (Elt F)) : sProp 𝕄 :=
  (Memref.whole b).view.loc (c : Thread nD τ) ↦{q} f
noncomputable abbrev pt (c : Dev nD) (b : Ref sig .tc) (f : b.ty.Contents (Elt F)) : sProp 𝕄 := pq c b fullShare f

/-- The elements of head `h` in a buffer of one block of rows per head, and those of the heads from `t` on. -/
def rowSet (h : Fin 16) : Finset S16x512x128.Idx := Finset.univ.filter fun y => (y 0).val = h.val
def rowsFrom (t : ℕ) : Finset S16x512x128.Idx := Finset.univ.filter fun y => t ≤ (y 0).val

theorem mem_rowSet {h : Fin 16} {y : S16x512x128.Idx} : y ∈ rowSet h ↔ (y 0).val = h.val := by simp [rowSet]
theorem mem_rowsFrom {t : ℕ} {y : S16x512x128.Idx} : y ∈ rowsFrom t ↔ t ≤ (y 0).val := by simp [rowsFrom]
theorem rowsFrom_zero : rowsFrom 0 = Finset.univ := by ext y; simp [mem_rowsFrom]
theorem rowSet_sub (h : Fin 16) : rowSet h ⊆ rowsFrom h.val := fun y hy => mem_rowsFrom.mpr (mem_rowSet.mp hy).ge
theorem rowsFrom_sdiff (h : Fin 16) : rowsFrom h.val \ rowSet h = rowsFrom (h.val + 1) := by
  ext y; rw [Finset.mem_sdiff, mem_rowsFrom, mem_rowSet, mem_rowsFrom]; omega
theorem rowsFrom_end : rowsFrom 16 = ∅ := by
  ext y
  have h : (y 0).val < 16 := (y 0).isLt
  simp only [mem_rowsFrom, Finset.notMem_empty, iff_false]; omega
theorem rows_cover : (Finset.univ : Finset (Fin 16)).biUnion rowSet = Finset.univ := by
  ext y; simp only [Finset.mem_biUnion, Finset.mem_univ, true_and, iff_true]
  exact ⟨⟨(y 0).val, (y 0).isLt⟩, mem_rowSet.mpr rfl⟩
theorem rows_disjoint : ∀ t ∈ (Finset.univ : Finset (Fin 16)), ∀ t' ∈ (Finset.univ : Finset (Fin 16)), t ≠ t' → Disjoint (rowSet t) (rowSet t') :=
  fun t _ t' _ h => Finset.disjoint_left.mpr fun y hy hy' => h (Fin.ext ((mem_rowSet.mp hy).symm.trans (mem_rowSet.mp hy')))

/-- Rows `S` of device `c`'s own head outputs, and of the buffer its partner's land in. -/
noncomputable abbrev rowA (c : Dev nD) (S : Finset S16x512x128.Idx) (f : cc1_scratch0.ty.Contents (Elt F)) : sProp 𝕄 :=
  (Memref.whole cc1_scratch0).view.loc (c : Thread nD τ) ↦[S]{fullShare} f
noncomputable abbrev rowB (c : Dev nD) (S : Finset S16x512x128.Idx) (f : cc1_scratch1.ty.Contents (Elt F)) : sProp 𝕄 :=
  (Memref.whole cc1_scratch1).view.loc (c : Thread nD τ) ↦[S]{fullShare} f

/-- One head's block of rows of a buffer, as the program takes it. -/
noncomputable abbrev rowOf (b : Memref sig .tc .vmem S16x512x128 .bf16) (off : Fin 3 → ℕ) (inb : ∀ a, off a + S1x512x128.size a ≤ S16x512x128.size a) : Memref sig .tc .vmem S512x128 .bf16 :=
  (b.slice (Rect.unit (s := S16x512x128) off S1x512x128.size inb) (fun _ => rfl)).squeeze S512x128 squeezes_S1x512x128_S512x128

/-- The bytes a transfer of each kind counts for on its semaphores. -/
@[irreducible] noncomputable def N1 : ℕ := (rowOf (Memref.whole cc1_scratch1) ![0, 0, 0] inb_S16x512x128_S1x512x128_0_0_0).view.dmaCredit
@[irreducible] noncomputable def N2 : ℕ := (Memref.whole cc1_scratch3 : Memref sig .tc .vmem S2048x2048 .f32).view.dmaCredit
theorem N1_pos : 0 < N1 := by unfold N1; exact View.dmaCredit_pos _ (by decide)
theorem N2_pos : 0 < N2 := by unfold N2; exact View.dmaCredit_pos _ (by decide)
theorem N1_eqA (off : Fin 3 → ℕ) (inb : ∀ a, off a + S1x512x128.size a ≤ S16x512x128.size a) : (rowOf (Memref.whole cc1_scratch0) off inb).view.dmaCredit = N1 := by unfold N1; rfl
theorem N1_eqB (off : Fin 3 → ℕ) (inb : ∀ a, off a + S1x512x128.size a ≤ S16x512x128.size a) : (rowOf (Memref.whole cc1_scratch1) off inb).view.dmaCredit = N1 := by unfold N1; rfl
theorem N2_eq : (Memref.whole cc1_scratch3 : Memref sig .tc .vmem S2048x2048 .f32).view.dmaCredit = N2 := by unfold N2; rfl

/-- A store over all of a buffer leaves what was stored. -/
theorem wr_all (b : Ref sig .tc) (f w : b.ty.Contents (Elt F)) (off : Fin b.ty.shape.rank → ℕ) (hoff : ∀ a, off a = 0)
    {w' : b.ty.Contents (Elt F)} (hw : w = w')
    {inb : ∀ a, off a + b.ty.shape.size a ≤ b.ty.shape.size a} :
    (Memref.whole b).view.writes (Elt F) f [⟨Rect.unit off b.ty.shape.size inb, w⟩] = w' := by
  obtain rfl : off = fun _ => 0 := funext hoff
  subst hw
  exact ((View.write_univ_eq_writes_whole (Memref.whole b).view f [] w).symm).trans (View.write_whole_univ b f w)
/-- The same on top of earlier stores. -/
theorem wr_top (b : Ref sig .tc) (f w : b.ty.Contents (Elt F)) (ps : List (View.Piece (Elt F) b.ty.shape b.ty.elt)) (off : Fin b.ty.shape.rank → ℕ) (hoff : ∀ a, off a = 0)
    {inb : ∀ a, off a + b.ty.shape.size a ≤ b.ty.shape.size a} :
    (Memref.whole b).view.writes (Elt F) f (⟨Rect.unit off b.ty.shape.size inb, w⟩ :: ps) = w := by
  obtain rfl : off = fun _ => 0 := funext hoff
  exact ((View.write_univ_eq_writes_whole (Memref.whole b).view f ps w).symm).trans (View.write_whole_univ b _ w)
/-- A load of all of a buffer reads what it holds. -/
theorem rd_all (b : Ref sig .tc) (f : b.ty.Contents (Elt F)) (off : Fin b.ty.shape.rank → ℕ) (hoff : ∀ a, off a = 0)
    {inb : ∀ a, off a + b.ty.shape.size a ≤ b.ty.shape.size a} :
    View.readAt (Elt F) (Memref.whole b).view (Rect.unit off b.ty.shape.size inb).toLoadRect f = f := by
  obtain rfl : off = fun _ => 0 := funext hoff
  exact Memref.readAt_whole (Elt F) b f
theorem toSet (c : Dev nD) (b : Ref sig .tc) (q : PosShare TreeShare) (f : b.ty.Contents (Elt F)) :
    ((Memref.whole b).view.loc (c : Thread nD τ) ↦[(Memref.whole b).view.set]{q} f : sProp 𝕄) = pq c b q f :=
  congrArg (fun I => ((Memref.whole b).view.loc (c : Thread nD τ) ↦[I]{q} f : sProp 𝕄)) (View.set_whole b)
theorem landed (c : Dev nD) (b : Ref sig .tc) (g f : b.ty.Contents (Elt F)) :
    ((Memref.whole b).view.loc (c : Thread nD τ) ↦[(Memref.whole b).view.set]{fullShare} ((Memref.whole b).view.write (Elt F) g f Finset.univ) : sProp 𝕄) = pt c b f := by
  rw [toSet, show (Memref.whole b).view.write (Elt F) g f Finset.univ = f from View.write_whole_univ b g f]
/-! ## What the exchanged buffers hold, and who hands over what -/

/-- The contents that travel, by the device that sends them: the head outputs, one block of rows per head; and the
    last weight, which every device copies from its own memory. -/
structure Mail (F : FTy → Type) where
  o : Dev nD → cc1_scratch0.ty.Contents (Elt F)
  wo : Dev nD → main_arg7.ty.Contents (Elt F)

variable (D : Mail F)

/-- A barrier's unit at device `c` comes from its partner and hands over the partner's landing buffer, whatever it holds,
    with the word that the partner's arrival cells are open;
    a transfer's arrival hands over one head's rows of the landing buffer at the contents sent; its departure hands back
    the rows sent; the local copy hands over its destination filled, and its source. -/
noncomputable def pay (c : Dev nD) : Cl → sProp 𝕄
  | .bar0 => iprop((∃ f, pt (F := F) (mate1 c) cc1_scratch1 f) ∗ bigSep Finset.univ fun i : Fin 16 => reached ER (inC0 (mate1 c) i) 0)
  | .out0 h => rowA c (rowSet h) (D.o c)
  | .in0 h => rowB c (rowSet h) (D.o (mate1 c))
  | .wo => iprop(pt c cc1_scratch3 (D.wo c) ∗ pt c main_arg7 (D.wo c))
  | .none => iprop(emp)

/-- Units each class counts. -/
noncomputable def units : Cl → ℕ
  | .bar0 => 1
  | .out0 _ => N1 | .in0 _ => N1
  | .wo => N2
  | .none => 1

theorem units_pos (k : Cl) : 0 < units k := by
  unfold units; split <;> first | exact Nat.one_pos | exact N1_pos | exact N2_pos

/-- The schedule: every exchange cell of a TensorCore has the single round 0, paid once. -/
noncomputable def sched : Schedule (GSem nD τ sig) Unit 𝕄 where
  duties g r := if r = 0 ∧ g.1.2 = .tc ∧ cl g.2 ≠ .none then {()} else ∅
  unitless _ := False
  amount g _ _ := units (cl g.2)
  payload g _ _ := pay D g.1.1 (cl g.2)
  amount_pos := fun _ _ _ _ => units_pos _

instance storable (g : GSem nD τ sig) (r : ℕ) (d : Unit) : BI.Storable (upEmb : UEmb _ 𝕄) ((sched D).payload g r d) := by
  show BI.Storable _ (pay D g.1.1 (cl g.2))
  unfold pay
  split <;> infer_instance

section Tables
variable {κ : Cl} (s : SemLoc sig) (c : Dev nD)
theorem duties_of (hs : cl s = κ) (hκ : κ ≠ .none) : (sched D).duties ((c : Thread nD τ), s) 0 = {()} := by
  dsimp only [sched]; exact if_pos ⟨rfl, rfl, hs ▸ hκ⟩
theorem duties_later (g : GSem nD τ sig) (r : ℕ) (hr : r ≠ 0) : (sched D).duties g r = ∅ := by
  dsimp only [sched]; exact if_neg fun h => hr h.1
theorem amount_of (hs : cl s = κ) (d : Unit) : (sched D).amount ((c : Thread nD τ), s) 0 d = units κ := by
  dsimp only [sched]; rw [hs]
theorem payload_of (hs : cl s = κ) (d : Unit) : (sched D).payload ((c : Thread nD τ), s) 0 d = pay D c κ := by
  dsimp only [sched]; rw [hs]
theorem expect_of (hs : cl s = κ) (hκ : κ ≠ .none) : (sched D).expect ((c : Thread nD τ), s) 0 = units κ := by
  unfold Schedule.expect Schedule.amountOf; rw [duties_of D s c hs hκ, Finset.sum_singleton, amount_of D s c hs]
theorem rest_of (hs : cl s = κ) (hκ : κ ≠ .none) :
    bigSep ((sched D).duties ((c : Thread nD τ), s) 0 \ ∅) (fun d => (sched D).payload ((c : Thread nD τ), s) 0 d) = pay D c κ := by
  rw [Finset.sdiff_empty, duties_of D s c hs hκ, bigSep_singleton, payload_of D s c hs]
end Tables

/-! ## Levels: in what order a device may wait while it still owes -/

def lvC : Cl → ℕ
  | .bar0 => 3 | .in0 _ => 4 | _ => 0
theorem lvl_all : (∀ s : Sem sig, cl (.reg s) ≠ .none → lvl (.reg s) = lvC (cl (.reg s))) ∧ ∀ s : DmaSem sig, cl (.dma s) ≠ .none → lvl (.dma s) = lvC (cl (.dma s)) := by decide +kernel
theorem lvl_of {s : SemLoc sig} {κ : Cl} (hs : cl s = κ) (hκ : κ ≠ .none) : lvl s = lvC κ := by
  subst hs
  cases s with
  | reg s => exact lvl_all.1 s hκ
  | dma s => exact lvl_all.2 s hκ

/-- The heads from `t` on. -/
def headsFrom (t : ℕ) : Finset (Fin 16) := Finset.univ.filter fun i => t ≤ i.val
def headsTo (t : ℕ) : Finset (Fin 16) := Finset.univ.filter fun i => i.val < t
theorem mem_headsFrom {t : ℕ} {i : Fin 16} : i ∈ headsFrom t ↔ t ≤ i.val := by simp [headsFrom]
theorem mem_headsTo {t : ℕ} {i : Fin 16} : i ∈ headsTo t ↔ i.val < t := by simp [headsTo]
theorem headsFrom_zero : headsFrom 0 = Finset.univ := by ext i; simp [mem_headsFrom]
theorem headsTo_zero : headsTo 0 = ∅ := by ext i; simp [mem_headsTo]
theorem headsFrom_end : headsFrom 16 = ∅ := by ext i; simp [mem_headsFrom, i.isLt]
theorem headsTo_end : headsTo 16 = Finset.univ := by ext i; simp [mem_headsTo, i.isLt]
theorem headsFrom_step (h : Fin 16) : headsFrom h.val = insert h (headsFrom (h.val + 1)) := by
  ext i; rw [Finset.mem_insert, mem_headsFrom, mem_headsFrom, Fin.ext_iff]; omega
theorem headsFrom_not (h : Fin 16) : h ∉ headsFrom (h.val + 1) := by rw [mem_headsFrom]; omega
theorem headsTo_step (h : Fin 16) : headsTo (h.val + 1) = insert h (headsTo h.val) := by
  ext i; rw [Finset.mem_insert, mem_headsTo, mem_headsTo, Fin.ext_iff]; omega
theorem headsTo_not (h : Fin 16) : h ∉ headsTo h.val := by rw [mem_headsTo]; omega

/-- What a device still owes when it has sent the heads before `t`: the transfers of the others. -/
noncomputable def Orem (c : Dev nD) (t : ℕ) : CellTallies nD τ sig Unit := ∑ i ∈ headsFrom t, tallyAt (inC0 (mate1 c) i) () N1
theorem Orem_step (c : Dev nD) (h : Fin 16) : Orem c h.val = Orem c (h.val + 1) + tallyAt (inC0 (mate1 c) h) () N1 := by
  unfold Orem; rw [headsFrom_step h, Finset.sum_insert (headsFrom_not h), add_comm]
theorem Orem_end (c : Dev nD) : Orem c 16 = 0 := by unfold Orem; rw [headsFrom_end, Finset.sum_empty]
theorem Orem_above (c : Dev nD) (t : ℕ) : Above 3 (Orem c t) :=
  Above.sum _ _ fun i _ => Above.tally _ _ _ (by rw [lvl_of (cl_in0 i) (by intro e; cases e)]; exact Nat.lt_succ_self 3)

/-- What a device owes when the run starts: a unit on its partner's barrier cell and the sixteen transfers. -/
noncomputable def O0 (c : Dev nD) : CellTallies nD τ sig Unit := Orem c 0 + tallyAt (barC0 (mate1 c)) () 1
theorem O0_above (c : Dev nD) : Above 2 (O0 c) :=
  ((Orem_above c 0).mono (Nat.le_succ 2)).add (Above.tally _ _ _ (by rw [lvl_of cl_bar0 (by decide)]; exact Nat.lt_succ_self 2))

abbrev 𝒱₀ : Variants := Variants.none

/-! ## One rule per kind of statement -/

section Rules

/-- An assertion set aside: a run does not look inside. -/
@[irreducible] def Box (P : sProp 𝕄) : sProp 𝕄 := P
theorem box_in (P : sProp 𝕄) : P ⊢ Box P := by unfold Box; exact Entails.rfl
theorem box_out (P : sProp 𝕄) : Box P ⊢ P := by unfold Box; exact Entails.rfl

theorem big_at {n : ℕ} (i : Fin n) (P : Fin n → sProp 𝕄) : bigSep Finset.univ P ⊢ P i := bigSep_elim (Finset.mem_univ i)

/-- A signal of one unit to cell `s` of device `d`. -/
theorem exSignal {α : Type} {Ψ : α → sProp 𝕄} {k : PUnit → Prog (TpuEff nD τ sig (Elt F) Λ₀ .tc) α} {κ : Cl} (n : ℕ) (c d : Dev nD) (s : Sem sig) (hs : cl (.reg s) = κ) (hκ : κ ≠ .none) (hu : units κ = 1) (m : ℤ) (hm : m = 1)
    {d' : Dev nD} (hd : d' = d) {s' : Sem sig} (hs' : s' = s)
    (O : CellTallies nD τ sig Unit) (W : Waits sig Unit) :
    iprop(cellInv ER (sched D) n ((d : Thread nD τ), .reg s) ∗ owes (c : Thread nD τ) (O + tallyAt ((d : Thread nD τ), .reg s) () 1) W
        ∗ dutyTok ER ((d : Thread nD τ), .reg s) 0 () ∗ reached ER ((d : Thread nD τ), .reg s) 0 ∗ pay D d κ)
      ⊢ iprop((owes (c : Thread nD τ) O W -∗ wp frame (wpE (defs₀ (F := F)) 𝒱₀ (c : Thread nD τ) none) Set.univ (k ⟨⟩) Ψ)
          -∗ wp frame (wpE (defs₀ (F := F)) 𝒱₀ (c : Thread nD τ) none) Set.univ (.op (.semSignal (d', .tc) s' m) k) Ψ) := by
  have hd := hd.symm
  have hs' := hs'.symm
  subst hm hd hs'
  iintro ⟨#I, HO, Ht, #Hr, HP⟩ Hk
  iapply (Rounds.wp_signal 𝒱₀ ER (sched D) (c : Thread nD τ) none (dst := (d : Thread nD τ)) (sem := s) (r := 0) (d := ()) (κ := n)
      (by rw [duties_of D (.reg s) d hs hκ]; exact Finset.mem_singleton_self _) ((amount_of D (.reg s) d hs ()).trans hu) () O rfl) $$ [HO Ht HP]
  · isplitr; · iexact I
    isplitl [HO]; · iexact HO
    isplitl [Ht]; · iexact Ht
    isplitl [HP]; · rw [payload_of D (.reg s) d hs]; iexact HP
    iexact Hr
  iexact Hk

/-- A wait for all of an exchange cell's units: it brings what was handed over. -/
theorem exWait {α : Type} {Ψ : α → sProp 𝕄} {k : PUnit → Prog (TpuEff nD τ sig (Elt F) Λ₀ .tc) α} {κ : Cl} (n : ℕ) (c : Dev nD) (s : SemLoc sig) (hs : cl s = κ) (hκ : κ ≠ .none)
    {w : TpuEff nD τ sig (Elt F) Λ₀ .tc PUnit} (u : ℕ) (hu : units κ = u)
    (hw : ∀ K : PUnit → sProp 𝕄, wpE (defs₀ (F := F)) 𝒱₀ (c : Thread nD τ) none Set.univ w K = waitSpec (c : Thread nD τ) Set.univ s u K)
    (O : CellTallies nD τ sig Unit) (W : Waits sig Unit) (hO : Above (lvC κ) O) :
    iprop(cellInv ER (sched D) n ((c : Thread nD τ), s) ∗ cred (tallyAt ((c : Thread nD τ), s) () u) ∗ owes (c : Thread nD τ) O W ∗ levAts L lv
        ∗ atPos ER ((c : Thread nD τ), s) 0 ∅ 0)
      ⊢ iprop(((owes (c : Thread nD τ) O (insert (s, ()) W) ∗ atPos ER ((c : Thread nD τ), s) 1 ∅ 0 ∗ pay D c κ)
            -∗ wp frame (wpE (defs₀ (F := F)) 𝒱₀ (c : Thread nD τ) none) Set.univ (k ⟨⟩) Ψ)
          -∗ wp frame (wpE (defs₀ (F := F)) 𝒱₀ (c : Thread nD τ) none) Set.univ (.op w k) Ψ) := by
  subst hu
  iintro ⟨#I, HC, HO, #Hlev, HA⟩ Hk
  iapply (Rounds.wp_wait_rest_token 𝒱₀ ER (sched D) (c : Thread nD τ) none (κ := n)
      hw (Set.mem_univ _) () (O := O) (W := W) (R := 0) (m := 0) (T := ∅)
      ((Nat.zero_add _).trans (expect_of D s c hs hκ).symm)) $$ [HC HO HA]
  · isplitr; · iexact I
    isplitl [HC]; · iexact HC
    isplitl [HO]; · iexact HO
    isplitr; · iapply (mayWait c s O (by rw [lvl_of hs hκ]; exact hO)); iexact Hlev
    iexact HA
  iintro ⟨HO, HA, -, Hp⟩
  iapply Hk
  isplitl [HO]; · iexact HO
  isplitl [HA]; · iexact HA
  iapply (Entails.of_eq (rest_of D s c hs hκ)) $$ Hp

/-- The same of a regular semaphore's wait, as the program spells it. -/
theorem exWaitReg {α : Type} {Ψ : α → sProp 𝕄} {k : PUnit → Prog (TpuEff nD τ sig (Elt F) Λ₀ .tc) α} {κ : Cl} (n : ℕ) (c : Dev nD) (s : Sem sig) (hs : cl (.reg s) = κ) (hκ : κ ≠ .none)
    (hu : units κ = 1) {s' : Sem sig} (hs' : s' = s) {m : ℕ} (hm : m = 1)
    (O : CellTallies nD τ sig Unit) (W : Waits sig Unit) (hO : Above (lvC κ) O) :
    iprop(cellInv ER (sched D) n ((c : Thread nD τ), .reg s) ∗ cred (tallyAt ((c : Thread nD τ), .reg s) () 1) ∗ owes (c : Thread nD τ) O W ∗ levAts L lv
        ∗ atPos ER ((c : Thread nD τ), .reg s) 0 ∅ 0)
      ⊢ iprop(((owes (c : Thread nD τ) O (insert (.reg s, ()) W) ∗ atPos ER ((c : Thread nD τ), .reg s) 1 ∅ 0 ∗ pay D c κ)
            -∗ wp frame (wpE (defs₀ (F := F)) 𝒱₀ (c : Thread nD τ) none) Set.univ (k ⟨⟩) Ψ)
          -∗ wp frame (wpE (defs₀ (F := F)) 𝒱₀ (c : Thread nD τ) none) Set.univ (.op (.semWait s' m) k) Ψ) := by
  have hs' := hs'.symm
  subst hs' hm
  exact exWait D n c (.reg s) hs hκ 1 hu (fun Kx => wpE_semWait_eq 𝒱₀ _ _ _ Kx) O W hO

/-- The same of a transfer's wait. -/
theorem exWaitDma {α : Type} {Ψ : α → sProp 𝕄} {k : PUnit → Prog (TpuEff nD τ sig (Elt F) Λ₀ .tc) α} {κ : Cl} (n : ℕ) (c : Dev nD) (s : DmaSem sig) (hs : cl (.dma s) = κ) (hκ : κ ≠ .none)
    (u : ℕ) (hu : units κ = u) {s' : DmaSem sig} (hs' : s' = s) {sp sp' : Space} {sh sh' : Shape} {e e' : EltTy} {κ' : Kind}
    {src : Memref sig .tc sp' sh' e'} {dst : Memref sig κ' sp sh e} {hsrc : src.view.WordExact} {hdst : dst.view.WordExact} (hd : dst.view.dmaCredit = u)
    (O : CellTallies nD τ sig Unit) (W : Waits sig Unit) (hO : Above (lvC κ) O) :
    iprop(cellInv ER (sched D) n ((c : Thread nD τ), .dma s) ∗ cred (tallyAt ((c : Thread nD τ), .dma s) () u) ∗ owes (c : Thread nD τ) O W ∗ levAts L lv
        ∗ atPos ER ((c : Thread nD τ), .dma s) 0 ∅ 0)
      ⊢ iprop(((owes (c : Thread nD τ) O (insert (.dma s, ()) W) ∗ atPos ER ((c : Thread nD τ), .dma s) 1 ∅ 0 ∗ pay D c κ)
            -∗ wp frame (wpE (defs₀ (F := F)) 𝒱₀ (c : Thread nD τ) none) Set.univ (k ⟨⟩) Ψ)
          -∗ wp frame (wpE (defs₀ (F := F)) 𝒱₀ (c : Thread nD τ) none) Set.univ (.op (.waitDma2 s' src dst hsrc hdst) k) Ψ) := by
  have hs' := hs'.symm
  subst hs' hd
  exact exWait D n c (.dma s) hs hκ _ hu (fun Kx => wpE_waitDma2_eq 𝒱₀ _ _ _ Kx) O W hO

/-- A transfer into another device's memory: its departure cell is the sender's, its arrival cell the receiver's. -/
theorem exSend {α : Type} {Ψ : α → sProp 𝕄} {k : PUnit → Prog (TpuEff nD τ sig (Elt F) Λ₀ .tc) α} {κo κi : Cl} (no ni : ℕ) (c d : Dev nD) {sp sp' : Space} {sh : Shape} {e : EltTy}
    {src : Memref sig .tc sp sh e} {dst : Memref sig .tc sp' sh e} {hsc : dst.view.ref.isScScratch = false} (sS sR : DmaSem sig)
    {d' : Dev nD} (hd : d' = d) {tS tR : SemLoc sig} (hS : tS = .dma sS) (hR : tR = .dma sR)
    {hsrc : src.view.WordExact} {hdst : dst.view.WordExact} {hsem : DmaTarget.Typed sp tR (.remote (Dev.tc d') dst tS hsc)}
    (q : PosShare TreeShare) (fs : Buf (Elt F) (src.view.loc (c : Thread nD τ))) (fd : Buf (Elt F) (dst.view.loc (d : Thread nD τ)))
    (hso : cl (.dma sS) = κo) (hoκ : κo ≠ .none) (hsi : cl (.dma sR) = κi) (hiκ : κi ≠ .none)
    (N : ℕ) (hN : dst.view.dmaCredit = N) (huo : units κo = N) (hui : units κi = N)
    (O : CellTallies nD τ sig Unit) (W : Waits sig Unit)
    (hp₁ : (src.view.loc (c : Thread nD τ) ↦[src.view.set]{q} fs : sProp 𝕄) ⊢ pay D c κo)
    (hp₂ : (dst.view.loc (d : Thread nD τ) ↦[dst.view.set]{fullShare} (dst.view.write (Elt F) fd (src.view.read (Elt F) fs) Finset.univ) : sProp 𝕄) ⊢ pay D d κi)
    (hr : τ.routes (c : Thread nD τ) (d : Thread nD τ) = true) :
    iprop(cellInv ER (sched D) no ((c : Thread nD τ), .dma sS) ∗ cellInv ER (sched D) ni ((d : Thread nD τ), .dma sR)
        ∗ (src.view.loc (c : Thread nD τ) ↦[src.view.set]{q} fs) ∗ (dst.view.loc (d : Thread nD τ) ↦[dst.view.set]{fullShare} fd)
        ∗ owes (c : Thread nD τ) (O + tallyAt ((d : Thread nD τ), .dma sR) () N) W
        ∗ dutyTok ER ((c : Thread nD τ), .dma sS) 0 () ∗ reached ER ((c : Thread nD τ), .dma sS) 0
        ∗ dutyTok ER ((d : Thread nD τ), .dma sR) 0 () ∗ reached ER ((d : Thread nD τ), .dma sR) 0)
      ⊢ iprop(((cred (tallyAt ((c : Thread nD τ), .dma sS) () N) ∗ owes (c : Thread nD τ) O W)
            -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma src (.remote (Dev.tc d') dst tS hsc) tR hsrc hdst hsem) k) Ψ) := by
  have hd := hd.symm
  have hS := hS.symm
  have hR := hR.symm
  subst hd
  cases hS
  cases hR
  exact Rounds.wp_send_pointsTo 𝒱₀ ER (sched D) (c : Thread nD τ) none (c' := (d : Thread nD τ)) (src := src) (dst := dst)
      (sS := .dma sS) (sem := .dma sR) (q := q) (fs := fs) (κ₁ := no) (κ₂ := ni) (r₁ := 0) (r₂ := 0) (d₁ := ()) (d₂ := ()) (fd := fd)
      (by rw [duties_of D (.dma sS) c hso hoκ]; exact Finset.mem_singleton_self _) (by rw [duties_of D (.dma sR) d hsi hiκ]; exact Finset.mem_singleton_self _)
      () () N hN ((amount_of D (.dma sS) c hso ()).trans huo) ((amount_of D (.dma sR) d hsi ()).trans hui) O rfl (W := W)
      (by rw [payload_of D (.dma sS) c hso]; exact hp₁) (by rw [payload_of D (.dma sR) d hsi]; exact hp₂) hr

/-- The local copy of the last weight: it pays its own cell. -/
theorem exCopy {α : Type} {Ψ : α → sProp 𝕄} {k : PUnit → Prog (TpuEff nD τ sig (Elt F) Λ₀ .tc) α} (n : ℕ) (c : Dev nD)
    {tS : SemLoc sig} (hS : tS = .dma woS) (fd : cc1_scratch3.ty.Contents (Elt F))
    {hsrc : (Memref.whole main_arg7 : Memref sig .tc .hbm S2048x2048 .f32).view.WordExact} {hdst : (Memref.whole cc1_scratch3 : Memref sig .tc .vmem S2048x2048 .f32).view.WordExact}
    {hsem : DmaTarget.Typed (nD := nD) (τ := τ) (p := .tc) .hbm tS (.here (Memref.whole cc1_scratch3 : Memref sig .tc .vmem S2048x2048 .f32))} :
    iprop(cellInv ER (sched D) n (woC c) ∗ pt c main_arg7 (D.wo c) ∗ pt c cc1_scratch3 fd ∗ dutyTok ER (woC c) 0 () ∗ reached ER (woC c) 0)
      ⊢ iprop((cred (tallyAt (woC c) () N2) -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma (Memref.whole main_arg7) (.here (Memref.whole cc1_scratch3)) tS hsrc hdst hsem) k) Ψ) := by
  cases hS
  have h := Rounds.wp_copy_pointsTo (defs := defs₀ (F := F)) 𝒱₀ ER (sched D) (c : Thread nD τ) none (src := (Memref.whole main_arg7 : Memref sig .tc .hbm S2048x2048 .f32)) (dst := (Memref.whole cc1_scratch3 : Memref sig .tc .vmem S2048x2048 .f32))
      (sem := .dma woS) (hsrc := hsrc) (hdst := hdst) (hsem := hsem) (k := k) (Q := Ψ) (Γ := []) (q := fullShare) (fs := D.wo c) (κ := n) (r := 0) (d := ()) (fd := fd)
      (by rw [duties_of D (.dma woS) c cl_wo (by decide)]; exact Finset.mem_singleton_self _)
      () N2 N2_eq (amount_of D (.dma woS) c cl_wo ())
      (by rw [payload_of D (.dma woS) c cl_wo]
          exact sep_mono (Entails.of_eq (landed c cc1_scratch3 fd (D.wo c))) (Entails.of_eq (toSet c main_arg7 fullShare (D.wo c)))) (Es := Set.univ)
  refine Entails.trans (sep_mono_right (sep_mono (Entails.of_eq (toSet c main_arg7 fullShare (D.wo c)).symm) (sep_mono_left (Entails.of_eq (toSet c cc1_scratch3 fullShare fd).symm)))) h

/-- An exchange cell whose one round is over: its counter comes back at zero. -/
theorem exClose (n : ℕ) (g : GSem nD τ sig) :
    iprop(cellInv ER (sched D) n g ∗ atPos ER g 1 ∅ 0) ⊢ (|={Set.univ}=> semVal g 0 : sProp 𝕄) :=
  Rounds.cell_close ER (sched D) (Set.mem_univ n) id (fun r hr => duties_later D g r (by omega))
end Rules

end Cert.KernelIdeal.Run1

end
-- ==== Proof.AttnGhost.lean ====
/- What the run's start hands out: every exchange cell's invariant made from its counter at zero, the positions, the
   tokens of what each device pays, dealt to the payer, and the credits for what others owe a device. -/
module

public import proofs.«01_k».proof.Proof.AttnCommon

@[expose] public section

noncomputable section

namespace Cert.KernelIdeal.Run1

open Idealize.ShloMosaic Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen
open Cert.KernelIdeal.Run (UU EP L lv lvl Above L_of_ne L_tc mayWait)

variable {F : FTy → Type} [FloatOps F] [Named F]

local notation "𝕄" => MT nD τ sig Unit (Elt F) ℕ UU ℕ

variable (D : Mail F)

/-! ## The cells, numbered -/

/-- A device's exchange cells: sixteen departures, sixteen arrivals, the local copy's, the barrier's. -/
abbrev ko (i : Fin 16) : Fin 34 := ⟨i.val, by omega⟩
abbrev ki (i : Fin 16) : Fin 34 := ⟨16 + i.val, by omega⟩
abbrev kw : Fin 34 := 32
abbrev kb : Fin 34 := 33
def csem (k : Fin 34) : SemLoc sig := if k.val < 33 then .dma ⟨(28 + k.val) % 61, Nat.mod_lt _ (by decide)⟩ else .reg barrier1
theorem csem_ko (i : Fin 16) : csem (ko i) = .dma (outS0 i) := by revert i; decide +kernel
theorem csem_ki (i : Fin 16) : csem (ki i) = .dma (inS0 i) := by revert i; decide +kernel
theorem csem_kw : csem kw = .dma woS := by decide +kernel
theorem csem_kb : csem kb = .reg barrier1 := by decide +kernel
abbrev kcell (ck : Dev nD × Fin 34) : GSem nD τ sig := ((ck.1 : Thread nD τ), csem ck.2)
theorem kcell_ko (c : Dev nD) (i : Fin 16) : kcell (c, ko i) = outC0 c i := congrArg (Prod.mk _) (csem_ko i)
theorem kcell_ki (c : Dev nD) (i : Fin 16) : kcell (c, ki i) = inC0 c i := congrArg (Prod.mk _) (csem_ki i)
theorem kcell_kw (c : Dev nD) : kcell (c, kw) = woC c := congrArg (Prod.mk _) csem_kw
theorem kcell_kb (c : Dev nD) : kcell (c, kb) = barC0 c := congrArg (Prod.mk _) csem_kb

theorem csem_inj : Function.Injective csem := by decide +kernel
theorem inS0_inj : Function.Injective inS0 := by decide +kernel
theorem cell_eq_iff {a b : Dev nD} {s s' : SemLoc sig} : (((a : Thread nD τ), s) : GSem nD τ sig) = ((b : Thread nD τ), s') ↔ a = b ∧ s = s' :=
  ⟨fun h => ⟨congrArg (fun g : GSem nD τ sig => g.1.1) h, congrArg Prod.snd h⟩, fun ⟨h, h'⟩ => by rw [h, h']⟩
theorem kcell_inj : Function.Injective (kcell : Dev nD × Fin 34 → GSem nD τ sig) := by
  rintro ⟨c, k⟩ ⟨c', k'⟩ h
  obtain ⟨h1, h2⟩ := cell_eq_iff.mp h
  have h3 : c = c' := h1
  have h4 : k = k' := csem_inj h2
  rw [h3, h4]

/-- The kernel's own semaphores: the departures, the arrivals and the local copy's. -/
def osem (k : Fin 33) : SemLoc sig := csem k.castSucc
theorem ownSemFacts : Pipeline.OwnSemFacts cfg1.spec osem := by decide +kernel

def xcells : Finset (GSem nD τ sig) := Finset.univ.map ⟨kcell, kcell_inj⟩
theorem mem_xcells (ck : Dev nD × Fin 34) : kcell ck ∈ xcells := Finset.mem_map.mpr ⟨ck, Finset.mem_univ _, rfl⟩
abbrev tokOf (ck : Dev nD × Fin 34) : GSem nD τ sig × ℕ × Unit := (kcell ck, 0, ())
theorem tokOf_inj : Function.Injective tokOf := fun a b h => kcell_inj (congrArg Prod.fst h)
def xtoks : Finset (GSem nD τ sig × ℕ × Unit) := Finset.univ.map ⟨tokOf, tokOf_inj⟩

def toks (c : Dev nD) : sProp 𝕄 := bigSep Finset.univ fun k : Fin 34 => dutyTok ER (kcell (c, k)) 0 ()

theorem cells33 : (Finset.univ : Finset (Fin 33)) = insert 32 ((Finset.univ : Finset (Fin 16)).map ⟨fun i => ⟨i.val, by omega⟩, by decide +kernel⟩
    ∪ (Finset.univ : Finset (Fin 16)).map ⟨fun i => ⟨16 + i.val, by omega⟩, by decide +kernel⟩) := by decide +kernel
theorem bigSep_fin33 (Φ : Fin 33 → sProp 𝕄) : bigSep Finset.univ Φ
    = iprop(Φ 32 ∗ (bigSep Finset.univ fun i : Fin 16 => Φ ⟨i.val, by omega⟩) ∗ (bigSep Finset.univ fun i : Fin 16 => Φ ⟨16 + i.val, by omega⟩)) := by
  rw [cells33, bigSep_insert (by decide +kernel), BI.bigSep_union (by decide +kernel), bigSep_map, bigSep_map]; rfl
theorem bigSep_fin34 (Φ : Fin 34 → sProp 𝕄) : bigSep Finset.univ Φ
    = iprop(Φ kb ∗ (bigSep Finset.univ fun i : Fin 16 => Φ (ko i)) ∗ (bigSep Finset.univ fun i : Fin 16 => Φ (ki i)) ∗ Φ kw) := by
  rw [show (Finset.univ : Finset (Fin 34)) = insert kb (insert kw ((Finset.univ : Finset (Fin 16)).map ⟨ko, by decide +kernel⟩
      ∪ (Finset.univ : Finset (Fin 16)).map ⟨ki, by decide +kernel⟩)) from by decide +kernel,
    bigSep_insert (by decide +kernel), bigSep_insert (by decide +kernel), BI.bigSep_union (by decide +kernel), bigSep_map, bigSep_map]
  have e : ∀ A B C E : sProp 𝕄, (iprop(A ∗ B ∗ C ∗ E) : sProp 𝕄) = iprop(A ∗ C ∗ E ∗ B) := fun A B C E => by
    have h : (iprop(B ∗ C ∗ E) : sProp 𝕄) = iprop(C ∗ E ∗ B) := BI.Entails.antisymm
      (show (iprop(B ∗ C ∗ E) : sProp 𝕄) ⊢ iprop(C ∗ E ∗ B) from by
        iintro ⟨H1, H2, H3⟩; isplitl [H2]; · iexact H2
        isplitl [H3] <;> iassumption)
      (show (iprop(C ∗ E ∗ B) : sProp 𝕄) ⊢ iprop(B ∗ C ∗ E) from by
        iintro ⟨H1, H2, H3⟩; isplitl [H3]; · iexact H3
        isplitl [H1] <;> iassumption)
    rw [h]
  exact e _ _ _ _
theorem toks_eq : bigSep xtoks (fun x => (dutyTok ER x.1 x.2.1 x.2.2 : sProp 𝕄)) = bigSep Finset.univ fun c : Dev nD => toks c := by
  unfold xtoks; rw [bigSep_map, bigSep_univ_prod]; rfl

/-! ## The call's own counters -/

theorem ownSems0_eq (c : Dev nD) : (Pipeline.ownSems0 (Ix := Unit) (Name := ℕ) (U := UU) (Lvl := ℕ) (Val := Elt F) (τ := τ) osem c : sProp 𝕄)
    = iprop(semVal (woC c) 0 ∗ (bigSep Finset.univ fun i : Fin 16 => semVal (outC0 c i) 0) ∗ (bigSep Finset.univ fun i : Fin 16 => semVal (inC0 c i) 0)) := by
  have h : (Pipeline.ownSems0 (Ix := Unit) (Name := ℕ) (U := UU) (Lvl := ℕ) (Val := Elt F) (τ := τ) osem c : sProp 𝕄)
      = bigSep Finset.univ fun k : Fin 33 => semVal ((c : Thread nD τ), csem k.castSucc) 0 := rfl
  rw [h, bigSep_fin33]
  have h1 : (semVal ((c : Thread nD τ), csem (32 : Fin 33).castSucc) 0 : sProp 𝕄) = semVal (woC c) 0 := congrArg (fun g => (semVal g 0 : sProp 𝕄)) (kcell_kw c)
  have h2 : (fun i : Fin 16 => (semVal ((c : Thread nD τ), csem (⟨i.val, by omega⟩ : Fin 33).castSucc) 0 : sProp 𝕄)) = fun i => semVal (outC0 c i) 0 :=
    funext fun i => congrArg (fun g => (semVal g 0 : sProp 𝕄)) (kcell_ko c i)
  have h3 : (fun i : Fin 16 => (semVal ((c : Thread nD τ), csem (⟨16 + i.val, by omega⟩ : Fin 33).castSucc) 0 : sProp 𝕄)) = fun i => semVal (inC0 c i) 0 :=
    funext fun i => congrArg (fun g => (semVal g 0 : sProp 𝕄)) (kcell_ki c i)
  rw [h1, h2, h3]
/-! ## The cells at launch: the barriers open, the call's own still closed -/

def barEmb : Dev nD ↪ GSem nD τ sig := ⟨fun c => barC0 c, fun _ _ h => congrArg (fun g : GSem nD τ sig => g.1.1) h⟩
def scEmb : Dev nD × Fin 33 ↪ GSem nD τ sig := ⟨fun ck => kcell (ck.1, ck.2.castSucc), fun a b h => by
  have e := kcell_inj h
  have e1 : a.1 = b.1 := (Prod.mk.inj e).1
  have e2 : a.2.castSucc = b.2.castSucc := (Prod.mk.inj e).2
  exact Prod.ext e1 (Fin.castSucc_injective _ e2)⟩
/-- The barrier cells, and the cells of the call's own semaphores. -/
abbrev barCells : Finset (GSem nD τ sig) := Finset.univ.map barEmb
abbrev scCells : Finset (GSem nD τ sig) := Finset.univ.map scEmb
theorem own_ne_bar : ∀ k : Fin 33, csem k.castSucc ≠ .reg barrier1 := by decide +kernel
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact own_ne_bar ck.2 (congrArg Prod.snd h)
theorem bar_mem (c : Dev nD) : barC0 c ∈ (barCells ∪ scCells : Finset (GSem nD τ sig)) :=
  Finset.mem_union_left _ (Finset.mem_map_of_mem barEmb (Finset.mem_univ c))
theorem own_mem (c : Dev nD) (k : Fin 33) : kcell (c, k.castSucc) ∈ (barCells ∪ scCells : Finset (GSem nD τ sig)) :=
  Finset.mem_union_right _ (Finset.mem_map_of_mem scEmb (Finset.mem_univ (c, k)))
theorem wo_mem (c : Dev nD) : woC c ∈ (barCells ∪ scCells : Finset (GSem nD τ sig)) := by
  have h := own_mem c 32; rwa [show ((32 : Fin 33).castSucc) = kw from rfl, kcell_kw] at h
theorem out_mem (c : Dev nD) (i : Fin 16) : outC0 c i ∈ (barCells ∪ scCells : Finset (GSem nD τ sig)) := by
  have h := own_mem c ⟨i.val, by omega⟩; rwa [show ((⟨i.val, by omega⟩ : Fin 33).castSucc) = ko i from rfl, kcell_ko] at h
theorem in_mem (c : Dev nD) (i : Fin 16) : inC0 c i ∈ (barCells ∪ scCells : Finset (GSem nD τ sig)) := by
  have h := own_mem c ⟨16 + i.val, by omega⟩; rwa [show ((⟨16 + i.val, by omega⟩ : Fin 33).castSucc) = ki i from rfl, kcell_ki] at h

/-- Every cell's invariant, under its name, and that the barriers are open. -/
def invs (K : GSem nD τ sig → ℕ) : sProp 𝕄 :=
  iprop((bigSep (barCells ∪ scCells) fun g => cellInv ER (sched D) (K g) g) ∗ bigSep barCells fun g => reached ER g 0)
instance invs_persistent (K : GSem nD τ sig → ℕ) : BI.Persistent (invs D K) := by unfold invs; infer_instance
theorem invs_at (K : GSem nD τ sig → ℕ) {g : GSem nD τ sig} (hg : g ∈ (barCells ∪ scCells : Finset (GSem nD τ sig))) :
    invs D K ⊢ cellInv ER (sched D) (K g) g := by
  unfold invs; iintro ⟨H, -⟩
  iapply (show (bigSep (barCells ∪ scCells) (fun g => cellInv ER (sched D) (K g) g) : sProp 𝕄) ⊢ cellInv ER (sched D) (K g) g from bigSep_elim hg); iexact H
theorem invs_open (K : GSem nD τ sig → ℕ) (c : Dev nD) : invs D K ⊢ reached ER (barC0 c) 0 := by
  unfold invs; iintro ⟨-, H⟩
  iapply (show (bigSep barCells (fun g => reached ER g 0) : sProp 𝕄) ⊢ reached ER (barC0 c) 0 from bigSep_elim (Finset.mem_map_of_mem barEmb (Finset.mem_univ c))); iexact H

/-- The same, with a device's own cells open. -/
def recs0 (K : GSem nD τ sig → ℕ) (c : Dev nD) : sProp 𝕄 :=
  iprop(invs D K ∗ (bigSep Finset.univ fun i : Fin 16 => reached ER (outC0 c i) 0) ∗ (bigSep Finset.univ fun i : Fin 16 => reached ER (inC0 c i) 0) ∗ reached ER (woC c) 0)
instance recs0_persistent (K : GSem nD τ sig → ℕ) (c : Dev nD) : BI.Persistent (recs0 D K c) := by unfold recs0; infer_instance
theorem recs0_invs (K : GSem nD τ sig → ℕ) (c : Dev nD) : recs0 D K c ⊢ invs D K := by unfold recs0; iintro ⟨H, -⟩; iexact H
theorem recs0_ins (K : GSem nD τ sig → ℕ) (c : Dev nD) : recs0 D K c ⊢ bigSep Finset.univ fun i : Fin 16 => reached ER (inC0 c i) 0 := by
  unfold recs0; iintro ⟨-, -, H, -⟩; iexact H

/-- The same, with the partner's arrivals open too. -/
def records (K : GSem nD τ sig → ℕ) (c : Dev nD) : sProp 𝕄 :=
  iprop(recs0 D K c ∗ bigSep Finset.univ fun i : Fin 16 => reached ER (inC0 (mate1 c) i) 0)
instance records_persistent (K : GSem nD τ sig → ℕ) (c : Dev nD) : BI.Persistent (records D K c) := by unfold records; infer_instance
theorem records_recs0 (K : GSem nD τ sig → ℕ) (c : Dev nD) : records D K c ⊢ recs0 D K c := by unfold records; iintro ⟨H, -⟩; iexact H

theorem inv_bar (K : GSem nD τ sig → ℕ) (c d : Dev nD) : recs0 D K c ⊢ cellInv ER (sched D) (K (barC0 d)) (barC0 d) :=
  (recs0_invs D K c).trans (invs_at D K (bar_mem d))
theorem open_bar (K : GSem nD τ sig → ℕ) (c d : Dev nD) : recs0 D K c ⊢ reached ER (barC0 d) 0 :=
  (recs0_invs D K c).trans (invs_open D K d)
theorem inv_wo0 (K : GSem nD τ sig → ℕ) (c : Dev nD) : recs0 D K c ⊢ cellInv ER (sched D) (K (woC c)) (woC c) :=
  (recs0_invs D K c).trans (invs_at D K (wo_mem c))
theorem open_wo (K : GSem nD τ sig → ℕ) (c : Dev nD) : recs0 D K c ⊢ reached ER (woC c) 0 := by
  unfold recs0; iintro ⟨-, -, -, H⟩; iexact H
theorem inv_wo (K : GSem nD τ sig → ℕ) (c : Dev nD) : records D K c ⊢ cellInv ER (sched D) (K (woC c)) (woC c) :=
  (records_recs0 D K c).trans (inv_wo0 D K c)
theorem inv_out (K : GSem nD τ sig → ℕ) (c : Dev nD) (i : Fin 16) : records D K c ⊢ cellInv ER (sched D) (K (outC0 c i)) (outC0 c i) :=
  (records_recs0 D K c).trans ((recs0_invs D K c).trans (invs_at D K (out_mem c i)))
theorem inv_in (K : GSem nD τ sig → ℕ) (c d : Dev nD) (i : Fin 16) : records D K c ⊢ cellInv ER (sched D) (K (inC0 d i)) (inC0 d i) :=
  (records_recs0 D K c).trans ((recs0_invs D K c).trans (invs_at D K (in_mem d i)))
theorem open_out (K : GSem nD τ sig → ℕ) (c : Dev nD) (i : Fin 16) : records D K c ⊢ reached ER (outC0 c i) 0 := by
  refine (records_recs0 D K c).trans ?_
  unfold recs0; iintro ⟨-, H, -⟩
  iapply (big_at i (fun i : Fin 16 => (reached ER (outC0 c i) 0 : sProp 𝕄))); iexact H
theorem open_in (K : GSem nD τ sig → ℕ) (c : Dev nD) (i : Fin 16) : records D K c ⊢ reached ER (inC0 (mate1 c) i) 0 := by
  unfold records; iintro ⟨-, H⟩
  iapply (big_at i (fun i : Fin 16 => (reached ER (inC0 (mate1 c) i) 0 : sProp 𝕄))); iexact H

/-! ## The tokens go to the payers -/

/-- The tokens of what device `c` pays: its partner's barrier and arrivals, its own departures and local copy. -/
def payToks (c : Dev nD) : sProp 𝕄 :=
  iprop(dutyTok ER (barC0 (mate1 c)) 0 () ∗ (bigSep Finset.univ fun i : Fin 16 => dutyTok ER (inC0 (mate1 c) i) 0 ())
    ∗ (bigSep Finset.univ fun i : Fin 16 => dutyTok ER (outC0 c i) 0 ()) ∗ dutyTok ER (woC c) 0 ())

theorem toks_around : (bigSep Finset.univ fun c : Dev nD => (toks c : sProp 𝕄)) ⊢ bigSep Finset.univ fun c : Dev nD => payToks c := by
  unfold toks payToks
  simp only [bigSep_fin34, kcell_ko, kcell_ki, kcell_kw, kcell_kb]
  rw [bigSep_sep', bigSep_sep', bigSep_sep', bigSep_sep', bigSep_sep', bigSep_sep',
    bigSep_univ_equiv swap1 (fun c : Dev nD => (dutyTok ER (barC0 c) 0 () : sProp 𝕄)),
    bigSep_univ_equiv swap1 (fun c : Dev nD => (bigSep Finset.univ fun i : Fin 16 => (dutyTok ER (inC0 c i) 0 () : sProp 𝕄)))]
  iintro ⟨H0, H1, H2, H3⟩
  isplitl [H0]; · iexact H0
  isplitl [H2]; · iexact H2
  isplitl [H1]; · iexact H1
  iexact H3

/-- What a device starts from: the invariants, its positions, its tokens. -/
def positions (c : Dev nD) : sProp 𝕄 :=
  iprop(atPos ER (barC0 c) 0 ∅ 0 ∗ (bigSep Finset.univ fun i : Fin 16 => atPos ER (outC0 c i) 0 ∅ 0)
    ∗ (bigSep Finset.univ fun i : Fin 16 => atPos ER (inC0 c i) 0 ∅ 0) ∗ atPos ER (woC c) 0 ∅ 0)
def ghost (c : Dev nD) : sProp 𝕄 := iprop(∃ K, recs0 D K c ∗ positions c ∗ payToks c)

/-! ## From the launch to the call's entry -/

/-- What a device holds of the call before it: its barrier position, the rights to open its own cells, its tokens. -/
def linear (c : Dev nD) : sProp 𝕄 :=
  iprop(atPos ER (barC0 c) 0 ∅ 0 ∗ (openTok ER (woC c) ∗ (bigSep Finset.univ fun i : Fin 16 => openTok ER (outC0 c i)) ∗ (bigSep Finset.univ fun i : Fin 16 => openTok ER (inC0 c i)))
    ∗ payToks c)
def asleep (c : Dev nD) : sProp 𝕄 := iprop(∃ K, invs D K ∗ linear c)

/-- A record that persists is had for every member of a family. -/
theorem forAll {ι : Type} [Fintype ι] [DecidableEq ι] {Φ Ψ : ι → sProp 𝕄} {R : sProp 𝕄} [BI.Persistent R]
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem opens_eq : bigSep scCells (fun g => (openTok ER g : sProp 𝕄))
    = bigSep Finset.univ fun c : Dev nD => iprop(openTok ER (woC c) ∗ (bigSep Finset.univ fun i : Fin 16 => openTok ER (outC0 c i)) ∗ (bigSep Finset.univ fun i : Fin 16 => openTok ER (inC0 c i))) := by
  rw [bigSep_map, bigSep_univ_prod]
  refine bigSep_congr fun c _ => ?_
  have h1 : (openTok ER (kcell (c, (32 : Fin 33).castSucc)) : sProp 𝕄) = openTok ER (woC c) := congrArg (fun g => (openTok ER g : sProp 𝕄)) (kcell_kw c)
  have h2 : (fun i : Fin 16 => (openTok ER (kcell (c, (⟨i.val, by omega⟩ : Fin 33).castSucc)) : sProp 𝕄)) = fun i => openTok ER (outC0 c i) :=
    funext fun i => congrArg (fun g => (openTok ER g : sProp 𝕄)) (kcell_ko c i)
  have h3 : (fun i : Fin 16 => (openTok ER (kcell (c, (⟨16 + i.val, by omega⟩ : Fin 33).castSucc)) : sProp 𝕄)) = fun i => openTok ER (inC0 c i) :=
    funext fun i => congrArg (fun g => (openTok ER g : sProp 𝕄)) (kcell_ki c i)
  rw [← h1, ← h2, ← h3]
  exact bigSep_fin33 (fun k : Fin 33 => (openTok ER (kcell (c, k.castSucc)) : sProp 𝕄))

/-- All devices' barrier counters and the launch element give every device its part. -/
theorem launch : iprop((bigSep Finset.univ fun c : Dev nD => semVal (barC0 c) 0) ∗ BI.own (ER (F := F) (launchOf barCells scCells xtoks)))
    ⊢ (|={Set.univ}=> bigSep Finset.univ (asleep D) : sProp 𝕄) := by
  have hv : bigSep Finset.univ (fun c : Dev nD => (semVal (barC0 c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC0 c) 0 ∅ 0 : sProp 𝕄)) :=
    Entails.of_eq (bigSep_map (s := Finset.univ) barEmb (Φ := fun g : GSem nD τ sig => (atPos ER g 0 ∅ 0 : sProp 𝕄)))
  iintro ⟨Hv, Hu⟩
  imod (Rounds.fund_launch ER (sched D) disjoint_cells (fun g _ h => h) xtoks) $$ [Hv Hu] with ⟨%κ, -, #Hinv, #Hr, Hat, Hopen, Htok⟩
  · isplitl [Hv]
    · iapply hv $$ Hv
    · iexact Hu
  imodintro
  iapply (forAll (R := invs D κ) (Φ := fun c => linear c) fun c => by
    unfold asleep; iintro ⟨#H, Hl⟩; iexists κ
    isplitr; · iexact H
    iexact Hl)
  isplitr
  · unfold invs
    isplitr; · iexact Hinv
    iexact Hr
  unfold linear
  rw [bigSep_sep', bigSep_sep']
  isplitl [Hat]; · iapply hat $$ Hat
  isplitl [Hopen]; · iapply (Entails.of_eq (opens_eq (F := F))) $$ Hopen
  iapply (toks_around (F := F))
  iapply (Entails.of_eq (toks_eq (F := F))) $$ Htok

/-- At the call's entry a device's own counters open its cells. -/
theorem awake (c : Dev nD) :
    iprop(asleep D c ∗ Pipeline.ownSems0 (Ix := Unit) (Name := ℕ) (U := UU) (Lvl := ℕ) (Val := Elt F) (τ := τ) osem c) ⊢ |={Set.univ}=> ghost D c := by
  have h (K : GSem nD τ sig → ℕ) {g : GSem nD τ sig} (hg : g ∈ (barCells ∪ scCells : Finset (GSem nD τ sig))) :
      iprop(invs D K ∗ (openTok ER g ∗ semVal g 0)) ⊢ (|={Set.univ}=> iprop(atPos ER g 0 ∅ 0 ∗ reached ER g 0) : sProp 𝕄) :=
    (sep_mono_left (invs_at D K hg)).trans (Rounds.cell_open ER (sched D) (Set.mem_univ (K g)))
  have hs (K : GSem nD τ sig → ℕ) (f : Fin 16 → GSem nD τ sig) (hf : ∀ i, f i ∈ (barCells ∪ scCells : Finset (GSem nD τ sig))) :
      iprop(invs D K ∗ (bigSep Finset.univ fun i => iprop(openTok ER (f i) ∗ semVal (f i) 0)))
        ⊢ (|={Set.univ}=> bigSep Finset.univ fun i => iprop(atPos ER (f i) 0 ∅ 0 ∗ reached ER (f i) 0) : sProp 𝕄) :=
    (forAll fun i => h K (hf i)).trans (bigSep_fupd _ _)
  rw [ownSems0_eq]
  unfold asleep linear
  iintro ⟨⟨%K, #HI, Hb, ⟨Ow, Oo, Oi⟩, Ht⟩, Vw, Vo, Vi⟩
  imod (h K (wo_mem c)) $$ [Ow Vw] with ⟨Aw, #Rw⟩
  · isplitr; · iexact HI
    isplitl [Ow] <;> iassumption
  imod (hs K (fun i => outC0 c i) (out_mem c)) $$ [Oo Vo] with Ho
  · isplitr; · iexact HI
    rw [bigSep_sep']; isplitl [Oo] <;> iassumption
  imod (hs K (fun i => inC0 c i) (in_mem c)) $$ [Oi Vi] with Hi
  · isplitr; · iexact HI
    rw [bigSep_sep']; isplitl [Oi] <;> iassumption
  ihave Ho := (Entails.of_eq (bigSep_sep' Finset.univ (fun i : Fin 16 => (atPos ER (outC0 c i) 0 ∅ 0 : sProp 𝕄)) fun i => reached ER (outC0 c i) 0)) $$ Ho
  ihave Hi := (Entails.of_eq (bigSep_sep' Finset.univ (fun i : Fin 16 => (atPos ER (inC0 c i) 0 ∅ 0 : sProp 𝕄)) fun i => reached ER (inC0 c i) 0)) $$ Hi
  icases Ho with ⟨Ao, #Ro⟩
  icases Hi with ⟨Ai, #Ri⟩
  imodintro
  unfold ghost recs0 positions
  iexists K
  isplitr
  · isplitr; · iexact HI
    isplitr; · iexact Ro
    isplitr; · iexact Ri
    iexact Rw
  isplitr [Ht]
  · isplitl [Hb]; · iexact Hb
    isplitl [Ao]; · iexact Ao
    isplitl [Ai]; · iexact Ai
    iexact Aw
  iexact Ht

/-! ## The credits for what is owed a device -/

theorem mate1_eq_iff {c d : Dev nD} : c = mate1 d ↔ d = mate1 c :=
  ⟨fun h => by rw [h, mate1_mate1], fun h => by rw [h, mate1_mate1]⟩

theorem owed_bar (d c : Dev nD) : O0 d (barC0 c) () = if d = mate1 c then 1 else 0 := by
  unfold O0 Orem
  simp only [Pi.add_apply, Finsupp.add_apply, Finset.sum_apply, Finsupp.finset_sum_apply, tallyAt_apply, cell_eq_iff, mate1_eq_iff (c := c)]
  simp
theorem owed_in (d c : Dev nD) (i : Fin 16) : O0 d (inC0 c i) () = if d = mate1 c then N1 else 0 := by
  unfold O0 Orem
  have hj : ∀ j : Fin 16, (SemLoc.dma (inS0 i) : SemLoc sig) = .dma (inS0 j) ↔ i = j := fun j => ⟨fun h => inS0_inj (by injection h), fun h => by rw [h]⟩
  simp only [Pi.add_apply, Finsupp.add_apply, Finset.sum_apply, Finsupp.finset_sum_apply, tallyAt_apply, cell_eq_iff, mate1_eq_iff (c := c), headsFrom_zero, hj]
  by_cases h : d = mate1 c <;> simp [h]

theorem launch_at (c : Dev nD) (s : SemLoc sig) (n : ℕ) (h : ∀ d, O0 d ((c : Thread nD τ), s) () = if d = mate1 c then n else 0) :
    tallyOn ((c : Thread nD τ), s) (launchCredit (Pipeline.owing O0) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate1 c) fun _ => n,
    if_pos (Finset.mem_univ _)]

/-- The cells on which a device is paid by its partner. -/
theorem creds (c : Dev nD) :
    (Pipeline.launchCred O0 c : sProp 𝕄)
      ⊢ iprop(cred (tallyAt (barC0 c) () 1) ∗ bigSep Finset.univ fun i : Fin 16 => cred (tallyAt (inC0 c i) () N1)) := by
  unfold Pipeline.launchCred
  refine (show (_ : sProp 𝕄) ⊢ _ from BI.bigSep_subset (Finset.subset_univ (insert (SemLoc.reg barrier1 : SemLoc sig)
    ((Finset.univ : Finset (Fin 16)).map ⟨fun i => (.dma (inS0 i) : SemLoc sig), fun a b h => inS0_inj (by injection h)⟩)))).trans (Entails.of_eq ?_)
  rw [bigSep_insert (by simp), bigSep_map, ← launch_at c (.reg barrier1) 1 (fun d => owed_bar d c)]
  refine congrArg (fun X : sProp 𝕄 => (iprop(_ ∗ X) : sProp 𝕄)) (bigSep_congr fun i _ => ?_)
  rw [← launch_at c (.dma (inS0 i)) N1 (fun d => owed_in d c i)]
  rfl

end Cert.KernelIdeal.Run1

end
-- ==== Proof.AttnStep.lean ====
/- One grid point of the attention call: loads and stores of whole buffers, and the store and transfer of one head's
   rows. -/
module

public import proofs.«01_k».proof.Proof.AttnGhost
public import Idealize.ShloMosaic.Lib.VecWindow

@[expose] public section

noncomputable section

namespace Cert.KernelIdeal.Run1

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen
open Cert.KernelIdeal.Run (UU EP L lv lvl Above L_of_ne L_tc mayWait)

variable {F : FTy → Type} [FloatOps F] [Named F]

local notation "𝕄" => MT nD τ sig Unit (Elt F) ℕ UU ℕ

variable (D : Mail F)

/-! ## Rows of a buffer -/

theorem unit_row (h : Fin 16) (off : Fin 3 → ℕ) (inb : ∀ a, off a + S1x512x128.size a ≤ S16x512x128.size a) (ho : off = ![h.val, 0, 0]) :
    (Rect.unit (s := S16x512x128) off S1x512x128.size inb).set = rowSet h := by
  subst ho
  ext y
  rw [Rect.mem_set_unit, mem_rowSet]
  have h1 : (y 1).val < 512 := (y 1).isLt
  have h2 : (y 2).val < 128 := (y 2).isLt
  constructor
  · intro H
    have := H 0
    have e : (![h.val, 0, 0] : Fin 3 → ℕ) 0 = h.val := rfl
    have e' : S1x512x128.size 0 = 1 := rfl
    rw [e, e'] at this; omega
  · intro H a
    fin_cases a
    · show h.val ≤ (y 0).val ∧ (y 0).val < h.val + 1; omega
    · show 0 ≤ (y 1).val ∧ (y 1).val < 0 + 512; omega
    · show 0 ≤ (y 2).val ∧ (y 2).val < 0 + 128; omega
theorem rowOf_setA (h : Fin 16) (off : Fin 3 → ℕ) (inb : ∀ a, off a + S1x512x128.size a ≤ S16x512x128.size a) (ho : off = ![h.val, 0, 0]) :
    (rowOf (Memref.whole cc1_scratch0) off inb).view.set = rowSet h :=
  (View.set_reshape _ _).trans ((View.set_slice_whole cc1_scratch0 _).trans (unit_row h off inb ho))
theorem rowOf_setB (h : Fin 16) (off : Fin 3 → ℕ) (inb : ∀ a, off a + S1x512x128.size a ≤ S16x512x128.size a) (ho : off = ![h.val, 0, 0]) :
    (rowOf (Memref.whole cc1_scratch1) off inb).view.set = rowSet h :=
  (View.set_reshape _ _).trans ((View.set_slice_whole cc1_scratch1 _).trans (unit_row h off inb ho))

/-- A stored row holds what was stored. -/
theorem row_stored (off : Fin 3 → ℕ) (inb : ∀ a, off a + S1x512x128.size a ≤ S16x512x128.size a) (g : cc1_scratch0.ty.Contents (Elt F))
    (w : Vec F S1x512x128 .bf16) (X : cc1_scratch0.ty.Contents (Elt F))
    (hw : ∀ x : S1x512x128.Idx, w x = X ((Rect.unit (s := S16x512x128) off S1x512x128.size inb).emb x))
    (y : S16x512x128.Idx) (hy : y ∈ (Rect.unit (s := S16x512x128) off S1x512x128.size inb).set) :
    ((Memref.whole cc1_scratch0).access (Rect.unit (s := S16x512x128) off S1x512x128.size inb)).write (Elt F) g w Finset.univ y = X y := by
  rw [← Rect.map_emb_univ] at hy
  obtain ⟨x, -, rfl⟩ := Finset.mem_map.mp hy
  exact (View.write_emb_of_mem (v := (Memref.whole cc1_scratch0).access (Rect.unit (s := S16x512x128) off S1x512x128.size inb)) g w (Finset.mem_univ x)).trans (hw x)

/-- A transferred row holds what was sent. -/
theorem row_landed (off : Fin 3 → ℕ) (inb : ∀ a, off a + S1x512x128.size a ≤ S16x512x128.size a) (fd : cc1_scratch1.ty.Contents (Elt F))
    (X : cc1_scratch0.ty.Contents (Elt F)) (y : S16x512x128.Idx) (hy : y ∈ (rowOf (Memref.whole cc1_scratch1) off inb).view.set) :
    (rowOf (Memref.whole cc1_scratch1) off inb).view.write (Elt F) fd ((rowOf (Memref.whole cc1_scratch0) off inb).view.read (Elt F) X) Finset.univ y = X y := by
  obtain ⟨x, -, rfl⟩ := Finset.mem_map.mp hy
  exact View.write_emb_of_mem (v := (rowOf (Memref.whole cc1_scratch1) off inb).view) fd _ (Finset.mem_univ x)

/-! ## Loads and stores of a whole buffer -/

section Whole
variable {s : Shape} {e : EltTy} (c : Dev nD) (mr : Memref sig .tc .vmem s e) (X : s.Idx → Elt F e)

theorem loadIn {α : Type} {Ψ : α → sProp 𝕄} (off : Fin s.rank → ℕ) (inb : ∀ a, off a + s.size a ≤ s.size a) {hl : mr.view.LoadsAt (Rect.unit off s.size inb).toLoadRect}
    {k : (s.Idx → Elt F e) → Prog (TpuEff nD τ sig (Elt F) Λ₀ .tc) α} :
    (owns (Ix := Unit) (Name := ℕ) (U := UU) (Lvl := ℕ) (c : Thread nD τ) mr fullShare X : sProp 𝕄)
      ⊢ iprop((owns (Ix := Unit) (Name := ℕ) (U := UU) (Lvl := ℕ) (c : Thread nD τ) mr fullShare X -∗ wp frame (wpE (defs₀ (F := F)) 𝒱₀ (c : Thread nD τ) none) Set.univ (k X) Ψ)
        -∗ wp frame (wpE (defs₀ (F := F)) 𝒱₀ (c : Thread nD τ) none) Set.univ (.op (.load mr (Rect.unit off s.size inb).toLoadRect hl) k) Ψ) := by
  unfold owns
  iintro ⟨%f, %hf, H⟩ Hk
  have e := View.readAt_full (Val := Elt F) mr.view f inb
  iapply (wp_load_rect (defs := defs₀ (F := F)) 𝒱₀ (c : Thread nD τ) none Set.univ (m := mr) (r := Rect.unit off s.size inb) (hl := hl) (k := k) (Q := Ψ) (S := mr.view.set) (q := fullShare) (f := f)
    (View.set_slice_subset mr.view _)) $$ [H]
  · iexact H
  iintro H
  rw [show (mr.access (Rect.unit off s.size inb)).read (Elt F) f = X from e.trans hf]
  iapply Hk
  iexists f
  isplitr; · ipureintro; exact hf
  iexact H

theorem storeOut {α : Type} {Ψ : α → sProp 𝕄} (w : s.Idx → Elt F e) (off : Fin s.rank → ℕ) (inb : ∀ a, off a + s.size a ≤ s.size a) {Mk : Finset (Rect.unit off s.size inb).shape.Idx} (hMk : Mk = Finset.univ)
    {hx : (mr.access (Rect.unit off s.size inb)).Stores Mk} {hm : Mk = Finset.univ ∨ ∀ a, (Rect.unit off s.size inb).stride a = 1}
    {k : PUnit → Prog (TpuEff nD τ sig (Elt F) Λ₀ .tc) α} :
    (owns (Ix := Unit) (Name := ℕ) (U := UU) (Lvl := ℕ) (c : Thread nD τ) mr fullShare X : sProp 𝕄)
      ⊢ iprop((owns (Ix := Unit) (Name := ℕ) (U := UU) (Lvl := ℕ) (c : Thread nD τ) mr fullShare w -∗ wp frame (wpE (defs₀ (F := F)) 𝒱₀ (c : Thread nD τ) none) Set.univ (k ⟨⟩) Ψ)
        -∗ wp frame (wpE (defs₀ (F := F)) 𝒱₀ (c : Thread nD τ) none) Set.univ (.op (.store mr (Rect.unit off s.size inb) w Mk hx hm) k) Ψ) := by
  subst hMk
  unfold owns
  iintro ⟨%f, %hf, H⟩ Hk
  iapply (wp_store (defs := defs₀ (F := F)) 𝒱₀ (c : Thread nD τ) none Set.univ (m := mr) (r := Rect.unit off s.size inb) (w := w) (hx := hx) (hm := hm) (k := k) (S := mr.view.set) (f := f)
    (View.set_slice_subset mr.view _)) $$ [H]
  · iexact H
  iintro H
  iapply Hk
  iexists _
  isplitr
  swap
  · iexact H
  ipureintro
  have e := View.readAt_full (Val := Elt F) mr.view ((mr.access (Rect.unit off s.size inb)).write (Elt F) f w Finset.univ) inb
  exact e.symm.trans (View.read_write_univ (v := mr.access (Rect.unit off s.size inb)) f w)
end Whole

/-! ## Between grid points -/

theorem from_split (h : Fin 16) (P : Fin 16 → sProp 𝕄) : bigSep (headsFrom h.val) P = iprop(P h ∗ bigSep (headsFrom (h.val + 1)) P) := by
  rw [headsFrom_step h, bigSep_insert (headsFrom_not h)]; rfl
theorem to_split (h : Fin 16) (P : Fin 16 → sProp 𝕄) : bigSep (headsTo (h.val + 1)) P = iprop(P h ∗ bigSep (headsTo h.val) P) := by
  rw [headsTo_step h, bigSep_insert (headsTo_not h)]; rfl

/-- What a device holds when it has sent the heads before `t`: the records, its positions on the cells it waits on, the
    credits for what its partner owes it and for its own departures and local copy, the tokens of the transfers to come,
    and the rows not yet sent or overwritten. -/
def Mid (K : GSem nD τ sig → ℕ) (c : Dev nD) (t : ℕ) : sProp 𝕄 :=
  iprop(records D K c ∗ levAts L lv ∗ semVal (barC0 c) 0
    ∗ (bigSep Finset.univ fun i : Fin 16 => atPos ER (outC0 c i) 0 ∅ 0) ∗ (bigSep Finset.univ fun i : Fin 16 => atPos ER (inC0 c i) 0 ∅ 0) ∗ atPos ER (woC c) 0 ∅ 0
    ∗ (bigSep Finset.univ fun i : Fin 16 => cred (tallyAt (inC0 c i) () N1)) ∗ cred (tallyAt (woC c) () N2)
    ∗ (bigSep (headsFrom t) fun i : Fin 16 => iprop(dutyTok ER (inC0 (mate1 c) i) 0 () ∗ dutyTok ER (outC0 c i) 0 ()))
    ∗ (bigSep (headsTo t) fun i : Fin 16 => cred (tallyAt (outC0 c i) () N1))
    ∗ (∃ g, rowA (F := F) c (rowsFrom t) g) ∗ (∃ g, rowB (F := F) (mate1 c) (rowsFrom t) g) ∗ (∃ g, pt (F := F) c cc1_scratch2 g))

/-- One grid point's exchange: the head's rows are stored in the own buffer and sent to the partner. -/
theorem midStep (K : GSem nD τ sig → ℕ) (c : Dev nD) (h : Fin 16) {α : Type} {Ψ : α → sProp 𝕄} (W : Waits sig Unit)
    (o1 o3 : Fin 3 → ℕ) (inb1 : ∀ a, o1 a + S1x512x128.size a ≤ S16x512x128.size a) (inb3 : ∀ a, o3 a + S1x512x128.size a ≤ S16x512x128.size a)
    (ho1 : o1 = ![h.val, 0, 0]) (ho3 : o3 = ![h.val, 0, 0])
    (w : Vec F S1x512x128 .bf16) (hw : ∀ x : S1x512x128.Idx, w x = D.o c ((Rect.unit (s := S16x512x128) o1 S1x512x128.size inb1).emb x))
    {d' : Dev nD} (hd : d' = mate1 c) {tS tR : SemLoc sig} (hS : tS = .dma (outS0 h)) (hR : tR = .dma (inS0 h))
    {hl : (Memref.whole cc1_scratch0 : Memref sig .tc .vmem S16x512x128 .bf16).view.LoadsAt (Rect.unit (s := S16x512x128) o1 S1x512x128.size inb1).toLoadRect}
    {Mk : Finset (Rect.unit (s := S16x512x128) o1 S1x512x128.size inb1).shape.Idx} (hMk : Mk = Finset.univ)
    {hx : ((Memref.whole cc1_scratch0 : Memref sig .tc .vmem S16x512x128 .bf16).access (Rect.unit (s := S16x512x128) o1 S1x512x128.size inb1)).Stores Mk}
    {hm : Mk = Finset.univ ∨ ∀ a, (Rect.unit (s := S16x512x128) o1 S1x512x128.size inb1).stride a = 1}
    {hsc : (rowOf (Memref.whole cc1_scratch1) o3 inb3).view.ref.isScScratch = false}
    {hsrc : (rowOf (Memref.whole cc1_scratch0) o3 inb3).view.WordExact} {hdst : (rowOf (Memref.whole cc1_scratch1) o3 inb3).view.WordExact}
    {hsem : DmaTarget.Typed .vmem tR (.remote (Dev.tc d') (rowOf (Memref.whole cc1_scratch1) o3 inb3) tS hsc)}
    {k : PUnit → Prog (TpuEff nD τ sig (Elt F) Λ₀ .tc) α} :
    iprop(Mid D K c h.val ∗ owes (c : Thread nD τ) (Orem c h.val) W)
      ⊢ iprop(((Mid D K c (h.val + 1) ∗ owes (c : Thread nD τ) (Orem c (h.val + 1)) W) -∗ wp frame (wpE (defs₀ (F := F)) 𝒱₀ (c : Thread nD τ) none) Set.univ (k ⟨⟩) Ψ)
        -∗ wp frame (wpE (defs₀ (F := F)) 𝒱₀ (c : Thread nD τ) none) Set.univ
          (.op (.load (Memref.whole cc1_scratch0) (Rect.unit (s := S16x512x128) o1 S1x512x128.size inb1).toLoadRect hl) fun _ =>
            .op (.store (Memref.whole cc1_scratch0) (Rect.unit (s := S16x512x128) o1 S1x512x128.size inb1) w Mk hx hm) fun _ =>
            .op (.enqueueDma (rowOf (Memref.whole cc1_scratch0) o3 inb3) (.remote (Dev.tc d') (rowOf (Memref.whole cc1_scratch1) o3 inb3) tS hsc) tR hsrc hdst hsem) k) Ψ) := by
  subst hMk
  have hset : ((Memref.whole cc1_scratch0).access (Rect.unit (s := S16x512x128) o1 S1x512x128.size inb1)).set = rowSet h :=
    (View.set_slice_whole cc1_scratch0 _).trans (unit_row h o1 inb1 ho1)
  have hsub : ((Memref.whole cc1_scratch0).access (Rect.unit (s := S16x512x128) o1 S1x512x128.size inb1)).set ⊆ rowsFrom h.val := hset.subset.trans (rowSet_sub h)
  unfold Mid
  rw [from_split h, to_split h, Orem_step]
  iintro ⟨⟨#HI, #Hlev, Hb, Ho, Hi, Hw, Ci, Cw, ⟨⟨Tin, Tout⟩, Ht⟩, Co, ⟨%gA, HA⟩, ⟨%gB, HB⟩, Hs⟩, HO⟩ Hk
  iapply (wp_load_rect (defs := defs₀ (F := F)) 𝒱₀ (c : Thread nD τ) none Set.univ (m := Memref.whole cc1_scratch0) (r := Rect.unit (s := S16x512x128) o1 S1x512x128.size inb1) (hl := hl) (S := rowsFrom h.val) (q := fullShare) (f := gA) hsub) $$ [HA]
  · iexact HA
  iintro HA
  iapply (wp_store (defs := defs₀ (F := F)) 𝒱₀ (c : Thread nD τ) none Set.univ (m := Memref.whole cc1_scratch0) (r := Rect.unit (s := S16x512x128) o1 S1x512x128.size inb1) (w := w) (hx := hx) (hm := hm) (S := rowsFrom h.val) (f := gA) hsub) $$ [HA]
  · iexact HA
  iintro HA
  ihave HA := (show (rowA c (rowsFrom h.val) (((Memref.whole cc1_scratch0).access (Rect.unit (s := S16x512x128) o1 S1x512x128.size inb1)).write (Elt F) gA w Finset.univ) : sProp 𝕄)
      ⊢ iprop(rowA c (rowSet h) (D.o c) ∗ rowA c (rowsFrom (h.val + 1)) (((Memref.whole cc1_scratch0).access (Rect.unit (s := S16x512x128) o1 S1x512x128.size inb1)).write (Elt F) gA w Finset.univ)) from by
        have e := pointsTo_congr (Ix := Unit) (Name := ℕ) (U := UU) (Lvl := ℕ) (Val := Elt F) (ℓ := (Memref.whole cc1_scratch0).view.loc (c : Thread nD τ)) (q := fullShare) (I := rowSet h)
          (f := ((Memref.whole cc1_scratch0).access (Rect.unit (s := S16x512x128) o1 S1x512x128.size inb1)).write (Elt F) gA w Finset.univ) (g := D.o c)
          (fun y hy => row_stored o1 inb1 gA w (D.o c) hw y (by rw [unit_row h o1 inb1 ho1]; exact hy))
        refine (pointsTo_split_subset (rowSet_sub h)).1.trans ?_
        rw [rowsFrom_sdiff]
        exact sep_mono_left (Entails.of_eq e)) $$ HA
  icases HA with ⟨HAh, HA⟩
  ihave HB := (show (rowB (mate1 c) (rowsFrom h.val) gB : sProp 𝕄) ⊢ iprop(rowB (mate1 c) (rowSet h) gB ∗ rowB (mate1 c) (rowsFrom (h.val + 1)) gB) from by
        refine (pointsTo_split_subset (rowSet_sub h)).1.trans ?_
        rw [rowsFrom_sdiff]) $$ HB
  icases HB with ⟨HBh, HB⟩
  iapply (exSend D (src := rowOf (Memref.whole cc1_scratch0) o3 inb3) (dst := rowOf (Memref.whole cc1_scratch1) o3 inb3) (κo := .out0 h) (κi := .in0 h) (K (outC0 c h)) (K (inC0 (mate1 c) h)) c (mate1 c) (outS0 h) (inS0 h) hd hS hR
      fullShare (D.o c) gB (cl_out0 h) (by intro e; cases e) (cl_in0 h) (by intro e; cases e) N1 (N1_eqB o3 inb3) rfl rfl (Orem c (h.val + 1)) W
      (by rw [rowOf_setA h o3 inb3 ho3]; exact Entails.rfl)
      (by
        have e := pointsTo_congr (Ix := Unit) (Name := ℕ) (U := UU) (Lvl := ℕ) (Val := Elt F) (ℓ := (Memref.whole cc1_scratch1).view.loc ((mate1 c : Dev nD) : Thread nD τ)) (q := fullShare) (I := (rowOf (Memref.whole cc1_scratch1) o3 inb3).view.set)
          (fun y hy => row_landed o3 inb3 gB (D.o c) y hy)
        refine (Entails.of_eq e).trans ?_
        rw [rowOf_setB h o3 inb3 ho3]
        unfold pay
        rw [mate1_mate1]) (by routes)) $$ [HO Tin Tout HAh HBh]
  · isplitr; · iapply (inv_out D K c h); iexact HI
    isplitr; · iapply (inv_in D K c (mate1 c) h); iexact HI
    isplitl [HAh]; · rw [rowOf_setA h o3 inb3 ho3]; iexact HAh
    isplitl [HBh]; · rw [rowOf_setB h o3 inb3 ho3]; iexact HBh
    isplitl [HO]; · iexact HO
    isplitl [Tout]; · iexact Tout
    isplitr; · iapply (open_out D K c h); iexact HI
    isplitl [Tin]; · iexact Tin
    iapply (open_in D K c h); iexact HI
  iintro ⟨Coh, HO⟩
  iapply Hk
  isplitr [HO]
  swap
  · iexact HO
  isplitr; · iexact HI
  isplitr; · iexact Hlev
  isplitl [Hb]; · iexact Hb
  isplitl [Ho]; · iexact Ho
  isplitl [Hi]; · iexact Hi
  isplitl [Hw]; · iexact Hw
  isplitl [Ci]; · iexact Ci
  isplitl [Cw]; · iexact Cw
  isplitl [Ht]; · iexact Ht
  isplitl [Co Coh]
  · isplitl [Coh]; · iexact Coh
    iexact Co
  isplitl [HA]; · iexists _; iexact HA
  isplitl [HB]; · iexists _; iexact HB
  iexact Hs

end Cert.KernelIdeal.Run1

end
-- ==== Proof.AttnFront.lean ====
/- The first part of every grid point of the attention call: at the first one the barrier with the partner and the local
   copy of the last weight, at every one the loads of the blocks. -/
module

public import proofs.«01_k».proof.Proof.AttnStep

@[expose] public section

noncomputable section

namespace Cert.KernelIdeal.Run1

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen
open Cert.KernelIdeal.Run (UU EP L lv lvl Above L_of_ne L_tc mayWait)

variable {F : FTy → Type} [FloatOps F] [Named F]

local notation "𝕄" => MT nD τ sig Unit (Elt F) ℕ UU ℕ

variable (D : Mail F)

/-- What the body reads at a point: the query's columns of the head, keys, values, rotary query rows, rotary keys. -/
structure Blocks (F : FTy → Type) where
  q : S512x128.Idx → Elt F .bf16
  k : S1024x128.Idx → Elt F .bf16
  v : S1024x128.Idx → Elt F .bf16
  qr : S1x512x32.Idx → Elt F .bf16
  kr : S1024x32.Idx → Elt F .bf16
/-- The head's output at a point. -/
def Blocks.out (B : Blocks F) : FVec F S512x128 .bf16 := k1_pay38 B.q B.k B.qr B.kr B.v

theorem wpRet (c : Dev nD) {α : Type} {Ψ : α → sProp 𝕄} {a : α} :
    Ψ a ⊢ wp frame (wpE (defs₀ (F := F)) 𝒱₀ (c : Thread nD τ) none) Set.univ (Prog.ret a) Ψ := by
  rw [wp_ret]; exact BI.fupd_intro

section Point
variable (K : GSem nD τ sig → ℕ) (c : Dev nD) (i : grid1.Coords)
  (a1 : Memref sig .tc .vmem S512x128 .bf16) (h1 : a1.IsWhole) (a2 : Memref sig .tc .vmem S1024x128 .bf16) (h2 : a2.IsWhole)
  (a3 : Memref sig .tc .vmem S1024x128 .bf16) (h3 : a3.IsWhole) (a4 : Memref sig .tc .vmem S1x512x32 .bf16) (h4 : a4.IsWhole)
  (a5 : Memref sig .tc .vmem S1024x32 .bf16) (h5 : a5.IsWhole) (a7 : Memref sig .tc .vmem S1x1024x2048 .bf16) (h7 : a7.IsWhole)

/-- The input windows at their blocks. -/
def Ins (B : Blocks F) : sProp 𝕄 :=
  iprop(owns (c : Thread nD τ) a1 fullShare B.q ∗ owns (c : Thread nD τ) a2 fullShare B.k ∗ owns (c : Thread nD τ) a3 fullShare B.v
    ∗ owns (c : Thread nD τ) a4 fullShare B.qr ∗ owns (c : Thread nD τ) a5 fullShare B.kr)

abbrev frontProg : Prog (TpuEff nD τ sig (Elt F) Λ₀ .tc) (Σ' (_ : BitVec 32) (_ : Dev nD) (_ : BitVec 32) (_ : BitVec 32) (_ : BitVec 32), FVec F S512x128 .bf16) :=
  k1_part17_skel i a1 h1 a2 h2 a3 h3 a4 h4 a5 h5 (Memref.whole main_arg7) (Memref.isWhole_whole _) a7 h7 (Memref.whole cc1_scratch0) (Memref.isWhole_whole _)
    (Memref.whole cc1_scratch1) (Memref.isWhole_whole _) (Memref.whole cc1_scratch2) (Memref.isWhole_whole _) (Memref.whole cc1_scratch3) (Memref.isWhole_whole _)
    cc1_scratch4 cc1_scratch5 cc1_scratch6

/-- What the point's first part returns: the device, and the head's output. -/
def Got (B : Blocks F) (r : Σ' (_ : BitVec 32) (_ : Dev nD) (_ : BitVec 32) (_ : BitVec 32) (_ : BitVec 32), FVec F S512x128 .bf16) : Prop :=
  r.2.1 = c ∧ r.2.2.2.2.2 = B.out

/-- The first part of a point but the first: the five loads. -/
theorem front (hc : ¬ k1_cond1 i = 1#1) (B : Blocks F) (R : sProp 𝕄) :
    iprop(Ins c a1 a2 a3 a4 a5 B ∗ R)
      ⊢ wp frame (wpE (defs₀ (F := F)) 𝒱₀ (c : Thread nD τ) none) Set.univ (frontProg i a1 h1 a2 h2 a3 h3 a4 h4 a5 h5 a7 h7)
          (fun r => iprop(⌜Got c B r⌝ ∗ Ins c a1 a2 a3 a4 a5 B ∗ R)) := by
  unfold frontProg k1_part17_skel Ins
  simp only [dif_neg hc]
  iintro ⟨⟨H1, H2, H3, H4, H5⟩, R⟩
  ihave H1 := (box_in _) $$ H1
  ihave H2 := (box_in _) $$ H2
  ihave H3 := (box_in _) $$ H3
  ihave H4 := (box_in _) $$ H4
  ihave H5 := (box_in _) $$ H5
  ihave R := (box_in _) $$ R
  sl_exec
  ihave H1 := (box_out _) $$ H1
  iapply (loadIn c a1 B.q _ _) $$ H1
  iintro H1
  ihave H2 := (box_out _) $$ H2
  iapply (loadIn c a2 B.k _ _) $$ H2
  iintro H2
  ihave H4 := (box_out _) $$ H4
  iapply (loadIn c a4 B.qr _ _) $$ H4
  iintro H4
  ihave H5 := (box_out _) $$ H5
  iapply (loadIn c a5 B.kr _ _) $$ H5
  iintro H5
  ihave H3 := (box_out _) $$ H3
  iapply (loadIn c a3 B.v _ _) $$ H3
  iintro H3
  iapply (wpRet c)
  isplitr; · ipureintro; exact ⟨rfl, rfl⟩
  ihave R := (box_out _) $$ R
  isplitr [R]
  swap; · iexact R
  isplitl [H1]; · iexact H1
  isplitl [H2]; · iexact H2
  isplitl [H3]; · iexact H3
  isplitl [H4]; · iexact H4
  iexact H5

/-- The scratch buffers, whatever they hold. -/
def scratches : sProp 𝕄 := iprop((∃ g, pt (F := F) c cc1_scratch0 g) ∗ (∃ g, pt (F := F) c cc1_scratch1 g) ∗ (∃ g, pt (F := F) c cc1_scratch2 g) ∗ (∃ g, pt (F := F) c cc1_scratch3 g))

/-- What a device holds before its first point. -/
def Begin : sProp 𝕄 :=
  iprop(recs0 D K c ∗ levAts L lv ∗ positions c ∗ payToks c ∗ (cred (tallyAt (barC0 c) () 1) ∗ bigSep Finset.univ fun i : Fin 16 => cred (tallyAt (inC0 c i) () N1))
    ∗ pt c main_arg7 (D.wo c) ∗ scratches c)

/-- The first part of the first point: the barrier with the partner, the local copy of the weight, the five loads. -/
theorem front0 (hc : k1_cond1 i = 1#1) (B : Blocks F) (W : Waits sig Unit) :
    iprop(Ins c a1 a2 a3 a4 a5 B ∗ Begin D K c ∗ owes (c : Thread nD τ) (O0 c) W)
      ⊢ wp frame (wpE (defs₀ (F := F)) 𝒱₀ (c : Thread nD τ) none) Set.univ (frontProg i a1 h1 a2 h2 a3 h3 a4 h4 a5 h5 a7 h7)
          (fun r => iprop(⌜Got c B r⌝ ∗ Ins c a1 a2 a3 a4 a5 B ∗ Mid D K c 0 ∗ ∃ W', owes (c : Thread nD τ) (Orem c 0) W')) := by
  have hO : Above (lvC .bar0) (Orem c 0) := Orem_above c 0
  have eA : ∀ g, (rowA (F := F) c (rowsFrom 0) g : sProp 𝕄) = pt c cc1_scratch0 g := fun g => by rw [rowsFrom_zero]
  have eB : ∀ g, (rowB (F := F) (mate1 c) (rowsFrom 0) g : sProp 𝕄) = pt (mate1 c) cc1_scratch1 g := fun g => by rw [rowsFrom_zero]
  have eT : (bigSep (headsTo 0) (fun i : Fin 16 => cred (tallyAt (outC0 c i) () N1)) : sProp 𝕄) = iprop(emp) := by rw [headsTo_zero]; rfl
  unfold frontProg k1_part17_skel Ins Begin Mid positions payToks scratches
  rw [eT, headsFrom_zero, bigSep_sep']
  simp only [dif_pos hc]
  iintro ⟨⟨H1, H2, H3, H4, H5⟩, ⟨#HI, #Hlev, ⟨Ab, Ao, Ai, Aw⟩, ⟨Tb, Tin, Tout, Tw⟩, ⟨Cb, Ci⟩, XW, ⟨%g0, S0⟩, S1, S2, ⟨%g3, S3⟩⟩, HO⟩
  ihave H1 := (box_in _) $$ H1
  ihave H2 := (box_in _) $$ H2
  ihave H3 := (box_in _) $$ H3
  ihave H4 := (box_in _) $$ H4
  ihave H5 := (box_in _) $$ H5
  ihave Ab := (box_in _) $$ Ab
  ihave Cb := (box_in _) $$ Cb
  ihave HO := (box_in _) $$ HO
  ihave XW := (box_in _) $$ XW
  ihave S3 := (box_in _) $$ S3
  sl_exec
  ihave HO := (box_out _) $$ HO
  iapply (exSignal D (κ := .bar0) (K (barC0 (mate1 c))) c (mate1 c) barrier1 cl_bar0 (by decide) rfl 1 rfl (dev1_eq c _) rfl (Orem c 0) W) $$ [HO Tb S1]
  · isplitr; · iapply (inv_bar D K c (mate1 c)); iexact HI
    isplitl [HO]; · iexact HO
    isplitl [Tb]; · iexact Tb
    isplitr; · iapply (open_bar D K c (mate1 c)); iexact HI
    unfold pay; rw [mate1_mate1]
    isplitl [S1]; · iexact S1
    iapply (recs0_ins D K c); iexact HI
  iintro HO
  ihave HO := (box_in _) $$ HO
  sl_exec
  ihave HO := (box_out _) $$ HO
  ihave Ab := (box_out _) $$ Ab
  ihave Cb := (box_out _) $$ Cb
  iapply (exWaitReg D (κ := .bar0) (K (barC0 c)) c barrier1 cl_bar0 (by decide) rfl rfl rfl (Orem c 0) W hO) $$ [HO Ab Cb]
  · isplitr; · iapply (inv_bar D K c c); iexact HI
    isplitl [Cb]; · iexact Cb
    isplitl [HO]; · iexact HO
    isplitr; · iexact Hlev
    iexact Ab
  unfold pay
  iintro ⟨HO, Ab, ⟨%gN, N1⟩, #HN⟩
  imod (exClose D (K (barC0 c)) (barC0 c)) $$ [Ab] with Vb
  · isplitr; · iapply (inv_bar D K c c); iexact HI
    iexact Ab
  ihave HO := (box_in _) $$ HO
  ihave Vb := (box_in _) $$ Vb
  ihave N1 := (box_in _) $$ N1
  sl_exec
  ihave XW := (box_out _) $$ XW
  ihave S3 := (box_out _) $$ S3
  iapply (exCopy D (K (woC c)) c rfl g3) $$ [XW S3 Tw]
  · isplitr; · iapply (inv_wo0 D K c); iexact HI
    isplitl [XW]; · iexact XW
    isplitl [S3]; · iexact S3
    isplitl [Tw]; · iexact Tw
    iapply (open_wo D K c); iexact HI
  iintro Cw
  ihave H1 := (box_out _) $$ H1
  iapply (loadIn c a1 B.q _ _) $$ H1
  iintro H1
  ihave H2 := (box_out _) $$ H2
  iapply (loadIn c a2 B.k _ _) $$ H2
  iintro H2
  ihave H4 := (box_out _) $$ H4
  iapply (loadIn c a4 B.qr _ _) $$ H4
  iintro H4
  ihave H5 := (box_out _) $$ H5
  iapply (loadIn c a5 B.kr _ _) $$ H5
  iintro H5
  ihave H3 := (box_out _) $$ H3
  iapply (loadIn c a3 B.v _ _) $$ H3
  iintro H3
  iapply (wpRet c)
  ihave HO := (box_out _) $$ HO
  ihave Vb := (box_out _) $$ Vb
  ihave N1 := (box_out _) $$ N1
  isplitr; · ipureintro; exact ⟨rfl, rfl⟩
  isplitl [H1 H2 H3 H4 H5]
  · isplitl [H1]; · iexact H1
    isplitl [H2]; · iexact H2
    isplitl [H3]; · iexact H3
    isplitl [H4]; · iexact H4
    iexact H5
  isplitr [HO]
  swap; · iexists _; iexact HO
  isplitr
  · unfold records
    isplitr; · iexact HI
    iexact HN
  isplitr; · iexact Hlev
  isplitl [Vb]; · iexact Vb
  isplitl [Ao]; · iexact Ao
  isplitl [Ai]; · iexact Ai
  isplitl [Aw]; · iexact Aw
  isplitl [Ci]; · iexact Ci
  isplitl [Cw]; · iexact Cw
  isplitl [Tin Tout]
  · isplitl [Tin]; · iexact Tin
    iexact Tout
  isplitr; · iempintro
  isplitl [S0]; · iexists g0; rw [eA]; iexact S0
  isplitl [N1]; · iexists gN; rw [eB]; iexact N1
  iexact S2
end Point

end Cert.KernelIdeal.Run1

end
-- ==== Proof.AttnPoint.lean ====
/- A grid point of the attention call but the last: its first part, then the store and the transfer of its head's
   rows. -/
module

public import proofs.«01_k».proof.Proof.AttnFront

@[expose] public section

noncomputable section

namespace Cert.KernelIdeal.Run1

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen
open Cert.KernelIdeal.Run (UU EP L lv lvl Above L_of_ne L_tc mayWait)

variable {F : FTy → Type} [FloatOps F] [Named F]

local notation "𝕄" => MT nD τ sig Unit (Elt F) ℕ UU ℕ

variable (D : Mail F)

section Point
variable (K : GSem nD τ sig → ℕ) (c : Dev nD) (i : grid1.Coords)
  (a1 : Memref sig .tc .vmem S512x128 .bf16) (h1 : a1.IsWhole) (a2 : Memref sig .tc .vmem S1024x128 .bf16) (h2 : a2.IsWhole)
  (a3 : Memref sig .tc .vmem S1024x128 .bf16) (h3 : a3.IsWhole) (a4 : Memref sig .tc .vmem S1x512x32 .bf16) (h4 : a4.IsWhole)
  (a5 : Memref sig .tc .vmem S1024x32 .bf16) (h5 : a5.IsWhole) (a7 : Memref sig .tc .vmem S1x1024x2048 .bf16) (h7 : a7.IsWhole)

/-- The body on the buffers the call binds, its windows any. -/
abbrev attnProg : Prog (TpuEff nD τ sig (Elt F) Λ₀ .tc) PUnit :=
  cc1__attn_body_skel i a1 h1 a2 h2 a3 h3 a4 h4 a5 h5 (Memref.whole main_arg7) (Memref.isWhole_whole _) a7 h7 (Memref.whole cc1_scratch0) (Memref.isWhole_whole _)
    (Memref.whole cc1_scratch1) (Memref.isWhole_whole _) (Memref.whole cc1_scratch2) (Memref.isWhole_whole _) (Memref.whole cc1_scratch3) (Memref.isWhole_whole _)
    cc1_scratch4 cc1_scratch5 cc1_scratch6

/-- The head's output at the point of head `h` is what the device's mail holds in that head's rows. -/
def Fits (h : Fin 16) (B : Blocks F) : Prop :=
  ∀ x : S1x512x128.Idx, k1_pay1 B.out x = D.o c ((Rect.unit (s := S16x512x128) ![h.val, 0, 0] S1x512x128.size (by
    intro a; have := h.isLt; fin_cases a
    · show h.val + 1 ≤ 16; omega
    · show 0 + 512 ≤ 512; omega
    · show 0 + 128 ≤ 128; omega)).emb x)

/-- A point's program arguments are those of head `h`. -/
structure At (h : Fin 16) : Prop where
  o1 : k1_off1 i = ![h.val, 0, 0]
  o3 : k1_off3 i = ![h.val, 0, 0]
  sS : ((cc1_scratch4.slice (Rect.unit (s := S16) (k1_off2 i) S1.size (Facts₀.k1_off2_inb i))).squeeze S_ squeezes_S1_S_).sem = outS0 h
  sR : ((cc1_scratch5.slice (Rect.unit (s := S16) (k1_off2 i) S1.size (Facts₀.k1_off2_inb i))).squeeze S_ squeezes_S1_S_).sem = inS0 h

/-- A point but the last, from what its first part leaves. -/
theorem point (h : Fin 16) (hi : At i h) (hc2 : ¬ k1_cond2 i = 1#1) (B : Blocks F) (hB : Fits D c h B) (P : sProp 𝕄)
    (hP : P ⊢ wp frame (wpE (defs₀ (F := F)) 𝒱₀ (c : Thread nD τ) none) Set.univ (frontProg i a1 h1 a2 h2 a3 h3 a4 h4 a5 h5 a7 h7)
          (fun r => iprop(⌜Got c B r⌝ ∗ Ins c a1 a2 a3 a4 a5 B ∗ Mid D K c h.val ∗ ∃ W', owes (c : Thread nD τ) (Orem c h.val) W'))) :
    P ⊢ wp frame (wpE (defs₀ (F := F)) 𝒱₀ (c : Thread nD τ) none) Set.univ (attnProg i a1 h1 a2 h2 a3 h3 a4 h4 a5 h5 a7 h7)
          (fun _ => iprop(Ins c a1 a2 a3 a4 a5 B ∗ Mid D K c (h.val + 1) ∗ ∃ W', owes (c : Thread nD τ) (Orem c (h.val + 1)) W')) := by
  unfold attnProg cc1__attn_body_skel
  rw [wp_bind, k1_part17_eq_skeleton]
  refine hP.trans (wp_mono _ _ _ fun r => ?_)
  obtain ⟨arg0, d0, v2, v5, v6, v30⟩ := r
  iintro ⟨%hr, HIn, HM, %W, HO⟩
  obtain ⟨rfl, hv⟩ := hr
  obtain rfl : v30 = B.out := hv
  have hw : ∀ x : S1x512x128.Idx, k1_pay1 B.out x = D.o d0 ((Rect.unit (s := S16x512x128) (k1_off1 i) S1x512x128.size (Facts₀.k1_off1_inb i)).emb x) := fun x =>
    (hB x).trans (congrArg (D.o d0) (funext fun a => Fin.ext (by rw [Rect.emb_apply, Rect.emb_apply]; simp only [hi.o1])))
  iapply (midStep D K d0 h W (k1_off1 i) (k1_off3 i) (Facts₀.k1_off1_inb i) (Facts₀.k1_off3_inb i) hi.o1 hi.o3 (k1_pay1 B.out) hw (dev2_eq d0 _)
    (congrArg SemLoc.dma hi.sS) (congrArg SemLoc.dma hi.sR) rfl) $$ [HM HO]
  · isplitl [HM]; · iexact HM
    iexact HO
  iintro ⟨HM, HO⟩
  simp only [dif_neg hc2]
  iapply (wpRet d0)
  isplitl [HIn]; · iexact HIn
  isplitl [HM]; · iexact HM
  iexists W; iexact HO

end Point

end Cert.KernelIdeal.Run1

end
-- ==== Proof.AttnGather.lean ====
/- The waits for the sixteen departures and arrivals of the attention call's rows, and the assembly of both devices'
   head outputs side by side. -/
module

public import proofs.«01_k».proof.Proof.AttnPoint
public import Idealize.ShloMosaic.Lib.ValueLayout
public import Idealize.ShloMosaic.Lib.Writes

@[expose] public section

noncomputable section

namespace Cert.KernelIdeal.Run1

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Idealize.ShloMosaic.ValueIdx
open Cert.KernelIdeal Cert.KernelIdeal.Gen
open Cert.KernelIdeal.Run (UU EP L lv lvl Above L_of_ne L_tc mayWait)

variable {F : FTy → Type} [FloatOps F] [Named F]

local notation "𝕄" => MT nD τ sig Unit (Elt F) ℕ UU ℕ

variable (D : Mail F)

/-! ## The waits for all the transfers -/

/-- What a device holds at the last point when it has waited for the departures of the heads before `a` and the arrivals of
    those before `b`. -/
@[irreducible] def Waited (c : Dev nD) (a b : ℕ) : sProp 𝕄 :=
  iprop((∃ W, owes (c : Thread nD τ) 0 W)
    ∗ (bigSep (headsFrom a) fun i : Fin 16 => iprop(atPos ER (outC0 c i) 0 ∅ 0 ∗ cred (tallyAt (outC0 c i) () N1)))
    ∗ (bigSep (headsTo a) fun i : Fin 16 => iprop(atPos ER (outC0 c i) 1 ∅ 0 ∗ rowA c (rowSet i) (D.o c)))
    ∗ (bigSep (headsFrom b) fun i : Fin 16 => iprop(atPos ER (inC0 c i) 0 ∅ 0 ∗ cred (tallyAt (inC0 c i) () N1)))
    ∗ (bigSep (headsTo b) fun i : Fin 16 => iprop(atPos ER (inC0 c i) 1 ∅ 0 ∗ rowB c (rowSet i) (D.o (mate1 c)))))

section Steps
variable (K : GSem nD τ sig → ℕ) (c : Dev nD)
  {sp sp' : Space} {sh sh' : Shape} {e e' : EltTy} {κ' : Kind}
  {src : Memref sig .tc sp' sh' e'} {dst : Memref sig κ' sp sh e} {hsrc : src.view.WordExact} {hdst : dst.view.WordExact}

theorem stepOut {α : Type} {Ψ : α → sProp 𝕄} {k : PUnit → Prog (TpuEff nD τ sig (Elt F) Λ₀ .tc) α} (h : Fin 16) (b : ℕ) {s' : DmaSem sig} (hs' : s' = outS0 h) (hd : dst.view.dmaCredit = N1) :
    iprop(records D K c ∗ levAts L lv ∗ Waited D c h.val b)
      ⊢ iprop((Waited D c (h.val + 1) b -∗ wp frame (wpE (defs₀ (F := F)) 𝒱₀ (c : Thread nD τ) none) Set.univ (k ⟨⟩) Ψ)
          -∗ wp frame (wpE (defs₀ (F := F)) 𝒱₀ (c : Thread nD τ) none) Set.univ (.op (.waitDma2 s' src dst hsrc hdst) k) Ψ) := by
  unfold Waited
  rw [from_split h, to_split h]
  iintro ⟨#HI, #Hlev, ⟨%W, HO⟩, ⟨⟨HA, HC⟩, H1⟩, H2, H3⟩ Hk
  iapply (exWaitDma D (κ := .out0 h) (K (outC0 c h)) c (outS0 h) (cl_out0 h) (by intro e; cases e) N1 rfl hs' hd 0 W (Above.zero _)) $$ [HO HA HC]
  · isplitr; · iapply (inv_out D K c h); iexact HI
    isplitl [HC]; · iexact HC
    isplitl [HO]; · iexact HO
    isplitr; · iexact Hlev
    iexact HA
  iintro ⟨HO, HA, HR⟩
  iapply Hk
  isplitl [HO]; · iexists _; iexact HO
  isplitl [H1]; · iexact H1
  isplitr [H3]
  · isplitl [HA HR]
    · isplitl [HA]; · iexact HA
      iapply (show pay D c (.out0 h) ⊢ rowA c (rowSet h) (D.o c) from Entails.rfl); iexact HR
    iexact H2
  iexact H3

theorem stepIn {α : Type} {Ψ : α → sProp 𝕄} {k : PUnit → Prog (TpuEff nD τ sig (Elt F) Λ₀ .tc) α} (a : ℕ) (h : Fin 16) {s' : DmaSem sig} (hs' : s' = inS0 h) (hd : dst.view.dmaCredit = N1) :
    iprop(records D K c ∗ levAts L lv ∗ Waited D c a h.val)
      ⊢ iprop((Waited D c a (h.val + 1) -∗ wp frame (wpE (defs₀ (F := F)) 𝒱₀ (c : Thread nD τ) none) Set.univ (k ⟨⟩) Ψ)
          -∗ wp frame (wpE (defs₀ (F := F)) 𝒱₀ (c : Thread nD τ) none) Set.univ (.op (.waitDma2 s' src dst hsrc hdst) k) Ψ) := by
  unfold Waited
  rw [from_split h, to_split h]
  iintro ⟨#HI, #Hlev, ⟨%W, HO⟩, H1, H2, ⟨⟨HA, HC⟩, H3⟩, H4⟩ Hk
  iapply (exWaitDma D (κ := .in0 h) (K (inC0 c h)) c (inS0 h) (cl_in0 h) (by intro e; cases e) N1 rfl hs' hd 0 W (Above.zero _)) $$ [HO HA HC]
  · isplitr; · iapply (inv_in D K c c h); iexact HI
    isplitl [HC]; · iexact HC
    isplitl [HO]; · iexact HO
    isplitr; · iexact Hlev
    iexact HA
  iintro ⟨HO, HA, HR⟩
  iapply Hk
  isplitl [HO]; · iexists _; iexact HO
  isplitl [H1]; · iexact H1
  isplitl [H2]; · iexact H2
  isplitl [H3]; · iexact H3
  isplitl [HA HR]
  · isplitl [HA]; · iexact HA
    iapply (show pay D c (.in0 h) ⊢ rowB c (rowSet h) (D.o (mate1 c)) from Entails.rfl); iexact HR
  iexact H4
end Steps

/-- Before the first wait, from what the points leave. -/
theorem waited_start (c : Dev nD) (W : Waits sig Unit) :
    iprop(owes (c : Thread nD τ) 0 W ∗ (bigSep Finset.univ fun i : Fin 16 => atPos ER (outC0 c i) 0 ∅ 0) ∗ (bigSep Finset.univ fun i : Fin 16 => atPos ER (inC0 c i) 0 ∅ 0)
        ∗ (bigSep Finset.univ fun i : Fin 16 => cred (tallyAt (inC0 c i) () N1)) ∗ (bigSep Finset.univ fun i : Fin 16 => cred (tallyAt (outC0 c i) () N1)))
      ⊢ (Waited D c 0 0 : sProp 𝕄) := by
  have e1 := bigSep_sep' Finset.univ (fun i : Fin 16 => (atPos ER (outC0 c i) 0 ∅ 0 : sProp 𝕄)) (fun i => cred (tallyAt (outC0 c i) () N1))
  have e2 := bigSep_sep' Finset.univ (fun i : Fin 16 => (atPos ER (inC0 c i) 0 ∅ 0 : sProp 𝕄)) (fun i => cred (tallyAt (inC0 c i) () N1))
  unfold Waited
  rw [headsFrom_zero, headsTo_zero, e1, e2]
  iintro ⟨HO, Ho, Hi, Ci, Co⟩
  isplitl [HO]; · iexists W; iexact HO
  isplitl [Ho Co]
  · isplitl [Ho]; · iexact Ho
    iexact Co
  isplitr
  · iapply (show (iprop(emp) : sProp 𝕄) ⊢ bigSep (∅ : Finset (Fin 16)) (fun i => iprop(atPos ER (outC0 c i) 1 ∅ 0 ∗ rowA c (rowSet i) (D.o c))) from Entails.rfl); iempintro
  isplitl [Hi Ci]
  · isplitl [Hi]; · iexact Hi
    iexact Ci
  iapply (show (iprop(emp) : sProp 𝕄) ⊢ bigSep (∅ : Finset (Fin 16)) (fun i => iprop(atPos ER (inC0 c i) 1 ∅ 0 ∗ rowB c (rowSet i) (D.o (mate1 c)))) from Entails.rfl); iempintro

/-- After the last wait: both buffers whole, the own head outputs and the partner's. -/
theorem waited_end (c : Dev nD) :
    (Waited D c 16 16 : sProp 𝕄)
      ⊢ iprop((∃ W, owes (c : Thread nD τ) 0 W) ∗ (bigSep Finset.univ fun i : Fin 16 => atPos ER (outC0 c i) 1 ∅ 0) ∗ (bigSep Finset.univ fun i : Fin 16 => atPos ER (inC0 c i) 1 ∅ 0)
        ∗ pt c cc1_scratch0 (D.o c) ∗ pt c cc1_scratch1 (D.o (mate1 c))) := by
  have eA : (bigSep Finset.univ (fun i : Fin 16 => rowA c (rowSet i) (D.o c)) : sProp 𝕄) = pt c cc1_scratch0 (D.o c) := by
    have h := pointsTo_biUnion (Ix := Unit) (Name := ℕ) (U := UU) (Lvl := ℕ) (Val := Elt F) (ℓ := (Memref.whole cc1_scratch0).view.loc (c : Thread nD τ)) (q := fullShare) (f := D.o c) Finset.univ rowSet rows_disjoint
    rw [← h, rows_cover]
  have eB : (bigSep Finset.univ (fun i : Fin 16 => rowB c (rowSet i) (D.o (mate1 c))) : sProp 𝕄) = pt c cc1_scratch1 (D.o (mate1 c)) := by
    have h := pointsTo_biUnion (Ix := Unit) (Name := ℕ) (U := UU) (Lvl := ℕ) (Val := Elt F) (ℓ := (Memref.whole cc1_scratch1).view.loc (c : Thread nD τ)) (q := fullShare) (f := D.o (mate1 c)) Finset.univ rowSet rows_disjoint
    rw [← h, rows_cover]
  have e1 := bigSep_sep' Finset.univ (fun i : Fin 16 => (atPos ER (outC0 c i) 1 ∅ 0 : sProp 𝕄)) (fun i => rowA c (rowSet i) (D.o c))
  have e2 := bigSep_sep' Finset.univ (fun i : Fin 16 => (atPos ER (inC0 c i) 1 ∅ 0 : sProp 𝕄)) (fun i => rowB c (rowSet i) (D.o (mate1 c)))
  rw [eA] at e1; rw [eB] at e2
  unfold Waited
  rw [headsTo_end, e1, e2]
  iintro ⟨HO, -, ⟨H1, HA⟩, -, ⟨H2, HB⟩⟩
  isplitl [HO]; · iexact HO
  isplitl [H1]; · iexact H1
  isplitl [H2]; · iexact H2
  isplitl [HA]; · iexact HA
  iexact HB

/-! ## The assembly of both devices' head outputs -/

/-- The head outputs side by side: rows of the first half of the mesh's first axis above the second's, head `h` in
    columns `128 h` to `128 h + 127`. -/
def asm (c : Dev nD) : cc1_scratch2.ty.Contents (Elt F) := fun y =>
  D.o (if (y (0 : Fin 2)).val / 512 = c.val / 2 then c else mate1 c)
    (ix3 (⟨(y (1 : Fin 2)).val / 128, by have h : (y (1 : Fin 2)).val < 2048 := (y (1 : Fin 2)).isLt; omega⟩ : Fin 16)
      (⟨(y (0 : Fin 2)).val % 512, Nat.mod_lt _ (by decide)⟩ : Fin 512) (⟨(y (1 : Fin 2)).val % 128, Nat.mod_lt _ (by decide)⟩ : Fin 128))

/-- Which of the thirty-two stores writes an element: two per head, the own rows first. -/
def turn (c : Dev nD) (y : S1024x2048.Idx) : ℕ := 2 * ((y (1 : Fin 2)).val / 128) + (if (y (0 : Fin 2)).val / 512 = c.val / 2 then 0 else 1)

/-- The assembly buffer after the first `n` stores. -/
@[irreducible] def Asm (c : Dev nD) (n : ℕ) : sProp 𝕄 := iprop(∃ g, ⌜∀ y, turn c y < n → g y = asm D c y⌝ ∗ pt c cc1_scratch2 g)

theorem asm_start (c : Dev nD) (g : cc1_scratch2.ty.Contents (Elt F)) : pt c cc1_scratch2 g ⊢ (Asm D c 0 : sProp 𝕄) := by
  unfold Asm; iintro H; iexists g
  isplitr; · ipureintro; exact fun y h => absurd h (Nat.not_lt_zero _)
  iexact H
theorem turn_lt (c : Dev nD) (y : S1024x2048.Idx) : turn c y < 32 := by
  have h : (y (1 : Fin 2)).val < 2048 := (y (1 : Fin 2)).isLt
  unfold turn; split <;> omega
theorem asm_end (c : Dev nD) : (Asm D c 32 : sProp 𝕄) ⊢ pt c cc1_scratch2 (asm D c) := by
  unfold Asm; iintro ⟨%g, %h, H⟩
  obtain rfl : g = asm D c := funext fun y => h y (turn_lt c y)
  iexact H

/-- One store's elements and their contents. -/
theorem stored (c : Dev nD) (h : Fin 16) (own : Bool) (o : Fin 2 → ℕ) (inb : ∀ a, o a + S512x128.size a ≤ S1024x2048.size a)
    (ho : o = ![512 * (if own then c.val / 2 else 1 - c.val / 2), 128 * h.val])
    (inb' : ∀ a, (![h.val, 0, 0] : Fin 3 → ℕ) a + S1x512x128.size a ≤ S16x512x128.size a)
    (w : Vec F S512x128 .bf16)
    (hw : ∀ x : S512x128.Idx, w x = D.o (if own then c else mate1 c) ((Rect.unit (s := S16x512x128) ![h.val, 0, 0] S1x512x128.size inb').emb (ix3 (0 : Fin 1) (x (0 : Fin 2)) (x (1 : Fin 2)))))
    (g : cc1_scratch2.ty.Contents (Elt F)) (n : ℕ) (hn : n = 2 * h.val + (if own then 0 else 1)) (hg : ∀ y, turn c y < n → g y = asm D c y)
    (y : S1024x2048.Idx) (hy : turn c y < n + 1) :
    ((Memref.whole cc1_scratch2).access (Rect.unit (s := S1024x2048) o S512x128.size inb)).write (Elt F) g w Finset.univ y = asm D c y := by
  have hc : c.val < 4 := c.isLt
  have hh := h.isLt
  have hy0 : (y (0 : Fin 2)).val < 1024 := (y (0 : Fin 2)).isLt
  have hy1 : (y (1 : Fin 2)).val < 2048 := (y (1 : Fin 2)).isLt
  by_cases hm : y ∈ (Rect.unit (s := S1024x2048) o S512x128.size inb).set
  · have hb := Rect.mem_set_unit.mp hm
    rw [← Rect.map_emb_univ] at hm
    obtain ⟨x, -, rfl⟩ := Finset.mem_map.mp hm
    refine (View.write_emb_of_mem (v := (Memref.whole cc1_scratch2).access (Rect.unit (s := S1024x2048) o S512x128.size inb)) g w (Finset.mem_univ x)).trans ?_
    refine (hw x).trans ?_
    have hx0 : (x (0 : Fin 2)).val < 512 := (x (0 : Fin 2)).isLt
    have hx1 : (x (1 : Fin 2)).val < 128 := (x (1 : Fin 2)).isLt
    have e0 : (((Rect.unit (s := S1024x2048) o S512x128.size inb).emb x) (0 : Fin 2)).val = 512 * (if own then c.val / 2 else 1 - c.val / 2) + (x (0 : Fin 2)).val := by
      subst ho; show _ + 1 * (x (0 : Fin 2)).val = _; rw [Nat.one_mul]; rfl
    have e1 : (((Rect.unit (s := S1024x2048) o S512x128.size inb).emb x) (1 : Fin 2)).val = 128 * h.val + (x (1 : Fin 2)).val := by
      subst ho; show _ + 1 * (x (1 : Fin 2)).val = _; rw [Nat.one_mul]; rfl
    unfold asm
    have ed : (if (((Rect.unit (s := S1024x2048) o S512x128.size inb).emb x) (0 : Fin 2)).val / 512 = c.val / 2 then c else mate1 c) = (if own then c else mate1 c) := by
      rw [e0]; cases own
      · rw [if_neg (by simp only [Bool.false_eq_true, if_false]; omega)]; rfl
      · rw [if_pos (by simp only [if_true]; omega)]; rfl
    rw [ed]
    refine congrArg _ (funext fun a => Fin.ext ?_)
    fin_cases a
    · show h.val + 1 * 0 = (((Rect.unit (s := S1024x2048) o S512x128.size inb).emb x) (1 : Fin 2)).val / 128
      rw [e1]; omega
    · show 0 + 1 * (x (0 : Fin 2)).val = (((Rect.unit (s := S1024x2048) o S512x128.size inb).emb x) (0 : Fin 2)).val % 512
      rw [e0]; omega
    · show 0 + 1 * (x (1 : Fin 2)).val = (((Rect.unit (s := S1024x2048) o S512x128.size inb).emb x) (1 : Fin 2)).val % 128
      rw [e1]; omega
  · refine (View.write_of_not_mem (v := (Memref.whole cc1_scratch2).access (Rect.unit (s := S1024x2048) o S512x128.size inb)) g w Finset.univ (by
      rw [View.setOn_univ, View.set_slice_whole]; exact hm)).trans (hg y ?_)
    refine lt_of_le_of_ne (Nat.lt_succ_iff.mp hy) fun e => hm ?_
    refine Rect.mem_set_unit.mpr fun a => ?_
    subst ho
    unfold turn at e
    fin_cases a
    · show 512 * (if own then c.val / 2 else 1 - c.val / 2) ≤ (y (0 : Fin 2)).val ∧ (y (0 : Fin 2)).val < 512 * (if own then c.val / 2 else 1 - c.val / 2) + 512
      cases own <;> simp only [Bool.false_eq_true, if_false, if_true] at e hn ⊢ <;> split at e <;> omega
    · show 128 * h.val ≤ (y (1 : Fin 2)).val ∧ (y (1 : Fin 2)).val < 128 * h.val + 128
      cases own <;> simp only [Bool.false_eq_true, if_false, if_true] at e hn ⊢ <;> split at e <;> omega

/-- The cast of a row to a block. -/
abbrev blockOf (v : Vec F S1x512x128 .bf16) : FVec F S512x128 .bf16 :=
  shapeCast S512x128 (shapeCast S512x128 v shapeCasts_S1x512x128_S512x128) shapeCasts_S512x128_S512x128

theorem blockOf_apply (v : Vec F S1x512x128 .bf16) (x : S512x128.Idx) : blockOf v x = v (ix3 (0 : Fin 1) (x (0 : Fin 2)) (x (1 : Fin 2))) := by
  refine (shapeCast_apply (shapeCast S512x128 v shapeCasts_S1x512x128_S512x128) shapeCasts_S512x128_S512x128 x x rfl).trans ?_
  exact (congrArg (shapeCast S512x128 v shapeCasts_S1x512x128_S512x128) (eq_ix2 x)).trans (shapeCast_1ab_ab_apply v _ (x (0 : Fin 2)) (x (1 : Fin 2)))

section Stores
variable (c : Dev nD)

/-- A row of the own head outputs is loaded and stored in the assembly. -/
theorem placeA {α : Type} {Ψ : α → sProp 𝕄} (h : Fin 16) (n : ℕ) (hn : n = 2 * h.val + 0) (o : Fin 2 → ℕ) (inb : ∀ a, o a + S512x128.size a ≤ S1024x2048.size a)
    (ho : o = ![512 * (c.val / 2), 128 * h.val]) (inb' : ∀ a, (![h.val, 0, 0] : Fin 3 → ℕ) a + S1x512x128.size a ≤ S16x512x128.size a)
    (pay : Vec F S1x512x128 .bf16 → FVec F S512x128 .bf16) (hpay : pay = blockOf)
    {Mk : Finset (Rect.unit (s := S1024x2048) o S512x128.size inb).shape.Idx} (hMk : Mk = Finset.univ)
    {hl : (Memref.whole cc1_scratch0).view.LoadsAt (Rect.unit (s := S16x512x128) ![h.val, 0, 0] S1x512x128.size inb').toLoadRect}
    {hl2 : (Memref.whole cc1_scratch2).view.LoadsAt (Rect.unit (s := S1024x2048) o S512x128.size inb).toLoadRect}
    {hx : ((Memref.whole cc1_scratch2).access (Rect.unit (s := S1024x2048) o S512x128.size inb)).Stores Mk} {hm : Mk = Finset.univ ∨ ∀ a, (Rect.unit (s := S1024x2048) o S512x128.size inb).stride a = 1}
    {k : PUnit → Prog (TpuEff nD τ sig (Elt F) Λ₀ .tc) α} :
    iprop(pt c cc1_scratch0 (D.o c) ∗ Asm D c n)
      ⊢ iprop((iprop(pt c cc1_scratch0 (D.o c) ∗ Asm D c (n + 1)) -∗ wp frame (wpE (defs₀ (F := F)) 𝒱₀ (c : Thread nD τ) none) Set.univ (k ⟨⟩) Ψ)
        -∗ wp frame (wpE (defs₀ (F := F)) 𝒱₀ (c : Thread nD τ) none) Set.univ
          (.op (.load (Memref.whole cc1_scratch0) (Rect.unit (s := S16x512x128) ![h.val, 0, 0] S1x512x128.size inb').toLoadRect hl) fun v =>
            .op (.load (Memref.whole cc1_scratch2) (Rect.unit (s := S1024x2048) o S512x128.size inb).toLoadRect hl2) fun _ =>
            .op (.store (Memref.whole cc1_scratch2) (Rect.unit (s := S1024x2048) o S512x128.size inb) (pay v) Mk hx hm) k) Ψ) := by
  subst hpay; subst hMk
  unfold Asm
  iintro ⟨HB, %g, %hg, HG⟩ Hk
  iapply (wp_load_rect (defs := defs₀ (F := F)) 𝒱₀ (c : Thread nD τ) none Set.univ (m := Memref.whole cc1_scratch0) (r := Rect.unit (s := S16x512x128) ![h.val, 0, 0] S1x512x128.size inb') (hl := hl) (Q := Ψ)
    (S := Finset.univ) (q := fullShare) (f := D.o c) (Finset.subset_univ _)) $$ [HB]
  · iexact HB
  iintro HB
  iapply (wp_load_rect (defs := defs₀ (F := F)) 𝒱₀ (c : Thread nD τ) none Set.univ (m := Memref.whole cc1_scratch2) (r := Rect.unit (s := S1024x2048) o S512x128.size inb) (hl := hl2) (Q := Ψ)
    (S := Finset.univ) (q := fullShare) (f := g) (Finset.subset_univ _)) $$ [HG]
  · iexact HG
  iintro HG
  iapply (wp_store (defs := defs₀ (F := F)) 𝒱₀ (c : Thread nD τ) none Set.univ (m := Memref.whole cc1_scratch2) (r := Rect.unit (s := S1024x2048) o S512x128.size inb) (hx := hx) (hm := hm) (k := k)
    (S := Finset.univ) (f := g) (Finset.subset_univ _)) $$ [HG]
  · iexact HG
  iintro HG
  iapply Hk
  isplitl [HB]; · iexact HB
  iexists _
  isplitr
  swap
  · iexact HG
  ipureintro
  intro y hy
  exact stored D c h true o inb ho inb' _ (fun x => blockOf_apply _ x) g n hn hg y hy

/-- A row of the partner's head outputs is loaded and stored in the assembly. -/
theorem placeB {α : Type} {Ψ : α → sProp 𝕄} (h : Fin 16) (n : ℕ) (hn : n = 2 * h.val + 1) (o : Fin 2 → ℕ) (inb : ∀ a, o a + S512x128.size a ≤ S1024x2048.size a)
    (ho : o = ![512 * (1 - c.val / 2), 128 * h.val]) (inb' : ∀ a, (![h.val, 0, 0] : Fin 3 → ℕ) a + S1x512x128.size a ≤ S16x512x128.size a)
    (pay : Vec F S1x512x128 .bf16 → FVec F S512x128 .bf16) (hpay : pay = blockOf)
    {Mk : Finset (Rect.unit (s := S1024x2048) o S512x128.size inb).shape.Idx} (hMk : Mk = Finset.univ)
    {hl : (Memref.whole cc1_scratch1).view.LoadsAt (Rect.unit (s := S16x512x128) ![h.val, 0, 0] S1x512x128.size inb').toLoadRect}
    {hl2 : (Memref.whole cc1_scratch2).view.LoadsAt (Rect.unit (s := S1024x2048) o S512x128.size inb).toLoadRect}
    {hx : ((Memref.whole cc1_scratch2).access (Rect.unit (s := S1024x2048) o S512x128.size inb)).Stores Mk} {hm : Mk = Finset.univ ∨ ∀ a, (Rect.unit (s := S1024x2048) o S512x128.size inb).stride a = 1}
    {k : PUnit → Prog (TpuEff nD τ sig (Elt F) Λ₀ .tc) α} :
    iprop(pt c cc1_scratch1 (D.o (mate1 c)) ∗ Asm D c n)
      ⊢ iprop((iprop(pt c cc1_scratch1 (D.o (mate1 c)) ∗ Asm D c (n + 1)) -∗ wp frame (wpE (defs₀ (F := F)) 𝒱₀ (c : Thread nD τ) none) Set.univ (k ⟨⟩) Ψ)
        -∗ wp frame (wpE (defs₀ (F := F)) 𝒱₀ (c : Thread nD τ) none) Set.univ
          (.op (.load (Memref.whole cc1_scratch1) (Rect.unit (s := S16x512x128) ![h.val, 0, 0] S1x512x128.size inb').toLoadRect hl) fun v =>
            .op (.load (Memref.whole cc1_scratch2) (Rect.unit (s := S1024x2048) o S512x128.size inb).toLoadRect hl2) fun _ =>
            .op (.store (Memref.whole cc1_scratch2) (Rect.unit (s := S1024x2048) o S512x128.size inb) (pay v) Mk hx hm) k) Ψ) := by
  subst hpay; subst hMk
  unfold Asm
  iintro ⟨HB, %g, %hg, HG⟩ Hk
  iapply (wp_load_rect (defs := defs₀ (F := F)) 𝒱₀ (c : Thread nD τ) none Set.univ (m := Memref.whole cc1_scratch1) (r := Rect.unit (s := S16x512x128) ![h.val, 0, 0] S1x512x128.size inb') (hl := hl) (Q := Ψ)
    (S := Finset.univ) (q := fullShare) (f := D.o (mate1 c)) (Finset.subset_univ _)) $$ [HB]
  · iexact HB
  iintro HB
  iapply (wp_load_rect (defs := defs₀ (F := F)) 𝒱₀ (c : Thread nD τ) none Set.univ (m := Memref.whole cc1_scratch2) (r := Rect.unit (s := S1024x2048) o S512x128.size inb) (hl := hl2) (Q := Ψ)
    (S := Finset.univ) (q := fullShare) (f := g) (Finset.subset_univ _)) $$ [HG]
  · iexact HG
  iintro HG
  iapply (wp_store (defs := defs₀ (F := F)) 𝒱₀ (c : Thread nD τ) none Set.univ (m := Memref.whole cc1_scratch2) (r := Rect.unit (s := S1024x2048) o S512x128.size inb) (hx := hx) (hm := hm) (k := k)
    (S := Finset.univ) (f := g) (Finset.subset_univ _)) $$ [HG]
  · iexact HG
  iintro HG
  iapply Hk
  isplitl [HB]; · iexact HB
  iexists _
  isplitr
  swap
  · iexact HG
  ipureintro
  intro y hy
  exact stored D c h false o inb ho inb' _ (fun x => blockOf_apply _ x) g n hn hg y hy

/-- The whole assembly is loaded. -/
theorem readAsm {α : Type} {Ψ : α → sProp 𝕄} (f : cc1_scratch2.ty.Contents (Elt F)) (off : Fin 2 → ℕ) (inb : ∀ a, off a + S1024x2048.size a ≤ S1024x2048.size a)
    {hl : (Memref.whole cc1_scratch2).view.LoadsAt (Rect.unit (s := S1024x2048) off S1024x2048.size inb).toLoadRect}
    {k : (S1024x2048.Idx → Elt F cc1_scratch2.ty.elt) → Prog (TpuEff nD τ sig (Elt F) Λ₀ .tc) α} :
    pt c cc1_scratch2 f ⊢ iprop((pt c cc1_scratch2 f -∗ wp frame (wpE (defs₀ (F := F)) 𝒱₀ (c : Thread nD τ) none) Set.univ (k f) Ψ)
        -∗ wp frame (wpE (defs₀ (F := F)) 𝒱₀ (c : Thread nD τ) none) Set.univ (.op (.load (Memref.whole cc1_scratch2) (Rect.unit (s := S1024x2048) off S1024x2048.size inb).toLoadRect hl) k) Ψ) := by
  iintro H Hk
  have e := View.readAt_full (Val := Elt F) (Memref.whole cc1_scratch2).view f inb
  iapply (wp_load_rect (defs := defs₀ (F := F)) 𝒱₀ (c : Thread nD τ) none Set.univ (m := Memref.whole cc1_scratch2) (r := Rect.unit (s := S1024x2048) off S1024x2048.size inb) (hl := hl) (k := k) (Q := Ψ) (S := Finset.univ) (q := fullShare) (f := f)
    (Finset.subset_univ _)) $$ [H]
  · iexact H
  iintro H
  rw [show ((Memref.whole cc1_scratch2).access (Rect.unit (s := S1024x2048) off S1024x2048.size inb)).read (Elt F) f = f from e]
  iapply Hk
  iexact H
/-- The whole local copy is loaded. -/
theorem readWo {α : Type} {Ψ : α → sProp 𝕄} (f : cc1_scratch3.ty.Contents (Elt F)) (off : Fin 2 → ℕ) (inb : ∀ a, off a + S2048x2048.size a ≤ S2048x2048.size a)
    {hl : (Memref.whole cc1_scratch3).view.LoadsAt (Rect.unit (s := S2048x2048) off S2048x2048.size inb).toLoadRect}
    {k : (S2048x2048.Idx → Elt F cc1_scratch3.ty.elt) → Prog (TpuEff nD τ sig (Elt F) Λ₀ .tc) α} :
    pt c cc1_scratch3 f ⊢ iprop((pt c cc1_scratch3 f -∗ wp frame (wpE (defs₀ (F := F)) 𝒱₀ (c : Thread nD τ) none) Set.univ (k f) Ψ)
        -∗ wp frame (wpE (defs₀ (F := F)) 𝒱₀ (c : Thread nD τ) none) Set.univ (.op (.load (Memref.whole cc1_scratch3) (Rect.unit (s := S2048x2048) off S2048x2048.size inb).toLoadRect hl) k) Ψ) := by
  iintro H Hk
  have e := View.readAt_full (Val := Elt F) (Memref.whole cc1_scratch3).view f inb
  iapply (wp_load_rect (defs := defs₀ (F := F)) 𝒱₀ (c : Thread nD τ) none Set.univ (m := Memref.whole cc1_scratch3) (r := Rect.unit (s := S2048x2048) off S2048x2048.size inb) (hl := hl) (k := k) (Q := Ψ) (S := Finset.univ) (q := fullShare) (f := f)
    (Finset.subset_univ _)) $$ [H]
  · iexact H
  iintro H
  rw [show ((Memref.whole cc1_scratch3).access (Rect.unit (s := S2048x2048) off S2048x2048.size inb)).read (Elt F) f = f from e]
  iapply Hk
  iexact H
end Stores

end Cert.KernelIdeal.Run1

end
-- ==== Proof.AttnLast.lean ====
/- The last grid point of the attention call: after its head's exchange it waits for every transfer, assembles both
   devices' head outputs, and stores their product with the output projection. -/
module

public import proofs.«01_k».proof.Proof.AttnGather
@[expose] public section

noncomputable section

namespace Cert.KernelIdeal.Run1

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert bigSep_fupd)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen
open Cert.KernelIdeal.Run (UU EP L lv lvl Above L_of_ne L_tc mayWait)

variable {F : FTy → Type} [FloatOps F] [Named F]

local notation "𝕄" => MT nD τ sig Unit (Elt F) ℕ UU ℕ

variable (D : Mail F)

/-! ## Where the thirty-two stores go -/

theorem goes0 : ∀ c : Dev nD, k1_off4 c = ![512 * (c.val / 2), 128 * 0] := by decide
theorem goes1 : ∀ c : Dev nD, k1_off5 c = ![512 * (1 - c.val / 2), 128 * 0] := by decide
theorem goes2 : ∀ c : Dev nD, k1_off6 c = ![512 * (c.val / 2), 128 * 1] := by decide
theorem goes3 : ∀ c : Dev nD, k1_off7 c = ![512 * (1 - c.val / 2), 128 * 1] := by decide
theorem goes4 : ∀ c : Dev nD, k1_off8 c = ![512 * (c.val / 2), 128 * 2] := by decide
theorem goes5 : ∀ c : Dev nD, k1_off9 c = ![512 * (1 - c.val / 2), 128 * 2] := by decide
theorem goes6 : ∀ c : Dev nD, k1_off10 c = ![512 * (c.val / 2), 128 * 3] := by decide
theorem goes7 : ∀ c : Dev nD, k1_off11 c = ![512 * (1 - c.val / 2), 128 * 3] := by decide
theorem goes8 : ∀ c : Dev nD, k1_off12 c = ![512 * (c.val / 2), 128 * 4] := by decide
theorem goes9 : ∀ c : Dev nD, k1_off13 c = ![512 * (1 - c.val / 2), 128 * 4] := by decide
theorem goes10 : ∀ c : Dev nD, k1_off14 c = ![512 * (c.val / 2), 128 * 5] := by decide
theorem goes11 : ∀ c : Dev nD, k1_off15 c = ![512 * (1 - c.val / 2), 128 * 5] := by decide
theorem goes12 : ∀ c : Dev nD, k1_off16 c = ![512 * (c.val / 2), 128 * 6] := by decide
theorem goes13 : ∀ c : Dev nD, k1_off17 c = ![512 * (1 - c.val / 2), 128 * 6] := by decide
theorem goes14 : ∀ c : Dev nD, k1_off18 c = ![512 * (c.val / 2), 128 * 7] := by decide
theorem goes15 : ∀ c : Dev nD, k1_off19 c = ![512 * (1 - c.val / 2), 128 * 7] := by decide
theorem goes16 : ∀ c : Dev nD, k1_off20 c = ![512 * (c.val / 2), 128 * 8] := by decide
theorem goes17 : ∀ c : Dev nD, k1_off21 c = ![512 * (1 - c.val / 2), 128 * 8] := by decide
theorem goes18 : ∀ c : Dev nD, k1_off22 c = ![512 * (c.val / 2), 128 * 9] := by decide
theorem goes19 : ∀ c : Dev nD, k1_off23 c = ![512 * (1 - c.val / 2), 128 * 9] := by decide
theorem goes20 : ∀ c : Dev nD, k1_off24 c = ![512 * (c.val / 2), 128 * 10] := by decide
theorem goes21 : ∀ c : Dev nD, k1_off25 c = ![512 * (1 - c.val / 2), 128 * 10] := by decide
theorem goes22 : ∀ c : Dev nD, k1_off26 c = ![512 * (c.val / 2), 128 * 11] := by decide
theorem goes23 : ∀ c : Dev nD, k1_off27 c = ![512 * (1 - c.val / 2), 128 * 11] := by decide
theorem goes24 : ∀ c : Dev nD, k1_off28 c = ![512 * (c.val / 2), 128 * 12] := by decide
theorem goes25 : ∀ c : Dev nD, k1_off29 c = ![512 * (1 - c.val / 2), 128 * 12] := by decide
theorem goes26 : ∀ c : Dev nD, k1_off30 c = ![512 * (c.val / 2), 128 * 13] := by decide
theorem goes27 : ∀ c : Dev nD, k1_off31 c = ![512 * (1 - c.val / 2), 128 * 13] := by decide
theorem goes28 : ∀ c : Dev nD, k1_off32 c = ![512 * (c.val / 2), 128 * 14] := by decide
theorem goes29 : ∀ c : Dev nD, k1_off33 c = ![512 * (1 - c.val / 2), 128 * 14] := by decide
theorem goes30 : ∀ c : Dev nD, k1_off34 c = ![512 * (c.val / 2), 128 * 15] := by decide
theorem goes31 : ∀ c : Dev nD, k1_off35 c = ![512 * (1 - c.val / 2), 128 * 15] := by decide

/-- A record that persists is had for every head. -/
theorem forHeads {Φ Ψ : Fin 16 → sProp 𝕄} {R : sProp 𝕄} [BI.Persistent R]
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem closeOuts (K : GSem nD τ sig → ℕ) (c : Dev nD) :
    iprop(records D K c ∗ bigSep Finset.univ fun i : Fin 16 => atPos ER (outC0 c i) 1 ∅ 0) ⊢ (|={Set.univ}=> bigSep Finset.univ fun i : Fin 16 => semVal (outC0 c i) 0 : sProp 𝕄) :=
  (forHeads fun i => (sep_mono_left (inv_out D K c i)).trans (exClose D (K (outC0 c i)) (outC0 c i))).trans (bigSep_fupd _ _)
theorem closeIns (K : GSem nD τ sig → ℕ) (c : Dev nD) :
    iprop(records D K c ∗ bigSep Finset.univ fun i : Fin 16 => atPos ER (inC0 c i) 1 ∅ 0) ⊢ (|={Set.univ}=> bigSep Finset.univ fun i : Fin 16 => semVal (inC0 c i) 0 : sProp 𝕄) :=
  (forHeads fun i => (sep_mono_left (inv_in D K c c i)).trans (exClose D (K (inC0 c i)) (inC0 c i))).trans (bigSep_fupd _ _)

/-- What a device holds after its last point: its counters at zero, the output projection and the buffers. -/
def Done (c : Dev nD) : sProp 𝕄 :=
  iprop(semVal (barC0 c) 0 ∗ semVal (woC c) 0 ∗ (bigSep Finset.univ fun i : Fin 16 => semVal (outC0 c i) 0) ∗ (bigSep Finset.univ fun i : Fin 16 => semVal (inC0 c i) 0)
    ∗ pt c main_arg7 (D.wo c) ∗ scratches c)

/-- The call's result on a device. -/
def outFin (c : Dev nD) : FVec F S1x1024x2048 .bf16 := k1_pay3 (asm D c) (D.wo c)

/-- What is left to hold after the last head's exchange. -/
theorem mid_last (K : GSem nD τ sig → ℕ) (c : Dev nD) : Mid D K c 16 ⊢
    iprop(records D K c ∗ levAts L lv ∗ semVal (barC0 c) 0
    ∗ (bigSep Finset.univ fun i : Fin 16 => atPos ER (outC0 c i) 0 ∅ 0) ∗ (bigSep Finset.univ fun i : Fin 16 => atPos ER (inC0 c i) 0 ∅ 0) ∗ atPos ER (woC c) 0 ∅ 0
    ∗ (bigSep Finset.univ fun i : Fin 16 => cred (tallyAt (inC0 c i) () N1)) ∗ cred (tallyAt (woC c) () N2)
    ∗ (bigSep Finset.univ fun i : Fin 16 => cred (tallyAt (outC0 c i) () N1)) ∗ (∃ g, pt (F := F) c cc1_scratch2 g)) := by
  unfold Mid
  rw [headsTo_end]
  iintro ⟨HR, Hl, Hb, H1, H2, H3, H4, H5, -, H6, -, -, H7⟩
  isplitl [HR]; · iexact HR
  isplitl [Hl]; · iexact Hl
  isplitl [Hb]; · iexact Hb
  isplitl [H1]; · iexact H1
  isplitl [H2]; · iexact H2
  isplitl [H3]; · iexact H3
  isplitl [H4]; · iexact H4
  isplitl [H5]; · iexact H5
  isplitl [H6]; · iexact H6
  iexact H7

/-- The counters are taken back and the program ends. -/
theorem finish (K : GSem nD τ sig → ℕ) (c : Dev nD) (I O : sProp 𝕄) {Wt : Waits sig Unit} :
    iprop(records D K c ∗ (bigSep Finset.univ fun i : Fin 16 => atPos ER (outC0 c i) 1 ∅ 0) ∗ (bigSep Finset.univ fun i : Fin 16 => atPos ER (inC0 c i) 1 ∅ 0)
      ∗ atPos ER (woC c) 1 ∅ 0 ∗ semVal (barC0 c) 0
      ∗ (∃ g, pt (F := F) c cc1_scratch0 g) ∗ (∃ g, pt (F := F) c cc1_scratch1 g) ∗ (∃ g, pt (F := F) c cc1_scratch2 g) ∗ (∃ g, pt (F := F) c cc1_scratch3 g)
      ∗ pt c main_arg7 (D.wo c) ∗ I ∗ O ∗ owes (c : Thread nD τ) 0 Wt)
    ⊢ wp frame (wpE (defs₀ (F := F)) 𝒱₀ (c : Thread nD τ) none) Set.univ (.ret ⟨⟩ : Prog (TpuEff nD τ sig (Elt F) Λ₀ .tc) PUnit)
        (fun _ => iprop(I ∗ Done D c ∗ O ∗ ∃ W', owes (c : Thread nD τ) 0 W')) := by
  iintro ⟨#HR, Hpo, Hpi, Hpw, Hbar, HA, HB, HG, H3, H5, HI, HX, HO⟩
  imod ((closeOuts D K c)) $$ [Hpo] with Hpo
  · isplitr; · iexact HR
    iexact Hpo
  imod ((closeIns D K c)) $$ [Hpi] with Hpi
  · isplitr; · iexact HR
    iexact Hpi
  imod ((exClose D (K (woC c)) (woC c))) $$ [Hpw] with Hpw
  · isplitr; · iapply (inv_wo D K c); iexact HR
    iexact Hpw
  iapply (wpRet c)
  isplitl [HI]; · iexact HI
  isplitr [HX HO]
  · unfold Done scratches
    isplitl [Hbar]; · iexact Hbar
    isplitl [Hpw]; · iexact Hpw
    isplitl [Hpo]; · iexact Hpo
    isplitl [Hpi]; · iexact Hpi
    isplitl [H5]; · iexact H5
    isplitl [HA]; · iexact HA
    isplitl [HB]; · iexact HB
    isplitl [HG]; · iexact HG
    iexact H3
  isplitl [HX]; · iexact HX
  iexists _; iexact HO

section Last
variable (K : GSem nD τ sig → ℕ) (c : Dev nD) (i : grid1.Coords)
  (a1 : Memref sig .tc .vmem S512x128 .bf16) (h1 : a1.IsWhole) (a2 : Memref sig .tc .vmem S1024x128 .bf16) (h2 : a2.IsWhole)
  (a3 : Memref sig .tc .vmem S1024x128 .bf16) (h3 : a3.IsWhole) (a4 : Memref sig .tc .vmem S1x512x32 .bf16) (h4 : a4.IsWhole)
  (a5 : Memref sig .tc .vmem S1024x32 .bf16) (h5 : a5.IsWhole) (a7 : Memref sig .tc .vmem S1x1024x2048 .bf16) (h7 : a7.IsWhole)

/-- The last point, from what its first part leaves. -/
theorem point_last (hi : At i 15) (hc2 : k1_cond2 i = 1#1) (B : Blocks F) (hB : Fits D c 15 B) (X : FVec F S1x1024x2048 .bf16) (P : sProp 𝕄)
    (hP : P ⊢ wp frame (wpE (defs₀ (F := F)) 𝒱₀ (c : Thread nD τ) none) Set.univ (frontProg i a1 h1 a2 h2 a3 h3 a4 h4 a5 h5 a7 h7)
          (fun r => iprop(⌜Got c B r⌝ ∗ Ins c a1 a2 a3 a4 a5 B ∗ Mid D K c 15 ∗ (∃ W', owes (c : Thread nD τ) (Orem c 15) W') ∗ owns (c : Thread nD τ) a7 fullShare X))) :
    P ⊢ wp frame (wpE (defs₀ (F := F)) 𝒱₀ (c : Thread nD τ) none) Set.univ (attnProg i a1 h1 a2 h2 a3 h3 a4 h4 a5 h5 a7 h7)
          (fun _ => iprop(Ins c a1 a2 a3 a4 a5 B ∗ Done D c ∗ owns (c : Thread nD τ) a7 fullShare (outFin D c) ∗ ∃ W', owes (c : Thread nD τ) 0 W')) := by
  unfold attnProg cc1__attn_body_skel
  rw [wp_bind, k1_part17_eq_skeleton]
  refine hP.trans (wp_mono _ _ _ fun r => ?_)
  obtain ⟨arg0, d0, v2, v5, v6, v30⟩ := r
  iintro ⟨%hr, HIn, HM, ⟨%W, HO⟩, HX⟩
  obtain ⟨rfl, hv⟩ := hr
  obtain rfl : v30 = B.out := hv
  have hw : ∀ x : S1x512x128.Idx, k1_pay1 B.out x = D.o d0 ((Rect.unit (s := S16x512x128) (k1_off1 i) S1x512x128.size (Facts₀.k1_off1_inb i)).emb x) := fun x =>
    (hB x).trans (congrArg (D.o d0) (funext fun a => Fin.ext (by rw [Rect.emb_apply, Rect.emb_apply]; simp only [hi.o1])))
  iapply (midStep D K d0 15 W (k1_off1 i) (k1_off3 i) (Facts₀.k1_off1_inb i) (Facts₀.k1_off3_inb i) hi.o1 hi.o3 (k1_pay1 B.out) hw (dev2_eq d0 _)
    (congrArg SemLoc.dma hi.sS) (congrArg SemLoc.dma hi.sR) rfl) $$ [HM HO]
  · isplitl [HM]; · iexact HM
    iexact HO
  iintro ⟨HM, HO⟩
  rw [show ((15 : Fin 16).val + 1) = 16 from rfl, Orem_end]
  ihave HM := (mid_last D K d0) $$ [HM]
  · iexact HM
  simp only [dif_pos hc2]
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  icases HM with ⟨#HR, #Hlev, Hbar, Hpo, Hpi, Hpw, Hci, Hcw, Hco, %g2, Hg2⟩
  ihave HWt := (waited_start D d0 W) $$ [HO Hpo Hpi Hci Hco]
  · isplitl [HO]; · iexact HO
    isplitl [Hpo]; · iexact Hpo
    isplitl [Hpi]; · iexact Hpi
    isplitl [Hci]; · iexact Hci
    iexact Hco
  iapply (stepOut D K d0 (0 : Fin 16) 0 rfl (N1_eqA _ _)) $$ [HWt]
  · isplitr; · iexact HR
    isplitr; · iexact Hlev
    iexact HWt
  iintro HWt
  iapply (stepIn D K d0 1 (0 : Fin 16) rfl (N1_eqB _ _)) $$ [HWt]
  · isplitr; · iexact HR
    isplitr; · iexact Hlev
    iexact HWt
  iintro HWt
  iapply (stepOut D K d0 (1 : Fin 16) 1 rfl (N1_eqA _ _)) $$ [HWt]
  · isplitr; · iexact HR
    isplitr; · iexact Hlev
    iexact HWt
  iintro HWt
  iapply (stepIn D K d0 2 (1 : Fin 16) rfl (N1_eqB _ _)) $$ [HWt]
  · isplitr; · iexact HR
    isplitr; · iexact Hlev
    iexact HWt
  iintro HWt
  iapply (stepOut D K d0 (2 : Fin 16) 2 rfl (N1_eqA _ _)) $$ [HWt]
  · isplitr; · iexact HR
    isplitr; · iexact Hlev
    iexact HWt
  iintro HWt
  iapply (stepIn D K d0 3 (2 : Fin 16) rfl (N1_eqB _ _)) $$ [HWt]
  · isplitr; · iexact HR
    isplitr; · iexact Hlev
    iexact HWt
  iintro HWt
  iapply (stepOut D K d0 (3 : Fin 16) 3 rfl (N1_eqA _ _)) $$ [HWt]
  · isplitr; · iexact HR
    isplitr; · iexact Hlev
    iexact HWt
  iintro HWt
  iapply (stepIn D K d0 4 (3 : Fin 16) rfl (N1_eqB _ _)) $$ [HWt]
  · isplitr; · iexact HR
    isplitr; · iexact Hlev
    iexact HWt
  iintro HWt
  iapply (stepOut D K d0 (4 : Fin 16) 4 rfl (N1_eqA _ _)) $$ [HWt]
  · isplitr; · iexact HR
    isplitr; · iexact Hlev
    iexact HWt
  iintro HWt
  iapply (stepIn D K d0 5 (4 : Fin 16) rfl (N1_eqB _ _)) $$ [HWt]
  · isplitr; · iexact HR
    isplitr; · iexact Hlev
    iexact HWt
  iintro HWt
  iapply (stepOut D K d0 (5 : Fin 16) 5 rfl (N1_eqA _ _)) $$ [HWt]
  · isplitr; · iexact HR
    isplitr; · iexact Hlev
    iexact HWt
  iintro HWt
  iapply (stepIn D K d0 6 (5 : Fin 16) rfl (N1_eqB _ _)) $$ [HWt]
  · isplitr; · iexact HR
    isplitr; · iexact Hlev
    iexact HWt
  iintro HWt
  iapply (stepOut D K d0 (6 : Fin 16) 6 rfl (N1_eqA _ _)) $$ [HWt]
  · isplitr; · iexact HR
    isplitr; · iexact Hlev
    iexact HWt
  iintro HWt
  iapply (stepIn D K d0 7 (6 : Fin 16) rfl (N1_eqB _ _)) $$ [HWt]
  · isplitr; · iexact HR
    isplitr; · iexact Hlev
    iexact HWt
  iintro HWt
  iapply (stepOut D K d0 (7 : Fin 16) 7 rfl (N1_eqA _ _)) $$ [HWt]
  · isplitr; · iexact HR
    isplitr; · iexact Hlev
    iexact HWt
  iintro HWt
  iapply (stepIn D K d0 8 (7 : Fin 16) rfl (N1_eqB _ _)) $$ [HWt]
  · isplitr; · iexact HR
    isplitr; · iexact Hlev
    iexact HWt
  iintro HWt
  iapply (stepOut D K d0 (8 : Fin 16) 8 rfl (N1_eqA _ _)) $$ [HWt]
  · isplitr; · iexact HR
    isplitr; · iexact Hlev
    iexact HWt
  iintro HWt
  iapply (stepIn D K d0 9 (8 : Fin 16) rfl (N1_eqB _ _)) $$ [HWt]
  · isplitr; · iexact HR
    isplitr; · iexact Hlev
    iexact HWt
  iintro HWt
  iapply (stepOut D K d0 (9 : Fin 16) 9 rfl (N1_eqA _ _)) $$ [HWt]
  · isplitr; · iexact HR
    isplitr; · iexact Hlev
    iexact HWt
  iintro HWt
  iapply (stepIn D K d0 10 (9 : Fin 16) rfl (N1_eqB _ _)) $$ [HWt]
  · isplitr; · iexact HR
    isplitr; · iexact Hlev
    iexact HWt
  iintro HWt
  iapply (stepOut D K d0 (10 : Fin 16) 10 rfl (N1_eqA _ _)) $$ [HWt]
  · isplitr; · iexact HR
    isplitr; · iexact Hlev
    iexact HWt
  iintro HWt
  iapply (stepIn D K d0 11 (10 : Fin 16) rfl (N1_eqB _ _)) $$ [HWt]
  · isplitr; · iexact HR
    isplitr; · iexact Hlev
    iexact HWt
  iintro HWt
  iapply (stepOut D K d0 (11 : Fin 16) 11 rfl (N1_eqA _ _)) $$ [HWt]
  · isplitr; · iexact HR
    isplitr; · iexact Hlev
    iexact HWt
  iintro HWt
  iapply (stepIn D K d0 12 (11 : Fin 16) rfl (N1_eqB _ _)) $$ [HWt]
  · isplitr; · iexact HR
    isplitr; · iexact Hlev
    iexact HWt
  iintro HWt
  iapply (stepOut D K d0 (12 : Fin 16) 12 rfl (N1_eqA _ _)) $$ [HWt]
  · isplitr; · iexact HR
    isplitr; · iexact Hlev
    iexact HWt
  iintro HWt
  iapply (stepIn D K d0 13 (12 : Fin 16) rfl (N1_eqB _ _)) $$ [HWt]
  · isplitr; · iexact HR
    isplitr; · iexact Hlev
    iexact HWt
  iintro HWt
  iapply (stepOut D K d0 (13 : Fin 16) 13 rfl (N1_eqA _ _)) $$ [HWt]
  · isplitr; · iexact HR
    isplitr; · iexact Hlev
    iexact HWt
  iintro HWt
  iapply (stepIn D K d0 14 (13 : Fin 16) rfl (N1_eqB _ _)) $$ [HWt]
  · isplitr; · iexact HR
    isplitr; · iexact Hlev
    iexact HWt
  iintro HWt
  iapply (stepOut D K d0 (14 : Fin 16) 14 rfl (N1_eqA _ _)) $$ [HWt]
  · isplitr; · iexact HR
    isplitr; · iexact Hlev
    iexact HWt
  iintro HWt
  iapply (stepIn D K d0 15 (14 : Fin 16) rfl (N1_eqB _ _)) $$ [HWt]
  · isplitr; · iexact HR
    isplitr; · iexact Hlev
    iexact HWt
  iintro HWt
  iapply (stepOut D K d0 (15 : Fin 16) 15 rfl (N1_eqA _ _)) $$ [HWt]
  · isplitr; · iexact HR
    isplitr; · iexact Hlev
    iexact HWt
  iintro HWt
  iapply (stepIn D K d0 16 (15 : Fin 16) rfl (N1_eqB _ _)) $$ [HWt]
  · isplitr; · iexact HR
    isplitr; · iexact Hlev
    iexact HWt
  iintro HWt
  ihave HWe := (waited_end D d0) $$ [HWt]
  · iexact HWt
  icases HWe with ⟨⟨%W1, HO⟩, Hpo, Hpi, HA, HB⟩
  ihave HG := (asm_start D d0 g2) $$ [Hg2]
  · iexact Hg2
  iapply (placeA D d0 (0 : Fin 16) 0 rfl (k1_off4 d0) (Facts₀.k1_off4_inb i d0 hc2) (goes0 d0) Facts₀.inb_S16x512x128_S1x512x128_0_0_0 k1_pay4 rfl rfl) $$ [HA HG]
  · isplitl [HA]; · iexact HA
    iexact HG
  iintro ⟨HA, HG⟩
  iapply (placeB D d0 (0 : Fin 16) 1 rfl (k1_off5 d0) (Facts₀.k1_off5_inb i d0 hc2) (goes1 d0) Facts₀.inb_S16x512x128_S1x512x128_0_0_0 k1_pay5 rfl rfl) $$ [HB HG]
  · isplitl [HB]; · iexact HB
    iexact HG
  iintro ⟨HB, HG⟩
  iapply (placeA D d0 (1 : Fin 16) 2 rfl (k1_off6 d0) (Facts₀.k1_off6_inb i d0 hc2) (goes2 d0) Facts₀.inb_S16x512x128_S1x512x128_1_0_0 k1_pay6 rfl rfl) $$ [HA HG]
  · isplitl [HA]; · iexact HA
    iexact HG
  iintro ⟨HA, HG⟩
  iapply (placeB D d0 (1 : Fin 16) 3 rfl (k1_off7 d0) (Facts₀.k1_off7_inb i d0 hc2) (goes3 d0) Facts₀.inb_S16x512x128_S1x512x128_1_0_0 k1_pay7 rfl rfl) $$ [HB HG]
  · isplitl [HB]; · iexact HB
    iexact HG
  iintro ⟨HB, HG⟩
  iapply (placeA D d0 (2 : Fin 16) 4 rfl (k1_off8 d0) (Facts₀.k1_off8_inb i d0 hc2) (goes4 d0) Facts₀.inb_S16x512x128_S1x512x128_2_0_0 k1_pay8 rfl rfl) $$ [HA HG]
  · isplitl [HA]; · iexact HA
    iexact HG
  iintro ⟨HA, HG⟩
  iapply (placeB D d0 (2 : Fin 16) 5 rfl (k1_off9 d0) (Facts₀.k1_off9_inb i d0 hc2) (goes5 d0) Facts₀.inb_S16x512x128_S1x512x128_2_0_0 k1_pay9 rfl rfl) $$ [HB HG]
  · isplitl [HB]; · iexact HB
    iexact HG
  iintro ⟨HB, HG⟩
  iapply (placeA D d0 (3 : Fin 16) 6 rfl (k1_off10 d0) (Facts₀.k1_off10_inb i d0 hc2) (goes6 d0) Facts₀.inb_S16x512x128_S1x512x128_3_0_0 k1_pay10 rfl rfl) $$ [HA HG]
  · isplitl [HA]; · iexact HA
    iexact HG
  iintro ⟨HA, HG⟩
  iapply (placeB D d0 (3 : Fin 16) 7 rfl (k1_off11 d0) (Facts₀.k1_off11_inb i d0 hc2) (goes7 d0) Facts₀.inb_S16x512x128_S1x512x128_3_0_0 k1_pay11 rfl rfl) $$ [HB HG]
  · isplitl [HB]; · iexact HB
    iexact HG
  iintro ⟨HB, HG⟩
  iapply (placeA D d0 (4 : Fin 16) 8 rfl (k1_off12 d0) (Facts₀.k1_off12_inb i d0 hc2) (goes8 d0) Facts₀.inb_S16x512x128_S1x512x128_4_0_0 k1_pay12 rfl rfl) $$ [HA HG]
  · isplitl [HA]; · iexact HA
    iexact HG
  iintro ⟨HA, HG⟩
  iapply (placeB D d0 (4 : Fin 16) 9 rfl (k1_off13 d0) (Facts₀.k1_off13_inb i d0 hc2) (goes9 d0) Facts₀.inb_S16x512x128_S1x512x128_4_0_0 (fun v => k1_pay14 (k1_pay13 v)) rfl rfl) $$ [HB HG]
  · isplitl [HB]; · iexact HB
    iexact HG
  iintro ⟨HB, HG⟩
  iapply (placeA D d0 (5 : Fin 16) 10 rfl (k1_off14 d0) (Facts₀.k1_off14_inb i d0 hc2) (goes10 d0) Facts₀.inb_S16x512x128_S1x512x128_5_0_0 k1_pay15 rfl rfl) $$ [HA HG]
  · isplitl [HA]; · iexact HA
    iexact HG
  iintro ⟨HA, HG⟩
  iapply (placeB D d0 (5 : Fin 16) 11 rfl (k1_off15 d0) (Facts₀.k1_off15_inb i d0 hc2) (goes11 d0) Facts₀.inb_S16x512x128_S1x512x128_5_0_0 k1_pay16 rfl rfl) $$ [HB HG]
  · isplitl [HB]; · iexact HB
    iexact HG
  iintro ⟨HB, HG⟩
  iapply (placeA D d0 (6 : Fin 16) 12 rfl (k1_off16 d0) (Facts₀.k1_off16_inb i d0 hc2) (goes12 d0) Facts₀.inb_S16x512x128_S1x512x128_6_0_0 k1_pay17 rfl rfl) $$ [HA HG]
  · isplitl [HA]; · iexact HA
    iexact HG
  iintro ⟨HA, HG⟩
  iapply (placeB D d0 (6 : Fin 16) 13 rfl (k1_off17 d0) (Facts₀.k1_off17_inb i d0 hc2) (goes13 d0) Facts₀.inb_S16x512x128_S1x512x128_6_0_0 k1_pay18 rfl rfl) $$ [HB HG]
  · isplitl [HB]; · iexact HB
    iexact HG
  iintro ⟨HB, HG⟩
  iapply (placeA D d0 (7 : Fin 16) 14 rfl (k1_off18 d0) (Facts₀.k1_off18_inb i d0 hc2) (goes14 d0) Facts₀.inb_S16x512x128_S1x512x128_7_0_0 k1_pay19 rfl rfl) $$ [HA HG]
  · isplitl [HA]; · iexact HA
    iexact HG
  iintro ⟨HA, HG⟩
  iapply (placeB D d0 (7 : Fin 16) 15 rfl (k1_off19 d0) (Facts₀.k1_off19_inb i d0 hc2) (goes15 d0) Facts₀.inb_S16x512x128_S1x512x128_7_0_0 k1_pay20 rfl rfl) $$ [HB HG]
  · isplitl [HB]; · iexact HB
    iexact HG
  iintro ⟨HB, HG⟩
  iapply (placeA D d0 (8 : Fin 16) 16 rfl (k1_off20 d0) (Facts₀.k1_off20_inb i d0 hc2) (goes16 d0) Facts₀.inb_S16x512x128_S1x512x128_8_0_0 k1_pay21 rfl rfl) $$ [HA HG]
  · isplitl [HA]; · iexact HA
    iexact HG
  iintro ⟨HA, HG⟩
  iapply (placeB D d0 (8 : Fin 16) 17 rfl (k1_off21 d0) (Facts₀.k1_off21_inb i d0 hc2) (goes17 d0) Facts₀.inb_S16x512x128_S1x512x128_8_0_0 k1_pay22 rfl rfl) $$ [HB HG]
  · isplitl [HB]; · iexact HB
    iexact HG
  iintro ⟨HB, HG⟩
  iapply (placeA D d0 (9 : Fin 16) 18 rfl (k1_off22 d0) (Facts₀.k1_off22_inb i d0 hc2) (goes18 d0) Facts₀.inb_S16x512x128_S1x512x128_9_0_0 k1_pay23 rfl rfl) $$ [HA HG]
  · isplitl [HA]; · iexact HA
    iexact HG
  iintro ⟨HA, HG⟩
  iapply (placeB D d0 (9 : Fin 16) 19 rfl (k1_off23 d0) (Facts₀.k1_off23_inb i d0 hc2) (goes19 d0) Facts₀.inb_S16x512x128_S1x512x128_9_0_0 k1_pay24 rfl rfl) $$ [HB HG]
  · isplitl [HB]; · iexact HB
    iexact HG
  iintro ⟨HB, HG⟩
  iapply (placeA D d0 (10 : Fin 16) 20 rfl (k1_off24 d0) (Facts₀.k1_off24_inb i d0 hc2) (goes20 d0) Facts₀.inb_S16x512x128_S1x512x128_10_0_0 (fun v => k1_pay26 (k1_pay25 v)) rfl rfl) $$ [HA HG]
  · isplitl [HA]; · iexact HA
    iexact HG
  iintro ⟨HA, HG⟩
  iapply (placeB D d0 (10 : Fin 16) 21 rfl (k1_off25 d0) (Facts₀.k1_off25_inb i d0 hc2) (goes21 d0) Facts₀.inb_S16x512x128_S1x512x128_10_0_0 k1_pay27 rfl rfl) $$ [HB HG]
  · isplitl [HB]; · iexact HB
    iexact HG
  iintro ⟨HB, HG⟩
  iapply (placeA D d0 (11 : Fin 16) 22 rfl (k1_off26 d0) (Facts₀.k1_off26_inb i d0 hc2) (goes22 d0) Facts₀.inb_S16x512x128_S1x512x128_11_0_0 k1_pay28 rfl rfl) $$ [HA HG]
  · isplitl [HA]; · iexact HA
    iexact HG
  iintro ⟨HA, HG⟩
  iapply (placeB D d0 (11 : Fin 16) 23 rfl (k1_off27 d0) (Facts₀.k1_off27_inb i d0 hc2) (goes23 d0) Facts₀.inb_S16x512x128_S1x512x128_11_0_0 k1_pay29 rfl rfl) $$ [HB HG]
  · isplitl [HB]; · iexact HB
    iexact HG
  iintro ⟨HB, HG⟩
  iapply (placeA D d0 (12 : Fin 16) 24 rfl (k1_off28 d0) (Facts₀.k1_off28_inb i d0 hc2) (goes24 d0) Facts₀.inb_S16x512x128_S1x512x128_12_0_0 k1_pay30 rfl rfl) $$ [HA HG]
  · isplitl [HA]; · iexact HA
    iexact HG
  iintro ⟨HA, HG⟩
  iapply (placeB D d0 (12 : Fin 16) 25 rfl (k1_off29 d0) (Facts₀.k1_off29_inb i d0 hc2) (goes25 d0) Facts₀.inb_S16x512x128_S1x512x128_12_0_0 k1_pay31 rfl rfl) $$ [HB HG]
  · isplitl [HB]; · iexact HB
    iexact HG
  iintro ⟨HB, HG⟩
  iapply (placeA D d0 (13 : Fin 16) 26 rfl (k1_off30 d0) (Facts₀.k1_off30_inb i d0 hc2) (goes26 d0) Facts₀.inb_S16x512x128_S1x512x128_13_0_0 k1_pay32 rfl rfl) $$ [HA HG]
  · isplitl [HA]; · iexact HA
    iexact HG
  iintro ⟨HA, HG⟩
  iapply (placeB D d0 (13 : Fin 16) 27 rfl (k1_off31 d0) (Facts₀.k1_off31_inb i d0 hc2) (goes27 d0) Facts₀.inb_S16x512x128_S1x512x128_13_0_0 k1_pay33 rfl rfl) $$ [HB HG]
  · isplitl [HB]; · iexact HB
    iexact HG
  iintro ⟨HB, HG⟩
  iapply (placeA D d0 (14 : Fin 16) 28 rfl (k1_off32 d0) (Facts₀.k1_off32_inb i d0 hc2) (goes28 d0) Facts₀.inb_S16x512x128_S1x512x128_14_0_0 k1_pay34 rfl rfl) $$ [HA HG]
  · isplitl [HA]; · iexact HA
    iexact HG
  iintro ⟨HA, HG⟩
  iapply (placeB D d0 (14 : Fin 16) 29 rfl (k1_off33 d0) (Facts₀.k1_off33_inb i d0 hc2) (goes29 d0) Facts₀.inb_S16x512x128_S1x512x128_14_0_0 k1_pay35 rfl rfl) $$ [HB HG]
  · isplitl [HB]; · iexact HB
    iexact HG
  iintro ⟨HB, HG⟩
  iapply (placeA D d0 (15 : Fin 16) 30 rfl (k1_off34 d0) (Facts₀.k1_off34_inb i d0 hc2) (goes30 d0) Facts₀.inb_S16x512x128_S1x512x128_15_0_0 k1_pay36 rfl rfl) $$ [HA HG]
  · isplitl [HA]; · iexact HA
    iexact HG
  iintro ⟨HA, HG⟩
  iapply (placeB D d0 (15 : Fin 16) 31 rfl (k1_off35 d0) (Facts₀.k1_off35_inb i d0 hc2) (goes31 d0) Facts₀.inb_S16x512x128_S1x512x128_15_0_0 (fun v => k1_pay2 (k1_pay37 v)) rfl rfl) $$ [HB HG]
  · isplitl [HB]; · iexact HB
    iexact HG
  iintro ⟨HB, HG⟩
  ihave HG2 := (asm_end D d0) $$ [HG]
  · iexact HG
  iapply (exWaitDma D (κ := .wo) (K (woC d0)) d0 woS cl_wo (by intro e; cases e) N2 rfl rfl N2_eq 0 W1 (Above.zero _)) $$ [HO Hpw Hcw]
  · isplitr; · iapply (inv_wo D K d0); iexact HR
    isplitl [Hcw]; · iexact Hcw
    isplitl [HO]; · iexact HO
    isplitr; · iexact Hlev
    iexact Hpw
  iintro ⟨HO, Hpw, Hpay⟩
  ihave Hp2 := (show pay D d0 .wo ⊢ iprop(pt d0 cc1_scratch3 (D.wo d0) ∗ pt d0 main_arg7 (D.wo d0)) from Entails.rfl) $$ [Hpay]
  · iexact Hpay
  icases Hp2 with ⟨H3, H5⟩
  iapply (readAsm d0 (asm D d0)) $$ [HG2]
  · iexact HG2
  iintro HG2
  iapply (readWo d0 (D.wo d0)) $$ [H3]
  · iexact H3
  iintro H3
  iapply (loadIn d0 a7 X ![0, 0, 0] Facts₀.inb_S1x1024x2048_S1x1024x2048_0_0_0) $$ [HX]
  · iexact HX
  iintro HX
  iapply (storeOut d0 a7 X (k1_pay3 (asm D d0) (D.wo d0)) ![0, 0, 0] Facts₀.inb_S1x1024x2048_S1x1024x2048_0_0_0 rfl) $$ [HX]
  · iexact HX
  iintro HX
  iapply (finish D K d0 (Ins d0 a1 a2 a3 a4 a5 B) (owns (d0 : Thread nD τ) a7 fullShare (outFin D d0)))
  isplitr; · iexact HR
  isplitl [Hpo]; · iexact Hpo
  isplitl [Hpi]; · iexact Hpi
  isplitl [Hpw]; · iexact Hpw
  isplitl [Hbar]; · iexact Hbar
  isplitl [HA]; · iexists _; iexact HA
  isplitl [HB]; · iexists _; iexact HB
  isplitl [HG2]; · iexists _; iexact HG2
  isplitl [H3]; · iexists _; iexact H3
  isplitl [H5]; · iexact H5
  isplitl [HIn]; · iexact HIn
  isplitl [HX]; · iexact HX
  iexact HO

end Last

end Cert.KernelIdeal.Run1

end
-- ==== Proof.AttnRun.lean ====
/- The attention call's part of the run: the pipeline's data (each input window's block at every point, the output
   window's at the last), the body's obligation at the first, a middle and the last point, what a device enters the call
   with and what it leaves it with. The call is entered from any contents `V` of the buffers. -/
module

public import proofs.«01_k».proof.Proof.AttnLast
public import Idealize.ShloMosaic.Lib.Pipeline.CollectiveSegs
public import Idealize.ShloMosaic.Lib.Pipeline.ValueKit
public import Idealize.ShloMosaic.Lib.Pipeline.FrameBody

@[expose] public section

noncomputable section

namespace Cert.KernelIdeal.Run1

open Idealize.ShloMosaic hiding ix2 ix3 eq_ix2 eq_ix3
open Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Idealize.ShloMosaic.ValueIdx
open Cert.KernelIdeal Cert.KernelIdeal.Gen
open Cert.KernelIdeal.Run (UU EP L lv lvl Above L_of_ne L_tc mayWait)

variable {F : FTy → Type} [FloatOps F] [Named F]

local notation "𝕄" => MT nD τ sig Unit (Elt F) ℕ UU ℕ

variable (V : Dev nD → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem points (t : Fin cfg1.N) : t.val < 16 := lt_of_lt_of_eq t.isLt N_1
/-- The head of a grid point, and the point of a head. -/
def headOf (t : Fin cfg1.N) : Fin 16 := ⟨t.val, points t⟩
def pointOf (h : Fin 16) : Fin cfg1.N := ⟨h.val, lt_of_lt_of_eq h.isLt N_1.symm⟩

/-- The blocks a device's body reads at a point. -/
def blocks (c : Dev nD) (t : Fin cfg1.N) : Blocks F where
  q := iblk V c 0 t
  k := iblk V c 1 t
  v := iblk V c 2 t
  qr := iblk V c 3 t
  kr := iblk V c 4 t

/-- What the devices exchange: each head's output; and the output projection, copied within a device. -/
def mail : Mail F where
  o c := fun y => (blocks V c (pointOf (y (0 : Fin 3)))).out (ix2 (y (1 : Fin 3)) (y (2 : Fin 3)))
  wo c := V c (Proc.devRef .tc main_arg7)

theorem fits (c : Dev nD) (t : Fin cfg1.N) : Fits (mail V) c (headOf t) (blocks V c t) := by
  intro x
  rw [eq_ix3 x]
  refine (shapeCast_ab_1ab_apply (blocks V c t).out _ (x (0 : Fin 3)) (x (1 : Fin 3)) (x (2 : Fin 3))).trans ?_
  have h0 : (x (0 : Fin 3)).val = 0 := Nat.lt_one_iff.mp (x (0 : Fin 3)).isLt
  show _ = (blocks V c (pointOf _)).out (ix2 _ _)
  have e : ∀ (t' : Fin cfg1.N) (i j : ℕ) (hi : i < 512) (hj : j < 128), t'.val = t.val → i = (x (1 : Fin 3)).val → j = (x (2 : Fin 3)).val →
      (blocks V c t).out (ix2 (x (1 : Fin 3)) (x (2 : Fin 3))) = (blocks V c t').out (ix2 (⟨i, hi⟩ : Fin 512) (⟨j, hj⟩ : Fin 128)) := by
    intro t' i j hi hj ht ei ej
    obtain rfl : t' = t := Fin.ext ht
    subst ei; subst ej; rfl
  refine e _ _ _ _ _ ?_ ?_ ?_
  · show t.val + 1 * (x (0 : Fin 3)).val = t.val; omega
  · show 0 + 1 * (x (1 : Fin 3)).val = (x (1 : Fin 3)).val; omega
  · show 0 + 1 * (x (2 : Fin 3)).val = (x (2 : Fin 3)).val; omega

/-! ## The points' conditions, offsets and semaphores -/

theorem first_iff : ∀ t : Fin cfg1.N, k1_cond1 (grid1.coords t) = 1#1 ↔ t.val = 0 := by decide +kernel
theorem last_iff : ∀ t : Fin cfg1.N, k1_cond2 (grid1.coords t) = 1#1 ↔ t.val = 15 := by decide +kernel
theorem off1_at : ∀ t : Fin cfg1.N, k1_off1 (grid1.coords t) = ![t.val, 0, 0] := by decide +kernel
theorem off3_at : ∀ t : Fin cfg1.N, k1_off3 (grid1.coords t) = ![t.val, 0, 0] := by decide +kernel
theorem semS_at : ∀ t : Fin cfg1.N,
    ((cc1_scratch4.slice (Rect.unit (s := S16) (k1_off2 (grid1.coords t)) S1.size (Facts₀.k1_off2_inb (grid1.coords t)))).squeeze S_ squeezes_S1_S_).sem = outS0 (headOf t) := by decide +kernel
theorem semR_at : ∀ t : Fin cfg1.N,
    ((cc1_scratch5.slice (Rect.unit (s := S16) (k1_off2 (grid1.coords t)) S1.size (Facts₀.k1_off2_inb (grid1.coords t)))).squeeze S_ squeezes_S1_S_).sem = inS0 (headOf t) := by decide +kernel
theorem at_point (t : Fin cfg1.N) : At (grid1.coords t) (headOf t) := ⟨off1_at t, off3_at t, semS_at t, semR_at t⟩
theorem idle_5 : ∀ t : Fin cfg1.N, t.val ≠ 15 → cfg1.idle 5 (cfg1.grid.coords t) = true := by decide +kernel
theorem live_5 : ∀ t : Fin cfg1.N, t.val = 15 → cfg1.idle 5 (cfg1.grid.coords t) = false := by decide +kernel

/-! ## The pipeline's data -/

/-- What a device's body starts from. -/
def start (c : Dev nD) : sProp 𝕄 :=
  iprop(ghost (mail V) c ∗ (cred (tallyAt (barC0 c) () 1) ∗ bigSep Finset.univ fun i : Fin 16 => cred (tallyAt (inC0 c i) () N1))
    ∗ levAts L lv ∗ pt c main_arg7 ((mail V).wo c))

def between (c : Dev nD) (n : ℕ) : sProp 𝕄 :=
  if n = 0 then iprop(start V c ∗ scratches c) else if n = 16 then Done (mail V) c else iprop(∃ K, Mid (mail V) K c n)
def owedAt (c : Dev nD) (n : ℕ) : CellTallies nD τ sig Unit := if n = 0 then O0 c else Orem c n

theorem between_0 (c : Dev nD) : between V c 0 = iprop(start V c ∗ scratches c) := if_pos rfl
theorem between_16 (c : Dev nD) : between V c 16 = Done (mail V) c := by unfold between; rw [if_neg (by decide), if_pos rfl]
theorem between_mid (c : Dev nD) {n : ℕ} (h0 : n ≠ 0) (h1 : n ≠ 16) : between V c n = iprop(∃ K, Mid (mail V) K c n) := by unfold between; rw [if_neg h0, if_neg h1]
theorem owedAt_0 (c : Dev nD) : owedAt c 0 = O0 c := if_pos rfl
theorem owedAt_succ (c : Dev nD) {n : ℕ} (h0 : n ≠ 0) : owedAt c n = Orem c n := if_neg h0
theorem owedAt_16 (c : Dev nD) : owedAt c 16 = 0 := (owedAt_succ c (by decide)).trans (Orem_end c)

/-- What rides along: the other call's buffers, and the generator register. -/
def others (c : Dev nD) : sProp 𝕄 := iprop((∃ g, pt (F := F) c cc0_stg0_0 g) ∗ (∃ g, pt (F := F) c cc0_stg1_0 g) ∗ (∃ g, pt (F := F) c cc0_stg2_0 g) ∗ (∃ g, pt (F := F) c cc0_stg3_0 g) ∗ (∃ g, pt (F := F) c cc0_stg4_0 g) ∗ (∃ g, pt (F := F) c cc0_stg5_0 g) ∗ (∃ g, pt (F := F) c cc0_stg6_0 g) ∗ (∃ g, pt (F := F) c cc0_stg7_0 g) ∗ (∃ g, pt (F := F) c cc0_stg8_0 g) ∗ (∃ g, pt (F := F) c cc0_stg9_0 g) ∗ (∃ g, pt (F := F) c cc0_scratch0 g) ∗ (∃ g, pt (F := F) c cc0_scratch1 g) ∗ (∃ g, pt (F := F) c cc0_scratch2 g) ∗ (∃ g, pt (F := F) c cc0_scratch3 g) ∗ (∃ g, pt (F := F) c cc0_scratch4 g) ∗ (∃ g, pt (F := F) c cc0_scratch5 g))
def aside (c : Dev nD) : sProp 𝕄 := iprop(others c ∗ ∃ r, prngReg c r)

def dat (c : Dev nD) : Dat τ (Elt F) Unit ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outFin (mail V) c
  Φ t := iprop(between V c t.val ∗ aside c)
  q _ := fullShare
  owed t := owedAt c t.val

theorem before_0 (c : Dev nD) (t : Fin cfg1.N) (d) : (dat V c).before 0 t d = iblk V c 0 t :=
  ((dat V c).before_in_eq_fetched 0 rfl (fun _ => rfl) (fun _ _ _ => rfl) (fun t => rfl) t d).trans rfl
theorem before_1 (c : Dev nD) (t : Fin cfg1.N) (d) : (dat V c).before 1 t d = iblk V c 1 t :=
  ((dat V c).before_in_eq_fetched 1 rfl (fun _ => rfl) (fun _ _ _ => rfl) (fun t => rfl) t d).trans rfl
theorem before_2 (c : Dev nD) (t : Fin cfg1.N) (d) : (dat V c).before 2 t d = iblk V c 2 t :=
  ((dat V c).before_in_eq_fetched 2 rfl (fun _ => rfl) (fun _ _ _ => rfl) (fun t => rfl) t d).trans rfl
theorem before_3 (c : Dev nD) (t : Fin cfg1.N) (d) : (dat V c).before 3 t d = iblk V c 3 t :=
  ((dat V c).before_in_eq_fetched 3 rfl (fun _ => rfl) (fun _ _ _ => rfl) (fun t => rfl) t d).trans rfl
theorem before_4 (c : Dev nD) (t : Fin cfg1.N) (d) : (dat V c).before 4 t d = iblk V c 4 t :=
  ((dat V c).before_in_eq_fetched 4 rfl (fun _ => rfl) (fun _ _ _ => rfl) (fun t => rfl) t d).trans rfl

/-- What the last window is handed back as. -/
abbrev given (c : Dev nD) (t : Fin cfg1.N) : sProp 𝕄 :=
  match cfg1.idle 5 (cfg1.grid.coords t) with
  | true =>
    match (cfg1.win 5).flush t with
    | false => iprop(∃ d, owns (c : Thread nD τ) ((cfg1.win 5).stage (cfg1.slots t 5)) fullShare ((dat V c).before 5 t d))
    | true => owns (c : Thread nD τ) ((cfg1.win 5).stage (cfg1.slots t 5)) fullShare ((dat V c).after 5 t)
  | false => owns (c : Thread nD τ) ((cfg1.win 5).stage (cfg1.slots t 5)) fullShare ((dat V c).after 5 t)

theorem given_idle (c : Dev nD) (t : Fin cfg1.N) (h : t.val ≠ 15) :
    given V c t = iprop(∃ d, owns (c : Thread nD τ) ((cfg1.win 5).stage (cfg1.slots t 5)) fullShare ((dat V c).before 5 t d)) := by
  have hf : (cfg1.win 5).flush t = false := Bool.eq_false_iff.mpr fun e => h (by
    have h1 := (flush1_5 t).mp e; have h2 := points t; omega)
  unfold given; rw [idle_5 t h, hf]
theorem given_live (c : Dev nD) (t : Fin cfg1.N) (h : t.val = 15) :
    given V c t = owns (c : Thread nD τ) ((cfg1.win 5).stage (cfg1.slots t 5)) fullShare (outFin (mail V) c) := by
  unfold given; rw [live_5 t h]; rfl

/-- The input windows at a point, at their blocks. -/
abbrev insAt (c : Dev nD) (t : Fin cfg1.N) : sProp 𝕄 :=
  Ins c (win1_0.stage (cfg1.slots t 0)) (win1_1.stage (cfg1.slots t 1)) (win1_2.stage (cfg1.slots t 2)) (win1_3.stage (cfg1.slots t 3)) (win1_4.stage (cfg1.slots t 4)) (blocks V c t)

/-- A resource the program does not use is had after it. -/
theorem keep (c : Dev nD) {P : sProp 𝕄} (R : sProp 𝕄) {p : Prog (TpuEff nD τ sig (Elt F) Λ₀ .tc) PUnit} {Q Q' : PUnit → sProp 𝕄}
    (h : P ⊢ wp frame (wpE (defs₀ (F := F)) 𝒱₀ (c : Thread nD τ) none) Set.univ p Q) (h' : ∀ u, iprop(Q u ∗ R) ⊢ Q' u) :
    iprop(P ∗ R) ⊢ wp frame (wpE (defs₀ (F := F)) 𝒱₀ (c : Thread nD τ) none) Set.univ p Q' :=
  (sep_mono_left h).trans ((wp_frame_r frame (wpE (defs₀ (F := F)) 𝒱₀ (c : Thread nD τ) none) Set.univ).trans (wp_mono _ _ _ h'))

/-- One point of a device's body. -/
theorem body_at (c : Dev nD) (t : Fin cfg1.N) (W : Waits sig Unit) (d) :
    iprop(insAt V c t ∗ between V c t.val ∗ owes (c : Thread nD τ) (owedAt c t.val) W ∗ owns (c : Thread nD τ) (win1_5.stage (cfg1.slots t 5)) fullShare ((dat V c).before 5 t d))
      ⊢ wp frame (wpE (defs₀ (F := F)) 𝒱₀ (c : Thread nD τ) none) Set.univ (bodyAt1 (F := F) t)
        (fun _ => iprop(insAt V c t ∗ between V c (t.val + 1) ∗ (∃ W', owes (c : Thread nD τ) (owedAt c (t.val + 1)) W') ∗ given V c t)) := by
  have ht := points t
  unfold bodyAt1
  rw [cc1__attn_body_eq_skeleton]
  by_cases h15 : t.val = 15
  · have h0 : t.val ≠ 0 := by omega
    have hh : headOf t = 15 := Fin.ext h15
    have hAt : At (grid1.coords t) 15 := hh ▸ at_point t
    have hFit : Fits (mail V) c 15 (blocks V c t) := hh ▸ fits V c t
    rw [given_live V c t h15, between_mid V c h0 (by omega), h15, between_16, owedAt_16, owedAt_succ c (by decide)]
    iintro ⟨HI, ⟨%K, HM⟩, HO, HX⟩
    iapply ((point_last (mail V) K c (grid1.coords t) _ _ _ _ _ _ _ _ _ _ _ _ hAt ((last_iff t).mpr h15) (blocks V c t) hFit _ _
      ((front c (grid1.coords t) _ _ _ _ _ _ _ _ _ _ _ _ (fun e => h0 ((first_iff t).mp e)) (blocks V c t)
        iprop(Mid (mail V) K c 15 ∗ (∃ W', owes (c : Thread nD τ) (Orem c 15) W') ∗ owns (c : Thread nD τ) (win1_5.stage (cfg1.slots t 5)) fullShare ((dat V c).before 5 t d))))).trans
      (wp_mono _ _ _ fun _ => by
        iintro ⟨H1, H2, H3, H4⟩
        isplitl [H1]; · iexact H1
        isplitl [H2]; · iexact H2
        isplitl [H4]; · iexact H4
        iexact H3))
    isplitl [HI]; · iexact HI
    isplitl [HM]; · iexact HM
    isplitl [HO]; · iexists W; iexact HO
    iexact HX
  · rw [given_idle V c t h15, between_mid V c (n := t.val + 1) (by omega) (by omega), owedAt_succ c (n := t.val + 1) (by omega)]
    have hlast : ¬ k1_cond2 (grid1.coords t) = 1#1 := fun e => h15 ((last_iff t).mp e)
    by_cases h0 : t.val = 0
    · have hh : headOf t = 0 := Fin.ext h0
      have hAt : At (grid1.coords t) 0 := hh ▸ at_point t
      have hFit : Fits (mail V) c 0 (blocks V c t) := hh ▸ fits V c t
      rw [h0, between_0, owedAt_0]
      unfold start ghost
      iintro ⟨HI, ⟨⟨⟨%K, HR, HP, HT⟩, HC, Hl, H5⟩, HS⟩, HO, HX⟩
      iapply (keep c (owns (c : Thread nD τ) (win1_5.stage (cfg1.slots t 5)) fullShare ((dat V c).before 5 t d)) (point (mail V) K c (grid1.coords t) _ _ _ _ _ _ _ _ _ _ _ _ 0 hAt hlast (blocks V c t) hFit _
        (front0 (mail V) K c (grid1.coords t) _ _ _ _ _ _ _ _ _ _ _ _ ((first_iff t).mpr h0) (blocks V c t) W)) (fun _ => by
        iintro ⟨⟨H1, H2, H3⟩, HX⟩
        isplitl [H1]; · iexact H1
        isplitl [H2]; · iexists K; iexact H2
        isplitl [H3]; · iexact H3
        iexists d; iexact HX))
      isplitr [HX]
      · isplitl [HI]; · iexact HI
        isplitr [HO]
        · unfold Begin
          isplitl [HR]; · iexact HR
          isplitl [Hl]; · iexact Hl
          isplitl [HP]; · iexact HP
          isplitl [HT]; · iexact HT
          isplitl [HC]; · iexact HC
          isplitl [H5]; · iexact H5
          iexact HS
        iexact HO
      iexact HX
    · rw [between_mid V c h0 (by omega), owedAt_succ c h0]
      iintro ⟨HI, ⟨%K, HM⟩, HO, HX⟩
      iapply (keep c (owns (c : Thread nD τ) (win1_5.stage (cfg1.slots t 5)) fullShare ((dat V c).before 5 t d)) (point (mail V) K c (grid1.coords t) _ _ _ _ _ _ _ _ _ _ _ _ (headOf t) (at_point t) hlast (blocks V c t) (fits V c t) _
        (front c (grid1.coords t) _ _ _ _ _ _ _ _ _ _ _ _ (fun e => h0 ((first_iff t).mp e)) (blocks V c t)
          iprop(Mid (mail V) K c t.val ∗ ∃ W', owes (c : Thread nD τ) (Orem c t.val) W'))) (fun _ => by
        iintro ⟨⟨H1, H2, H3⟩, HX⟩
        isplitl [H1]; · iexact H1
        isplitl [H2]; · iexists K; iexact H2
        isplitl [H3]; · iexact H3
        iexists d; iexact HX))
      isplitr [HX]
      · isplitl [HI]; · iexact HI
        isplitl [HM]; · iexact HM
        iexists W; iexact HO
      iexact HX

set_option maxRecDepth 8000 in
/-- The pipeline library's obligation on a device's body. -/
theorem body_obligation (c : Dev nD) : BodyObligation (dat (F := F) V c) (defs₀ (F := F)) 𝒱₀ () Set.univ := fun t => by
  rw [bigSep_W1, bigSep_W1]
  show iprop((between V c t.val ∗ aside c) ∗ (dat V c).owesAt () t.castSucc
      ∗ (∃ d, owns (c : Thread nD τ) (win1_0.stage (cfg1.slots t 0)) fullShare ((dat V c).before 0 t d))
      ∗ (∃ d, owns (c : Thread nD τ) (win1_1.stage (cfg1.slots t 1)) fullShare ((dat V c).before 1 t d))
      ∗ (∃ d, owns (c : Thread nD τ) (win1_2.stage (cfg1.slots t 2)) fullShare ((dat V c).before 2 t d))
      ∗ (∃ d, owns (c : Thread nD τ) (win1_3.stage (cfg1.slots t 3)) fullShare ((dat V c).before 3 t d))
      ∗ (∃ d, owns (c : Thread nD τ) (win1_4.stage (cfg1.slots t 4)) fullShare ((dat V c).before 4 t d))
      ∗ (∃ d, owns (c : Thread nD τ) (win1_5.stage (cfg1.slots t 5)) fullShare ((dat V c).before 5 t d)))
    ⊢ wp frame (wpE (defs₀ (F := F)) 𝒱₀ (c : Thread nD τ) none) Set.univ (bodyAt1 (F := F) t)
      (fun _ => iprop((between V c (t.val + 1) ∗ aside c) ∗ (dat V c).owesAt () t.succ
        ∗ owns (c : Thread nD τ) (win1_0.stage (cfg1.slots t 0)) fullShare (iblk V c 0 t)
        ∗ owns (c : Thread nD τ) (win1_1.stage (cfg1.slots t 1)) fullShare (iblk V c 1 t)
        ∗ owns (c : Thread nD τ) (win1_2.stage (cfg1.slots t 2)) fullShare (iblk V c 2 t)
        ∗ owns (c : Thread nD τ) (win1_3.stage (cfg1.slots t 3)) fullShare (iblk V c 3 t)
        ∗ owns (c : Thread nD τ) (win1_4.stage (cfg1.slots t 4)) fullShare (iblk V c 4 t)
        ∗ given V c t))
  simp only [before_0, before_1, before_2, before_3, before_4]
  unfold Dat.owesAt Pipeline.owesWithin
  iintro ⟨⟨HB, HR⟩, ⟨%W, %hW, HO⟩, ⟨%d0, H0⟩, ⟨%d1, H1⟩, ⟨%d2, H2⟩, ⟨%d3, H3⟩, ⟨%d4, H4⟩, ⟨%d5, H5⟩⟩
  iapply (keep c (aside c) (body_at V c t W d5) fun _ => by
    unfold insAt Ins
    iintro ⟨⟨⟨H0, H1, H2, H3, H4⟩, HB, ⟨%W', HO⟩, H5⟩, HR⟩
    isplitl [HB HR]
    · isplitl [HB]; · iexact HB
      iexact HR
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    iexact H5)
  isplitr [HR]
  · isplitl [H0 H1 H2 H3 H4]
    · unfold insAt Ins
      isplitl [H0]; · iexact H0
      isplitl [H1]; · iexact H1
      isplitl [H2]; · iexact H2
      isplitl [H3]; · iexact H3
      iexact H4
    isplitl [HB]; · iexact HB
    isplitl [HO]; · iexact HO
    iexact H5
  iexact HR

/-! ## Entering and leaving the call -/

theorem share_eq (c : Dev nD) (w : Fin cfg1.W) : (dat V c).share w = fullShare := by unfold Dat.share; split <;> rfl

/-- The array a device's body copies from by itself. -/
abbrev byHand : Finset (DevRef τ sig) := {Proc.devRef .tc main_arg7}
theorem byHand_eq (c : Dev nD) (W : Valuation τ sig (Elt F)) : (StableHlo.held (c.tc : Thread nD τ) byHand W : sProp 𝕄)
    = pt c main_arg7 (W (Proc.devRef .tc main_arg7)) := by
  unfold StableHlo.held
  rw [bigSep_singleton]

/-- The credits for what the partner owes a device. -/
def dues (c : Dev nD) : sProp 𝕄 :=
  iprop(cred (tallyAt (barC0 c) () 1) ∗ bigSep Finset.univ fun i : Fin 16 => cred (tallyAt (inC0 c i) () N1))
/-- What a device keeps for the call from the launch on, what it makes of it at the call's entry, and what is left of it. -/
def before (c : Dev nD) : sProp 𝕄 := iprop(asleep (mail V) c ∗ dues c)
def entered (c : Dev nD) : sProp 𝕄 := iprop(ghost (mail V) c ∗ dues c ∗ levAts L lv)
def left (c : Dev nD) : sProp 𝕄 := semVal (barC0 c) 0

theorem opened (c : Dev nD) : iprop(before V c ∗ Pipeline.ownSems0 osem c ∗ levAts L lv) ⊢ (|={Set.univ}=> entered V c : sProp 𝕄) := by
  unfold before entered
  iintro ⟨⟨HA, HD⟩, HS, HL⟩
  imod (awake (mail V) c) $$ [HA HS] with HG
  · isplitl [HA] <;> iassumption
  imodintro
  isplitl [HG]; · iexact HG
  isplitl [HD]; · iexact HD
  iexact HL

theorem enter (c : Dev nD) :
    iprop(Pipeline.scopedRest cfg1.spec c ∗ (∃ r, prngReg c r) ∗ StableHlo.held (c.tc : Thread nD τ) byHand (V c) ∗ entered V c) ⊢ (dat V c).Φ 0 := by
  rw [show (dat V c).Φ 0 = iprop(between V c 0 ∗ aside c) from rfl, between_0, scopedRest1_eq, byHand_eq]
  unfold start entered dues scratches aside others
  iintro ⟨⟨A0, A1, A2, A3, A4, A5, A6, A7, A8, A9, B0, B1, B2, B3, B4, B5, HR⟩, Hp, Ha, HG, HD, HL⟩
  isplitl [HG HD HL Ha HR]
  · isplitl [HG HD HL Ha]
    · isplitl [HG]; · iexact HG
      isplitl [HD]; · iexact HD
      isplitl [HL]; · iexact HL
      iexact Ha
    iexact HR
  isplitr [Hp]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    iexact B5
  iexact Hp

theorem leave (c : Dev nD) :
    (dat V c).Φ (Fin.last cfg1.N)
      ⊢ iprop(Pipeline.scopedRest cfg1.spec c ∗ (∃ r, prngReg c r) ∗ StableHlo.held (c.tc : Thread nD τ) byHand (V c) ∗ Pipeline.ownSems0 osem c ∗ left c) := by
  rw [show (dat V c).Φ (Fin.last cfg1.N) = iprop(between V c 16 ∗ aside c) from congrArg (fun n => iprop(between V c n ∗ aside c)) N_1, between_16, scopedRest1_eq,
    ownSems0_eq, byHand_eq]
  unfold Done left scratches aside others
  iintro ⟨⟨Hb, Hw, Ho, Hi, Ha, HR⟩, ⟨A0, A1, A2, A3, A4, A5, A6, A7, A8, A9, B0, B1, B2, B3, B4, B5⟩, Hp⟩
  isplitl [HR A0 A1 A2 A3 A4 A5 A6 A7 A8 A9 B0 B1 B2 B3 B4 B5]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    isplitl [B5]; · iexact B5
    iexact HR
  isplitl [Hp]; · iexact Hp
  isplitl [Ha]; · iexact Ha
  isplitl [Hw Ho Hi]
  · isplitl [Hw]; · iexact Hw
    isplitl [Ho]; · iexact Ho
    iexact Hi
  iexact Hb

/-- Everything owed during the call is above the pipeline's own waits. -/
theorem owed_above (c : Dev nD) (t : ℕ) : Above 0 (owedAt c t) := by
  unfold owedAt; split
  · exact (O0_above c).mono (Nat.zero_le 2)
  · exact (Orem_above c t).mono (Nat.zero_le 3)

end Cert.KernelIdeal.Run1

end
-- ==== Proof.Whole.lean ====
/- The run of the whole kernel: the casts, the projection call and the attention call, one after another on every device.
   Each call is entered from the buffers the step before it left; the second call's cells sleep through the first. -/
module

public import proofs.«01_k».proof.Proof.Run
public import proofs.«01_k».proof.Proof.AttnRun
public import proofs.«01_k».proof.Proof.Gen.KernelIdeal.Regions
public import Idealize.ShloMosaic.Lib.Pipeline.RegionTalk

@[expose] public section

noncomputable section

namespace Cert.KernelIdeal.Whole

open Idealize.ShloMosaic Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf Seg HostSeg RegionSeg)
open Cert.KernelIdeal Cert.KernelIdeal.Gen
open Cert.KernelIdeal.Run (UU EP L lv lvl Above L_of_ne L_tc 𝒱₀)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The buffers between the steps -/

/-- A device's buffers after the casts, after the projection call, and after the attention call. -/
def W1 (c : Dev nD) : Valuation τ sig (Elt F) := V1 m c
def W2 (c : Dev nD) : Valuation τ sig (Elt F) :=
  Function.update (Function.update (Function.update (Function.update (Function.update (W1 m c) main_v7_0 (Run.qFin (W1 m) c)) main_v7_1 (Run.qrFin (W1 m) c))
    main_v7_2 (Run.krFin (W1 m) c)) main_v7_3 (Run.kFin (W1 m) c)) main_v7_4 (Run.vFin (W1 m) c)
def W3 (c : Dev nD) : Valuation τ sig (Elt F) := Function.update (W2 m c) main_v8 (Run1.outFin (Run1.mail (W2 m)) c)

theorem W2_other (c : Dev nD) (b : DevRef τ sig) (h0 : b ≠ Proc.devRef .tc main_v7_0) (h1 : b ≠ Proc.devRef .tc main_v7_1) (h2 : b ≠ Proc.devRef .tc main_v7_2)
    (h3 : b ≠ Proc.devRef .tc main_v7_3) (h4 : b ≠ Proc.devRef .tc main_v7_4) : W2 m c b = W1 m c b := by
  unfold W2
  rw [Function.update_of_ne h4, Function.update_of_ne h3, Function.update_of_ne h2, Function.update_of_ne h1, Function.update_of_ne h0]
theorem W2_of (c : Dev nD) (r : Ref sig .tc) (h : r ∉ ([main_v7_0, main_v7_1, main_v7_2, main_v7_3, main_v7_4] : List (Ref sig .tc))) :
    W2 m c (Proc.devRef .tc r) = W1 m c (Proc.devRef .tc r) :=
  W2_other m c _ (StableHlo.devRef_ne_of_ne fun e => h (by rw [e]; decide)) (StableHlo.devRef_ne_of_ne fun e => h (by rw [e]; decide))
    (StableHlo.devRef_ne_of_ne fun e => h (by rw [e]; decide)) (StableHlo.devRef_ne_of_ne fun e => h (by rw [e]; decide)) (StableHlo.devRef_ne_of_ne fun e => h (by rw [e]; decide))
theorem W2_q (c : Dev nD) : W2 m c (Proc.devRef .tc main_v7_0) = Run.qFin (W1 m) c := by
  unfold W2
  rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem W2_qr (c : Dev nD) : W2 m c (Proc.devRef .tc main_v7_1) = Run.qrFin (W1 m) c := by
  unfold W2
  rw [Function.update_of_ne (StableHlo.devRef_ne_of_ne (by decide)), Function.update_of_ne (StableHlo.devRef_ne_of_ne (by decide)), Function.update_of_ne (StableHlo.devRef_ne_of_ne (by decide)), Function.update_self]
theorem W2_kr (c : Dev nD) : W2 m c (Proc.devRef .tc main_v7_2) = Run.krFin (W1 m) c := by
  unfold W2
  rw [Function.update_of_ne (StableHlo.devRef_ne_of_ne (by decide)), Function.update_of_ne (StableHlo.devRef_ne_of_ne (by decide)), Function.update_self]
theorem W2_k (c : Dev nD) : W2 m c (Proc.devRef .tc main_v7_3) = Run.kFin (W1 m) c := by
  unfold W2
  rw [Function.update_of_ne (StableHlo.devRef_ne_of_ne (by decide)), Function.update_self]
theorem W2_v (c : Dev nD) : W2 m c (Proc.devRef .tc main_v7_4) = Run.vFin (W1 m) c := by
  unfold W2
  rw [Function.update_self]
theorem W3_other (c : Dev nD) (b : DevRef τ sig) (h : b ≠ Proc.devRef .tc main_v8) : W3 m c b = W2 m c b := by
  unfold W3; rw [Function.update_of_ne h]
theorem W3_out (c : Dev nD) : W3 m c (Proc.devRef .tc main_v8) = Run1.outFin (Run1.mail (W2 m)) c := by
  unfold W3; rw [Function.update_self]
/-- No step writes an argument. -/
theorem W3_arg (c : Dev nD) (r : Ref sig .tc) (h : r ∉ ([main_v1, main_v2, main_v3, main_v4, main_v5, main_v6, main_v7_0, main_v7_1, main_v7_2, main_v7_3, main_v7_4, main_v8] : List (Ref sig .tc))) :
    W3 m c (Proc.devRef .tc r) = m ((c : Thread nD τ).loc r) :=
  (W3_other m c _ (StableHlo.devRef_ne_of_ne fun e => h (by rw [e]; decide))).trans
    ((W2_of m c r fun e => h (by revert e; simp only [List.mem_cons]; tauto)).trans
      ((V1_of m c r fun e => h (by revert e; unfold hostOps0_W; simp only [List.mem_cons]; tauto)).trans rfl))

/-! ## The two calls' records -/

def pdats : (p : Fin 2) → (c : Dev nD) → Dat τ (Elt F) Unit ℕ UU ℕ (cfgs p) c
  | ⟨0, _⟩ => Run.dat (W1 m) Run1.O0
  | ⟨1, _⟩ => Run1.dat (W2 m)

set_option backward.isDefEq.respectTransparency.types false in
theorem kit0 : Pipeline.PLaunchFacts (nD := nD) (τ := τ) (pcfgs (F := F)) 0 where
  cellOf_inj _ := cellOf_inj
  win := winFacts0
  pre := Pipeline.PreFacts.none _
  block_pos := block_pos0
  arr_whole := arr_whole0
  stage_whole := stage_whole0
set_option backward.isDefEq.respectTransparency.types false in
theorem kit1 : Pipeline.PLaunchFacts (nD := nD) (τ := τ) (pcfgs (F := F)) 1 where
  cellOf_inj _ := cellOf_inj
  win := winFacts1
  pre := Pipeline.PreFacts.none _
  block_pos := block_pos1
  arr_whole := arr_whole1
  stage_whole := stage_whole1

/-- The buffers a call's windows do not stage. -/
abbrev rest0 : Finset (DevRef τ sig) := Pipeline.ucRefs τ sig \ Pipeline.arrRefs spec0
abbrev rest1 : Finset (DevRef τ sig) := Pipeline.ucRefs τ sig \ Pipeline.arrRefs spec1
theorem byHand_rest0 : Run.byHand ⊆ rest0 := by decide +kernel
theorem byHand_rest1 : Run1.byHand ⊆ rest1 := by decide +kernel
theorem arrs_sub0 : (Pipeline.arrRefs spec0 : Finset (DevRef τ sig)) ⊆ Pipeline.ucRefs τ sig := by decide +kernel
theorem arrs_sub1 : (Pipeline.arrRefs spec1 : Finset (DevRef τ sig)) ⊆ Pipeline.ucRefs τ sig := by decide +kernel

theorem rest_same0 (c : Dev nD) (b : DevRef τ sig) (hb : b ∈ rest0 \ Run.byHand) : W2 m c b = W1 m c b := by
  have h : b ∉ (Pipeline.arrRefs spec0 : Finset (DevRef τ sig)) := (Finset.mem_sdiff.mp (Finset.mem_sdiff.mp hb).1).2
  exact W2_other m c b (fun e => h (by rw [e]; decide +kernel)) (fun e => h (by rw [e]; decide +kernel)) (fun e => h (by rw [e]; decide +kernel))
    (fun e => h (by rw [e]; decide +kernel)) (fun e => h (by rw [e]; decide +kernel))
theorem rest_same1 (c : Dev nD) (b : DevRef τ sig) (hb : b ∈ rest1 \ Run1.byHand) : W3 m c b = W2 m c b := by
  have h : b ∉ (Pipeline.arrRefs spec1 : Finset (DevRef τ sig)) := (Finset.mem_sdiff.mp (Finset.mem_sdiff.mp hb).1).2
  exact W3_other m c b (fun e => h (by rw [e]; decide +kernel))
theorem hand_same0 (c : Dev nD) : (StableHlo.held (c.tc : Thread nD τ) Run.byHand (W1 m c) : sProp 𝕄) = StableHlo.held (c.tc : Thread nD τ) Run.byHand (W2 m c) := by
  rw [Run.byHand_eq, Run.byHand_eq, W2_of m c main_arg4 (by decide), W2_of m c main_arg5 (by decide)]
theorem hand_same1 (c : Dev nD) : (StableHlo.held (c.tc : Thread nD τ) Run1.byHand (W2 m c) : sProp 𝕄) = StableHlo.held (c.tc : Thread nD τ) Run1.byHand (W3 m c) := by
  rw [Run1.byHand_eq, Run1.byHand_eq, W3_other m c _ (StableHlo.devRef_ne_of_ne (by decide))]

theorem stage_lvl0 : ∀ (w : Fin 10) (s : Fin (spec0 w).nbuf), lvl (.dma ((spec0 w).sem s)) = 0 := by decide +kernel
theorem stage_lvl1 : ∀ (w : Fin 6) (s : Fin (spec1 w).nbuf), lvl (.dma ((spec1 w).sem s)) = 0 := by decide +kernel

theorem mem_L (g : GSem nD τ sig) (u : Unit) (h : g.1.2 = .tc) : u ∈ L g := by
  show u ∈ (if g.1.2 = .tc then {()} else ∅ : Finset Unit)
  rw [if_pos h]; exact Finset.mem_singleton_self _

theorem arr_start0 (c : Dev nD) (w : Fin 10) : (Run.dat (W1 m) Run1.O0 c).arrAt w 0 = W1 m c (Proc.devRef .tc (Pipeline.arrRef spec0 w)) := rfl
theorem arr_start1 (c : Dev nD) (w : Fin 6) : (Run1.dat (W2 m) c).arrAt w 0 = W2 m c (Proc.devRef .tc (Pipeline.arrRef spec1 w)) := rfl

theorem arr_end0 (c : Dev nD) (w : Fin 10) : (Run.dat (W1 m) Run1.O0 c).arrAt w cfg0.N = W2 m c (Proc.devRef .tc (Pipeline.arrRef spec0 w)) :=
  match w with
  | ⟨0, _⟩ => ((Run.dat (W1 m) Run1.O0 c).arrAt_in 0 rfl _).trans (W2_of m c main_v2 (by decide)).symm
  | ⟨1, _⟩ => ((Run.dat (W1 m) Run1.O0 c).arrAt_in 1 rfl _).trans (W2_of m c main_v3 (by decide)).symm
  | ⟨2, _⟩ => ((Run.dat (W1 m) Run1.O0 c).arrAt_in 2 rfl _).trans (W2_of m c main_v4 (by decide)).symm
  | ⟨3, _⟩ => ((Run.dat (W1 m) Run1.O0 c).arrAt_in 3 rfl _).trans (W2_of m c main_v5 (by decide)).symm
  | ⟨4, _⟩ => ((Run.dat (W1 m) Run1.O0 c).arrAt_in 4 rfl _).trans (W2_of m c main_v6 (by decide)).symm
  | ⟨5, _⟩ => ((Run.dat (W1 m) Run1.O0 c).arrAt_eq_of_after_last 5 t0_0 (by decide +kernel) (Run.qFin (W1 m) c) fun j => rfl).trans (W2_q m c).symm
  | ⟨6, _⟩ => ((Run.dat (W1 m) Run1.O0 c).arrAt_eq_of_after_last 6 t0_0 (by decide +kernel) (Run.qrFin (W1 m) c) fun j => rfl).trans (W2_qr m c).symm
  | ⟨7, _⟩ => ((Run.dat (W1 m) Run1.O0 c).arrAt_eq_of_after_last 7 t0_0 (by decide +kernel) (Run.krFin (W1 m) c) fun j => rfl).trans (W2_kr m c).symm
  | ⟨8, _⟩ => ((Run.dat (W1 m) Run1.O0 c).arrAt_eq_of_after_last 8 t0_0 (by decide +kernel) (Run.kFin (W1 m) c) fun j => rfl).trans (W2_k m c).symm
  | ⟨9, _⟩ => ((Run.dat (W1 m) Run1.O0 c).arrAt_eq_of_after_last 9 t0_0 (by decide +kernel) (Run.vFin (W1 m) c) fun j => rfl).trans (W2_v m c).symm
theorem arr_end1 (c : Dev nD) (w : Fin 6) : (Run1.dat (W2 m) c).arrAt w cfg1.N = W3 m c (Proc.devRef .tc (Pipeline.arrRef spec1 w)) :=
  match w with
  | ⟨0, _⟩ => ((Run1.dat (W2 m) c).arrAt_in 0 rfl _).trans (W3_other m c (Proc.devRef .tc main_v7_0) (StableHlo.devRef_ne_of_ne (by decide))).symm
  | ⟨1, _⟩ => ((Run1.dat (W2 m) c).arrAt_in 1 rfl _).trans (W3_other m c (Proc.devRef .tc main_v7_3) (StableHlo.devRef_ne_of_ne (by decide))).symm
  | ⟨2, _⟩ => ((Run1.dat (W2 m) c).arrAt_in 2 rfl _).trans (W3_other m c (Proc.devRef .tc main_v7_4) (StableHlo.devRef_ne_of_ne (by decide))).symm
  | ⟨3, _⟩ => ((Run1.dat (W2 m) c).arrAt_in 3 rfl _).trans (W3_other m c (Proc.devRef .tc main_v7_1) (StableHlo.devRef_ne_of_ne (by decide))).symm
  | ⟨4, _⟩ => ((Run1.dat (W2 m) c).arrAt_in 4 rfl _).trans (W3_other m c (Proc.devRef .tc main_v7_2) (StableHlo.devRef_ne_of_ne (by decide))).symm
  | ⟨5, _⟩ => ((Run1.dat (W2 m) c).arrAt_eq_of_after_last 5 t1_15 (by decide +kernel) (Run1.outFin (Run1.mail (W2 m)) c) fun j => rfl).trans (W3_out m c).symm

set_option maxRecDepth 8000 in
set_option backward.isDefEq.respectTransparency.types false in
/-- The projection call, the attention call's part and its debts riding along. -/
def reg0 : RegionSeg (pcfgs (F := F)) adm (pdats m) () defs₀ 𝒱₀ L lv 0 :=
  RegionSeg.ofTalk (pcfgs (F := F)) adm (pdats m) () defs₀ 𝒱₀ L lv 0 Run.osem Run.ownSemFacts
    Run.byHand rest0 byHand_rest0 kit0 rfl (fun c => (Run.body_obligation (W1 m) Run1.O0 Run1.O0_above c).loose)
    Run1.O0 Run.O0 (fun _ => rfl) (fun _ => rfl) (fun _ => rfl) (fun c w => Run.share_eq (W1 m) Run1.O0 c w)
    (W1 m) (W2 m) (rest_same0 m)
    (Run.before (W1 m)) Run.left (Run.entered (W1 m)) Run.left (Run.opened (W1 m)) (Run.enter (W1 m) Run1.O0)
    (fun c => (Run.leave (W1 m) Run1.O0 c).trans (by rw [hand_same0]; exact BI.Entails.refl _))
    (fun c => by iintro H; imodintro; iexact H)
    (fun _ => 0)
    ⟨fun c w s => mem_L _ _ rfl, fun c w s => le_of_eq (stage_lvl0 w s), fun c t g i h =>
      ⟨mem_L _ _ (Run.owed_above (W1 m) Run1.O0 Run1.O0_above c t g i h).1, (Run.owed_above (W1 m) Run1.O0 Run1.O0_above c t g i h).2⟩⟩
    (Run1.before (W2 m)) (arr_start0 m) (arr_end0 m)

set_option maxRecDepth 8000 in
set_option backward.isDefEq.respectTransparency.types false in
/-- The attention call, the first call's closed barrier counter riding along. -/
def reg1 : RegionSeg (pcfgs (F := F)) adm (pdats m) () defs₀ 𝒱₀ L lv 1 :=
  RegionSeg.ofTalk (pcfgs (F := F)) adm (pdats m) () defs₀ 𝒱₀ L lv 1 Run1.osem Run1.ownSemFacts
    Run1.byHand rest1 byHand_rest1 kit1 rfl (fun c => (Run1.body_obligation (W2 m) c).loose)
    (fun _ => 0) Run1.O0 (fun c => (Run1.owedAt_0 c).trans (zero_add _).symm) (fun c => (congrArg (Run1.owedAt c) N_1).trans (Run1.owedAt_16 c)) (fun _ => rfl)
    (fun c w => Run1.share_eq (W2 m) c w)
    (W2 m) (W3 m) (rest_same1 m)
    (Run1.before (W2 m)) Run1.left (Run1.entered (W2 m)) Run1.left (Run1.opened (W2 m)) (Run1.enter (W2 m))
    (fun c => (Run1.leave (W2 m) c).trans (by rw [hand_same1]; exact BI.Entails.refl _))
    (fun c => by iintro H; imodintro; iexact H)
    (fun _ => 0)
    ⟨fun c w s => mem_L _ _ rfl, fun c w s => le_of_eq (stage_lvl1 w s), fun c t g i h =>
      ⟨mem_L _ _ (Run1.owed_above c t.val g i h).1, (Run1.owed_above c t.val g i h).2⟩⟩
    Run.left (arr_start1 m) (arr_end1 m)

/-! ## The chain of the steps -/

/-- What a device holds beside its buffers before the projection call, between the calls, and at the end. -/
def E0 (c : Dev nD) : sProp 𝕄 :=
  iprop((∃ r, prngReg c r) ∗ Run.before (W1 m) c ∗ Run1.before (W2 m) c ∗ ∃ Wd, owes (c : Thread nD τ) (Run1.O0 c + Run.O0 c) Wd)
def E1 (c : Dev nD) : sProp 𝕄 :=
  iprop((∃ r, prngReg c r) ∗ Run.left c ∗ Run1.before (W2 m) c ∗ ∃ Wd, owes (c : Thread nD τ) (Run1.O0 c) Wd)
def E2 (c : Dev nD) : sProp 𝕄 :=
  iprop((Run.left c ∗ Run1.left c) ∗ ∃ Wd, owes (c : Thread nD τ) (0 : CellTallies nD τ sig Unit) Wd)
def E : Fin 3 → Dev nD → sProp 𝕄
  | ⟨0, _⟩ => E0 m
  | ⟨1, _⟩ => E1 m
  | ⟨2, _⟩ => E2

theorem pre0 (c : Dev nD) : iprop(StableHlo.held (c : Thread nD τ) (Pipeline.ucRefs τ sig) (V1 m c) ∗ E0 m c) ⊢ (reg0 m).pre c := by
  show _ ⊢ iprop(StableHlo.held (c.tc : Thread nD τ) (Pipeline.arrRefs spec0) (W1 m c) ∗ (∃ r, prngReg c r)
    ∗ (StableHlo.held (c.tc : Thread nD τ) rest0 (W1 m c) ∗ Run1.before (W2 m) c) ∗ Run.before (W1 m) c ∗ ∃ Wd, owes (c : Thread nD τ) (Run1.O0 c + Run.O0 c) Wd)
  rw [StableHlo.held_sub_split (c.tc : Thread nD τ) arrs_sub0 (V1 m c)]
  unfold E0
  iintro ⟨⟨Ha, Hr⟩, Hp, H0, H1, HO⟩
  isplitl [Ha]; · iexact Ha
  isplitl [Hp]; · iexact Hp
  isplitl [Hr H1]
  · isplitl [Hr]; · iexact Hr
    iexact H1
  isplitl [H0]; · iexact H0
  iexact HO

theorem post0 (c : Dev nD) : (reg0 m).post c ⊢ iprop(StableHlo.held (c : Thread nD τ) (Pipeline.ucRefs τ sig) (W2 m c) ∗ E1 m c) := by
  show iprop(StableHlo.held (c.tc : Thread nD τ) (Pipeline.arrRefs spec0) (W2 m c) ∗ (∃ r, prngReg c r)
    ∗ (StableHlo.held (c.tc : Thread nD τ) rest0 (W2 m c) ∗ Run1.before (W2 m) c) ∗ Run.left c ∗ ∃ Wd, owes (c : Thread nD τ) (Run1.O0 c) Wd) ⊢ _
  rw [StableHlo.held_sub_split (c.tc : Thread nD τ) arrs_sub0 (W2 m c)]
  unfold E1
  iintro ⟨Ha, Hp, ⟨Hr, H1⟩, H0, HO⟩
  isplitl [Ha Hr]
  · isplitl [Ha]; · iexact Ha
    iexact Hr
  isplitl [Hp]; · iexact Hp
  isplitl [H0]; · iexact H0
  isplitl [H1]; · iexact H1
  iexact HO

theorem pre1 (c : Dev nD) : iprop(StableHlo.held (c : Thread nD τ) (Pipeline.ucRefs τ sig) (W2 m c) ∗ E1 m c) ⊢ (reg1 m).pre c := by
  show _ ⊢ iprop(StableHlo.held (c.tc : Thread nD τ) (Pipeline.arrRefs spec1) (W2 m c) ∗ (∃ r, prngReg c r)
    ∗ (StableHlo.held (c.tc : Thread nD τ) rest1 (W2 m c) ∗ Run.left c) ∗ Run1.before (W2 m) c ∗ ∃ Wd, owes (c : Thread nD τ) (0 + Run1.O0 c) Wd)
  rw [StableHlo.held_sub_split (c.tc : Thread nD τ) arrs_sub1 (W2 m c), zero_add]
  unfold E1
  iintro ⟨⟨Ha, Hr⟩, Hp, H0, H1, HO⟩
  isplitl [Ha]; · iexact Ha
  isplitl [Hp]; · iexact Hp
  isplitl [Hr H0]
  · isplitl [Hr]; · iexact Hr
    iexact H0
  isplitl [H1]; · iexact H1
  iexact HO

theorem post1 (c : Dev nD) : (reg1 m).post c
    ⊢ iprop((StableHlo.held (c : Thread nD τ) (Pipeline.ucRefs τ sig) (W3 m c) ∗ Run.left c ∗ Run1.left c) ∗ ∃ Wd, owes (c : Thread nD τ) (0 : CellTallies nD τ sig Unit) Wd) := by
  show iprop(StableHlo.held (c.tc : Thread nD τ) (Pipeline.arrRefs spec1) (W3 m c) ∗ (∃ r, prngReg c r)
    ∗ (StableHlo.held (c.tc : Thread nD τ) rest1 (W3 m c) ∗ Run.left c) ∗ Run1.left c ∗ ∃ Wd, owes (c : Thread nD τ) (0 : CellTallies nD τ sig Unit) Wd) ⊢ _
  rw [StableHlo.held_sub_split (c.tc : Thread nD τ) arrs_sub1 (W3 m c)]
  iintro ⟨Ha, -, ⟨Hr, H0⟩, H1, HO⟩
  isplitr [HO]
  · isplitl [Ha Hr]
    · isplitl [Ha]; · iexact Ha
      iexact Hr
    isplitl [H0]; · iexact H0
    iexact H1
  iexact HO

/-! ## The launch -/

/-- The launch element: the pipeline's, and each call's. -/
def u₀ : UU :=
  (initOf (Pipeline.cells cfgs cellOf_inj) (Pipeline.launchToks cfgs cellOf_inj),
    (launchOf Run.barCells Run.scCells Run.xtoks, (launchOf Run1.barCells Run1.scCells Run1.xtoks, 1)))

/-- A resource dealt to one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [BI.bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp BI.sep_emp

/-- Two families over the devices as one family of pairs, and back. -/
theorem bigSep_pair {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm
theorem bigSep_unpair {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)

def elements : sProp 𝕄 :=
  iprop(BI.own (Run.ER (F := F) (launchOf Run.barCells Run.scCells Run.xtoks)) ∗ BI.own (Run1.ER (F := F) (launchOf Run1.barCells Run1.scCells Run1.xtoks)))
def G : Dev nD → sProp 𝕄 := onDev 0 elements

theorem unscopedSems0_eq (c : Dev nD) : (unscopedSems0 c : sProp 𝕄) = iprop(Run.left c ∗ Run1.left c) := by
  unfold unscopedSems0; rw [bigSep_eq_bigSepL_of_eq [SemLoc.reg barrier0, SemLoc.reg barrier1] (by decide) (by decide)]; rfl

/-- What of a device's launch holdings is not the calls' ghost state. -/
def bundle (c : Dev nD) : sProp 𝕄 :=
  iprop(StableHlo.held (c : Thread nD τ) (Pipeline.ucRefs τ sig) (V0 m c) ∗ (∃ r, prngReg c r) ∗ Run.dues c ∗ Run1.dues c ∗ owes (c : Thread nD τ) (Run1.O0 c + Run.O0 c) ∅)

abbrev T₀ (c : Dev nD) : sProp 𝕄 := iprop(StableHlo.held (c : Thread nD τ) (Pipeline.ucRefs τ sig) (V0 m c) ∗ E0 m c)

theorem dealt (c : Dev nD) : iprop(unscopedBufs c (fun b => m ((c : Thread nD τ).loc b)) ∗ unscopedSems0 c
      ∗ owes (c : Thread nD τ) (Run1.O0 c + Run.O0 c) ∅ ∗ Pipeline.launchCred (fun d => Run1.O0 d + Run.O0 d) c ∗ prngReg c (ρ c) ∗ G c)
    ⊢ (iprop(bundle m c ∗ (Run.left c ∗ (Run1.left c ∗ G c))) : sProp 𝕄) := by
  rw [show (unscopedBufs c (fun b => m ((c : Thread nD τ).loc b)) : sProp 𝕄) = StableHlo.held (c : Thread nD τ) (Pipeline.ucRefs τ sig) (V0 m c) from Pipeline.unscopedBufs_held c (V0 m c),
    unscopedSems0_eq, Pipeline.launchCred_add]
  unfold bundle
  iintro ⟨Hh, ⟨Hb0, Hb1⟩, HO, ⟨Hc1, Hc0⟩, Hp, HG⟩
  ihave Hd0 := (Run.creds (F := F) c) $$ Hc0
  ihave Hd1 := (Run1.creds (F := F) c) $$ Hc1
  isplitl [Hh Hp Hd0 Hd1 HO]
  · isplitl [Hh]; · iexact Hh
    isplitl [Hp]; · iexists (ρ c); iexact Hp
    isplitl [Hd0]; · unfold Run.dues; iexact Hd0
    isplitl [Hd1]; · unfold Run1.dues; iexact Hd1
    iexact HO
  isplitl [Hb0]; · iexact Hb0
  isplitl [Hb1]; · iexact Hb1
  iexact HG

theorem together (c : Dev nD) : iprop(bundle m c ∗ (Run.asleep (Run.mail (W1 m)) c ∗ Run1.asleep (Run1.mail (W2 m)) c)) ⊢ T₀ m c := by
  unfold bundle T₀ E0 Run.before Run1.before
  iintro ⟨⟨Hh, Hp, Hd0, Hd1, HO⟩, H0, H1⟩
  isplitl [Hh]; · iexact Hh
  isplitl [Hp]; · iexact Hp
  isplitl [H0 Hd0]
  · isplitl [H0] <;> iassumption
  isplitl [H1 Hd1]
  · isplitl [H1] <;> iassumption
  iexists ∅; iexact HO

theorem init :
    iprop((bigSep Finset.univ fun c : Dev nD => iprop(unscopedBufs c (fun b => m ((c : Thread nD τ).loc b)) ∗ unscopedSems0 c
          ∗ owes (c : Thread nD τ) (Run1.O0 c + Run.O0 c) ∅ ∗ Pipeline.launchCred (fun d => Run1.O0 d + Run.O0 d) c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (Run1.O0 c + Run.O0 c) ∅ ∗ Pipeline.launchCred (fun d => Run1.O0 d + Run.O0 d) c ∗ prngReg c (ρ c) ∗ G c))
      ⊢ (bigSep Finset.univ fun c : Dev nD => iprop(bundle m c ∗ (Run.left c ∗ (Run1.left c ∗ G c))) : sProp 𝕄) from bigSep_mono fun c _ => dealt m ρ c) $$ H
  ihave H2 := bigSep_unpair $$ H'; icases H2 with ⟨HB, H3⟩
  ihave H4 := bigSep_unpair $$ H3; icases H4 with ⟨Hv0, H5⟩
  ihave H6 := bigSep_unpair $$ H5; icases H6 with ⟨Hv1, HG⟩
  ihave Hu := (show bigSep Finset.univ (G (F := F)) ⊢ elements from Entails.of_eq (bigSep_onDev (F := F) 0 elements)) $$ HG
  unfold elements
  icases Hu with ⟨Hu0, Hu1⟩
  imod (Run.launch (Run.mail (W1 m))) $$ [Hv0 Hu0] with HA0
  · isplitl [Hv0]
    · unfold Run.left; iexact Hv0
    iexact Hu0
  imod (Run1.launch (Run1.mail (W2 m))) $$ [Hv1 Hu1] with HA1
  · isplitl [Hv1]
    · unfold Run1.left; iexact Hv1
    iexact Hu1
  imodintro
  iapply (show (bigSep Finset.univ fun c : Dev nD => iprop(bundle m c ∗ (Run.asleep (Run.mail (W1 m)) c ∗ Run1.asleep (Run1.mail (W2 m)) c))) ⊢ bigSep Finset.univ (T₀ m) from
    bigSep_mono fun c _ => together m c)
  iapply bigSep_pair
  isplitl [HB]; · iexact HB
  iapply bigSep_pair
  isplitl [HA0] <;> iassumption

/-! ## The run -/

def Tₙ (c : Dev nD) : sProp 𝕄 := iprop(StableHlo.held (c : Thread nD τ) (Pipeline.ucRefs τ sig) (W3 m c) ∗ Run.left c ∗ Run1.left c)

theorem read_end (c : Dev nD) (s' : Phys nD τ sig (Elt F)) :
    iprop(Tₙ m c ∗ SI s') ⊢ |={Set.univ}=> iprop(⌜(∀ sm : SemLoc sig, sm.isScoped .tc = false → s'.mem.sem ((c.tc : Thread nD τ), sm) = 0)
      ∧ ∀ r : Ref sig .tc, ¬ r.isScoped → s'.mem.mem ((c.tc : Thread nD τ).loc r) = W3 m c (Proc.devRef .tc r)⌝ ∗ SI s') := by
  unfold Tₙ StableHlo.held
  iintro ⟨⟨Hh, Hu⟩, HSI⟩
  ihave Hr := (pointsTo_read_all (Pipeline.ucRefs τ sig) (fun b => ((c : Thread nD τ).1, b)) (W3 m c) s') $$ [Hh HSI]
  · isplitl [Hh] <;> iassumption
  icases Hr with ⟨%h, HSI⟩
  imod (Pipeline.unscopedSems0_read (X := iprop(Run.left c ∗ Run1.left c)) (c := c) (by rw [← unscopedSems0_eq]; exact BI.fupd_intro) s') $$ [Hu HSI] with ⟨%hs, HSI⟩
  · isplitl [Hu] <;> iassumption
  imodintro
  isplitr
  · ipureintro
    exact ⟨hs, fun r hr => h (Proc.devRef .tc r) (Finset.mem_filter.mpr ⟨StableHlo.devRef_mem_tcRefs r, hr⟩)⟩
  iexact HSI

set_option maxRecDepth 8000 in
set_option backward.isDefEq.respectTransparency.types false in
/-- Every weakly fair execution on the four devices terminates, with every unscoped buffer at its final contents and every
    semaphore counter at zero. -/
theorem run_main : θ_run defs (onTc (τ := τ) (main (F := F))) ⟨m, fun _ => 0, ρ⟩ (fun r =>
    (∀ (c : Dev nD) (b : Ref sig .tc), ¬ b.isScoped → r.2.mem ((c.tc : Thread nD τ).loc b) = W3 m c (Proc.devRef .tc b)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m) (reg1 m))
    (fun c Q => by
      rewrite [main_chain c, Seg.run_eq_chain,
        show (segs m 𝒱₀ L lv (E m) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (fun d => Run1.O0 d + Run.O0 d) L_of_ne G u₀
    (by
      unfold u₀ G
      rw [bigSep_onDev]
      unfold elements
      iintro Hu
      ihave H := (ownU_pair _ _) $$ Hu
      icases H with ⟨HP, HX⟩
      ihave H := (own_pair_emb _ _ _) $$ HX
      icases H with ⟨H0, HY⟩
      ihave H := (own_pair_emb _ _ _) $$ HY
      icases H with ⟨H1, -⟩
      imodintro
      isplitl [HP]; · iexact HP
      isplitl [H0]; · iexact H0
      iexact H1)
    (T₀ := T₀ m) (Tₙ := Tₙ m)
    (hch := fun c => ⟨.rfl, pre0 m c, (post0 m c).trans (pre1 m c), post1 m c⟩)
    (hinit := init m ρ)
    (QY := fun c s => (∀ sm : SemLoc sig, sm.isScoped .tc = false → s.sem ((c.tc : Thread nD τ), sm) = 0)
      ∧ ∀ r : Ref sig .tc, ¬ r.isScoped → s.mem ((c.tc : Thread nD τ).loc r) = W3 m c (Proc.devRef .tc r))
    (hfin := read_end m)
    (hQ := fun s h hs => ⟨fun c => (h c).2, sem_eq_zero hs fun c => (h c).1⟩)

end Cert.KernelIdeal.Whole

end
-- ==== Proof.Bits.lean ====
/- The bits program is the idealized one's text at a float instance whose named constants are their bits. -/
module

public import proofs.«01_k».proof.Proof.Whole
public import proofs.«01_k».proof.Proof.Gen.Kernel

@[expose] public section

noncomputable section

namespace Cert.Bits

open Idealize.ShloMosaic Idealize.SL.Sem

variable {F : FTy → Type} [FloatOps F]

/-- Every named constant is its bits. -/
@[reducible] def raw : Named F := ⟨fun _ _ {φ} bits => Scalar.ofBits φ bits⟩

theorem proj_eq : (Cert.Kernel.cc0__proj_body (F := F)) = (letI := raw (F := F); Cert.KernelIdeal.cc0__proj_body (F := F)) := rfl
theorem attn_eq : (Cert.Kernel.cc1__attn_body (F := F)) = (letI := raw (F := F); Cert.KernelIdeal.cc1__attn_body (F := F)) := rfl
theorem main_eq : Cert.Kernel.main (F := F) = Cert.KernelIdeal.main (F := F) := rfl
set_option maxHeartbeats 4000000 in
theorem defs0_eq : Cert.Kernel.defs₀ (F := F) = (letI := raw (F := F); Cert.KernelIdeal.defs₀ (F := F)) := by
  refine congrArg Defs.onTc (funext fun ℓ => funext fun x => ?_)
  match ℓ, x with
  | ⟨0, _⟩, (t, s) => rfl
  | ⟨1, _⟩, (t, s) => rfl
theorem defs_eq : Cert.Kernel.defs (F := F) = (letI := raw (F := F); Cert.KernelIdeal.defs (F := F)) := congrArg (Pipeline.defs Cert.Kernel.pcfgs) defs0_eq

end Cert.Bits

namespace Cert.KernelIdeal.Whole

open Idealize.ShloMosaic Idealize.ShloMosaic.TcCoe Idealize.SL.Sem
open Cert.KernelIdeal Cert.KernelIdeal.Gen

variable {F : FTy → Type} [FloatOps F]

/-- Every weakly fair execution leaves the arguments as they were and every semaphore at zero. -/
theorem run_args [Named F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run _ _ _).mono (fun r h => ⟨fun c => ⟨(h.1 c main_arg0 (by decide)).trans (W3_arg m c _ (by decide)), (h.1 c main_arg1 (by decide)).trans (W3_arg m c _ (by decide)), (h.1 c main_arg2 (by decide)).trans (W3_arg m c _ (by decide)), (h.1 c main_arg3 (by decide)).trans (W3_arg m c _ (by decide)), (h.1 c main_arg4 (by decide)).trans (W3_arg m c _ (by decide)), (h.1 c main_arg5 (by decide)).trans (W3_arg m c _ (by decide)), (h.1 c main_arg6 (by decide)).trans (W3_arg m c _ (by decide)), (h.1 c main_arg7 (by decide)).trans (W3_arg m c _ (by decide))⟩, h.2⟩) (run_main m ρ)

end Cert.KernelIdeal.Whole

namespace Cert.Kernel.Whole

open Idealize.ShloMosaic Idealize.ShloMosaic.TcCoe Idealize.SL.Sem
open Cert.Kernel Cert.Kernel.Gen

variable {F : FTy → Type} [FloatOps F]

/-- The same of the bits program. -/
theorem run_args (m : (ℓ : Loc nD τ sig) → Buf (Elt F) ℓ) (ρ : Dev nD → PrngReg) :
    θ_run (defs (F := F)) (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) := by
  rw [Cert.Bits.defs_eq, Cert.Bits.main_eq]
  letI := Cert.Bits.raw (F := F)
  exact Cert.KernelIdeal.Whole.run_args (F := F) m ρ

end Cert.Kernel.Whole

end
-- ==== Proof.ProjCommon.lean ====
/- What the projection call exchanges between devices: the semaphore cells on which a device is told of another's
   progress, who pays each of them and what the payer hands over, what every device owes when the run starts, and the
   order of levels in which it may wait. The exchange is along the mesh's second axis (device `c` with `mate0 c`).
   Contents are parameters (`Mail`): the module that runs the body says what they are. -/
module

public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import Idealize.ShloMosaic.Lib.Pipeline.Launch
public import Idealize.ShloMosaic.Lib.Pipeline.Kit
public import Idealize.ShloMosaic.Lib.Rounds
public import Idealize.ShloMosaic.Lib.StableHlo
public import Idealize.ShloMosaic.Lib.Tactic

@[expose] public section

noncomputable section

namespace Cert.ProjIdeal.Run

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Pipeline (Dat Cfg BodyObligation cellOf)
open Cert.ProjIdeal Cert.ProjIdeal.Gen

variable {F : FTy → Type} [FloatOps F] [Named F]

/-! ## The partners -/

/-- The device at the other place of the mesh's second axis: the projection call's partner. -/
noncomputable def mate0 (c : Dev nD) : Dev nD := ⟨c.val / 2 * 2 + (1 - c.val % 2), by have : c.val < 4 := c.isLt; show _ < 4; omega⟩
theorem mate0_mate0 (c : Dev nD) : mate0 (mate0 c) = c := by revert c; decide
noncomputable def swap0 : Dev nD ≃ Dev nD := ⟨mate0, mate0, mate0_mate0, mate0_mate0⟩
theorem dev0_1 (c : Dev nD) : (⟨k0_dev1 c, Facts₀.k0_dev1_lt c⟩ : Dev nD) = mate0 c := by revert c; decide
theorem dev0_2 (c : Dev nD) : (⟨k0_dev2 c, Facts₀.k0_dev2_lt c⟩ : Dev nD) = mate0 c := by revert c; decide
theorem dev0_3 (c : Dev nD) : (⟨k0_dev3 c, Facts₀.k0_dev3_lt c⟩ : Dev nD) = mate0 c := by revert c; decide
theorem dev0_4 (c : Dev nD) : (⟨k0_dev4 c, Facts₀.k0_dev4_lt c⟩ : Dev nD) = mate0 c := by revert c; decide
/-! ## The resource algebra: the pipeline library's part and the exchanges' -/

noncomputable abbrev UU : Type := UR sig nD τ × (UR sig nD τ × Counters)

local notation "𝕄" => MT nD τ sig Unit (Elt F) ℕ UU ℕ

noncomputable abbrev EP : Emb (UR sig nD τ) (MT nD τ sig Unit (Elt F) ℕ UU ℕ) := embL
noncomputable abbrev ER : Emb (UR sig nD τ) (MT nD τ sig Unit (Elt F) ℕ UU ℕ) :=
  (Emb.inl : Emb (UR sig nD τ) (UR sig nD τ × Counters)).trans embR

/-! ## The semaphores, classified -/

/-- Which exchange a semaphore belongs to: the call's opening barrier, the departure or the arrival of one of its
    three transfers, or none. -/
inductive Cl where
  | bar0 | out0 (i : Fin 3) | in0 (i : Fin 3) | none
  deriving DecidableEq

/-- The departure semaphores are numbers 10, 11, 12 of the pool, the arrival semaphores 13, 14, 15. -/
noncomputable def outS0 (i : Fin 3) : DmaSem sig := ⟨10 + i.val, by have := i.isLt; show 10 + i.val < 18; omega⟩
noncomputable def inS0 (i : Fin 3) : DmaSem sig := ⟨13 + i.val, by have := i.isLt; show 13 + i.val < 18; omega⟩

/-- The class of a DMA semaphore by its number in the pool. -/
noncomputable def clDma (n : ℕ) : Cl :=
  if n < 10 then .none else if n < 13 then .out0 ⟨(n - 10) % 3, Nat.mod_lt _ (by decide)⟩
  else if n < 16 then .in0 ⟨(n - 13) % 3, Nat.mod_lt _ (by decide)⟩ else .none

noncomputable def cl : SemLoc sig → Cl
  | .reg _ => .bar0
  | .dma s => clDma s.val

theorem cl_bar0 : cl (.reg barrier0) = .bar0 := by decide
theorem cl_out0 (i : Fin 3) : cl (.dma (outS0 i)) = .out0 i := by revert i; decide
theorem cl_in0 (i : Fin 3) : cl (.dma (inS0 i)) = .in0 i := by revert i; decide

noncomputable abbrev barC0 (c : Dev nD) : GSem nD τ sig := ((c : Thread nD τ), .reg barrier0)
noncomputable abbrev outC0 (c : Dev nD) (i : Fin 3) : GSem nD τ sig := ((c : Thread nD τ), .dma (outS0 i))
noncomputable abbrev inC0 (c : Dev nD) (i : Fin 3) : GSem nD τ sig := ((c : Thread nD τ), .dma (inS0 i))

/-! ## Buffers -/

/-- Device `c`'s buffer `b`, whole, at contents `f`, share `q`. -/
noncomputable abbrev pq (c : Dev nD) (b : Ref sig .tc) (q : PosShare TreeShare) (f : b.ty.Contents (Elt F)) : sProp 𝕄 :=
  (Memref.whole b).view.loc (c : Thread nD τ) ↦{q} f
noncomputable abbrev pt (c : Dev nD) (b : Ref sig .tc) (f : b.ty.Contents (Elt F)) : sProp 𝕄 := pq c b fullShare f

/-- The bytes a transfer of each kind counts for on its semaphores. -/
@[irreducible] noncomputable def N1 : ℕ := (Memref.whole cc0_scratch1 : Memref sig .tc .vmem S1024x128 .bf16).view.dmaCredit
@[irreducible] noncomputable def N2 : ℕ := (Memref.whole cc0_scratch2 : Memref sig .tc .vmem S128x2048 .bf16).view.dmaCredit
theorem N1_pos : 0 < N1 := by unfold N1; exact View.dmaCredit_pos _ (by decide)
theorem N2_pos : 0 < N2 := by unfold N2; exact View.dmaCredit_pos _ (by decide)
theorem N1_eq : (Memref.whole cc0_scratch1 : Memref sig .tc .vmem S1024x128 .bf16).view.dmaCredit = N1 := by unfold N1; rfl
theorem N2_eq2 : (Memref.whole cc0_scratch2 : Memref sig .tc .vmem S128x2048 .bf16).view.dmaCredit = N2 := by unfold N2; rfl
theorem N2_eq3 : (Memref.whole cc0_scratch3 : Memref sig .tc .vmem S128x2048 .bf16).view.dmaCredit = N2 := by unfold N2; rfl
theorem N1_eq0 : (Memref.whole cc0_scratch0 : Memref sig .tc .vmem S1024x128 .bf16).view.dmaCredit = N1 := by unfold N1; rfl
theorem N2_eqw2 : (Memref.whole cc0_stg2_0 : Memref sig .tc .vmem S128x2048 .bf16).view.dmaCredit = N2 := by unfold N2; rfl
theorem N2_eqw3 : (Memref.whole cc0_stg3_0 : Memref sig .tc .vmem S128x2048 .bf16).view.dmaCredit = N2 := by unfold N2; rfl

/-- The half of a buffer's share a transfer out of it takes along; the sender reads on through the other half. -/
noncomputable abbrev lent : PosShare TreeShare := fullShare.right
noncomputable abbrev kept : PosShare TreeShare := fullShare.left

/-- A store over all of a buffer leaves what was stored. -/
theorem wr_all (b : Ref sig .tc) (f w : b.ty.Contents (Elt F)) (off : Fin b.ty.shape.rank → ℕ) (hoff : ∀ a, off a = 0)
    {w' : b.ty.Contents (Elt F)} (hw : w = w')
    {inb : ∀ a, off a + b.ty.shape.size a ≤ b.ty.shape.size a} :
    (Memref.whole b).view.writes (Elt F) f [⟨Rect.unit off b.ty.shape.size inb, w⟩] = w' := by
  obtain rfl : off = fun _ => 0 := funext hoff
  subst hw
  exact ((View.write_univ_eq_writes_whole (Memref.whole b).view f [] w).symm).trans (View.write_whole_univ b f w)
/-- The same on top of earlier stores. -/
theorem wr_top (b : Ref sig .tc) (f w : b.ty.Contents (Elt F)) (ps : List (View.Piece (Elt F) b.ty.shape b.ty.elt)) (off : Fin b.ty.shape.rank → ℕ) (hoff : ∀ a, off a = 0)
    {inb : ∀ a, off a + b.ty.shape.size a ≤ b.ty.shape.size a} :
    (Memref.whole b).view.writes (Elt F) f (⟨Rect.unit off b.ty.shape.size inb, w⟩ :: ps) = w := by
  obtain rfl : off = fun _ => 0 := funext hoff
  exact ((View.write_univ_eq_writes_whole (Memref.whole b).view f ps w).symm).trans (View.write_whole_univ b _ w)
/-- A load of all of a buffer reads what it holds. -/
theorem rd_all (b : Ref sig .tc) (f : b.ty.Contents (Elt F)) (off : Fin b.ty.shape.rank → ℕ) (hoff : ∀ a, off a = 0)
    {inb : ∀ a, off a + b.ty.shape.size a ≤ b.ty.shape.size a} :
    View.readAt (Elt F) (Memref.whole b).view (Rect.unit off b.ty.shape.size inb).toLoadRect f = f := by
  obtain rfl : off = fun _ => 0 := funext hoff
  exact Memref.readAt_whole (Elt F) b f
theorem toSet (c : Dev nD) (b : Ref sig .tc) (q : PosShare TreeShare) (f : b.ty.Contents (Elt F)) :
    ((Memref.whole b).view.loc (c : Thread nD τ) ↦[(Memref.whole b).view.set]{q} f : sProp 𝕄) = pq c b q f :=
  congrArg (fun I => ((Memref.whole b).view.loc (c : Thread nD τ) ↦[I]{q} f : sProp 𝕄)) (View.set_whole b)
theorem landed (c : Dev nD) (b : Ref sig .tc) (g f : b.ty.Contents (Elt F)) :
    ((Memref.whole b).view.loc (c : Thread nD τ) ↦[(Memref.whole b).view.set]{fullShare} ((Memref.whole b).view.write (Elt F) g f Finset.univ) : sProp 𝕄) = pt c b f := by
  rw [toSet, show (Memref.whole b).view.write (Elt F) g f Finset.univ = f from View.write_whole_univ b g f]
theorem halve (c : Dev nD) (b : Ref sig .tc) {f : b.ty.Contents (Elt F)} (g : b.ty.Contents (Elt F)) (h : f = g) :
    pt c b f ⊢ iprop(pq c b kept g ∗ pq c b lent g) := by
  subst h; exact (pointsTo_share (PosShare.mem_left_op_right fullShare)).1
theorem unhalve (c : Dev nD) (b : Ref sig .tc) (f : b.ty.Contents (Elt F)) :
    iprop(pq c b kept f ∗ pq c b lent f) ⊢ pt c b f := (pointsTo_share (PosShare.mem_left_op_right fullShare)).2

/-! ## What the exchanged buffers hold, and who hands over what -/

/-- The contents that travel, by the device that sends them: the compressed tile and the two weight tiles. -/
structure Mail (F : FTy → Type) where
  cs : Dev nD → cc0_scratch0.ty.Contents (Elt F)
  wk : Dev nD → cc0_stg2_0.ty.Contents (Elt F)
  wv : Dev nD → cc0_stg3_0.ty.Contents (Elt F)

variable (D : Mail F)

/-- A barrier's unit at device `c` comes from its partner and hands over the partner's landing buffers, whatever they
    hold, with the word that the partner's arrival cells are open; a transfer's arrival hands over the landing buffer at
    the contents sent; its departure hands back what was lent. -/
noncomputable def pay (c : Dev nD) : Cl → sProp 𝕄
  | .bar0 => iprop((∃ f, pt (F := F) (mate0 c) cc0_scratch1 f) ∗ (∃ f, pt (F := F) (mate0 c) cc0_scratch2 f) ∗ (∃ f, pt (F := F) (mate0 c) cc0_scratch3 f)
      ∗ reached ER (inC0 (mate0 c) 0) 0 ∗ reached ER (inC0 (mate0 c) 1) 0 ∗ reached ER (inC0 (mate0 c) 2) 0)
  | .out0 0 => pq c cc0_scratch0 lent (D.cs c)
  | .out0 1 => pq c cc0_stg2_0 lent (D.wk c)
  | .out0 2 => pq c cc0_stg3_0 lent (D.wv c)
  | .in0 0 => pt c cc0_scratch1 (D.cs (mate0 c))
  | .in0 1 => pt c cc0_scratch2 (D.wk (mate0 c))
  | .in0 2 => pt c cc0_scratch3 (D.wv (mate0 c))
  | .none => iprop(emp)

/-- Units each class counts. -/
noncomputable def units : Cl → ℕ
  | .bar0 => 1
  | .out0 0 => N1 | .in0 0 => N1
  | .out0 _ => N2 | .in0 _ => N2
  | .none => 1

theorem units_pos (k : Cl) : 0 < units k := by
  unfold units; split <;> first | exact Nat.one_pos | exact N1_pos | exact N2_pos

/-- The schedule: every exchange cell of a TensorCore has the single round 0, paid once. -/
noncomputable def sched : Schedule (GSem nD τ sig) Unit 𝕄 where
  duties g r := if r = 0 ∧ g.1.2 = .tc ∧ cl g.2 ≠ .none then {()} else ∅
  unitless _ := False
  amount g _ _ := units (cl g.2)
  payload g _ _ := pay D g.1.1 (cl g.2)
  amount_pos := fun _ _ _ _ => units_pos _

instance storable (g : GSem nD τ sig) (r : ℕ) (d : Unit) : BI.Storable (upEmb : UEmb _ 𝕄) ((sched D).payload g r d) := by
  show BI.Storable _ (pay D g.1.1 (cl g.2))
  unfold pay
  split <;> infer_instance

section Tables
variable {κ : Cl} (s : SemLoc sig) (c : Dev nD)
theorem duties_of (hs : cl s = κ) (hκ : κ ≠ .none) : (sched D).duties ((c : Thread nD τ), s) 0 = {()} := by
  dsimp only [sched]; exact if_pos ⟨rfl, rfl, hs ▸ hκ⟩
theorem duties_later (g : GSem nD τ sig) (r : ℕ) (hr : r ≠ 0) : (sched D).duties g r = ∅ := by
  dsimp only [sched]; exact if_neg fun h => hr h.1
theorem amount_of (hs : cl s = κ) (d : Unit) : (sched D).amount ((c : Thread nD τ), s) 0 d = units κ := by
  dsimp only [sched]; rw [hs]
theorem payload_of (hs : cl s = κ) (d : Unit) : (sched D).payload ((c : Thread nD τ), s) 0 d = pay D c κ := by
  dsimp only [sched]; rw [hs]
theorem expect_of (hs : cl s = κ) (hκ : κ ≠ .none) : (sched D).expect ((c : Thread nD τ), s) 0 = units κ := by
  unfold Schedule.expect Schedule.amountOf; rw [duties_of D s c hs hκ, Finset.sum_singleton, amount_of D s c hs]
theorem rest_of (hs : cl s = κ) (hκ : κ ≠ .none) :
    bigSep ((sched D).duties ((c : Thread nD τ), s) 0 \ ∅) (fun d => (sched D).payload ((c : Thread nD τ), s) 0 d) = pay D c κ := by
  rw [Finset.sdiff_empty, duties_of D s c hs hκ, bigSep_singleton, payload_of D s c hs]
end Tables

/-! ## Levels: in what order a device may wait while it still owes -/

def lvC : Cl → ℕ
  | .bar0 => 1 | .in0 _ => 2 | _ => 0
def L (g : GSem nD τ sig) : Finset Unit := if g.1.2 = .tc then {()} else ∅
def lv (g : GSem nD τ sig) (_ : Unit) : ℕ := lvC (cl g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed sits on cells of TensorCores above level `n`. -/
def Above (n : ℕ) (O : CellTallies nD τ sig Unit) : Prop := ∀ g u, 0 < O g u → g.1.2 = .tc ∧ n < lvC (cl g.2)

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem Above.mono {n n' : ℕ} {O : CellTallies nD τ sig Unit} (hn : n' ≤ n) (h : Above n O) : Above n' O :=
  fun g u hg => ⟨(h g u hg).1, lt_of_le_of_lt hn (h g u hg).2⟩
theorem Above.tally {n : ℕ} (c : Dev nD) (s : SemLoc sig) (k : ℕ) (h : n < lvC (cl s)) :
    Above n (tallyAt ((c : Thread nD τ), s) () k) := fun g u hg => by
  rw [tallyAt_apply] at hg
  by_cases e : g = ((c : Thread nD τ), s) ∧ u = ()
  · rw [e.1]; exact ⟨rfl, h⟩
  · rw [if_neg e] at hg; exact absurd hg (Nat.lt_irrefl 0)
theorem Above.sum {n : ℕ} {ι : Type} (S : Finset ι) (O : ι → CellTallies nD τ sig Unit) (h : ∀ i ∈ S, Above n (O i)) : Above n (∑ i ∈ S, O i) := by
  classical
  induction S using Finset.induction_on with
  | empty => rw [Finset.sum_empty]; exact Above.zero n
  | insert a S ha ih =>
    rw [Finset.sum_insert ha]
    exact (h a (Finset.mem_insert_self _ _)).add (ih fun i hi => h i (Finset.mem_insert_of_mem hi))

/-- A device may wait on a cell below everything it owes. -/
theorem mayWait (c : Dev nD) (s : SemLoc sig) (O : CellTallies nD τ sig Unit) (hO : Above (lvC (cl s)) O) :
    (levAts L lv : sProp 𝕄) ⊢ MayWait (c : Thread nD τ) s () O :=
  MayOwe.of_cut (L := L) (lev := lv) (lvC (cl s)) (fun p hp => by rw [Finset.mem_singleton.mp hp, L_tc]; exact Finset.mem_singleton_self _)
    (fun g u hg => by
      show u ∈ (if g.1.2 = .tc then {()} else ∅ : Finset Unit)
      rw [if_pos (hO _ u hg).1]; exact Finset.mem_singleton_self _)
    (fun p hp => by rw [Finset.mem_singleton.mp hp]; rfl)
    (fun g u hg => (hO g u hg).2)

/-- What a device owes when the run starts: a unit on its partner's barrier cell and the three transfers. -/
noncomputable def O0 (c : Dev nD) : CellTallies nD τ sig Unit :=
  0 + tallyAt (inC0 (mate0 c) 2) () N2 + tallyAt (inC0 (mate0 c) 1) () N2 + tallyAt (inC0 (mate0 c) 0) () N1 + tallyAt (barC0 (mate0 c)) () 1

abbrev 𝒱₀ : Variants := Variants.none

/-! ## One rule per kind of statement -/

section Rules

/-- An assertion set aside: a run does not look inside. -/
@[irreducible] def Box (P : sProp 𝕄) : sProp 𝕄 := P
theorem box_in (P : sProp 𝕄) : P ⊢ Box P := by unfold Box; exact Entails.rfl
theorem box_out (P : sProp 𝕄) : Box P ⊢ P := by unfold Box; exact Entails.rfl

theorem big_at {n : ℕ} (i : Fin n) (P : Fin n → sProp 𝕄) : bigSep Finset.univ P ⊢ P i := bigSep_elim (Finset.mem_univ i)

/-- A signal of one unit to cell `s` of device `d`. -/
theorem exSignal {α : Type} {Ψ : α → sProp 𝕄} {k : PUnit → Prog (TpuEff nD τ sig (Elt F) Λ₀ .tc) α} {κ : Cl} (n : ℕ) (c d : Dev nD) (s : Sem sig) (hs : cl (.reg s) = κ) (hκ : κ ≠ .none) (hu : units κ = 1) (m : ℤ) (hm : m = 1)
    {d' : Dev nD} (hd : d' = d) {s' : Sem sig} (hs' : s' = s)
    (O : CellTallies nD τ sig Unit) (W : Waits sig Unit) :
    iprop(cellInv ER (sched D) n ((d : Thread nD τ), .reg s) ∗ owes (c : Thread nD τ) (O + tallyAt ((d : Thread nD τ), .reg s) () 1) W
        ∗ dutyTok ER ((d : Thread nD τ), .reg s) 0 () ∗ reached ER ((d : Thread nD τ), .reg s) 0 ∗ pay D d κ)
      ⊢ iprop((owes (c : Thread nD τ) O W -∗ wp frame (wpE (defs₀ (F := F)) 𝒱₀ (c : Thread nD τ) none) Set.univ (k ⟨⟩) Ψ)
          -∗ wp frame (wpE (defs₀ (F := F)) 𝒱₀ (c : Thread nD τ) none) Set.univ (.op (.semSignal (d', .tc) s' m) k) Ψ) := by
  have hd := hd.symm
  have hs' := hs'.symm
  subst hm hd hs'
  iintro ⟨#I, HO, Ht, #Hr, HP⟩ Hk
  iapply (Rounds.wp_signal 𝒱₀ ER (sched D) (c : Thread nD τ) none (dst := (d : Thread nD τ)) (sem := s) (r := 0) (d := ()) (κ := n)
      (by rw [duties_of D (.reg s) d hs hκ]; exact Finset.mem_singleton_self _) ((amount_of D (.reg s) d hs ()).trans hu) () O rfl) $$ [HO Ht HP]
  · isplitr; · iexact I
    isplitl [HO]; · iexact HO
    isplitl [Ht]; · iexact Ht
    isplitl [HP]; · rw [payload_of D (.reg s) d hs]; iexact HP
    iexact Hr
  iexact Hk

/-- A wait for all of an exchange cell's units: it brings what was handed over. -/
theorem exWait {α : Type} {Ψ : α → sProp 𝕄} {k : PUnit → Prog (TpuEff nD τ sig (Elt F) Λ₀ .tc) α} {κ : Cl} (n : ℕ) (c : Dev nD) (s : SemLoc sig) (hs : cl s = κ) (hκ : κ ≠ .none)
    {w : TpuEff nD τ sig (Elt F) Λ₀ .tc PUnit} (u : ℕ) (hu : units κ = u)
    (hw : ∀ K : PUnit → sProp 𝕄, wpE (defs₀ (F := F)) 𝒱₀ (c : Thread nD τ) none Set.univ w K = waitSpec (c : Thread nD τ) Set.univ s u K)
    (O : CellTallies nD τ sig Unit) (W : Waits sig Unit) (hO : Above (lvC κ) O) :
    iprop(cellInv ER (sched D) n ((c : Thread nD τ), s) ∗ cred (tallyAt ((c : Thread nD τ), s) () u) ∗ owes (c : Thread nD τ) O W ∗ levAts L lv
        ∗ atPos ER ((c : Thread nD τ), s) 0 ∅ 0)
      ⊢ iprop(((owes (c : Thread nD τ) O (insert (s, ()) W) ∗ atPos ER ((c : Thread nD τ), s) 1 ∅ 0 ∗ pay D c κ)
            -∗ wp frame (wpE (defs₀ (F := F)) 𝒱₀ (c : Thread nD τ) none) Set.univ (k ⟨⟩) Ψ)
          -∗ wp frame (wpE (defs₀ (F := F)) 𝒱₀ (c : Thread nD τ) none) Set.univ (.op w k) Ψ) := by
  subst hu
  iintro ⟨#I, HC, HO, #Hlev, HA⟩ Hk
  iapply (Rounds.wp_wait_rest_token 𝒱₀ ER (sched D) (c : Thread nD τ) none (κ := n)
      hw (Set.mem_univ _) () (O := O) (W := W) (R := 0) (m := 0) (T := ∅)
      ((Nat.zero_add _).trans (expect_of D s c hs hκ).symm)) $$ [HC HO HA]
  · isplitr; · iexact I
    isplitl [HC]; · iexact HC
    isplitl [HO]; · iexact HO
    isplitr; · iapply (mayWait c s O (by rw [hs]; exact hO)); iexact Hlev
    iexact HA
  iintro ⟨HO, HA, -, Hp⟩
  iapply Hk
  isplitl [HO]; · iexact HO
  isplitl [HA]; · iexact HA
  iapply (Entails.of_eq (rest_of D s c hs hκ)) $$ Hp

/-- The same of a regular semaphore's wait, as the program spells it. -/
theorem exWaitReg {α : Type} {Ψ : α → sProp 𝕄} {k : PUnit → Prog (TpuEff nD τ sig (Elt F) Λ₀ .tc) α} {κ : Cl} (n : ℕ) (c : Dev nD) (s : Sem sig) (hs : cl (.reg s) = κ) (hκ : κ ≠ .none)
    (hu : units κ = 1) {s' : Sem sig} (hs' : s' = s) {m : ℕ} (hm : m = 1)
    (O : CellTallies nD τ sig Unit) (W : Waits sig Unit) (hO : Above (lvC κ) O) :
    iprop(cellInv ER (sched D) n ((c : Thread nD τ), .reg s) ∗ cred (tallyAt ((c : Thread nD τ), .reg s) () 1) ∗ owes (c : Thread nD τ) O W ∗ levAts L lv
        ∗ atPos ER ((c : Thread nD τ), .reg s) 0 ∅ 0)
      ⊢ iprop(((owes (c : Thread nD τ) O (insert (.reg s, ()) W) ∗ atPos ER ((c : Thread nD τ), .reg s) 1 ∅ 0 ∗ pay D c κ)
            -∗ wp frame (wpE (defs₀ (F := F)) 𝒱₀ (c : Thread nD τ) none) Set.univ (k ⟨⟩) Ψ)
          -∗ wp frame (wpE (defs₀ (F := F)) 𝒱₀ (c : Thread nD τ) none) Set.univ (.op (.semWait s' m) k) Ψ) := by
  have hs' := hs'.symm
  subst hs' hm
  exact exWait D n c (.reg s) hs hκ 1 hu (fun Kx => wpE_semWait_eq 𝒱₀ _ _ _ Kx) O W hO

/-- The same of a transfer's wait. -/
theorem exWaitDma {α : Type} {Ψ : α → sProp 𝕄} {k : PUnit → Prog (TpuEff nD τ sig (Elt F) Λ₀ .tc) α} {κ : Cl} (n : ℕ) (c : Dev nD) (s : DmaSem sig) (hs : cl (.dma s) = κ) (hκ : κ ≠ .none)
    (u : ℕ) (hu : units κ = u) {s' : DmaSem sig} (hs' : s' = s) {sp sp' : Space} {sh sh' : Shape} {e e' : EltTy} {κ' : Kind}
    {src : Memref sig .tc sp' sh' e'} {dst : Memref sig κ' sp sh e} {hsrc : src.view.WordExact} {hdst : dst.view.WordExact} (hd : dst.view.dmaCredit = u)
    (O : CellTallies nD τ sig Unit) (W : Waits sig Unit) (hO : Above (lvC κ) O) :
    iprop(cellInv ER (sched D) n ((c : Thread nD τ), .dma s) ∗ cred (tallyAt ((c : Thread nD τ), .dma s) () u) ∗ owes (c : Thread nD τ) O W ∗ levAts L lv
        ∗ atPos ER ((c : Thread nD τ), .dma s) 0 ∅ 0)
      ⊢ iprop(((owes (c : Thread nD τ) O (insert (.dma s, ()) W) ∗ atPos ER ((c : Thread nD τ), .dma s) 1 ∅ 0 ∗ pay D c κ)
            -∗ wp frame (wpE (defs₀ (F := F)) 𝒱₀ (c : Thread nD τ) none) Set.univ (k ⟨⟩) Ψ)
          -∗ wp frame (wpE (defs₀ (F := F)) 𝒱₀ (c : Thread nD τ) none) Set.univ (.op (.waitDma2 s' src dst hsrc hdst) k) Ψ) := by
  have hs' := hs'.symm
  subst hs' hd
  exact exWait D n c (.dma s) hs hκ _ hu (fun Kx => wpE_waitDma2_eq 𝒱₀ _ _ _ Kx) O W hO

/-- A transfer into another device's memory: its departure cell is the sender's, its arrival cell the receiver's. -/
theorem exSend {α : Type} {Ψ : α → sProp 𝕄} {k : PUnit → Prog (TpuEff nD τ sig (Elt F) Λ₀ .tc) α} {κo κi : Cl} (no ni : ℕ) (c d : Dev nD) {sp sp' : Space} {sh : Shape} {e : EltTy}
    {src : Memref sig .tc sp sh e} {dst : Memref sig .tc sp' sh e} {hsc : dst.view.ref.isScScratch = false} (sS sR : DmaSem sig)
    {d' : Dev nD} (hd : d' = d) {tS tR : SemLoc sig} (hS : tS = .dma sS) (hR : tR = .dma sR)
    {hsrc : src.view.WordExact} {hdst : dst.view.WordExact} {hsem : DmaTarget.Typed sp tR (.remote (Dev.tc d') dst tS hsc)}
    (q : PosShare TreeShare) (fs : Buf (Elt F) (src.view.loc (c : Thread nD τ))) (fd : Buf (Elt F) (dst.view.loc (d : Thread nD τ)))
    (hso : cl (.dma sS) = κo) (hoκ : κo ≠ .none) (hsi : cl (.dma sR) = κi) (hiκ : κi ≠ .none)
    (N : ℕ) (hN : dst.view.dmaCredit = N) (huo : units κo = N) (hui : units κi = N)
    (O : CellTallies nD τ sig Unit) (W : Waits sig Unit)
    (hp₁ : (src.view.loc (c : Thread nD τ) ↦[src.view.set]{q} fs : sProp 𝕄) ⊢ pay D c κo)
    (hp₂ : (dst.view.loc (d : Thread nD τ) ↦[dst.view.set]{fullShare} (dst.view.write (Elt F) fd (src.view.read (Elt F) fs) Finset.univ) : sProp 𝕄) ⊢ pay D d κi)
    (hr : τ.routes (c : Thread nD τ) (d : Thread nD τ) = true) :
    iprop(cellInv ER (sched D) no ((c : Thread nD τ), .dma sS) ∗ cellInv ER (sched D) ni ((d : Thread nD τ), .dma sR)
        ∗ (src.view.loc (c : Thread nD τ) ↦[src.view.set]{q} fs) ∗ (dst.view.loc (d : Thread nD τ) ↦[dst.view.set]{fullShare} fd)
        ∗ owes (c : Thread nD τ) (O + tallyAt ((d : Thread nD τ), .dma sR) () N) W
        ∗ dutyTok ER ((c : Thread nD τ), .dma sS) 0 () ∗ reached ER ((c : Thread nD τ), .dma sS) 0
        ∗ dutyTok ER ((d : Thread nD τ), .dma sR) 0 () ∗ reached ER ((d : Thread nD τ), .dma sR) 0)
      ⊢ iprop(((cred (tallyAt ((c : Thread nD τ), .dma sS) () N) ∗ owes (c : Thread nD τ) O W)
            -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma src (.remote (Dev.tc d') dst tS hsc) tR hsrc hdst hsem) k) Ψ) := by
  have hd := hd.symm
  have hS := hS.symm
  have hR := hR.symm
  subst hd
  cases hS
  cases hR
  exact Rounds.wp_send_pointsTo 𝒱₀ ER (sched D) (c : Thread nD τ) none (c' := (d : Thread nD τ)) (src := src) (dst := dst)
      (sS := .dma sS) (sem := .dma sR) (q := q) (fs := fs) (κ₁ := no) (κ₂ := ni) (r₁ := 0) (r₂ := 0) (d₁ := ()) (d₂ := ()) (fd := fd)
      (by rw [duties_of D (.dma sS) c hso hoκ]; exact Finset.mem_singleton_self _) (by rw [duties_of D (.dma sR) d hsi hiκ]; exact Finset.mem_singleton_self _)
      () () N hN ((amount_of D (.dma sS) c hso ()).trans huo) ((amount_of D (.dma sR) d hsi ()).trans hui) O rfl (W := W)
      (by rw [payload_of D (.dma sS) c hso]; exact hp₁) (by rw [payload_of D (.dma sR) d hsi]; exact hp₂) hr

/-- An exchange cell whose one round is over: its counter comes back at zero. -/
theorem exClose (n : ℕ) (g : GSem nD τ sig) :
    iprop(cellInv ER (sched D) n g ∗ atPos ER g 1 ∅ 0) ⊢ (|={Set.univ}=> semVal g 0 : sProp 𝕄) :=
  Rounds.cell_close ER (sched D) (Set.mem_univ n) id (fun r hr => duties_later D g r (by omega))
end Rules

end Cert.ProjIdeal.Run

end
-- ==== Proof.ProjRows.lean ====
/- How the sixteen row stores of one result make up its contents: row `h` is columns `32 h … 32 h + 31` of one
   product. -/
module

public import proofs.«01_k».proof.Proof.ProjCommon
public import Idealize.ShloMosaic.Lib.ValueLayout
public import Idealize.ShloMosaic.Lib.Writes

@[expose] public section

noncomputable section

namespace Cert.ProjIdeal.Run

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat Cfg BodyObligation cellOf)
open Cert.ProjIdeal Cert.ProjIdeal.Gen

variable {F : FTy → Type} [FloatOps F] [Named F]

local notation "𝕄" => MT nD τ sig Unit (Elt F) ℕ UU ℕ

/-- Row `h` of the result: columns `32 h` to `32 h + 31` of the product. -/
def headRows (v : FVec F S512x512 .bf16) : cc0_stg6_0.ty.Contents (Elt F) := fun y =>
  v (ix2 (y (1 : Fin 3)) (⟨32 * (y (0 : Fin 3)).val + (y (2 : Fin 3)).val, by
    have h0 : (y (0 : Fin 3)).val < 16 := (y (0 : Fin 3)).isLt
    have h2 : (y (2 : Fin 3)).val < 32 := (y (2 : Fin 3)).isLt
    omega⟩ : Fin 512))

/-- One stored row agrees with the whole. -/
theorem head_piece (v : FVec F S512x512 .bf16) (h o : ℕ) (ho : o = 32 * h) (inb : ∀ a, (![h, 0, 0] : Fin 3 → ℕ) a + S1x512x32.size a ≤ S16x512x32.size a)
    (sl : S512x512.Slices ![0, o] S512x32) (x : S1x512x32.Idx) :
    shapeCast S1x512x32 (extractStridedSlice S512x32 ![0, o] v sl) shapeCasts_S512x32_S1x512x32 x
      = headRows v ((Rect.unit (s := S16x512x32) ![h, 0, 0] S1x512x32.size inb).emb x) := by
  rw [eq_ix3 x]
  refine (shapeCast_ab_1ab_apply _ _ _ _ _).trans ?_
  unfold headRows
  refine extractStridedSlice_apply _ _ _ _ _ fun a => ?_
  have hu : (x (0 : Fin 3)).val < 1 := (x (0 : Fin 3)).isLt
  subst ho
  fin_cases a
  · show 0 + 1 * (x (1 : Fin 3)).val = 0 + (x (1 : Fin 3)).val
    omega
  · show 32 * (h + 1 * (x (0 : Fin 3)).val) + (0 + 1 * (x (2 : Fin 3)).val) = 32 * h + (x (2 : Fin 3)).val
    omega

/-- The sixteen stores, the last one first. -/
abbrev headStores (x : Vec F S512x2048 .bf16) (w : Vec F S2048x512 .f32) : List (View.Piece (Elt F) S16x512x32 .bf16) :=
  [⟨Rect.unit ![15, 0, 0] S1x512x32.size inb_S16x512x32_S1x512x32_15_0_0, k0_pay26 (k0_pay9 x w)⟩,
      ⟨Rect.unit ![14, 0, 0] S1x512x32.size inb_S16x512x32_S1x512x32_14_0_0, k0_pay25 (k0_pay9 x w)⟩,
      ⟨Rect.unit ![13, 0, 0] S1x512x32.size inb_S16x512x32_S1x512x32_13_0_0, k0_pay24 (k0_pay9 x w)⟩,
      ⟨Rect.unit ![12, 0, 0] S1x512x32.size inb_S16x512x32_S1x512x32_12_0_0, k0_pay23 (k0_pay9 x w)⟩,
      ⟨Rect.unit ![11, 0, 0] S1x512x32.size inb_S16x512x32_S1x512x32_11_0_0, k0_pay22 (k0_pay9 x w)⟩,
      ⟨Rect.unit ![10, 0, 0] S1x512x32.size inb_S16x512x32_S1x512x32_10_0_0, k0_pay21 (k0_pay9 x w)⟩,
      ⟨Rect.unit ![9, 0, 0] S1x512x32.size inb_S16x512x32_S1x512x32_9_0_0, k0_pay20 (k0_pay19 (k0_pay9 x w))⟩,
      ⟨Rect.unit ![8, 0, 0] S1x512x32.size inb_S16x512x32_S1x512x32_8_0_0, k0_pay18 (k0_pay9 x w)⟩,
      ⟨Rect.unit ![7, 0, 0] S1x512x32.size inb_S16x512x32_S1x512x32_7_0_0, k0_pay17 (k0_pay9 x w)⟩,
      ⟨Rect.unit ![6, 0, 0] S1x512x32.size inb_S16x512x32_S1x512x32_6_0_0, k0_pay16 (k0_pay9 x w)⟩,
      ⟨Rect.unit ![5, 0, 0] S1x512x32.size inb_S16x512x32_S1x512x32_5_0_0, k0_pay15 (k0_pay9 x w)⟩,
      ⟨Rect.unit ![4, 0, 0] S1x512x32.size inb_S16x512x32_S1x512x32_4_0_0, k0_pay14 (k0_pay9 x w)⟩,
      ⟨Rect.unit ![3, 0, 0] S1x512x32.size inb_S16x512x32_S1x512x32_3_0_0, k0_pay13 (k0_pay9 x w)⟩,
      ⟨Rect.unit ![2, 0, 0] S1x512x32.size inb_S16x512x32_S1x512x32_2_0_0, k0_pay12 (k0_pay9 x w)⟩,
      ⟨Rect.unit ![1, 0, 0] S1x512x32.size inb_S16x512x32_S1x512x32_1_0_0, k0_pay11 x w⟩,
      ⟨Rect.unit ![0, 0, 0] S1x512x32.size inb_S16x512x32_S1x512x32_0_0_0, k0_pay10 x w⟩]

/-- The stores cover the buffer. -/
theorem head_cover (x : Vec F S512x2048 .bf16) (w : Vec F S2048x512 .f32) (y : S16x512x32.Idx) : ∃ p ∈ headStores x w, y ∈ p.1.set :=
  View.cover_of_tiled (headStores x w) S1x512x32.size rfl y

/-- Every store's payload is its row of the product. -/
theorem head_agree (x : Vec F S512x2048 .bf16) (w : Vec F S2048x512 .f32) :
    ∀ p ∈ headStores x w, ∀ y : p.1.shape.Idx, p.2 y = headRows (k0_pay9 x w) (p.1.emb y) := by
  refine List.forall_mem_cons.mpr ⟨fun y => head_piece (k0_pay9 x w) 15 480 rfl inb_S16x512x32_S1x512x32_15_0_0 slices_S512x512_o0_480_S512x32 y, ?_⟩
  refine List.forall_mem_cons.mpr ⟨fun y => head_piece (k0_pay9 x w) 14 448 rfl inb_S16x512x32_S1x512x32_14_0_0 slices_S512x512_o0_448_S512x32 y, ?_⟩
  refine List.forall_mem_cons.mpr ⟨fun y => head_piece (k0_pay9 x w) 13 416 rfl inb_S16x512x32_S1x512x32_13_0_0 slices_S512x512_o0_416_S512x32 y, ?_⟩
  refine List.forall_mem_cons.mpr ⟨fun y => head_piece (k0_pay9 x w) 12 384 rfl inb_S16x512x32_S1x512x32_12_0_0 slices_S512x512_o0_384_S512x32 y, ?_⟩
  refine List.forall_mem_cons.mpr ⟨fun y => head_piece (k0_pay9 x w) 11 352 rfl inb_S16x512x32_S1x512x32_11_0_0 slices_S512x512_o0_352_S512x32 y, ?_⟩
  refine List.forall_mem_cons.mpr ⟨fun y => head_piece (k0_pay9 x w) 10 320 rfl inb_S16x512x32_S1x512x32_10_0_0 slices_S512x512_o0_320_S512x32 y, ?_⟩
  refine List.forall_mem_cons.mpr ⟨fun y => head_piece (k0_pay9 x w) 9 288 rfl inb_S16x512x32_S1x512x32_9_0_0 slices_S512x512_o0_288_S512x32 y, ?_⟩
  refine List.forall_mem_cons.mpr ⟨fun y => head_piece (k0_pay9 x w) 8 256 rfl inb_S16x512x32_S1x512x32_8_0_0 slices_S512x512_o0_256_S512x32 y, ?_⟩
  refine List.forall_mem_cons.mpr ⟨fun y => head_piece (k0_pay9 x w) 7 224 rfl inb_S16x512x32_S1x512x32_7_0_0 slices_S512x512_o0_224_S512x32 y, ?_⟩
  refine List.forall_mem_cons.mpr ⟨fun y => head_piece (k0_pay9 x w) 6 192 rfl inb_S16x512x32_S1x512x32_6_0_0 slices_S512x512_o0_192_S512x32 y, ?_⟩
  refine List.forall_mem_cons.mpr ⟨fun y => head_piece (k0_pay9 x w) 5 160 rfl inb_S16x512x32_S1x512x32_5_0_0 slices_S512x512_o0_160_S512x32 y, ?_⟩
  refine List.forall_mem_cons.mpr ⟨fun y => head_piece (k0_pay9 x w) 4 128 rfl inb_S16x512x32_S1x512x32_4_0_0 slices_S512x512_o0_128_S512x32 y, ?_⟩
  refine List.forall_mem_cons.mpr ⟨fun y => head_piece (k0_pay9 x w) 3 96 rfl inb_S16x512x32_S1x512x32_3_0_0 slices_S512x512_o0_96_S512x32 y, ?_⟩
  refine List.forall_mem_cons.mpr ⟨fun y => head_piece (k0_pay9 x w) 2 64 rfl inb_S16x512x32_S1x512x32_2_0_0 slices_S512x512_o0_64_S512x32 y, ?_⟩
  refine List.forall_mem_cons.mpr ⟨fun y => head_piece (k0_pay9 x w) 1 32 rfl inb_S16x512x32_S1x512x32_1_0_0 slices_S512x512_o0_32_S512x32 y, ?_⟩
  refine List.forall_mem_cons.mpr ⟨fun y => head_piece (k0_pay9 x w) 0 0 rfl inb_S16x512x32_S1x512x32_0_0_0 slices_S512x512_o0_0_S512x32 y, ?_⟩
  exact fun p hp => absurd hp List.not_mem_nil

/-- After the sixteen stores the buffer holds the product, cut in rows. -/
theorem head_stores (x : Vec F S512x2048 .bf16) (w : Vec F S2048x512 .f32) (f : cc0_stg6_0.ty.Contents (Elt F)) :
    (Memref.whole cc0_stg6_0).view.writes (Elt F) f (headStores x w) = headRows (k0_pay9 x w) :=
  (View.read_whole cc0_stg6_0 _).symm.trans (funext fun y => View.read_writes_apply_of_pieces (Memref.whole cc0_stg6_0).view f (headRows (k0_pay9 x w)) (headStores x w)
    (head_agree x w) y (head_cover x w y))

end Cert.ProjIdeal.Run

end
-- ==== Proof.ProjBody.lean ====
/- The projection call's body, run once on one device. -/
module

public import proofs.«01_k».proof.Proof.ProjRows

@[expose] public section

noncomputable section

namespace Cert.ProjIdeal.Run

open Idealize.ShloMosaic Idealize.ShloMosaic.TcCoe
open Idealize.SL Idealize.SL.RA
open scoped Idealize.SL.BI
open Idealize.SL.BI (sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.ProjIdeal Cert.ProjIdeal.Gen

variable {F : FTy → Type} [FloatOps F] [Named F]

local notation "𝕄" => MT nD τ sig Unit (Elt F) ℕ UU ℕ

variable (D : Mail F)

/-- What a device knows of the cells it pays or waits on in the projection call: their invariants, and that they are open. -/
@[irreducible] def projInvs (K : GSem nD τ sig → ℕ) (c : Dev nD) : sProp 𝕄 :=
  iprop((cellInv ER (sched D) (K (barC0 c)) (barC0 c)) ∗ (cellInv ER (sched D) (K (barC0 (mate0 c))) (barC0 (mate0 c)) ∗ reached ER (barC0 (mate0 c)) 0)
    ∗ (bigSep Finset.univ fun i : Fin 3 => iprop(cellInv ER (sched D) (K (outC0 c i)) (outC0 c i) ∗ reached ER (outC0 c i) 0))
    ∗ (bigSep Finset.univ fun i : Fin 3 => iprop(cellInv ER (sched D) (K (inC0 c i)) (inC0 c i) ∗ reached ER (inC0 c i) 0))
    ∗ (bigSep Finset.univ fun i : Fin 3 => cellInv ER (sched D) (K (inC0 (mate0 c) i)) (inC0 (mate0 c) i)))
instance projInvs_persistent (K : GSem nD τ sig → ℕ) (c : Dev nD) : BI.Persistent (projInvs D K c) := by unfold projInvs; infer_instance

theorem inv_bar (K : GSem nD τ sig → ℕ) (c : Dev nD) : projInvs D K c ⊢ cellInv ER (sched D) (K (barC0 c)) (barC0 c) := by
  unfold projInvs; iintro ⟨H, -⟩; iexact H
theorem inv_barN (K : GSem nD τ sig → ℕ) (c : Dev nD) : projInvs D K c ⊢ cellInv ER (sched D) (K (barC0 (mate0 c))) (barC0 (mate0 c)) := by
  unfold projInvs; iintro ⟨-, ⟨H, -⟩, -⟩; iexact H
theorem open_barN (K : GSem nD τ sig → ℕ) (c : Dev nD) : projInvs D K c ⊢ reached ER (barC0 (mate0 c)) 0 := by
  unfold projInvs; iintro ⟨-, ⟨-, H⟩, -⟩; iexact H
theorem inv_out (K : GSem nD τ sig → ℕ) (c : Dev nD) (i : Fin 3) : projInvs D K c ⊢ cellInv ER (sched D) (K (outC0 c i)) (outC0 c i) := by
  unfold projInvs; iintro ⟨-, -, H, -⟩
  ihave H := (big_at i (fun i : Fin 3 => iprop(cellInv ER (sched D) (K (outC0 c i)) (outC0 c i) ∗ reached ER (outC0 c i) 0))) $$ H
  icases H with ⟨H, -⟩; iexact H
theorem open_out (K : GSem nD τ sig → ℕ) (c : Dev nD) (i : Fin 3) : projInvs D K c ⊢ reached ER (outC0 c i) 0 := by
  unfold projInvs; iintro ⟨-, -, H, -⟩
  ihave H := (big_at i (fun i : Fin 3 => iprop(cellInv ER (sched D) (K (outC0 c i)) (outC0 c i) ∗ reached ER (outC0 c i) 0))) $$ H
  icases H with ⟨-, H⟩; iexact H
theorem inv_in (K : GSem nD τ sig → ℕ) (c : Dev nD) (i : Fin 3) : projInvs D K c ⊢ cellInv ER (sched D) (K (inC0 c i)) (inC0 c i) := by
  unfold projInvs; iintro ⟨-, -, -, H, -⟩
  ihave H := (big_at i (fun i : Fin 3 => iprop(cellInv ER (sched D) (K (inC0 c i)) (inC0 c i) ∗ reached ER (inC0 c i) 0))) $$ H
  icases H with ⟨H, -⟩; iexact H
theorem open_in (K : GSem nD τ sig → ℕ) (c : Dev nD) (i : Fin 3) : projInvs D K c ⊢ reached ER (inC0 c i) 0 := by
  unfold projInvs; iintro ⟨-, -, -, H, -⟩
  ihave H := (big_at i (fun i : Fin 3 => iprop(cellInv ER (sched D) (K (inC0 c i)) (inC0 c i) ∗ reached ER (inC0 c i) 0))) $$ H
  icases H with ⟨-, H⟩; iexact H
theorem inv_inN (K : GSem nD τ sig → ℕ) (c : Dev nD) (i : Fin 3) : projInvs D K c ⊢ cellInv ER (sched D) (K (inC0 (mate0 c) i)) (inC0 (mate0 c) i) := by
  unfold projInvs; iintro ⟨-, -, -, -, H⟩
  iapply (big_at i (fun i : Fin 3 => cellInv ER (sched D) (K (inC0 (mate0 c) i)) (inC0 (mate0 c) i))); iexact H

/-- What lands at the partner is what the arrival hands over there. -/
theorem sent0 (c : Dev nD) (g : cc0_scratch1.ty.Contents (Elt F)) :
    ((Memref.whole cc0_scratch1).view.loc (mate0 c : Thread nD τ) ↦[(Memref.whole cc0_scratch1).view.set]{fullShare}
      ((Memref.whole cc0_scratch1).view.write (Elt F) g ((Memref.whole cc0_scratch0).view.read (Elt F) (D.cs c)) Finset.univ) : sProp 𝕄) ⊢ pay D (mate0 c) (.in0 0) :=
  (Entails.of_eq (landed (mate0 c) cc0_scratch1 g (D.cs c))).trans (Entails.of_eq (congrArg (fun d => pt (F := F) (mate0 c) cc0_scratch1 (D.cs d)) (mate0_mate0 c).symm))
theorem sent1 (c : Dev nD) (g : cc0_scratch2.ty.Contents (Elt F)) :
    ((Memref.whole cc0_scratch2).view.loc (mate0 c : Thread nD τ) ↦[(Memref.whole cc0_scratch2).view.set]{fullShare}
      ((Memref.whole cc0_scratch2).view.write (Elt F) g ((Memref.whole cc0_stg2_0).view.read (Elt F) (D.wk c)) Finset.univ) : sProp 𝕄) ⊢ pay D (mate0 c) (.in0 1) :=
  (Entails.of_eq (landed (mate0 c) cc0_scratch2 g (D.wk c))).trans (Entails.of_eq (congrArg (fun d => pt (F := F) (mate0 c) cc0_scratch2 (D.wk d)) (mate0_mate0 c).symm))
theorem sent2 (c : Dev nD) (g : cc0_scratch3.ty.Contents (Elt F)) :
    ((Memref.whole cc0_scratch3).view.loc (mate0 c : Thread nD τ) ↦[(Memref.whole cc0_scratch3).view.set]{fullShare}
      ((Memref.whole cc0_scratch3).view.write (Elt F) g ((Memref.whole cc0_stg3_0).view.read (Elt F) (D.wv c)) Finset.univ) : sProp 𝕄) ⊢ pay D (mate0 c) (.in0 2) :=
  (Entails.of_eq (landed (mate0 c) cc0_scratch3 g (D.wv c))).trans (Entails.of_eq (congrArg (fun d => pt (F := F) (mate0 c) cc0_scratch3 (D.wv d)) (mate0_mate0 c).symm))

/-- The body on the buffers the call binds. -/
abbrev projBody : Prog (TpuEff nD τ sig (Elt F) Λ₀ .tc) PUnit :=
  cc0__proj_body_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole main_arg4) (Memref.isWhole_whole _) (Memref.whole main_arg5) (Memref.isWhole_whole _) (Memref.whole cc0_stg4_0) (Memref.isWhole_whole _)
    (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8

theorem projBody_eq : bodyAt0 (F := F) t0_0 = projBody := by
  unfold bodyAt0; rw [cc0__proj_body_eq_skeleton]

/-- The device's half of the rows. -/
abbrev xHalf (c : Dev nD) (xb : cc0_stg0_0.ty.Contents (Elt F)) : Vec F S512x2048 .bf16 :=
  View.readAt (Elt F) (Memref.whole cc0_stg0_0).view (Rect.unit (s := S1024x2048) (k0_off1 c) S512x2048.size (Facts₀.k0_off1_inb c)).toLoadRect xb
/-- The five results, by the contents of the inputs (and of the partner's inputs, through the mail). -/
def qOf (c : Dev nD) (xb : cc0_stg0_0.ty.Contents (Elt F)) (wq : main_arg4.ty.Contents (Elt F)) : cc0_stg5_0.ty.Contents (Elt F) := k0_pay8 (xHalf c xb) wq
def qrOf (c : Dev nD) (xb : cc0_stg0_0.ty.Contents (Elt F)) (wqr : main_arg5.ty.Contents (Elt F)) : cc0_stg6_0.ty.Contents (Elt F) := headRows (k0_pay9 (xHalf c xb) wqr)
def krOf (xb : cc0_stg0_0.ty.Contents (Elt F)) (wkr : cc0_stg4_0.ty.Contents (Elt F)) : cc0_stg7_0.ty.Contents (Elt F) := k0_pay4 (k0_pay2 xb) wkr
def kOf (c : Dev nD) : cc0_stg8_0.ty.Contents (Elt F) := k0_pay27 (D.cs (mate0 c)) (k0_pay5 (D.cs c) (D.wk c)) (D.wk (mate0 c))
def vOf (c : Dev nD) : cc0_stg9_0.ty.Contents (Elt F) := k0_pay1 (D.cs (mate0 c)) (k0_pay6 (D.cs c) (D.wv c)) (D.wv (mate0 c))

/-- What the body leaves: its semaphores at zero, the inputs as they were, the five results, the scratch buffers. -/
def projPost (c : Dev nD) (O : CellTallies nD τ sig Unit) (xb : cc0_stg0_0.ty.Contents (Elt F)) (wd : cc0_stg1_0.ty.Contents (Elt F)) (wkr : cc0_stg4_0.ty.Contents (Elt F))
    (wq : main_arg4.ty.Contents (Elt F)) (wqr : main_arg5.ty.Contents (Elt F)) : sProp 𝕄 :=
  iprop(semVal (barC0 c) 0 ∗ semVal (outC0 c 0) 0 ∗ semVal (outC0 c 1) 0 ∗ semVal (outC0 c 2) 0 ∗ semVal (inC0 c 0) 0 ∗ semVal (inC0 c 1) 0 ∗ semVal (inC0 c 2) 0
    ∗ semVal ((c : Thread nD τ), .dma (16 : DmaSem sig)) 0 ∗ semVal ((c : Thread nD τ), .dma (17 : DmaSem sig)) 0
    ∗ pt c cc0_stg0_0 xb ∗ pt c cc0_stg1_0 wd ∗ pt c cc0_stg2_0 (D.wk c) ∗ pt c cc0_stg3_0 (D.wv c) ∗ pt c cc0_stg4_0 wkr ∗ pt c main_arg4 wq ∗ pt c main_arg5 wqr
    ∗ pt c cc0_stg5_0 (qOf c xb wq) ∗ pt c cc0_stg6_0 (qrOf c xb wqr) ∗ pt c cc0_stg7_0 (krOf xb wkr) ∗ pt c cc0_stg8_0 (kOf D c) ∗ pt c cc0_stg9_0 (vOf D c)
    ∗ (∃ W', owes (c : Thread nD τ) O W')
    ∗ (∃ g, pt (F := F) c cc0_scratch0 g) ∗ (∃ g, pt (F := F) c cc0_scratch1 g) ∗ (∃ g, pt (F := F) c cc0_scratch2 g) ∗ (∃ g, pt (F := F) c cc0_scratch3 g)
    ∗ (∃ g, pt (F := F) c cc0_scratch4 g) ∗ (∃ g, pt (F := F) c cc0_scratch5 g))

set_option maxHeartbeats 1000000 in
theorem projRun (K : GSem nD τ sig → ℕ) (c : Dev nD) (W : Waits sig Unit) (O : CellTallies nD τ sig Unit) (hO : Above 2 O)
    (xb : cc0_stg0_0.ty.Contents (Elt F)) (wd : cc0_stg1_0.ty.Contents (Elt F)) (wkr : cc0_stg4_0.ty.Contents (Elt F))
    (wq : main_arg4.ty.Contents (Elt F)) (wqr : main_arg5.ty.Contents (Elt F))
    (f5 : cc0_stg5_0.ty.Contents (Elt F)) (f6 : cc0_stg6_0.ty.Contents (Elt F)) (f7 : cc0_stg7_0.ty.Contents (Elt F))
    (f8 : cc0_stg8_0.ty.Contents (Elt F)) (f9 : cc0_stg9_0.ty.Contents (Elt F))
    (g0 : cc0_scratch0.ty.Contents (Elt F)) (g1 : cc0_scratch1.ty.Contents (Elt F)) (g2 : cc0_scratch2.ty.Contents (Elt F))
    (g3 : cc0_scratch3.ty.Contents (Elt F)) (g4 : cc0_scratch4.ty.Contents (Elt F)) (g5 : cc0_scratch5.ty.Contents (Elt F))
    (hcs : k0_pay3 xb wd = D.cs c) :
    iprop(projInvs D K c
      ∗ atPos ER (barC0 c) 0 ∅ 0 ∗ atPos ER (outC0 c 0) 0 ∅ 0 ∗ atPos ER (outC0 c 1) 0 ∅ 0 ∗ atPos ER (outC0 c 2) 0 ∅ 0
      ∗ atPos ER (inC0 c 0) 0 ∅ 0 ∗ atPos ER (inC0 c 1) 0 ∅ 0 ∗ atPos ER (inC0 c 2) 0 ∅ 0
      ∗ dutyTok ER (barC0 (mate0 c)) 0 () ∗ dutyTok ER (inC0 (mate0 c) 0) 0 () ∗ dutyTok ER (inC0 (mate0 c) 1) 0 () ∗ dutyTok ER (inC0 (mate0 c) 2) 0 ()
      ∗ dutyTok ER (outC0 c 0) 0 () ∗ dutyTok ER (outC0 c 1) 0 () ∗ dutyTok ER (outC0 c 2) 0 ()
      ∗ cred (tallyAt (barC0 c) () 1) ∗ cred (tallyAt (inC0 c 0) () N1) ∗ cred (tallyAt (inC0 c 1) () N2) ∗ cred (tallyAt (inC0 c 2) () N2)
      ∗ levAts L lv
      ∗ semVal ((c : Thread nD τ), .dma (16 : DmaSem sig)) 0 ∗ semVal ((c : Thread nD τ), .dma (17 : DmaSem sig)) 0
      ∗ pt c cc0_stg0_0 xb ∗ pt c cc0_stg1_0 wd ∗ pq c cc0_stg2_0 kept (D.wk c) ∗ pq c cc0_stg2_0 lent (D.wk c)
      ∗ pq c cc0_stg3_0 kept (D.wv c) ∗ pq c cc0_stg3_0 lent (D.wv c) ∗ pt c cc0_stg4_0 wkr
      ∗ pt c main_arg4 wq ∗ pt c main_arg5 wqr
      ∗ pt c cc0_stg5_0 f5 ∗ pt c cc0_stg6_0 f6 ∗ pt c cc0_stg7_0 f7 ∗ pt c cc0_stg8_0 f8 ∗ pt c cc0_stg9_0 f9
      ∗ pt c cc0_scratch0 g0 ∗ pt c cc0_scratch1 g1 ∗ pt c cc0_scratch2 g2 ∗ pt c cc0_scratch3 g3 ∗ pt c cc0_scratch4 g4 ∗ pt c cc0_scratch5 g5
      ∗ owes (c : Thread nD τ) (O + tallyAt (inC0 (mate0 c) 2) () N2 + tallyAt (inC0 (mate0 c) 1) () N2 + tallyAt (inC0 (mate0 c) 0) () N1 + tallyAt (barC0 (mate0 c)) () 1) W)
      ⊢ wp frame (wpE (defs₀ (F := F)) 𝒱₀ (c : Thread nD τ) none) Set.univ (projBody (F := F))
          (fun _ => projPost D c O xb wd wkr wq wqr) := by
  have hO0 : Above (lvC (.out0 0)) O := hO.mono (by decide)
  have hO1 : ∀ i k, Above (lvC .bar0) (tallyAt (inC0 (mate0 c) i) () k) := fun i k => Above.tally _ _ _ (by rw [cl_in0]; exact Nat.one_lt_two)
  have hO3 : Above (lvC .bar0) (O + tallyAt (inC0 (mate0 c) 2) () N2 + tallyAt (inC0 (mate0 c) 1) () N2 + tallyAt (inC0 (mate0 c) 0) () N1) :=
    (((hO.mono (by decide)).add (hO1 _ _)).add (hO1 _ _)).add (hO1 _ _)
  have r0 : View.readAt (Elt F) (Memref.whole cc0_stg0_0).view (Rect.unit ![0, 0] S1024x2048.size inb_S1024x2048_S1024x2048_0_0).toLoadRect xb = xb := rd_all cc0_stg0_0 xb _ (by decide)
  have r1 : View.readAt (Elt F) (Memref.whole cc0_stg1_0).view (Rect.unit ![0, 0] S2048x128.size inb_S2048x128_S2048x128_0_0).toLoadRect wd = wd := rd_all cc0_stg1_0 wd _ (by decide)
  have r2 : View.readAt (Elt F) (Memref.whole cc0_scratch0).view (Rect.unit ![0, 0] S1024x128.size inb_S1024x128_S1024x128_0_0).toLoadRect (D.cs c) = (D.cs c) := rd_all cc0_scratch0 (D.cs c) _ (by decide)
  have r3 : View.readAt (Elt F) (Memref.whole cc0_stg2_0).view (Rect.unit ![0, 0] S128x2048.size inb_S128x2048_S128x2048_0_0).toLoadRect (D.wk c) = (D.wk c) := rd_all cc0_stg2_0 (D.wk c) _ (by decide)
  have r4 : View.readAt (Elt F) (Memref.whole cc0_stg3_0).view (Rect.unit ![0, 0] S128x2048.size inb_S128x2048_S128x2048_0_0).toLoadRect (D.wv c) = (D.wv c) := rd_all cc0_stg3_0 (D.wv c) _ (by decide)
  have r5 : View.readAt (Elt F) (Memref.whole cc0_stg4_0).view (Rect.unit ![0, 0] S2048x32.size inb_S2048x32_S2048x32_0_0).toLoadRect wkr = wkr := rd_all cc0_stg4_0 wkr _ (by decide)
  have r6 : View.readAt (Elt F) (Memref.whole cc0_scratch1).view (Rect.unit ![0, 0] S1024x128.size inb_S1024x128_S1024x128_0_0).toLoadRect (D.cs (mate0 c)) = (D.cs (mate0 c)) := rd_all cc0_scratch1 (D.cs (mate0 c)) _ (by decide)
  have r7 : View.readAt (Elt F) (Memref.whole cc0_scratch2).view (Rect.unit ![0, 0] S128x2048.size inb_S128x2048_S128x2048_0_0).toLoadRect (D.wk (mate0 c)) = (D.wk (mate0 c)) := rd_all cc0_scratch2 (D.wk (mate0 c)) _ (by decide)
  have r8 : View.readAt (Elt F) (Memref.whole cc0_scratch3).view (Rect.unit ![0, 0] S128x2048.size inb_S128x2048_S128x2048_0_0).toLoadRect (D.wv (mate0 c)) = (D.wv (mate0 c)) := rd_all cc0_scratch3 (D.wv (mate0 c)) _ (by decide)
  have r9 : View.readAt (Elt F) (Memref.whole cc0_scratch4).view (Rect.unit ![0, 0] S2048x2048.size inb_S2048x2048_S2048x2048_0_0).toLoadRect wq = wq := rd_all cc0_scratch4 wq _ (by decide)
  have r10 : View.readAt (Elt F) (Memref.whole cc0_scratch5).view (Rect.unit ![0, 0] S2048x512.size inb_S2048x512_S2048x512_0_0).toLoadRect wqr = wqr := rd_all cc0_scratch5 wqr _ (by decide)
  have mw16 := mayWait (F := F) c (.dma 16) O (hO.mono (by decide))
  have mw17 := mayWait (F := F) c (.dma 17) O (hO.mono (by decide))
  iintro ⟨#HI, Ab, Ao0, Ao1, Ao2, Ai0, Ai1, Ai2,
    Tb, Tn0, Tn1, Tn2, To0, To1, To2, Cb, Ci0, Ci1, Ci2, #Hlev, V16, V17, X0, X1, X2, X2l, X3, X3l, X4, XA4, XA5, X5, X6, X7, X8, X9, S0, S1, S2, S3, S4, S5, HO⟩
  ihave Ab := (box_in _) $$ Ab
  ihave Ao0 := (box_in _) $$ Ao0
  ihave Ao1 := (box_in _) $$ Ao1
  ihave Ao2 := (box_in _) $$ Ao2
  ihave Ai0 := (box_in _) $$ Ai0
  ihave Ai1 := (box_in _) $$ Ai1
  ihave Ai2 := (box_in _) $$ Ai2
  ihave Tb := (box_in _) $$ Tb
  ihave Tn0 := (box_in _) $$ Tn0
  ihave Tn1 := (box_in _) $$ Tn1
  ihave Tn2 := (box_in _) $$ Tn2
  ihave To0 := (box_in _) $$ To0
  ihave To1 := (box_in _) $$ To1
  ihave To2 := (box_in _) $$ To2
  ihave Cb := (box_in _) $$ Cb
  ihave Ci0 := (box_in _) $$ Ci0
  ihave Ci1 := (box_in _) $$ Ci1
  ihave Ci2 := (box_in _) $$ Ci2
  ihave S1 := (box_in _) $$ S1
  ihave S2 := (box_in _) $$ S2
  ihave S3 := (box_in _) $$ S3
  ihave HO := (box_in _) $$ HO
  ihave X2l := (box_in _) $$ X2l
  ihave X3l := (box_in _) $$ X3l
  unfold projBody
  unfold cc0__proj_body_skel
  simp only [k0_part1_eq_skeleton, k0_part2_eq_skeleton, k0_part3_eq_skeleton, k0_part4_eq_skeleton, k0_part5_eq_skeleton, k0_part6_eq_skeleton]
  sl_exec
  ihave HO := (box_out _) $$ HO
  ihave Tb := (box_out _) $$ Tb
  ihave S1 := (box_out _) $$ S1
  ihave S2 := (box_out _) $$ S2
  ihave S3 := (box_out _) $$ S3
  iapply (exSignal D (κ := .bar0) (K (barC0 (mate0 c))) c (mate0 c) barrier0 cl_bar0 (by decide) rfl 1 rfl (dev0_1 c) rfl _ W) $$ [HO Tb S1 S2 S3]
  · isplitr; · iapply (inv_barN D K c); iexact HI
    isplitl [HO]; · iexact HO
    isplitl [Tb]; · iexact Tb
    isplitr; · iapply (open_barN D K c); iexact HI
    unfold pay; rw [mate0_mate0]
    isplitl [S1]; · iexists _; iexact S1
    isplitl [S2]; · iexists _; iexact S2
    isplitl [S3]; · iexists _; iexact S3
    isplitr; · iapply (open_in D K c 0); iexact HI
    isplitr; · iapply (open_in D K c 1); iexact HI
    iapply (open_in D K c 2); iexact HI
  iintro HO
  ihave HO := (box_in _) $$ HO
  sl_exec
  ihave HO := (box_out _) $$ HO
  ihave Ab := (box_out _) $$ Ab
  ihave Cb := (box_out _) $$ Cb
  iapply (exWaitReg D (κ := .bar0) (K (barC0 c)) c barrier0 cl_bar0 (by decide) rfl rfl rfl _ W hO3) $$ [HO Ab Cb]
  · isplitr; · iapply (inv_bar D K c); iexact HI
    isplitl [Cb]; · iexact Cb
    isplitl [HO]; · iexact HO
    isplitr; · iexact Hlev
    iexact Ab
  unfold pay
  iintro ⟨HO, Ab, ⟨%gN1, N1⟩, ⟨%gN2, N2⟩, ⟨%gN3, N3⟩, #RN0, #RN1, #RN2⟩
  ihave HO := (box_in _) $$ HO
  ihave Ab := (box_in _) $$ Ab
  ihave N1 := (box_in _) $$ N1
  ihave N2 := (box_in _) $$ N2
  ihave N3 := (box_in _) $$ N3
  sl_exec
  ihave S0 := (halve c cc0_scratch0 (D.cs c) (wr_all cc0_scratch0 _ _ _ (by decide) hcs)) $$ S0
  icases S0 with ⟨S0, S0l⟩
  ihave HO := (box_out _) $$ HO
  ihave Tn0 := (box_out _) $$ Tn0
  ihave To0 := (box_out _) $$ To0
  ihave N1 := (box_out _) $$ N1
  iapply (exSend D (src := Memref.whole cc0_scratch0) (dst := Memref.whole cc0_scratch1) (κo := .out0 0) (κi := .in0 0) (K (outC0 c 0)) (K (inC0 (mate0 c) 0)) c (mate0 c) (outS0 0) (inS0 0) (dev0_2 c) rfl rfl lent (D.cs c) gN1
      (cl_out0 0) (by decide) (cl_in0 0) (by decide) N1 N1_eq rfl rfl _ _ (Entails.of_eq (toSet c cc0_scratch0 lent _)) (sent0 D c gN1) (by routes)) $$ [HO Tn0 To0 N1 S0l]
  · isplitr; · iapply (inv_out D K c 0); iexact HI
    isplitr; · iapply (inv_inN D K c 0); iexact HI
    isplitl [S0l]; · rw [toSet]; iexact S0l
    isplitl [N1]; · rw [toSet]; iexact N1
    isplitl [HO]; · iexact HO
    isplitl [To0]; · iexact To0
    isplitr; · iapply (open_out D K c 0); iexact HI
    isplitl [Tn0]; · iexact Tn0
    iexact RN0
  iintro ⟨Co0, HO⟩
  ihave Co0 := (box_in _) $$ Co0
  ihave HO := (box_in _) $$ HO
  sl_exec
  ihave HO := (box_out _) $$ HO
  ihave Tn1 := (box_out _) $$ Tn1
  ihave To1 := (box_out _) $$ To1
  ihave N2 := (box_out _) $$ N2
  ihave X2l := (box_out _) $$ X2l
  iapply (exSend D (src := Memref.whole cc0_stg2_0) (dst := Memref.whole cc0_scratch2) (κo := .out0 1) (κi := .in0 1) (K (outC0 c 1)) (K (inC0 (mate0 c) 1)) c (mate0 c) (outS0 1) (inS0 1) (dev0_3 c) rfl rfl lent (D.wk c) gN2
      (cl_out0 1) (by decide) (cl_in0 1) (by decide) N2 N2_eq2 rfl rfl _ _ (Entails.of_eq (toSet c cc0_stg2_0 lent _)) (sent1 D c gN2) (by routes)) $$ [HO Tn1 To1 N2 X2l]
  · isplitr; · iapply (inv_out D K c 1); iexact HI
    isplitr; · iapply (inv_inN D K c 1); iexact HI
    isplitl [X2l]; · rw [toSet]; iexact X2l
    isplitl [N2]; · rw [toSet]; iexact N2
    isplitl [HO]; · iexact HO
    isplitl [To1]; · iexact To1
    isplitr; · iapply (open_out D K c 1); iexact HI
    isplitl [Tn1]; · iexact Tn1
    iexact RN1
  iintro ⟨Co1, HO⟩
  ihave Co1 := (box_in _) $$ Co1
  ihave HO := (box_in _) $$ HO
  sl_exec
  ihave HO := (box_out _) $$ HO
  ihave Tn2 := (box_out _) $$ Tn2
  ihave To2 := (box_out _) $$ To2
  ihave N3 := (box_out _) $$ N3
  ihave X3l := (box_out _) $$ X3l
  iapply (exSend D (src := Memref.whole cc0_stg3_0) (dst := Memref.whole cc0_scratch3) (κo := .out0 2) (κi := .in0 2) (K (outC0 c 2)) (K (inC0 (mate0 c) 2)) c (mate0 c) (outS0 2) (inS0 2) (dev0_4 c) rfl rfl lent (D.wv c) gN3
      (cl_out0 2) (by decide) (cl_in0 2) (by decide) N2 N2_eq3 rfl rfl _ _ (Entails.of_eq (toSet c cc0_stg3_0 lent _)) (sent2 D c gN3) (by routes)) $$ [HO Tn2 To2 N3 X3l]
  · isplitr; · iapply (inv_out D K c 2); iexact HI
    isplitr; · iapply (inv_inN D K c 2); iexact HI
    isplitl [X3l]; · rw [toSet]; iexact X3l
    isplitl [N3]; · rw [toSet]; iexact N3
    isplitl [HO]; · iexact HO
    isplitl [To2]; · iexact To2
    isplitr; · iapply (open_out D K c 2); iexact HI
    isplitl [Tn2]; · iexact Tn2
    iexact RN2
  iintro ⟨Co2, HO⟩
  ihave Co2 := (box_in _) $$ Co2
  sl_exec
  ihave Ao0 := (box_out _) $$ Ao0
  ihave Co0 := (box_out _) $$ Co0
  iapply (exWaitDma D (κ := .out0 0) (K (outC0 c 0)) c (outS0 0) (cl_out0 0) (by decide) N1 rfl rfl N1_eq0 O _ hO0) $$ [HO Ao0 Co0]
  · isplitr; · iapply (inv_out D K c 0); iexact HI
    isplitl [Co0]; · iexact Co0
    isplitl [HO]; · iexact HO
    isplitr; · iexact Hlev
    iexact Ao0
  iintro ⟨HO, Ao0, S0l⟩
  unfold pay
  ihave Ao0 := (box_in _) $$ Ao0
  ihave S0l := (box_in _) $$ S0l
  sl_exec
  ihave Ai0 := (box_out _) $$ Ai0
  ihave Ci0 := (box_out _) $$ Ci0
  iapply (exWaitDma D (κ := .in0 0) (K (inC0 c 0)) c (inS0 0) (cl_in0 0) (by decide) N1 rfl rfl N1_eq O _ hO) $$ [HO Ai0 Ci0]
  · isplitr; · iapply (inv_in D K c 0); iexact HI
    isplitl [Ci0]; · iexact Ci0
    isplitl [HO]; · iexact HO
    isplitr; · iexact Hlev
    iexact Ai0
  iintro ⟨HO, Ai0, S1⟩
  unfold pay
  ihave Ai0 := (box_in _) $$ Ai0
  sl_exec
  ihave Ao1 := (box_out _) $$ Ao1
  ihave Co1 := (box_out _) $$ Co1
  iapply (exWaitDma D (κ := .out0 1) (K (outC0 c 1)) c (outS0 1) (cl_out0 1) (by decide) N2 rfl rfl N2_eqw2 O _ hO0) $$ [HO Ao1 Co1]
  · isplitr; · iapply (inv_out D K c 1); iexact HI
    isplitl [Co1]; · iexact Co1
    isplitl [HO]; · iexact HO
    isplitr; · iexact Hlev
    iexact Ao1
  iintro ⟨HO, Ao1, X2l⟩
  unfold pay
  ihave Ao1 := (box_in _) $$ Ao1
  ihave X2l := (box_in _) $$ X2l
  sl_exec
  ihave Ai1 := (box_out _) $$ Ai1
  ihave Ci1 := (box_out _) $$ Ci1
  iapply (exWaitDma D (κ := .in0 1) (K (inC0 c 1)) c (inS0 1) (cl_in0 1) (by decide) N2 rfl rfl N2_eq2 O _ hO) $$ [HO Ai1 Ci1]
  · isplitr; · iapply (inv_in D K c 1); iexact HI
    isplitl [Ci1]; · iexact Ci1
    isplitl [HO]; · iexact HO
    isplitr; · iexact Hlev
    iexact Ai1
  iintro ⟨HO, Ai1, S2⟩
  unfold pay
  ihave Ai1 := (box_in _) $$ Ai1
  sl_exec
  ihave Ao2 := (box_out _) $$ Ao2
  ihave Co2 := (box_out _) $$ Co2
  iapply (exWaitDma D (κ := .out0 2) (K (outC0 c 2)) c (outS0 2) (cl_out0 2) (by decide) N2 rfl rfl N2_eqw3 O _ hO0) $$ [HO Ao2 Co2]
  · isplitr; · iapply (inv_out D K c 2); iexact HI
    isplitl [Co2]; · iexact Co2
    isplitl [HO]; · iexact HO
    isplitr; · iexact Hlev
    iexact Ao2
  iintro ⟨HO, Ao2, X3l⟩
  unfold pay
  ihave Ao2 := (box_in _) $$ Ao2
  ihave X3l := (box_in _) $$ X3l
  sl_exec
  ihave Ai2 := (box_out _) $$ Ai2
  ihave Ci2 := (box_out _) $$ Ci2
  iapply (exWaitDma D (κ := .in0 2) (K (inC0 c 2)) c (inS0 2) (cl_in0 2) (by decide) N2 rfl rfl N2_eq3 O _ hO) $$ [HO Ai2 Ci2]
  · isplitr; · iapply (inv_in D K c 2); iexact HI
    isplitl [Ci2]; · iexact Ci2
    isplitl [HO]; · iexact HO
    isplitr; · iexact Hlev
    iexact Ai2
  iintro ⟨HO, Ai2, S3⟩
  unfold pay
  ihave Ai2 := (box_in _) $$ Ai2
  sl_exec
  ihave Ab := (box_out _) $$ Ab
  ihave Ao0 := (box_out _) $$ Ao0
  ihave Ao1 := (box_out _) $$ Ao1
  ihave Ao2 := (box_out _) $$ Ao2
  ihave Ai0 := (box_out _) $$ Ai0
  ihave Ai1 := (box_out _) $$ Ai1
  ihave Ai2 := (box_out _) $$ Ai2
  ihave S0l := (box_out _) $$ S0l
  ihave X2l := (box_out _) $$ X2l
  ihave X3l := (box_out _) $$ X3l
  ihave S0 := (unhalve c cc0_scratch0 (D.cs c)) $$ [S0 S0l]
  · isplitl [S0]; · iexact S0
    iexact S0l
  ihave X2 := (unhalve c cc0_stg2_0 (D.wk c)) $$ [X2 X2l]
  · isplitl [X2]; · iexact X2
    iexact X2l
  ihave X3 := (unhalve c cc0_stg3_0 (D.wv c)) $$ [X3 X3l]
  · isplitl [X3]; · iexact X3
    iexact X3l
  have e73 : projRun.sl.v73 wq g4 = wq := by
    refine Eq.trans ?_ r9
    exact congrArg (View.readAt (Elt F) (Memref.whole cc0_scratch4).view (Rect.unit ![0, 0] S2048x2048.size inb_S2048x2048_S2048x2048_0_0).toLoadRect) (View.write_whole_univ cc0_scratch4 g4 wq)
  have e80 : projRun.sl.v80 wqr g5 = wqr := by
    refine Eq.trans ?_ r10
    exact congrArg (View.readAt (Elt F) (Memref.whole cc0_scratch5).view (Rect.unit ![0, 0] S2048x512.size inb_S2048x512_S2048x512_0_0).toLoadRect) (View.write_whole_univ cc0_scratch5 g5 wqr)
  have er : projRun.sl.r c xb wqr g5 = k0_pay9 (xHalf c xb) wqr := by
    unfold projRun.sl.r; rw [e80]
  have er1 : projRun.sl.r_1 c xb wqr g5 = k0_pay19 (k0_pay9 (xHalf c xb) wqr) := by
    unfold projRun.sl.r_1; rw [er]
  rw [e73, e80, er, er1]
  have e173 : projRun.sl.v173 D c = k0_pay5 (D.cs c) (D.wk c) := by
    unfold projRun.sl.v173
    rw [View.readCov_cons_toLoadRect]
  have e180 : projRun.sl.v180 D c = k0_pay6 (D.cs c) (D.wv c) := by
    unfold projRun.sl.v180
    rw [View.readCov_cons_toLoadRect]
  have er3 : projRun.sl.r_3 D c = kOf D c := by
    unfold projRun.sl.r_3; rw [e173]; rfl
  have er2 : projRun.sl.r_2 D c = D.cs (mate0 c) := rfl
  have w5 : (Memref.whole cc0_stg5_0).view.writes (Elt F) f5
      [⟨Rect.unit ![0, 0] S512x2048.size inb_S512x2048_S512x2048_0_0, k0_pay8 (xHalf c xb) wq⟩] = qOf c xb wq := wr_top cc0_stg5_0 f5 (qOf c xb wq) [] _ (by decide)
  have w6 := head_stores (xHalf c xb) wqr f6
  have w7 : (Memref.whole cc0_stg7_0).view.writes (Elt F) f7
      [⟨Rect.unit ![0, 0] S1024x32.size inb_S1024x32_S1024x32_0_0, k0_pay4 (k0_pay2 xb) wkr⟩] = krOf xb wkr := wr_top cc0_stg7_0 f7 (krOf xb wkr) [] _ (by decide)
  have w8 : (Memref.whole cc0_stg8_0).view.writes (Elt F) f8
      [⟨Rect.unit ![0, 0] ![1024, 2048] inb_S1024x2048_S1024x2048_0_0, projRun.sl.r_3 D c⟩,
        ⟨Rect.unit ![0, 0] S1024x2048.size inb_S1024x2048_S1024x2048_0_0, k0_pay5 (D.cs c) (D.wk c)⟩] = kOf D c := by
    rw [er3]
    exact wr_top cc0_stg8_0 f8 (kOf D c) _ _ (by decide)
  have w9 : (Memref.whole cc0_stg9_0).view.writes (Elt F) f9
      [⟨Rect.unit ![0, 0] ![1024, 2048] inb_S1024x2048_S1024x2048_0_0, k0_pay1 (projRun.sl.r_2 D c) (projRun.sl.v180 D c) (D.wv (mate0 c))⟩,
        ⟨Rect.unit ![0, 0] S1024x2048.size inb_S1024x2048_S1024x2048_0_0, k0_pay6 (D.cs c) (D.wv c)⟩] = vOf D c := by
    rw [e180, er2]
    exact wr_top cc0_stg9_0 f9 (vOf D c) _ _ (by decide)
  rw [w5, w6, w7, w8, w9]
  rw [wp_ret]
  imod (exClose D (K (barC0 c)) (barC0 c)) $$ [Ab] with Ab
  · isplitr; · iapply (inv_bar D K c); iexact HI
    iexact Ab
  imod (exClose D (K (outC0 c 0)) (outC0 c 0)) $$ [Ao0] with Ao0
  · isplitr; · iapply (inv_out D K c 0); iexact HI
    iexact Ao0
  imod (exClose D (K (outC0 c 1)) (outC0 c 1)) $$ [Ao1] with Ao1
  · isplitr; · iapply (inv_out D K c 1); iexact HI
    iexact Ao1
  imod (exClose D (K (outC0 c 2)) (outC0 c 2)) $$ [Ao2] with Ao2
  · isplitr; · iapply (inv_out D K c 2); iexact HI
    iexact Ao2
  imod (exClose D (K (inC0 c 0)) (inC0 c 0)) $$ [Ai0] with Ai0
  · isplitr; · iapply (inv_in D K c 0); iexact HI
    iexact Ai0
  imod (exClose D (K (inC0 c 1)) (inC0 c 1)) $$ [Ai1] with Ai1
  · isplitr; · iapply (inv_in D K c 1); iexact HI
    iexact Ai1
  imod (exClose D (K (inC0 c 2)) (inC0 c 2)) $$ [Ai2] with Ai2
  · isplitr; · iapply (inv_in D K c 2); iexact HI
    iexact Ai2
  imodintro
  unfold projPost
  isplitl [Ab]; · iexact Ab
  isplitl [Ao0]; · iexact Ao0
  isplitl [Ao1]; · iexact Ao1
  isplitl [Ao2]; · iexact Ao2
  isplitl [Ai0]; · iexact Ai0
  isplitl [Ai1]; · iexact Ai1
  isplitl [Ai2]; · iexact Ai2
  isplitl [V16]; · iexact V16
  isplitl [V17]; · iexact V17
  isplitl [X0]; · iexact X0
  isplitl [X1]; · iexact X1
  isplitl [X2]; · iexact X2
  isplitl [X3]; · iexact X3
  isplitl [X4]; · iexact X4
  isplitl [XA4]; · iexact XA4
  isplitl [XA5]; · iexact XA5
  isplitl [X5]; · iexact X5
  isplitl [X6]; · iexact X6
  isplitl [X7]; · iexact X7
  isplitl [X8]; · iexact X8
  isplitl [X9]; · iexact X9
  isplitl [HO]; · iexists _; iexact HO
  isplitl [S0]; · iexists _; iexact S0
  isplitl [S1]; · iexists _; iexact S1
  isplitl [S2]; · iexists _; iexact S2
  isplitl [S3]; · iexists _; iexact S3
  isplitl [S4]; · iexists _; iexact S4
  iexists _; iexact S5

end Cert.ProjIdeal.Run

end
-- ==== Proof.ProjGhost.lean ====
/- What the run's start hands out: every exchange cell's invariant made from its counter at zero, the positions, the
   tokens of what each device pays, dealt to the payer, and the credits for what others owe a device. -/
module

public import proofs.«01_k».proof.Proof.ProjBody

@[expose] public section

noncomputable section

namespace Cert.ProjIdeal.Run

open Idealize.ShloMosaic Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.ProjIdeal Cert.ProjIdeal.Gen

variable {F : FTy → Type} [FloatOps F] [Named F]

local notation "𝕄" => MT nD τ sig Unit (Elt F) ℕ UU ℕ

variable (D : Mail F)

/-! ## The cells, numbered -/

/-- A device's seven exchange cells: the barrier's, three departures, three arrivals. -/
abbrev csem : Fin 7 → SemLoc sig := fun
  | 0 => .reg barrier0 | 1 => .dma (outS0 0) | 2 => .dma (outS0 1) | 3 => .dma (outS0 2) | 4 => .dma (inS0 0) | 5 => .dma (inS0 1) | 6 => .dma (inS0 2)
abbrev kcell (ck : Dev nD × Fin 7) : GSem nD τ sig := ((ck.1 : Thread nD τ), csem ck.2)

theorem csem_inj : Function.Injective csem := by decide
theorem cell_eq_iff {a b : Dev nD} {s s' : SemLoc sig} : (((a : Thread nD τ), s) : GSem nD τ sig) = ((b : Thread nD τ), s') ↔ a = b ∧ s = s' :=
  ⟨fun h => ⟨congrArg (fun g : GSem nD τ sig => g.1.1) h, congrArg Prod.snd h⟩, fun ⟨h, h'⟩ => by rw [h, h']⟩
theorem kcell_inj : Function.Injective (kcell : Dev nD × Fin 7 → GSem nD τ sig) := by
  rintro ⟨c, k⟩ ⟨c', k'⟩ h
  obtain ⟨h1, h2⟩ := cell_eq_iff.mp h
  have h3 : c = c' := h1
  have h4 : k = k' := csem_inj h2
  rw [h3, h4]

/-- The kernel's own semaphores: the departures, the arrivals and the two of its local copies. -/
abbrev osem : Fin 8 → SemLoc sig := fun
  | 0 => .dma (outS0 0) | 1 => .dma (outS0 1) | 2 => .dma (outS0 2) | 3 => .dma (inS0 0) | 4 => .dma (inS0 1) | 5 => .dma (inS0 2)
  | 6 => .dma (16 : DmaSem sig) | 7 => .dma (17 : DmaSem sig)
theorem ownSemFacts : Pipeline.OwnSemFacts cfg0.spec osem := by decide

def xcells : Finset (GSem nD τ sig) := Finset.univ.map ⟨kcell, kcell_inj⟩
theorem mem_xcells (ck : Dev nD × Fin 7) : kcell ck ∈ xcells := Finset.mem_map.mpr ⟨ck, Finset.mem_univ _, rfl⟩
abbrev tokOf (ck : Dev nD × Fin 7) : GSem nD τ sig × ℕ × Unit := (kcell ck, 0, ())
theorem tokOf_inj : Function.Injective tokOf := fun a b h => kcell_inj (congrArg Prod.fst h)
def xtoks : Finset (GSem nD τ sig × ℕ × Unit) := Finset.univ.map ⟨tokOf, tokOf_inj⟩

def u₀ : UU := (initOf (Pipeline.cells cfgs cellOf_inj) (Pipeline.launchToks cfgs cellOf_inj), (initOf xcells xtoks, 1))

/-! ## What is minted, per device -/

def toks (c : Dev nD) : sProp 𝕄 := bigSep Finset.univ fun k : Fin 7 => dutyTok ER (kcell (c, k)) 0 ()
def G (c : Dev nD) : sProp 𝕄 :=
  iprop((bigSep Finset.univ fun k : Fin 7 => roundState ER (sched D) (kcell (c, k)) 0)
    ∗ (bigSep Finset.univ fun k : Fin 7 => iprop(atPos ER (kcell (c, k)) 0 ∅ 0 ∗ reached ER (kcell (c, k)) 0)) ∗ toks (F := F) c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem over_cells (Φ : GSem nD τ sig → sProp 𝕄) :
    bigSep xcells Φ = bigSep Finset.univ fun c : Dev nD => bigSep Finset.univ fun k : Fin 7 => Φ (kcell (c, k)) := by
  unfold xcells; rw [bigSep_map, bigSep_univ_prod]; rfl

theorem fund_all : BI.own (ER (F := F) (initOf xcells xtoks)) ⊢ (|==> bigSep Finset.univ (G D) : sProp 𝕄) := by
  have hT : bigSep xtoks (fun x => (dutyTok ER x.1 x.2.1 x.2.2 : sProp 𝕄)) = bigSep Finset.univ fun c : Dev nD => toks c := by
    unfold xtoks; rw [bigSep_map, bigSep_univ_prod]; rfl
  iintro HX
  imod (Rounds.fund ER (sched D) xcells xtoks) $$ HX with ⟨Hst, Hr, Hat, Htok⟩
  imodintro
  ihave Hst' := (Entails.of_eq (over_cells fun g => roundState ER (sched D) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero become invariants -/

/-- The two counters of the local copies: no other device knows them. -/
def locals (c : Dev nD) : sProp 𝕄 := iprop(semVal ((c : Thread nD τ), .dma (16 : DmaSem sig)) 0 ∗ semVal ((c : Thread nD τ), .dma (17 : DmaSem sig)) 0)

theorem ownSems0_eq (c : Dev nD) : (Pipeline.ownSems0 (Ix := Unit) (Name := ℕ) (U := UU) (Lvl := ℕ) (Val := Elt F) (τ := τ) osem c : sProp 𝕄)
    = iprop(semVal (outC0 c 0) 0 ∗ semVal (outC0 c 1) 0 ∗ semVal (outC0 c 2) 0 ∗ semVal (inC0 c 0) 0 ∗ semVal (inC0 c 1) 0 ∗ semVal (inC0 c 2) 0
      ∗ semVal ((c : Thread nD τ), .dma (16 : DmaSem sig)) 0 ∗ semVal ((c : Thread nD τ), .dma (17 : DmaSem sig)) 0) := by
  rw [Pipeline.ownSems0_eq_of_list c osem [0, 1, 2, 3, 4, 5, 6, 7] (by decide) (by decide)]; rfl
theorem unscopedSems0_eq (c : Dev nD) : (unscopedSems0 c : sProp 𝕄) = semVal (barC0 c) 0 := by
  unfold unscopedSems0; rw [bigSep_eq_bigSepL_of_eq [SemLoc.reg barrier0] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ locals c) : sProp 𝕄) := by
  rw [ownSems0_eq, unscopedSems0_eq, bigSep_fin7]
  unfold locals
  iintro ⟨⟨H1, H2, H3, H4, H5, H6, H7, H8⟩, H0⟩
  isplitr [H7 H8]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G D c)
      ⊢ |={Set.univ}=> iprop((bigSep Finset.univ fun k => iprop(∃ κ : ℕ, cellInv ER (sched D) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems0_split (F := F) c) $$ [Hos Hus]
  · isplitl [Hos] <;> iassumption
  icases Hv with ⟨Hv, Hl⟩
  imod (show iprop((bigSep Finset.univ fun k : Fin 7 => semVal (kcell (c, k)) 0) ∗ bigSep Finset.univ fun k : Fin 7 => roundState ER (sched D) (kcell (c, k)) 0)
      ⊢ (|={Set.univ}=> bigSep Finset.univ fun k => iprop(∃ κ : ℕ, cellInv ER (sched D) κ (kcell (c, k))) : sProp 𝕄) from by
        rw [← bigSep_sep']
        exact (bigSep_mono fun k _ => (Rounds.body_intro ER (sched D) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- Every cell's invariant, under its name, and that it is open. -/
def records (K : GSem nD τ sig → ℕ) : sProp 𝕄 :=
  iprop((bigSep xcells fun g => cellInv ER (sched D) (K g) g) ∗ bigSep xcells fun g => reached ER g 0)
instance records_persistent (K : GSem nD τ sig → ℕ) : BI.Persistent (records D K) := by unfold records; infer_instance
theorem inv_at (K : GSem nD τ sig → ℕ) (ck : Dev nD × Fin 7) : records D K ⊢ cellInv ER (sched D) (K (kcell ck)) (kcell ck) := by
  unfold records; iintro ⟨H, -⟩
  iapply (show (bigSep xcells (fun g => cellInv ER (sched D) (K g) g) : sProp 𝕄) ⊢ cellInv ER (sched D) (K (kcell ck)) (kcell ck) from BI.bigSep_elim (mem_xcells ck)); iexact H
theorem reached_at (K : GSem nD τ sig → ℕ) (ck : Dev nD × Fin 7) : records D K ⊢ reached ER (kcell ck) 0 := by
  unfold records; iintro ⟨-, H⟩
  iapply (show (bigSep xcells (fun g => reached ER g 0) : sProp 𝕄) ⊢ reached ER (kcell ck) 0 from BI.bigSep_elim (mem_xcells ck)); iexact H

theorem projInvs_intro (K : GSem nD τ sig → ℕ) (c : Dev nD) : records D K ⊢ projInvs D K c := by
  unfold projInvs
  rw [bigSep_fin3, bigSep_fin3, bigSep_fin3]
  iintro #H
  isplitr; · iapply (inv_at D K (c, 0)); iexact H
  isplitr
  · isplitr; · iapply (inv_at D K (mate0 c, 0)); iexact H
    iapply (reached_at D K (mate0 c, 0)); iexact H
  isplitr
  · isplitr
    · isplitr; · iapply (inv_at D K (c, 1)); iexact H
      iapply (reached_at D K (c, 1)); iexact H
    isplitr
    · isplitr; · iapply (inv_at D K (c, 2)); iexact H
      iapply (reached_at D K (c, 2)); iexact H
    isplitr; · iapply (inv_at D K (c, 3)); iexact H
    iapply (reached_at D K (c, 3)); iexact H
  isplitr
  · isplitr
    · isplitr; · iapply (inv_at D K (c, 4)); iexact H
      iapply (reached_at D K (c, 4)); iexact H
    isplitr
    · isplitr; · iapply (inv_at D K (c, 5)); iexact H
      iapply (reached_at D K (c, 5)); iexact H
    isplitr; · iapply (inv_at D K (c, 6)); iexact H
    iapply (reached_at D K (c, 6)); iexact H
  isplitr; · iapply (inv_at D K (mate0 c, 4)); iexact H
  isplitr; · iapply (inv_at D K (mate0 c, 5)); iexact H
  iapply (inv_at D K (mate0 c, 6)); iexact H

/-! ## The tokens go to the payers -/

/-- The tokens of what device `c` pays: its partner's barrier and arrivals, its own departures. -/
def payToks (c : Dev nD) : sProp 𝕄 :=
  iprop(dutyTok ER (barC0 (mate0 c)) 0 () ∗ dutyTok ER (inC0 (mate0 c) 0) 0 () ∗ dutyTok ER (inC0 (mate0 c) 1) 0 () ∗ dutyTok ER (inC0 (mate0 c) 2) 0 ()
    ∗ dutyTok ER (outC0 c 0) 0 () ∗ dutyTok ER (outC0 c 1) 0 () ∗ dutyTok ER (outC0 c 2) 0 ())

theorem toks_around : (bigSep Finset.univ fun c : Dev nD => (toks c : sProp 𝕄)) ⊢ bigSep Finset.univ fun c : Dev nD => payToks c := by
  unfold toks payToks
  simp only [bigSep_fin7]
  rw [bigSep_sep', bigSep_sep', bigSep_sep', bigSep_sep', bigSep_sep', bigSep_sep',
    bigSep_sep', bigSep_sep', bigSep_sep', bigSep_sep', bigSep_sep', bigSep_sep',
    bigSep_univ_equiv swap0 (fun c : Dev nD => (dutyTok ER (kcell (c, 0)) 0 () : sProp 𝕄)),
    bigSep_univ_equiv swap0 (fun c : Dev nD => (dutyTok ER (kcell (c, 4)) 0 () : sProp 𝕄)),
    bigSep_univ_equiv swap0 (fun c : Dev nD => (dutyTok ER (kcell (c, 5)) 0 () : sProp 𝕄)),
    bigSep_univ_equiv swap0 (fun c : Dev nD => (dutyTok ER (kcell (c, 6)) 0 () : sProp 𝕄))]
  iintro ⟨H0, H1, H2, H3, H4, H5, H6⟩
  isplitl [H0]; · iexact H0
  isplitl [H4]; · iexact H4
  isplitl [H5]; · iexact H5
  isplitl [H6]; · iexact H6
  isplitl [H1]; · iexact H1
  isplitl [H2]; · iexact H2
  iexact H3

/-- What a device starts from: the invariants, its positions, its tokens, its local counters. -/
def positions (c : Dev nD) : sProp 𝕄 := bigSep Finset.univ fun k : Fin 7 => atPos ER (kcell (c, k)) 0 ∅ 0
def ghost (c : Dev nD) : sProp 𝕄 := iprop(∃ K, projInvs D K c ∗ positions c ∗ payToks c ∗ locals c)

theorem with_records {Φ Ψ : Dev nD → sProp 𝕄} {R : sProp 𝕄} [BI.Persistent R]
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (sched D) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (ghost D) := by
  rw [bigSep_sep', bigSep_sep', bigSep_sep', ← over_cells (fun g => iprop(∃ κ : ℕ, cellInv ER (sched D) κ g)),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← over_cells (fun g => (reached ER g 0 : sProp 𝕄))]
  iintro ⟨HI, ⟨Hat, #HR⟩, Htok, Hl⟩
  ihave HK := (BI.bigSep_exists_pi xcells (fun (g : GSem nD τ sig) (κ : ℕ) => (cellInv ER (sched D) κ g : sProp 𝕄))) $$ HI
  icases HK with ⟨%K, #HI⟩
  ihave Htk := (toks_around (F := F)) $$ Htok
  iapply (with_records (R := records D K) (Φ := fun c => iprop(positions c ∗ payToks c ∗ locals c)) (fun c => by
    unfold ghost
    iintro ⟨#H, Hp⟩
    iexists K
    isplitr; · iapply (projInvs_intro D K c); iexact H
    iexact Hp))
  isplitr
  · unfold records; isplitl; · iexact HI
    iexact HR
  · rw [bigSep_sep', bigSep_sep']
    isplitl [Hat]; · iexact Hat
    isplitl [Htk]; · iexact Htk
    iexact Hl

/-- All devices' counters and minted pieces at once. -/
theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (ghost D) :=
  ((bigSep_mono fun c _ => core_alloc D c).trans (bigSep_fupd _ _)).trans (BI.fupd_mono (regroup D))

/-! ## The credits for what is owed a device -/

theorem mate0_eq_iff {c d : Dev nD} : c = mate0 d ↔ d = mate0 c :=
  ⟨fun h => by rw [h, mate0_mate0], fun h => by rw [h, mate0_mate0]⟩

theorem owed_bar (d c : Dev nD) : O0 d (barC0 c) () = if d = mate0 c then 1 else 0 := by
  unfold O0
  simp only [Pi.add_apply, Finsupp.add_apply, tallyAt_apply, Pi.zero_apply, Finsupp.zero_apply, cell_eq_iff, mate0_eq_iff (c := c)]
  simp
theorem owed_in0 (d c : Dev nD) : O0 d (inC0 c 0) () = if d = mate0 c then N1 else 0 := by
  unfold O0
  simp only [Pi.add_apply, Finsupp.add_apply, tallyAt_apply, Pi.zero_apply, Finsupp.zero_apply, cell_eq_iff, mate0_eq_iff (c := c)]
  have h1 : inS0 0 ≠ inS0 1 := by decide
  have h2 : inS0 0 ≠ inS0 2 := by decide
  simp [h1, h2]
theorem owed_in1 (d c : Dev nD) : O0 d (inC0 c 1) () = if d = mate0 c then N2 else 0 := by
  unfold O0
  simp only [Pi.add_apply, Finsupp.add_apply, tallyAt_apply, Pi.zero_apply, Finsupp.zero_apply, cell_eq_iff, mate0_eq_iff (c := c)]
  have h1 : inS0 1 ≠ inS0 0 := by decide
  have h2 : inS0 1 ≠ inS0 2 := by decide
  simp [h1, h2]
theorem owed_in2 (d c : Dev nD) : O0 d (inC0 c 2) () = if d = mate0 c then N2 else 0 := by
  unfold O0
  simp only [Pi.add_apply, Finsupp.add_apply, tallyAt_apply, Pi.zero_apply, Finsupp.zero_apply, cell_eq_iff, mate0_eq_iff (c := c)]
  have h1 : inS0 2 ≠ inS0 0 := by decide
  have h2 : inS0 2 ≠ inS0 1 := by decide
  simp [h1, h2]

theorem launch_at (c : Dev nD) (s : SemLoc sig) (n : ℕ) (h : ∀ d, O0 d ((c : Thread nD τ), s) () = if d = mate0 c then n else 0) :
    tallyOn ((c : Thread nD τ), s) (launchCredit (Pipeline.owing O0) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate0 c) fun _ => n,
    if_pos (Finset.mem_univ _)]

/-- The four cells on which a device is paid by its partner. -/
theorem creds (c : Dev nD) :
    (Pipeline.launchCred O0 c : sProp 𝕄)
      ⊢ iprop(cred (tallyAt (barC0 c) () 1) ∗ cred (tallyAt (inC0 c 0) () N1) ∗ cred (tallyAt (inC0 c 1) () N2) ∗ cred (tallyAt (inC0 c 2) () N2)) := by
  unfold Pipeline.launchCred
  refine (show (_ : sProp 𝕄) ⊢ _ from BI.bigSep_subset (Finset.subset_univ ([SemLoc.reg barrier0, .dma (inS0 0), .dma (inS0 1), .dma (inS0 2)] : List (SemLoc sig)).toFinset)).trans (Entails.of_eq ?_)
  rw [bigSep_eq_bigSepL_of_eq [SemLoc.reg barrier0, .dma (inS0 0), .dma (inS0 1), .dma (inS0 2)] rfl (by decide),
    ← launch_at c (.reg barrier0) 1 (fun d => owed_bar d c), ← launch_at c (.dma (inS0 0)) N1 (fun d => owed_in0 d c),
    ← launch_at c (.dma (inS0 1)) N2 (fun d => owed_in1 d c), ← launch_at c (.dma (inS0 2)) N2 (fun d => owed_in2 d c)]
  rfl

end Cert.ProjIdeal.Run

end
-- ==== Proof.ProjRun.lean ====
/- The projection call's run: the pipeline's data (each window's block before and after the one point), the body's
   obligation from `projRun`, the launch, and the run of the whole program on every device, to named contents. -/
module

public import proofs.«01_k».proof.Proof.ProjGhost
public import Idealize.ShloMosaic.Lib.Pipeline.CollectiveSegs
public import Idealize.ShloMosaic.Lib.Pipeline.ValueKit

@[expose] public section

noncomputable section

namespace Cert.ProjIdeal.Run

open Idealize.ShloMosaic Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.ProjIdeal Cert.ProjIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- What the devices exchange: the product of the whole input with the device's part of the first weight, and its parts
    of the two others. -/
def mail : Mail F where
  cs c := k0_pay3 (iblk m c 0 t0_0) (iblk m c 1 t0_0)
  wk c := iblk m c 2 t0_0
  wv c := iblk m c 3 t0_0

/-- The contents a device's body ends with in each output window. -/
def qFin (c : Dev nD) : cc0_stg5_0.ty.Contents (Elt F) := qOf c (iblk m c 0 t0_0) (m ((c : Thread nD τ).loc main_arg4))
def qrFin (c : Dev nD) : cc0_stg6_0.ty.Contents (Elt F) := qrOf c (iblk m c 0 t0_0) (m ((c : Thread nD τ).loc main_arg5))
def krFin (c : Dev nD) : cc0_stg7_0.ty.Contents (Elt F) := krOf (iblk m c 0 t0_0) (iblk m c 4 t0_0)
def kFin (c : Dev nD) : cc0_stg8_0.ty.Contents (Elt F) := kOf (mail m) c
def vFin (c : Dev nD) : cc0_stg9_0.ty.Contents (Elt F) := vOf (mail m) c

def scratches (c : Dev nD) : sProp 𝕄 := iprop((∃ g, pt (F := F) c cc0_scratch0 g) ∗ (∃ g, pt (F := F) c cc0_scratch1 g) ∗ (∃ g, pt (F := F) c cc0_scratch2 g) ∗ (∃ g, pt (F := F) c cc0_scratch3 g) ∗ (∃ g, pt (F := F) c cc0_scratch4 g) ∗ (∃ g, pt (F := F) c cc0_scratch5 g))
def argsHeld (c : Dev nD) : sProp 𝕄 :=
  iprop(pt c main_arg4 (m ((c : Thread nD τ).loc main_arg4)) ∗ pt c main_arg5 (m ((c : Thread nD τ).loc main_arg5)))
/-- What a device's body starts from, and what it leaves. -/
def start (c : Dev nD) : sProp 𝕄 :=
  iprop(ghost (mail m) c ∗ (cred (tallyAt (barC0 c) () 1) ∗ cred (tallyAt (inC0 c 0) () N1) ∗ cred (tallyAt (inC0 c 1) () N2) ∗ cred (tallyAt (inC0 c 2) () N2))
    ∗ levAts L lv ∗ argsHeld m c)
def Φ₀ (c : Dev nD) : sProp 𝕄 := iprop(start m c ∗ scratches c)
def Φ₁ (c : Dev nD) : sProp 𝕄 :=
  iprop((semVal (barC0 c) 0 ∗ semVal (outC0 c 0) 0 ∗ semVal (outC0 c 1) 0 ∗ semVal (outC0 c 2) 0 ∗ semVal (inC0 c 0) 0 ∗ semVal (inC0 c 1) 0 ∗ semVal (inC0 c 2) 0 ∗ locals c) ∗ argsHeld m c ∗ scratches c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qFin m c
    | ⟨6, _⟩ => qrFin m c
    | ⟨7, _⟩ => krFin m c
    | ⟨8, _⟩ => kFin m c
    | ⟨9, _⟩ => vFin m c
  Φ t := match t with
    | ⟨0, _⟩ => Φ₀ m c
    | ⟨_ + 1, _⟩ => Φ₁ m c
  q _ := fullShare
  owed t := match t with
    | ⟨0, _⟩ => O0 c
    | ⟨_ + 1, _⟩ => 0

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_at (c : Dev nD) (b : Ref sig .tc) (X : b.ty.Contents (Elt F)) : pt c b X ⊢ stg c b X := by
  iintro H; iexists X; isplitr; · ipureintro; rfl
  iexact H

theorem before_0 (c : Dev nD) (d) : (dats m ρ 0 c).before 0 t0_0 d = iblk m c 0 t0_0 := by
  unfold Dat.before; rw [if_pos (fetch0_0 t0_0)]; rfl
theorem before_1 (c : Dev nD) (d) : (dats m ρ 0 c).before 1 t0_0 d = iblk m c 1 t0_0 := by
  unfold Dat.before; rw [if_pos (fetch0_1 t0_0)]; rfl
theorem before_2 (c : Dev nD) (d) : (dats m ρ 0 c).before 2 t0_0 d = iblk m c 2 t0_0 := by
  unfold Dat.before; rw [if_pos (fetch0_2 t0_0)]; rfl
theorem before_3 (c : Dev nD) (d) : (dats m ρ 0 c).before 3 t0_0 d = iblk m c 3 t0_0 := by
  unfold Dat.before; rw [if_pos (fetch0_3 t0_0)]; rfl
theorem before_4 (c : Dev nD) (d) : (dats m ρ 0 c).before 4 t0_0 d = iblk m c 4 t0_0 := by
  unfold Dat.before; rw [if_pos (fetch0_4 t0_0)]; rfl

set_option maxRecDepth 8000 in
def bodyPre (c : Dev nD) : sProp 𝕄 :=
  iprop(Φ₀ m c ∗ (dats m ρ 0 c).owesAt () t0_0.castSucc
    ∗ (∃ d, stg c cc0_stg0_0 ((dats m ρ 0 c).before (0 : Fin 10) t0_0 d))
    ∗ (∃ d, stg c cc0_stg1_0 ((dats m ρ 0 c).before (1 : Fin 10) t0_0 d))
    ∗ (∃ d, stg c cc0_stg2_0 ((dats m ρ 0 c).before (2 : Fin 10) t0_0 d))
    ∗ (∃ d, stg c cc0_stg3_0 ((dats m ρ 0 c).before (3 : Fin 10) t0_0 d))
    ∗ (∃ d, stg c cc0_stg4_0 ((dats m ρ 0 c).before (4 : Fin 10) t0_0 d))
    ∗ (∃ d, stg c cc0_stg5_0 ((dats m ρ 0 c).before (5 : Fin 10) t0_0 d))
    ∗ (∃ d, stg c cc0_stg6_0 ((dats m ρ 0 c).before (6 : Fin 10) t0_0 d))
    ∗ (∃ d, stg c cc0_stg7_0 ((dats m ρ 0 c).before (7 : Fin 10) t0_0 d))
    ∗ (∃ d, stg c cc0_stg8_0 ((dats m ρ 0 c).before (8 : Fin 10) t0_0 d))
    ∗ (∃ d, stg c cc0_stg9_0 ((dats m ρ 0 c).before (9 : Fin 10) t0_0 d)))

def bodyPost (c : Dev nD) : sProp 𝕄 :=
  iprop(Φ₁ m c ∗ (dats m ρ 0 c).owesAt () t0_0.succ
    ∗ stg c cc0_stg0_0 (iblk m c 0 t0_0)
    ∗ stg c cc0_stg1_0 (iblk m c 1 t0_0)
    ∗ stg c cc0_stg2_0 (iblk m c 2 t0_0)
    ∗ stg c cc0_stg3_0 (iblk m c 3 t0_0)
    ∗ stg c cc0_stg4_0 (iblk m c 4 t0_0)
    ∗ stg c cc0_stg5_0 (qFin m c)
    ∗ stg c cc0_stg6_0 (qrFin m c)
    ∗ stg c cc0_stg7_0 (krFin m c)
    ∗ stg c cc0_stg8_0 (kFin m c)
    ∗ stg c cc0_stg9_0 (vFin m c))

theorem body_end (c : Dev nD) :
    projPost (mail m) c 0 (iblk m c 0 t0_0) (iblk m c 1 t0_0) (iblk m c 4 t0_0) (m ((c : Thread nD τ).loc main_arg4)) (m ((c : Thread nD τ).loc main_arg5)) ⊢ bodyPost m ρ c := by
  unfold projPost bodyPost Φ₁ locals argsHeld scratches Dat.owesAt Pipeline.owesWithin
  iintro ⟨Vb, Vo0, Vo1, Vo2, Vi0, Vi1, Vi2, V16, V17, X0, X1, X2, X3, X4, XA4, XA5, X5, X6, X7, X8, X9, ⟨%W, HO⟩, S⟩
  isplitl [Vb Vo0 Vo1 Vo2 Vi0 Vi1 Vi2 V16 V17 XA4 XA5 S]
  · isplitl [Vb Vo0 Vo1 Vo2 Vi0 Vi1 Vi2 V16 V17]
    · isplitl [Vb]; · iexact Vb
      isplitl [Vo0]; · iexact Vo0
      isplitl [Vo1]; · iexact Vo1
      isplitl [Vo2]; · iexact Vo2
      isplitl [Vi0]; · iexact Vi0
      isplitl [Vi1]; · iexact Vi1
      isplitl [Vi2]; · iexact Vi2
      isplitl [V16]; · iexact V16
      iexact V17
    isplitl [XA4 XA5]
    · isplitl [XA4]; · iexact XA4
      iexact XA5
    iexact S
  isplitl [HO]
  · iexists W; isplitr; · ipureintro; exact fun _ _ => Or.inl trivial
    iexact HO
  isplitl [X0]; · iapply (stg_at c cc0_stg0_0 _); iexact X0
  isplitl [X1]; · iapply (stg_at c cc0_stg1_0 _); iexact X1
  isplitl [X2]; · iapply (stg_at c cc0_stg2_0 _); iexact X2
  isplitl [X3]; · iapply (stg_at c cc0_stg3_0 _); iexact X3
  isplitl [X4]; · iapply (stg_at c cc0_stg4_0 _); iexact X4
  isplitl [X5]; · iapply (stg_at c cc0_stg5_0 _); iexact X5
  isplitl [X6]; · iapply (stg_at c cc0_stg6_0 _); iexact X6
  isplitl [X7]; · iapply (stg_at c cc0_stg7_0 _); iexact X7
  isplitl [X8]; · iapply (stg_at c cc0_stg8_0 _); iexact X8
  iapply (stg_at c cc0_stg9_0 _); iexact X9

set_option maxHeartbeats 800000 in
theorem body_run (c : Dev nD) :
    bodyPre m ρ c ⊢ wp frame (wpE (defs₀ (F := F)) 𝒱₀ (c : Thread nD τ) none) Set.univ (projBody (F := F)) (fun _ => bodyPost m ρ c) := by
  unfold bodyPre Φ₀ start ghost positions payToks locals argsHeld scratches
  rw [bigSep_fin7]
  iintro ⟨⟨⟨⟨%K, HI, ⟨Ab, Ao0, Ao1, Ao2, Ai0, Ai1, Ai2⟩, ⟨Tb, Tn0, Tn1, Tn2, To0, To1, To2⟩, V16, V17⟩, ⟨Cb, Ci0, Ci1, Ci2⟩, Hlev, XA4, XA5⟩,
      ⟨%g0, S0⟩, ⟨%g1, S1⟩, ⟨%g2, S2⟩, ⟨%g3, S3⟩, ⟨%g4, S4⟩, ⟨%g5, S5⟩⟩, Ho,
    ⟨%d0, %f0, %h0, X0⟩, ⟨%d1, %f1, %h1, X1⟩, ⟨%d2, %f2, %h2, X2⟩, ⟨%d3, %f3, %h3, X3⟩, ⟨%d4, %f4, %h4, X4⟩,
    ⟨%d5, %f5, %h5, X5⟩, ⟨%d6, %f6, %h6, X6⟩, ⟨%d7, %f7, %h7, X7⟩, ⟨%d8, %f8, %h8, X8⟩, ⟨%d9, %f9, %h9, X9⟩⟩
  obtain rfl : f0 = iblk m c 0 t0_0 := h0.trans (before_0 m ρ c d0)
  obtain rfl : f1 = iblk m c 1 t0_0 := h1.trans (before_1 m ρ c d1)
  obtain rfl : f2 = iblk m c 2 t0_0 := h2.trans (before_2 m ρ c d2)
  obtain rfl : f3 = iblk m c 3 t0_0 := h3.trans (before_3 m ρ c d3)
  obtain rfl : f4 = iblk m c 4 t0_0 := h4.trans (before_4 m ρ c d4)
  unfold Dat.owesAt Pipeline.owesWithin
  icases Ho with ⟨%W, %hW, HO⟩
  ihave X2h := (halve c cc0_stg2_0 (f := iblk m c 2 t0_0) ((mail m).wk c) rfl) $$ X2
  icases X2h with ⟨X2, X2l⟩
  ihave X3h := (halve c cc0_stg3_0 (f := iblk m c 3 t0_0) ((mail m).wv c) rfl) $$ X3
  icases X3h with ⟨X3, X3l⟩
  iapply ((projRun (mail m) K c W 0 (Above.zero 2) (iblk m c 0 t0_0) (iblk m c 1 t0_0) (iblk m c 4 t0_0) (m ((c : Thread nD τ).loc main_arg4)) (m ((c : Thread nD τ).loc main_arg5))
      f5 f6 f7 f8 f9 g0 g1 g2 g3 g4 g5 rfl).trans (wp_mono _ _ _ fun _ => body_end m ρ c))
  isplitl [HI]; · iexact HI
  isplitl [Ab]; · iexact Ab
  isplitl [Ao0]; · iexact Ao0
  isplitl [Ao1]; · iexact Ao1
  isplitl [Ao2]; · iexact Ao2
  isplitl [Ai0]; · iexact Ai0
  isplitl [Ai1]; · iexact Ai1
  isplitl [Ai2]; · iexact Ai2
  isplitl [Tb]; · iexact Tb
  isplitl [Tn0]; · iexact Tn0
  isplitl [Tn1]; · iexact Tn1
  isplitl [Tn2]; · iexact Tn2
  isplitl [To0]; · iexact To0
  isplitl [To1]; · iexact To1
  isplitl [To2]; · iexact To2
  isplitl [Cb]; · iexact Cb
  isplitl [Ci0]; · iexact Ci0
  isplitl [Ci1]; · iexact Ci1
  isplitl [Ci2]; · iexact Ci2
  isplitl [Hlev]; · iexact Hlev
  isplitl [V16]; · iexact V16
  isplitl [V17]; · iexact V17
  isplitl [X0]; · iexact X0
  isplitl [X1]; · iexact X1
  isplitl [X2]; · iexact X2
  isplitl [X2l]; · iexact X2l
  isplitl [X3]; · iexact X3
  isplitl [X3l]; · iexact X3l
  isplitl [X4]; · iexact X4
  isplitl [XA4]; · iexact XA4
  isplitl [XA5]; · iexact XA5
  isplitl [X5]; · iexact X5
  isplitl [X6]; · iexact X6
  isplitl [X7]; · iexact X7
  isplitl [X8]; · iexact X8
  isplitl [X9]; · iexact X9
  isplitl [S0]; · iexact S0
  isplitl [S1]; · iexact S1
  isplitl [S2]; · iexact S2
  isplitl [S3]; · iexact S3
  isplitl [S4]; · iexact S4
  isplitl [S5]; · iexact S5
  iexact HO

set_option maxRecDepth 8000 in
/-- The pipeline library's obligation on a device's body. -/
theorem body_obligation (c : Dev nD) : BodyObligation (dats (F := F) m ρ 0 c) (defs₀ (F := F)) 𝒱₀ () Set.univ := fun t => by
  rw [fin_N0 t]
  rw [bigSep_W0, bigSep_W0]
  simp only [owns_eq]
  show bodyPre m ρ c ⊢ wp frame (wpE (defs₀ (F := F)) 𝒱₀ (c : Thread nD τ) none) Set.univ (bodyAt0 (F := F) t0_0) (fun _ => bodyPost m ρ c)
  rw [projBody_eq]
  exact body_run m ρ c

/-! ## The launch -/

theorem share_eq (c : Dev nD) (w : Fin cfg0.W) : (dats m ρ 0 c).share w = fullShare := by unfold Dat.share; split <;> rfl

theorem rest_eq (c : Dev nD) :
    (Pipeline.unscopedRestP Pipeline.Prefetch.none cfg0.spec c (fun b => m ((c : Thread nD τ).loc b)) : sProp 𝕄) = argsHeld m c := by
  rw [Pipeline.unscopedRestP_eq_of_list cfg0.spec c Pipeline.Prefetch.none (fun b => m ((c : Thread nD τ).loc b)) [main_arg4, main_arg5] (by decide) (by decide)]; rfl

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ ghost (mail m) c)
      ⊢ |={Set.univ}=> iprop(start m c ∗ emp) := by
  rw [rest_eq]
  iintro ⟨Ha, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

/-- What a device gives back of its unscoped state: its barrier counter at zero and the two arrays its body copied from. -/
def leave (c : Dev nD) : sProp 𝕄 := iprop(unscopedSems0 c ∗ argsHeld m c)

theorem phi1_exit (c : Dev nD) :
    (dats m ρ 0 c).Φ (Fin.last cfg0.N) ⊢ iprop(leave m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ leave locals scratches
  rw [unscopedSems0_eq]
  iintro ⟨⟨Hb, Hrest⟩, Ha, Hr⟩
  isplitl [Hb Ha]
  · isplitl [Hb] <;> iassumption
  isplitl [Hrest]; · iexact Hrest
  iexact Hr

theorem above_O0 (c : Dev nD) (n : ℕ) (h : n < 1) : Above n (O0 c) := by
  obtain rfl : n = 0 := Nat.lt_one_iff.mp h
  have hi : ∀ i k, Above 0 (tallyAt (inC0 (mate0 c) i) () k) := fun i k => Above.tally _ _ _ (by rw [cl_in0]; exact Nat.zero_lt_two)
  exact ((((Above.zero 0).add (hi _ _)).add (hi _ _)).add (hi _ _)).add (Above.tally _ _ _ (by rw [cl_bar0]; exact Nat.one_pos))

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      rcases t with ⟨_ | _, ht⟩
      · exact above_O0 c _ (by fin_cases w <;> fin_cases s <;> decide)
      · exact Above.zero _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg4) = m ((c : Thread nD τ).loc main_arg4) ∧ r.2.mem ((c : Thread nD τ).loc main_arg5) = m ((c : Thread nD τ).loc main_arg5)

theorem leave_read (c : Dev nD) (s' : Phys nD τ sig (Elt F)) :
    iprop(leave m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg4) = m ((c : Thread nD τ).loc main_arg4)
      ∧ s'.mem.mem ((c : Thread nD τ).loc main_arg5) = m ((c : Thread nD τ).loc main_arg5)⌝ ∗ SI s') := by
  unfold leave argsHeld
  iintro ⟨⟨Hu, H4, H5⟩, -, HSI⟩
  icombine HSI H4 gives %h4
  icombine HSI H5 gives %h5
  imod (Pipeline.unscopedSems0_read (X := unscopedSems0 c) (c := c) BI.fupd_intro s') $$ [Hu HSI] with ⟨%hs, HSI⟩
  · isplitl [Hu] <;> iassumption
  imodintro
  isplitr
  · ipureintro; exact ⟨hs, Buf.eq_of_forall_mem_univ h4, Buf.eq_of_forall_mem_univ h5⟩
  iexact HSI

set_option maxRecDepth 8000 in
/-- Every weakly fair execution on the four devices terminates, with every window's array at its final contents, the two
    arrays outside the windows unchanged, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G (mail m)) (G' := ghost (mail m)) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_all (mail m)) $$ HX with HG
      imodintro
      isplitl [HP] <;> iassumption)
    (hglob := glob (mail m))
    (hA := fun _ _ => rfl) (hpf := fun _ k => k.elim0)
    (X := start m) (Y := leave m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg4) = m ((c : Thread nD τ).loc main_arg4)
      ∧ s.mem ((c : Thread nD τ).loc main_arg5) = m ((c : Thread nD τ).loc main_arg5))
    (hY := leave_read m)
    (hQ := fun _ h hs => ⟨fun c => ⟨(h c).1, (h c).2.2.2⟩, sem_eq_zero hs fun c => (h c).2.2.1⟩)

end Cert.ProjIdeal.Run

end
-- ==== Proof.ProjFinal.lean ====
/- What the run leaves in memory: the arguments as they were, and each result array at the block that its device's
   body left (a single point writes the whole array). -/
module

public import proofs.«01_k».proof.Proof.ProjRun
public import Idealize.ShloMosaic.Lib.Pipeline.CollectiveSegs
public import Idealize.ShloMosaic.Lib.Pipeline.ValueKit

@[expose] public section

noncomputable section

namespace Cert.ProjIdeal.Run

open Idealize.ShloMosaic Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.ProjIdeal Cert.ProjIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The blocks read at the one point are the whole arrays -/

theorem iblk_0 (c : Dev nD) : iblk m c 0 t0_0 = m ((c : Thread nD τ).loc main_arg0) := by
  funext j; unfold iblk; exact congrArg (m ((c : Thread nD τ).loc main_arg0)) (funext fun a => Fin.ext (by
    show _ + _ = _; simp; exact Or.inl (by revert a; decide +kernel)))
theorem iblk_1 (c : Dev nD) : iblk m c 1 t0_0 = m ((c : Thread nD τ).loc main_arg1) := by
  funext j; unfold iblk; exact congrArg (m ((c : Thread nD τ).loc main_arg1)) (funext fun a => Fin.ext (by
    show _ + _ = _; simp; exact Or.inl (by revert a; decide +kernel)))
theorem iblk_2 (c : Dev nD) : iblk m c 2 t0_0 = m ((c : Thread nD τ).loc main_arg2) := by
  funext j; unfold iblk; exact congrArg (m ((c : Thread nD τ).loc main_arg2)) (funext fun a => Fin.ext (by
    show _ + _ = _; simp; exact Or.inl (by revert a; decide +kernel)))
theorem iblk_3 (c : Dev nD) : iblk m c 3 t0_0 = m ((c : Thread nD τ).loc main_arg3) := by
  funext j; unfold iblk; exact congrArg (m ((c : Thread nD τ).loc main_arg3)) (funext fun a => Fin.ext (by
    show _ + _ = _; simp; exact Or.inl (by revert a; decide +kernel)))
theorem iblk_4 (c : Dev nD) : iblk m c 4 t0_0 = m ((c : Thread nD τ).loc main_arg6) := by
  funext j; unfold iblk; exact congrArg (m ((c : Thread nD τ).loc main_arg6)) (funext fun a => Fin.ext (by
    show _ + _ = _; simp; exact Or.inl (by revert a; decide +kernel)))

/-! ## The results -/

theorem final_q (c : Dev nD) : finalA m ρ c 5 = qFin m c :=
  (dats m ρ 0 c).arrAt_eq_of_after_last 5 t0_0 (by decide +kernel) _ fun j => rfl
theorem final_qr (c : Dev nD) : finalA m ρ c 6 = qrFin m c :=
  (dats m ρ 0 c).arrAt_eq_of_after_last 6 t0_0 (by decide +kernel) _ fun j => rfl
theorem final_kr (c : Dev nD) : finalA m ρ c 7 = krFin m c :=
  (dats m ρ 0 c).arrAt_eq_of_after_last 7 t0_0 (by decide +kernel) _ fun j => rfl
theorem final_k (c : Dev nD) : finalA m ρ c 8 = kFin m c :=
  (dats m ρ 0 c).arrAt_eq_of_after_last 8 t0_0 (by decide +kernel) _ fun j => rfl
theorem final_v (c : Dev nD) : finalA m ρ c 9 = vFin m c :=
  (dats m ρ 0 c).arrAt_eq_of_after_last 9 t0_0 (by decide +kernel) _ fun j => rfl

/-- Every device's results and arguments, and the counters, when the run is over. -/
theorem run_all : θ_run defs (onTc (τ := τ) (main (F := F))) ⟨m, fun _ => 0, ρ⟩ (fun r => (∀ c : Dev nD,
      (r.2.mem ((c.tc : Thread nD τ).loc main_v1_0) = qFin m c
      ∧ r.2.mem ((c.tc : Thread nD τ).loc main_v1_1) = qrFin m c
      ∧ r.2.mem ((c.tc : Thread nD τ).loc main_v1_2) = krFin m c
      ∧ r.2.mem ((c.tc : Thread nD τ).loc main_v1_3) = kFin m c
      ∧ r.2.mem ((c.tc : Thread nD τ).loc main_v1_4) = vFin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c =>
    ⟨⟨((h.1 c).1 5).trans (final_q m ρ c), ((h.1 c).1 6).trans (final_qr m ρ c), ((h.1 c).1 7).trans (final_kr m ρ c),
        ((h.1 c).1 8).trans (final_k m ρ c), ((h.1 c).1 9).trans (final_v m ρ c)⟩,
      ((h.1 c).1 0).trans ((dats m ρ 0 c).arrAt_in 0 rfl _), ((h.1 c).1 1).trans ((dats m ρ 0 c).arrAt_in 1 rfl _),
      ((h.1 c).1 2).trans ((dats m ρ 0 c).arrAt_in 2 rfl _), ((h.1 c).1 3).trans ((dats m ρ 0 c).arrAt_in 3 rfl _),
      (h.1 c).2.1, (h.1 c).2.2, ((h.1 c).1 4).trans ((dats m ρ 0 c).arrAt_in 4 rfl _)⟩, h.2⟩) (run_main m ρ)

end Cert.ProjIdeal.Run

end
-- ==== Proof.ProjBits.lean ====
/- The projection call's bits program, as the idealized one at a float instance whose named constants are their bits. -/
module

public import proofs.«01_k».proof.Proof.ProjFinal
public import proofs.«01_k».proof.Proof.Bits
public import proofs.«01_k».proof.Proof.Gen.Proj

@[expose] public section

noncomputable section

namespace Cert.ProjBits

open Idealize.ShloMosaic Idealize.SL.Sem
open Cert.Bits (raw)

variable {F : FTy → Type} [FloatOps F]

theorem proj_eq : (Cert.Proj.cc0__proj_body (F := F)) = (letI := raw (F := F); Cert.ProjIdeal.cc0__proj_body (F := F)) := rfl
theorem main_eq : Cert.Proj.main (F := F) = Cert.ProjIdeal.main (F := F) := rfl
set_option maxHeartbeats 4000000 in
theorem defs0_eq : Cert.Proj.defs₀ (F := F) = (letI := raw (F := F); Cert.ProjIdeal.defs₀ (F := F)) := by
  refine congrArg Defs.onTc (funext fun ℓ => funext fun x => ?_)
  match ℓ, x with
  | ⟨0, _⟩, (t, s) => rfl
theorem defs_eq : Cert.Proj.defs (F := F) = (letI := raw (F := F); Cert.ProjIdeal.defs (F := F)) := congrArg (Pipeline.defs Cert.Proj.pcfgs) defs0_eq

end Cert.ProjBits

namespace Cert.Proj.Run

open Idealize.ShloMosaic Idealize.ShloMosaic.TcCoe Idealize.SL.Sem
open Cert.Proj Cert.Proj.Gen

variable {F : FTy → Type} [FloatOps F]

/-- Every weakly fair execution leaves the arguments as they were and every semaphore at zero. -/
theorem run_args (m : (ℓ : Loc nD τ sig) → Buf (Elt F) ℓ) (ρ : Dev nD → PrngReg) :
    θ_run (defs (F := F)) (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) := by
  rw [Cert.ProjBits.defs_eq, Cert.ProjBits.main_eq]
  letI := Cert.Bits.raw (F := F)
  exact (θ_run _ _ _).mono (fun r h => ⟨fun c => (h.1 c).2, h.2⟩) (Cert.ProjIdeal.Run.run_all (F := F) m ρ)

end Cert.Proj.Run

end
-- ==== Proof.ProjValues.lean ====
/- What the kernel computes at the ideal values, element by element: each payload as sums of products, the two halves of
   the contraction that the partners hold put together, and the scale moved out of the sum. -/
module

public import proofs.«01_k».proof.Proof.ProjFinal
public import Idealize.ShloMosaic.Lib.MatmulPlain
public import Idealize.ShloMosaic.Lib.KernelVsHost
public import Idealize.ShloMosaic.Lib.IdealHost
public import Idealize.ShloMosaic.Lib.Layout

@[expose] public section

noncomputable section

namespace Cert.ProjMeaning

open Idealize.ShloMosaic hiding ix2 ix3
open Idealize.ShloMosaic.ValueIdx Idealize.ShloMosaic.TcCoe
open Cert.ProjIdeal Cert.ProjIdeal.Gen Cert.ProjIdeal.Run

/-! ## Sums of extended reals -/

/-- A nonnegative real factor moves out of a sum. -/
theorem sum_scale {ι : Type} [Fintype ι] (s : ℝ) (hs : 0 ≤ s) (f : ι → EReal) : ∑ k, f k * (s : EReal) = (∑ k, f k) * (s : EReal) := by
  classical
  have h : ∀ S : Finset ι, ∑ k ∈ S, f k * (s : EReal) = (∑ k ∈ S, f k) * (s : EReal) := by
    intro S
    induction S using Finset.induction_on with
    | empty => simp
    | insert a S ha ih =>
      rw [Finset.sum_insert ha, Finset.sum_insert ha, ih, EReal.right_distrib_of_nonneg_of_ne_top (EReal.coe_nonneg.mpr hs) (EReal.coe_ne_top s)]
  exact h Finset.univ

/-- A sum over 256 is a sum over its first and its last 128, in either order. -/
theorem sum_halves (f : Fin 256 → EReal) (b : ℕ) (hb : b < 2) :
    (∑ j : Fin 128, f ⟨b * 128 + j.val, by omega⟩) + ∑ j : Fin 128, f ⟨(1 - b) * 128 + j.val, by omega⟩ = ∑ j, f j := by
  have h : ∑ j, f j = (∑ j : Fin 128, f (Fin.castAdd 128 j)) + ∑ j : Fin 128, f (Fin.natAdd 128 j) := Fin.sum_univ_add (a := 128) (b := 128) f
  rw [h]
  interval_cases b
  · refine congrArg₂ (· + ·) ?_ ?_
    · exact Finset.sum_congr rfl fun j _ => congrArg f (Fin.ext (by simp))
    · exact Finset.sum_congr rfl fun j _ => congrArg f (Fin.ext (by simp [Nat.add_comm]))
  · rw [add_comm]; refine congrArg₂ (· + ·) ?_ ?_
    · exact Finset.sum_congr rfl fun j _ => congrArg f (Fin.ext (by simp))
    · exact Finset.sum_congr rfl fun j _ => congrArg f (Fin.ext (by simp [Nat.add_comm]))

/-! ## Products read at an index -/

theorem mm {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    matmul d none l r (constant ⟨2, ![M, N]⟩ .f32 0x00000000#32) (ix2 i j) = ∑ k : Fin K, l (ix2 i k) * r (ix2 k j) := by
  subst hd
  refine (Ideal.matmul_plain_apply none l r _ i j).trans ?_
  show Ideal.ofBits .f32 0x00000000#32 + _ = _
  rw [Ideal.ofBits_zero_f32, zero_add]

theorem hostMm {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    Host.dotGeneral d none l r (ix2 i j) = ∑ k : Fin K, l (ix2 i k) * r (ix2 k j) :=
  (congrFun (matmul_zero_eq_dotGeneral d none l r).symm _).trans (mm d hd l r i j)

/-- The reciprocal of the score scale, as the kernel's named constant and as the reference's quotient. -/
abbrev invScale : EReal := (((Real.sqrt 160)⁻¹ : ℝ) : EReal)
theorem kappa : (Named.named κ "inv_sqrt_160" 0x3DA2#16 : Ideal .bf16) = invScale := rfl
theorem ofBits_160 : Ideal.ofBits .f32 0x43200000#32 = ((160 : ℝ) : EReal) := by
  simp [Ideal.ofBits, Ideal.ieee, -EReal.coe_mul]; norm_num
theorem quotient : Ideal.div (Ideal.ofBits .f32 0x3F800000#32) (Ideal.sqrt (Ideal.ofBits .f32 0x43200000#32)) = invScale := by
  have h0 : Real.sqrt 160 ≠ 0 := (Real.sqrt_pos.mpr (by norm_num)).ne'
  rw [ofBits_160, Ideal.sqrt_coe, if_neg (by norm_num), Ideal.ofBits_one_f32, Ideal.div, if_neg (by simpa using h0), one_mul]
  exact (EReal.coe_inv _).symm

/-! ## The kernel's payloads -/

theorem pay3_at (x : FVec Ideal S1024x2048 .bf16) (w : FVec Ideal S2048x128 .bf16) (r : Fin 1024) (j : Fin 128) :
    k0_pay3 (F := Ideal) x w (ix2 r j) = ∑ k : Fin 2048, x (ix2 r k) * w (ix2 k j) := by
  unfold k0_pay3 k0_pay2; simp only [shapeCast_self]; exact mm _ rfl x w r j
theorem pay5_at (a : FVec Ideal S1024x128 .bf16) (w : FVec Ideal S128x2048 .bf16) (r : Fin 1024) (n : Fin 2048) :
    k0_pay5 (F := Ideal) a w (ix2 r n) = ∑ k : Fin 128, a (ix2 r k) * w (ix2 k n) := by
  unfold k0_pay5; simp only [shapeCast_self]; exact mm _ rfl a w r n
theorem pay6_at (a : FVec Ideal S1024x128 .bf16) (w : FVec Ideal S128x2048 .bf16) (r : Fin 1024) (n : Fin 2048) :
    k0_pay6 (F := Ideal) a w (ix2 r n) = ∑ k : Fin 128, a (ix2 r k) * w (ix2 k n) := by
  unfold k0_pay6; simp only [shapeCast_self]; exact mm _ rfl a w r n
theorem pay27_at (a : FVec Ideal S1024x128 .bf16) (b : FVec Ideal S1024x2048 .bf16) (w : FVec Ideal S128x2048 .bf16) (r : Fin 1024) (n : Fin 2048) :
    k0_pay27 (F := Ideal) a b w (ix2 r n) = b (ix2 r n) + ∑ k : Fin 128, a (ix2 r k) * w (ix2 k n) := by
  unfold k0_pay27; simp only [shapeCast_self]; exact congrArg (b (ix2 r n) + ·) (mm _ rfl a w r n)
theorem pay1_at (a : FVec Ideal S1024x128 .bf16) (b : FVec Ideal S1024x2048 .bf16) (w : FVec Ideal S128x2048 .bf16) (r : Fin 1024) (n : Fin 2048) :
    k0_pay1 (F := Ideal) a b w (ix2 r n) = b (ix2 r n) + ∑ k : Fin 128, a (ix2 r k) * w (ix2 k n) := by
  unfold k0_pay1; simp only [shapeCast_self]; exact congrArg (b (ix2 r n) + ·) (mm _ rfl a w r n)
theorem pay4_at (x : FVec Ideal S1024x2048 .bf16) (w : FVec Ideal S2048x32 .bf16) (r : Fin 1024) (n : Fin 32) :
    k0_pay4 (F := Ideal) (k0_pay2 x) w (ix2 r n) = ∑ k : Fin 2048, x (ix2 r k) * w (ix2 k n) := by
  unfold k0_pay4 k0_pay2; simp only [shapeCast_self]; exact mm _ rfl x w r n

/-- The scaled rows' products: the scale comes out of the sum. -/
theorem scaled (x : FVec Ideal S512x2048 .bf16) (g : Fin 2048 → EReal) (r : Fin 512) :
    ∑ k : Fin 2048, k0_pay7 (F := Ideal) x (ix2 r k) * g k = (∑ k : Fin 2048, x (ix2 r k) * g k) * invScale := by
  rw [← sum_scale _ (inv_nonneg.mpr (Real.sqrt_nonneg _))]
  refine Finset.sum_congr rfl fun k _ => ?_
  have h : k0_pay7 (F := Ideal) x (ix2 r k) = x (ix2 r k) * invScale := by
    unfold k0_pay7; simp only [shapeCast_self]; rfl
  rw [h, mul_assoc, mul_assoc, mul_comm (g k)]
theorem pay8_at (x : FVec Ideal S512x2048 .bf16) (w : FVec Ideal S2048x2048 .f32) (r : Fin 512) (n : Fin 2048) :
    k0_pay8 (F := Ideal) x w (ix2 r n) = (∑ k : Fin 2048, x (ix2 r k) * w (ix2 k n)) * invScale := by
  rw [← scaled x (fun k => w (ix2 k n))]; unfold k0_pay8; exact mm _ rfl (k0_pay7 x) w r n
theorem pay9_at (x : FVec Ideal S512x2048 .bf16) (w : FVec Ideal S2048x512 .f32) (r : Fin 512) (n : Fin 512) :
    k0_pay9 (F := Ideal) x w (ix2 r n) = (∑ k : Fin 2048, x (ix2 r k) * w (ix2 k n)) * invScale := by
  rw [← scaled x (fun k => w (ix2 k n))]; unfold k0_pay9; exact mm _ rfl (k0_pay7 x) w r n

/-- The rows of the input that a device's queries use. -/
theorem xHalf_at (c : Dev nD) (x : FVec Ideal S1024x2048 .bf16) (r : Fin 512) (k : Fin 2048) :
    xHalf (F := Ideal) c x (ix2 r k) = x (ix2 (⟨512 * (c.val / 2) + r.val, by have : c.val < 4 := c.isLt; omega⟩ : Fin 1024) k) := by
  unfold xHalf
  refine congrArg x (funext fun a => Fin.ext ?_)
  have h : k0_off1 c = ![512 * (c.val / 2), 0] := k0_off1_eq c
  fin_cases a
  · show k0_off1 c 0 + 1 * r.val = _
    rw [h]; simp
  · show k0_off1 c 1 + 1 * k.val = _
    rw [h]; simp

/-! ## A device's blocks of the whole arrays -/

theorem coord_col : ∀ c : Dev nD, Layout.meshCoord [2, 2] c.val 1 * Layout.cutSize [2, 2] [] = c.val % 2 := by decide +kernel
theorem coord_row : ∀ c : Dev nD, Layout.meshCoord [2, 2] c.val 0 * Layout.cutSize [2, 2] [] = c.val / 2 := by decide +kernel

theorem cols_at (c : Dev nD) (v : (⟨2, ![2048, 256]⟩ : Shape).Idx → EReal) (k : Fin 2048) (j : Fin 128) :
    (Layout.blockN ⟨2, ![2048, 128]⟩ ⟨2, ![2048, 256]⟩ (Layout.meshBlock [2, 2] ![[], [1]] c) v : _ → EReal) (ix2 k j)
      = v (ix2 k (⟨c.val % 2 * 128 + j.val, by omega⟩ : Fin 256)) := by
  rw [Layout.blockN_apply]
  refine congrArg v (funext fun a => Fin.ext ?_)
  fin_cases a <;> simp [Layout.TilesN.idx_val, Layout.meshLin, coord_col, coord_row]
theorem rows_at (c : Dev nD) (v : (⟨2, ![256, 2048]⟩ : Shape).Idx → EReal) (j : Fin 128) (n : Fin 2048) :
    (Layout.blockN ⟨2, ![128, 2048]⟩ ⟨2, ![256, 2048]⟩ (Layout.meshBlock [2, 2] ![[1], []] c) v : _ → EReal) (ix2 j n)
      = v (ix2 (⟨c.val % 2 * 128 + j.val, by omega⟩ : Fin 256) n) := by
  rw [Layout.blockN_apply]
  refine congrArg v (funext fun a => Fin.ext ?_)
  fin_cases a <;> simp [Layout.TilesN.idx_val, Layout.meshLin, coord_col, coord_row]
theorem qrows_at (c : Dev nD) (v : (⟨2, ![1024, 2048]⟩ : Shape).Idx → EReal) (r : Fin 512) (n : Fin 2048) :
    (Layout.blockN ⟨2, ![512, 2048]⟩ ⟨2, ![1024, 2048]⟩ (Layout.meshBlock [2, 2] ![[0], []] c) v : _ → EReal) (ix2 r n)
      = v (ix2 (⟨512 * (c.val / 2) + r.val, by have : c.val < 4 := c.isLt; omega⟩ : Fin 1024) n) := by
  rw [Layout.blockN_apply]
  refine congrArg v (funext fun a => Fin.ext ?_)
  have : c.val < 4 := c.isLt
  fin_cases a
  · simp [Layout.TilesN.idx_val, Layout.meshLin, coord_col, coord_row]; omega
  · simp [Layout.TilesN.idx_val, Layout.meshLin, coord_col, coord_row]
theorem heads_at (c : Dev nD) (v : (⟨3, ![16, 1024, 32]⟩ : Shape).Idx → EReal) (h : Fin 16) (r : Fin 512) (n : Fin 32) :
    (Layout.blockN ⟨3, ![16, 512, 32]⟩ ⟨3, ![16, 1024, 32]⟩ (Layout.meshBlock [2, 2] ![[], [0], []] c) v : _ → EReal) (ix3 h r n)
      = v (ix3 h (⟨512 * (c.val / 2) + r.val, by have : c.val < 4 := c.isLt; omega⟩ : Fin 1024) n) := by
  rw [Layout.blockN_apply]
  refine congrArg v (funext fun a => Fin.ext ?_)
  have : c.val < 4 := c.isLt
  fin_cases a
  · simp [Layout.TilesN.idx_val, Layout.meshLin, coord_col, coord_row]
  · simp [Layout.TilesN.idx_val, Layout.meshLin, coord_col, coord_row]; omega
  · simp [Layout.TilesN.idx_val, Layout.meshLin, coord_col, coord_row]

end Cert.ProjMeaning

end
-- ==== Proof.ProjMeaning.lean ====
/- The reference's five results, element by element, and the kernel's results against them. -/
module

public import proofs.«01_k».proof.Defs
public import proofs.«01_k».proof.Proof.ProjValues
public import proofs.«01_k».proof.Proof.Gen.ProjReferenceIdeal.Run

@[expose] public section

noncomputable section

namespace Cert.ProjMeaning

open Idealize.ShloMosaic hiding ix2 ix3 eq_ix2 eq_ix3
open Idealize.ShloMosaic.ValueIdx Idealize.ShloMosaic.TcCoe Idealize.SL.Sem
open Cert.ProjIdeal.Run
open Cert.ProjReferenceIdeal Cert.ProjReferenceIdeal.Gen

/-! ## The reference's results -/

abbrev refQ (x : FVec Ideal S1024x2048 .bf16) (w : FVec Ideal S2048x2048 .f32) : FVec Ideal S1024x2048 .bf16 :=
  truncf .bf16 (mulf (Host.dotGeneral dot_S1024x2048_S2048x2048_S1024x2048_1_0_0_1_n_n none (extf .f32 x bitsLt_bf16_f32) w) (broadcastInDim S1024x2048 ![] bcast_S_S1024x2048 (Host.divf (constant S_ .f32 0x3F800000#32) (Host.sqrt (constant S_ .f32 0x43200000#32))))) bitsLt_bf16_f32
abbrev refHeads (x : FVec Ideal S1024x2048 .bf16) (w : FVec Ideal S2048x512 .f32) : FVec Ideal S16x1024x32 .bf16 :=
  truncf .bf16 (transpose S16x1024x32 [1, 0, 2] (shapeCast _ (mulf (Host.dotGeneral dot_S1024x2048_S2048x512_S1024x512_1_0_0_1_n_n none (extf .f32 x bitsLt_bf16_f32) w) (broadcastInDim S1024x512 ![] bcast_S_S1024x512 (Host.divf (constant S_ .f32 0x3F800000#32) (Host.sqrt (constant S_ .f32 0x43200000#32))))) shapeCasts_S1024x512_S1024x16x32) transposes_S1024x16x32_S16x1024x32_1_0_2) bitsLt_bf16_f32
abbrev refKr (x : FVec Ideal S1024x2048 .bf16) (w : FVec Ideal S2048x32 .bf16) : FVec Ideal S1024x32 .bf16 :=
  truncf .bf16 (Host.dotGeneral dot_S1024x2048_S2048x32_S1024x32_1_0_0_1_n_n none (extf .f32 x bitsLt_bf16_f32) (extf .f32 w bitsLt_bf16_f32)) bitsLt_bf16_f32
abbrev refUp (x : FVec Ideal S1024x2048 .bf16) (d : FVec Ideal S2048x256 .bf16) (w : FVec Ideal S256x2048 .bf16) : FVec Ideal S1024x2048 .bf16 :=
  truncf .bf16 (Host.dotGeneral dot_S1024x256_S256x2048_S1024x2048_1_0_0_1_n_n none (Host.dotGeneral dot_S1024x2048_S2048x256_S1024x256_1_0_0_1_n_n none (extf .f32 x bitsLt_bf16_f32) (extf .f32 d bitsLt_bf16_f32)) (extf .f32 w bitsLt_bf16_f32)) bitsLt_bf16_f32

theorem refQ_at (x : FVec Ideal S1024x2048 .bf16) (w : FVec Ideal S2048x2048 .f32) (r : Fin 1024) (n : Fin 2048) :
    refQ x w (ix2 r n) = (∑ k : Fin 2048, x (ix2 r k) * w (ix2 k n)) * invScale := by
  refine Eq.trans ?_ (congrArg₂ (· * ·) (hostMm dot_S1024x2048_S2048x2048_S1024x2048_1_0_0_1_n_n rfl (φ₁ := .f32) (φ₂ := .f32) x w r n) quotient)
  rfl
/-- Columns `32 h + e` of a product, as row `h` of the heads. -/
theorem heads_read (v : FVec Ideal S1024x512 .f32) (h : Fin 16) (r : Fin 1024) (e : Fin 32) :
    transpose S16x1024x32 [1, 0, 2] (shapeCast S1024x16x32 v shapeCasts_S1024x512_S1024x16x32) transposes_S1024x16x32_S16x1024x32_1_0_2 (ix3 h r e)
      = v (ix2 r (⟨32 * h.val + e.val, by omega⟩ : Fin 512)) := by
  refine (transpose_apply _ _ transposes_S1024x16x32_S16x1024x32_1_0_2 (ix3 h r e) (ix3 r h e) fun b => match b with | ⟨0, _⟩ => rfl | ⟨1, _⟩ => rfl | ⟨2, _⟩ => rfl).trans ?_
  refine shapeCast_apply _ shapeCasts_S1024x512_S1024x16x32 (ix3 r h e) (ix2 r (⟨32 * h.val + e.val, by omega⟩ : Fin 512)) ?_
  rw [Shape.rowMajor_val_three, Shape.rowMajor_val_two]
  show r.val * 512 + (32 * h.val + e.val) = (r.val * 16 + h.val) * 32 + e.val
  omega
theorem refHeads_at (x : FVec Ideal S1024x2048 .bf16) (w : FVec Ideal S2048x512 .f32) (h : Fin 16) (r : Fin 1024) (e : Fin 32) :
    refHeads x w (ix3 h r e) = (∑ k : Fin 2048, x (ix2 r k) * w (ix2 k (⟨32 * h.val + e.val, by omega⟩ : Fin 512))) * invScale := by
  refine Eq.trans ?_ (congrArg₂ (· * ·) (hostMm dot_S1024x2048_S2048x512_S1024x512_1_0_0_1_n_n rfl (φ₁ := .f32) (φ₂ := .f32) x w r (⟨32 * h.val + e.val, by omega⟩ : Fin 512)) quotient)
  exact heads_read (mulf (Host.dotGeneral dot_S1024x2048_S2048x512_S1024x512_1_0_0_1_n_n none (extf .f32 x bitsLt_bf16_f32) w) (broadcastInDim S1024x512 ![] bcast_S_S1024x512 (Host.divf (constant S_ .f32 0x3F800000#32) (Host.sqrt (constant S_ .f32 0x43200000#32))))) h r e
theorem refKr_at (x : FVec Ideal S1024x2048 .bf16) (w : FVec Ideal S2048x32 .bf16) (r : Fin 1024) (n : Fin 32) :
    refKr x w (ix2 r n) = ∑ k : Fin 2048, x (ix2 r k) * w (ix2 k n) :=
  hostMm dot_S1024x2048_S2048x32_S1024x32_1_0_0_1_n_n rfl (φ₁ := .f32) (φ₂ := .f32) x w r n
theorem refUp_at (x : FVec Ideal S1024x2048 .bf16) (d : FVec Ideal S2048x256 .bf16) (w : FVec Ideal S256x2048 .bf16) (r : Fin 1024) (n : Fin 2048) :
    refUp x d w (ix2 r n) = ∑ j : Fin 256, (∑ k : Fin 2048, x (ix2 r k) * d (ix2 k j)) * w (ix2 j n) := by
  refine (hostMm dot_S1024x256_S256x2048_S1024x2048_1_0_0_1_n_n rfl (φ₁ := .f32) (φ₂ := .f32) (Host.dotGeneral dot_S1024x2048_S2048x256_S1024x256_1_0_0_1_n_n none (extf .f32 x bitsLt_bf16_f32) (extf .f32 d bitsLt_bf16_f32)) w r n).trans ?_
  refine Finset.sum_congr rfl fun j _ => congrArg (· * w (ix2 j n)) ?_
  exact hostMm dot_S1024x2048_S2048x256_S1024x256_1_0_0_1_n_n rfl (φ₁ := .f32) (φ₂ := .f32) x d r j

/-! ## The kernel's results are the reference's -/

/-- A device's up projection, its partner's half of the contraction added, over the blocks of whole arrays. -/
theorem up_sum (c : Dev Cert.ProjIdeal.nD) (x : FVec Ideal S1024x2048 .bf16) (d : FVec Ideal S2048x256 .bf16) (w : FVec Ideal S256x2048 .bf16)
    (dl : Dev Cert.ProjIdeal.nD → FVec Ideal Cert.ProjIdeal.S2048x128 .bf16) (wl : Dev Cert.ProjIdeal.nD → FVec Ideal Cert.ProjIdeal.S128x2048 .bf16)
    (hd : ∀ c k j, dl c (ix2 k j) = d (ix2 k (⟨c.val % 2 * 128 + j.val, by omega⟩ : Fin 256)))
    (hw : ∀ c j n, wl c (ix2 j n) = w (ix2 (⟨c.val % 2 * 128 + j.val, by omega⟩ : Fin 256) n)) (r : Fin 1024) (n : Fin 2048) :
    (∑ j : Fin 128, (∑ k : Fin 2048, x (ix2 r k) * dl c (ix2 k j)) * wl c (ix2 j n))
      + (∑ j : Fin 128, (∑ k : Fin 2048, x (ix2 r k) * dl (mate0 c) (ix2 k j)) * wl (mate0 c) (ix2 j n)) = refUp x d w (ix2 r n) := by
  rw [refUp_at]
  have hm : ∀ c : Dev Cert.ProjIdeal.nD, (mate0 c).val % 2 = 1 - c.val % 2 := by decide +kernel
  simp only [hd, hw, hm]
  exact sum_halves (fun j => (∑ k : Fin 2048, x (ix2 r k) * d (ix2 k j)) * w (ix2 j n)) (c.val % 2) (Nat.mod_lt _ (by decide))

theorem ext2 {α : Type} {a b : ℕ} {f g : (⟨2, ![a, b]⟩ : Shape).Idx → α} (h : ∀ (i : Fin a) (j : Fin b), f (ix2 i j) = g (ix2 i j)) : f = g := by
  funext i; rw [eq_ix2 i]; exact h _ _
theorem ext3 {α : Type} {a b d : ℕ} {f g : (⟨3, ![a, b, d]⟩ : Shape).Idx → α} (h : ∀ (i : Fin a) (j : Fin b) (k : Fin d), f (ix3 i j k) = g (ix3 i j k)) : f = g := by
  funext i; rw [eq_ix3 i]; exact h _ _ _

section
variable (m : (ℓ : Loc Cert.ProjIdeal.nD Cert.ProjIdeal.τ Cert.ProjIdeal.sig) → Buf (Elt Ideal) ℓ)

theorem q_eq (c : Dev Cert.ProjIdeal.nD) (x : FVec Ideal S1024x2048 .bf16) (w : FVec Ideal S2048x2048 .f32)
    (hx : m ((c.tc : Thread Cert.ProjIdeal.nD Cert.ProjIdeal.τ).loc Cert.ProjIdeal.main_arg0) = x)
    (hw : m ((c.tc : Thread Cert.ProjIdeal.nD Cert.ProjIdeal.τ).loc Cert.ProjIdeal.main_arg4) = w) :
    qFin m c = Layout.blockN ⟨2, ![512, 2048]⟩ ⟨2, ![1024, 2048]⟩ (Layout.meshBlock [2, 2] ![[0], []] c) (refQ x w) := by
  refine ext2 fun r n => ?_
  refine Eq.trans ?_ (qrows_at c (refQ x w) _ _).symm
  rw [refQ_at]
  unfold qFin qOf
  rw [pay8_at]
  refine congrArg (· * invScale) (Finset.sum_congr rfl fun k _ => ?_)
  rw [xHalf_at, hw, iblk_0, hx]
theorem qr_eq (c : Dev Cert.ProjIdeal.nD) (x : FVec Ideal S1024x2048 .bf16) (w : FVec Ideal S2048x512 .f32)
    (hx : m ((c.tc : Thread Cert.ProjIdeal.nD Cert.ProjIdeal.τ).loc Cert.ProjIdeal.main_arg0) = x)
    (hw : m ((c.tc : Thread Cert.ProjIdeal.nD Cert.ProjIdeal.τ).loc Cert.ProjIdeal.main_arg5) = w) :
    qrFin m c = Layout.blockN ⟨3, ![16, 512, 32]⟩ ⟨3, ![16, 1024, 32]⟩ (Layout.meshBlock [2, 2] ![[], [0], []] c) (refHeads x w) := by
  refine ext3 fun h r e => ?_
  refine Eq.trans ?_ (heads_at c (refHeads x w) _ _ _).symm
  rw [refHeads_at]
  unfold qrFin qrOf headRows
  refine (pay9_at _ _ _ _).trans ?_
  refine congrArg (· * invScale) (Finset.sum_congr rfl fun k _ => ?_)
  rw [xHalf_at, hw, iblk_0, hx]
theorem kr_eq (c : Dev Cert.ProjIdeal.nD) (x : FVec Ideal S1024x2048 .bf16) (w : FVec Ideal S2048x32 .bf16)
    (hx : m ((c.tc : Thread Cert.ProjIdeal.nD Cert.ProjIdeal.τ).loc Cert.ProjIdeal.main_arg0) = x)
    (hw : m ((c.tc : Thread Cert.ProjIdeal.nD Cert.ProjIdeal.τ).loc Cert.ProjIdeal.main_arg6) = w) :
    krFin m c = refKr x w := by
  refine ext2 fun r n => ?_
  refine Eq.trans ?_ (refKr_at x w _ _).symm
  unfold krFin krOf
  rw [pay4_at, iblk_0, iblk_4, hx, hw]
theorem k_eq (c : Dev Cert.ProjIdeal.nD) (x : FVec Ideal S1024x2048 .bf16) (d : FVec Ideal S2048x256 .bf16) (w : FVec Ideal S256x2048 .bf16)
    (hx : ∀ c : Dev Cert.ProjIdeal.nD, m ((c.tc : Thread Cert.ProjIdeal.nD Cert.ProjIdeal.τ).loc Cert.ProjIdeal.main_arg0) = x)
    (hd : ∀ c : Dev Cert.ProjIdeal.nD, m ((c.tc : Thread Cert.ProjIdeal.nD Cert.ProjIdeal.τ).loc Cert.ProjIdeal.main_arg1) = Layout.blockN ⟨2, ![2048, 128]⟩ ⟨2, ![2048, 256]⟩ (Layout.meshBlock [2, 2] ![[], [1]] c) d)
    (hw : ∀ c : Dev Cert.ProjIdeal.nD, m ((c.tc : Thread Cert.ProjIdeal.nD Cert.ProjIdeal.τ).loc Cert.ProjIdeal.main_arg2) = Layout.blockN ⟨2, ![128, 2048]⟩ ⟨2, ![256, 2048]⟩ (Layout.meshBlock [2, 2] ![[1], []] c) w) :
    kFin m c = refUp x d w := by
  refine ext2 fun r n => ?_
  refine Eq.trans ?_ (up_sum c x d w (fun c => Layout.blockN ⟨2, ![2048, 128]⟩ ⟨2, ![2048, 256]⟩ (Layout.meshBlock [2, 2] ![[], [1]] c) d)
    (fun c => Layout.blockN ⟨2, ![128, 2048]⟩ ⟨2, ![256, 2048]⟩ (Layout.meshBlock [2, 2] ![[1], []] c) w)
    (fun c k j => cols_at c d k j) (fun c j n => rows_at c w j n) _ _)
  unfold kFin kOf mail
  rw [pay27_at, pay5_at]
  simp only [pay3_at, iblk_0, iblk_1, iblk_2, hx, hd, hw]
theorem v_eq (c : Dev Cert.ProjIdeal.nD) (x : FVec Ideal S1024x2048 .bf16) (d : FVec Ideal S2048x256 .bf16) (w : FVec Ideal S256x2048 .bf16)
    (hx : ∀ c : Dev Cert.ProjIdeal.nD, m ((c.tc : Thread Cert.ProjIdeal.nD Cert.ProjIdeal.τ).loc Cert.ProjIdeal.main_arg0) = x)
    (hd : ∀ c : Dev Cert.ProjIdeal.nD, m ((c.tc : Thread Cert.ProjIdeal.nD Cert.ProjIdeal.τ).loc Cert.ProjIdeal.main_arg1) = Layout.blockN ⟨2, ![2048, 128]⟩ ⟨2, ![2048, 256]⟩ (Layout.meshBlock [2, 2] ![[], [1]] c) d)
    (hw : ∀ c : Dev Cert.ProjIdeal.nD, m ((c.tc : Thread Cert.ProjIdeal.nD Cert.ProjIdeal.τ).loc Cert.ProjIdeal.main_arg3) = Layout.blockN ⟨2, ![128, 2048]⟩ ⟨2, ![256, 2048]⟩ (Layout.meshBlock [2, 2] ![[1], []] c) w) :
    vFin m c = refUp x d w := by
  refine ext2 fun r n => ?_
  refine Eq.trans ?_ (up_sum c x d w (fun c => Layout.blockN ⟨2, ![2048, 128]⟩ ⟨2, ![2048, 256]⟩ (Layout.meshBlock [2, 2] ![[], [1]] c) d)
    (fun c => Layout.blockN ⟨2, ![128, 2048]⟩ ⟨2, ![256, 2048]⟩ (Layout.meshBlock [2, 2] ![[1], []] c) w)
    (fun c k j => cols_at c d k j) (fun c j n => rows_at c w j n) _ _)
  unfold vFin vOf mail
  rw [pay1_at, pay6_at]
  simp only [pay3_at, iblk_0, iblk_1, iblk_3, hx, hd, hw]
end

/-- The value claim: the kernel's five results are the reference's. -/
theorem algebraic : Cert.algebraic_ProjIdeal_ProjReferenceIdeal := by
  intro m g m' g' _ hargs
  refine ⟨refQ (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg4)), refHeads (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg5)), refKr (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg6)), refUp (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg1)) (m' (((0 : Dev Cert.ProjReferenceIdeal.nD).tc : Thread Cert.ProjReferenceIdeal.nD Cert.ProjReferenceIdeal.τ).loc Cert.ProjReferenceIdeal.main_arg2)), refUp (m' (((0 : Dev Cert.ProjReferenceIdeal.nD).tc : Thread Cert.ProjReferenceIdeal.nD Cert.ProjReferenceIdeal.τ).loc Cert.ProjReferenceIdeal.main_arg0)) (m' (((0 : Dev Cert.ProjReferenceIdeal.nD).tc : Thread Cert.ProjReferenceIdeal.nD Cert.ProjReferenceIdeal.τ).loc Cert.ProjReferenceIdeal.main_arg1)) (m' (((0 : Dev Cert.ProjReferenceIdeal.nD).tc : Thread Cert.ProjReferenceIdeal.nD Cert.ProjReferenceIdeal.τ).loc Cert.ProjReferenceIdeal.main_arg3)), ?_, ?_⟩
  · refine (θ_run _ _ _).mono (fun r h c => ?_) (run_all m g)
    obtain ⟨⟨h0, h1, h2, h3, h4⟩, ha⟩ := h.1 c
    obtain ⟨a0, a1, a2, a3, a4, a5, a6⟩ := hargs c
    exact ⟨h0.trans (q_eq m c _ _ a0 a4), h1.trans (qr_eq m c _ _ a0 a5), h2.trans (kr_eq m c _ _ a0 a6),
      h3.trans (k_eq m c _ _ _ (fun c => (hargs c).1) (fun c => (hargs c).2.1) (fun c => (hargs c).2.2.1)),
      h4.trans (v_eq m c _ _ _ (fun c => (hargs c).1) (fun c => (hargs c).2.1) (fun c => (hargs c).2.2.2.1)), ha⟩
  · exact (θ_run _ _ _).mono (fun r h => h 0) (Cert.ProjReferenceIdeal.Value.run m' g')

/-- The reference's run leaves its arguments unchanged; it has no semaphore. -/
theorem reference_frame : Cert.quiescent_ProjReferenceIdeal := by
  intro m g _
  exact (θ_run _ _ _).mono (fun r h => ⟨fun c => (h c).2.2.2.2.2, sem_eq_zero_of_no_sems rfl _⟩) (Cert.ProjReferenceIdeal.Value.run m g)

end Cert.ProjMeaning

end
-- ==== Proof.Final.lean ====
/- What the projection call's windows read: the blocks at its one point are whole arrays, and those are the casts of the arguments. -/
module

public import proofs.«01_k».proof.Proof.Whole
public import Idealize.ShloMosaic.Lib.Pipeline.ValueKit

@[expose] public section

noncomputable section

namespace Cert.KernelIdeal.Run

open Idealize.ShloMosaic Idealize.ShloMosaic.TcCoe
open Idealize.SL Idealize.SL.RA
open scoped Idealize.SL.BI
open Idealize.SL.BI (bigSep_univ_prod bigSep_univ_eq_bigSepL bigSep_eq_bigSepL_of_eq bigSep_fupd sProp bigSep bigSep_sep' bigSep_univ_equiv bigSep_map bigSep_mono bigSep_congr bigSep_elim bigSep_singleton bigSep_insert)
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Cert.KernelIdeal Cert.KernelIdeal.Gen

variable {F : FTy → Type} [FloatOps F] [Named F]

local notation "𝕄" => MT nD τ sig Unit (Elt F) ℕ UU ℕ

variable (V : Dev nD → Valuation τ sig (Elt F))

theorem iblk_0 (c : Dev nD) : iblk V c 0 t0_0 = V c (Proc.devRef .tc main_v2) := by
  funext j; unfold iblk; exact congrArg (V c (Proc.devRef .tc main_v2)) (funext fun a => Fin.ext (by
    show _ + _ = _; simp; exact Or.inl (by revert a; decide +kernel)))
theorem iblk_1 (c : Dev nD) : iblk V c 1 t0_0 = V c (Proc.devRef .tc main_v3) := by
  funext j; unfold iblk; exact congrArg (V c (Proc.devRef .tc main_v3)) (funext fun a => Fin.ext (by
    show _ + _ = _; simp; exact Or.inl (by revert a; decide +kernel)))
theorem iblk_2 (c : Dev nD) : iblk V c 2 t0_0 = V c (Proc.devRef .tc main_v4) := by
  funext j; unfold iblk; exact congrArg (V c (Proc.devRef .tc main_v4)) (funext fun a => Fin.ext (by
    show _ + _ = _; simp; exact Or.inl (by revert a; decide +kernel)))
theorem iblk_3 (c : Dev nD) : iblk V c 3 t0_0 = V c (Proc.devRef .tc main_v5) := by
  funext j; unfold iblk; exact congrArg (V c (Proc.devRef .tc main_v5)) (funext fun a => Fin.ext (by
    show _ + _ = _; simp; exact Or.inl (by revert a; decide +kernel)))
theorem iblk_4 (c : Dev nD) : iblk V c 4 t0_0 = V c (Proc.devRef .tc main_v6) := by
  funext j; unfold iblk; exact congrArg (V c (Proc.devRef .tc main_v6)) (funext fun a => Fin.ext (by
    show _ + _ = _; simp; exact Or.inl (by revert a; decide +kernel)))

end Cert.KernelIdeal.Run

namespace Cert.KernelIdeal.Whole

open Idealize.ShloMosaic Idealize.ShloMosaic.TcCoe Idealize.ShloMosaic.StableHlo
open Cert.KernelIdeal Cert.KernelIdeal.Gen

variable {F : FTy → Type} [FloatOps F] [Named F]
variable (m : (ℓ : Loc nD τ sig) → Buf (Elt F) ℓ)

/-! ## The casts -/

theorem W1_arg (c : Dev nD) (r : Ref sig .tc) (h : r ∉ hostOps0_W) : W1 m c (Proc.devRef .tc r) = m ((c : Thread nD τ).loc r) :=
  (V1_of m c r h).trans rfl
theorem W1_x (c : Dev nD) : W1 m c (Proc.devRef .tc main_v2)
    = (truncf .bf16 (shapeCast S1024x2048 (m ((c : Thread nD τ).loc main_arg0)) shapeCasts_S1x1024x2048_S1024x2048) bitsLt_bf16_f32 : FVec F S1024x2048 .bf16) := by
  unfold W1; after_results_simp <;> rfl
theorem W1_dkv (c : Dev nD) : W1 m c (Proc.devRef .tc main_v3) = (truncf .bf16 (m ((c : Thread nD τ).loc main_arg1)) bitsLt_bf16_f32 : FVec F S2048x128 .bf16) := by
  unfold W1; after_results_simp <;> rfl
theorem W1_uk (c : Dev nD) : W1 m c (Proc.devRef .tc main_v4) = (truncf .bf16 (m ((c : Thread nD τ).loc main_arg2)) bitsLt_bf16_f32 : FVec F S128x2048 .bf16) := by
  unfold W1; after_results_simp <;> rfl
theorem W1_uv (c : Dev nD) : W1 m c (Proc.devRef .tc main_v5) = (truncf .bf16 (m ((c : Thread nD τ).loc main_arg3)) bitsLt_bf16_f32 : FVec F S128x2048 .bf16) := by
  unfold W1; after_results_simp <;> rfl
theorem W1_wkr (c : Dev nD) : W1 m c (Proc.devRef .tc main_v6) = (truncf .bf16 (m ((c : Thread nD τ).loc main_arg6)) bitsLt_bf16_f32 : FVec F S2048x32 .bf16) := by
  unfold W1; after_results_simp <;> rfl

end Cert.KernelIdeal.Whole

end
-- ==== Proof.Values.lean ====
/- What the kernel computes at the ideal values, element by element: each payload as sums of products, the two halves of
   the contraction that the partners hold put together, and the scale moved out of the sum. -/
module

public import proofs.«01_k».proof.Proof.Final
public import Idealize.ShloMosaic.Lib.MatmulPlain
public import Idealize.ShloMosaic.Lib.KernelVsHost
public import Idealize.ShloMosaic.Lib.IdealHost
public import Idealize.ShloMosaic.Lib.Layout

@[expose] public section

noncomputable section

namespace Cert.Meaning

open Idealize.ShloMosaic hiding ix2 ix3
open Idealize.ShloMosaic.ValueIdx Idealize.ShloMosaic.TcCoe
open Cert.KernelIdeal Cert.KernelIdeal.Gen Cert.KernelIdeal.Run

/-! ## Sums of extended reals -/

/-- A nonnegative real factor moves out of a sum. -/
theorem sum_scale {ι : Type} [Fintype ι] (s : ℝ) (hs : 0 ≤ s) (f : ι → EReal) : ∑ k, f k * (s : EReal) = (∑ k, f k) * (s : EReal) := by
  classical
  have h : ∀ S : Finset ι, ∑ k ∈ S, f k * (s : EReal) = (∑ k ∈ S, f k) * (s : EReal) := by
    intro S
    induction S using Finset.induction_on with
    | empty => simp
    | insert a S ha ih =>
      rw [Finset.sum_insert ha, Finset.sum_insert ha, ih, EReal.right_distrib_of_nonneg_of_ne_top (EReal.coe_nonneg.mpr hs) (EReal.coe_ne_top s)]
  exact h Finset.univ

/-- A sum over 256 is a sum over its first and its last 128, in either order. -/
theorem sum_halves (f : Fin 256 → EReal) (b : ℕ) (hb : b < 2) :
    (∑ j : Fin 128, f ⟨b * 128 + j.val, by omega⟩) + ∑ j : Fin 128, f ⟨(1 - b) * 128 + j.val, by omega⟩ = ∑ j, f j := by
  have h : ∑ j, f j = (∑ j : Fin 128, f (Fin.castAdd 128 j)) + ∑ j : Fin 128, f (Fin.natAdd 128 j) := Fin.sum_univ_add (a := 128) (b := 128) f
  rw [h]
  interval_cases b
  · refine congrArg₂ (· + ·) ?_ ?_
    · exact Finset.sum_congr rfl fun j _ => congrArg f (Fin.ext (by simp))
    · exact Finset.sum_congr rfl fun j _ => congrArg f (Fin.ext (by simp [Nat.add_comm]))
  · rw [add_comm]; refine congrArg₂ (· + ·) ?_ ?_
    · exact Finset.sum_congr rfl fun j _ => congrArg f (Fin.ext (by simp))
    · exact Finset.sum_congr rfl fun j _ => congrArg f (Fin.ext (by simp [Nat.add_comm]))

/-! ## Products read at an index -/

theorem mm {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    matmul d none l r (constant ⟨2, ![M, N]⟩ .f32 0x00000000#32) (ix2 i j) = ∑ k : Fin K, l (ix2 i k) * r (ix2 k j) := by
  subst hd
  refine (Ideal.matmul_plain_apply none l r _ i j).trans ?_
  show Ideal.ofBits .f32 0x00000000#32 + _ = _
  rw [Ideal.ofBits_zero_f32, zero_add]

theorem hostMm {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    Host.dotGeneral d none l r (ix2 i j) = ∑ k : Fin K, l (ix2 i k) * r (ix2 k j) :=
  (congrFun (matmul_zero_eq_dotGeneral d none l r).symm _).trans (mm d hd l r i j)

/-- The reciprocal of the score scale, as the kernel's named constant and as the reference's quotient. -/
abbrev invScale : EReal := (((Real.sqrt 160)⁻¹ : ℝ) : EReal)
theorem kappa : (Named.named κ "inv_sqrt_160" 0x3DA2#16 : Ideal .bf16) = invScale := rfl
theorem ofBits_160 : Ideal.ofBits .f32 0x43200000#32 = ((160 : ℝ) : EReal) := by
  simp [Ideal.ofBits, Ideal.ieee, -EReal.coe_mul]; norm_num
theorem quotient : Ideal.div (Ideal.ofBits .f32 0x3F800000#32) (Ideal.sqrt (Ideal.ofBits .f32 0x43200000#32)) = invScale := by
  have h0 : Real.sqrt 160 ≠ 0 := (Real.sqrt_pos.mpr (by norm_num)).ne'
  rw [ofBits_160, Ideal.sqrt_coe, if_neg (by norm_num), Ideal.ofBits_one_f32, Ideal.div, if_neg (by simpa using h0), one_mul]
  exact (EReal.coe_inv _).symm

/-! ## The kernel's payloads -/

theorem pay3_at (x : FVec Ideal S1024x2048 .bf16) (w : FVec Ideal S2048x128 .bf16) (r : Fin 1024) (j : Fin 128) :
    k0_pay3 (F := Ideal) x w (ix2 r j) = ∑ k : Fin 2048, x (ix2 r k) * w (ix2 k j) := by
  unfold k0_pay3 k0_pay2; simp only [shapeCast_self]; exact mm _ rfl x w r j
theorem pay5_at (a : FVec Ideal S1024x128 .bf16) (w : FVec Ideal S128x2048 .bf16) (r : Fin 1024) (n : Fin 2048) :
    k0_pay5 (F := Ideal) a w (ix2 r n) = ∑ k : Fin 128, a (ix2 r k) * w (ix2 k n) := by
  unfold k0_pay5; simp only [shapeCast_self]; exact mm _ rfl a w r n
theorem pay6_at (a : FVec Ideal S1024x128 .bf16) (w : FVec Ideal S128x2048 .bf16) (r : Fin 1024) (n : Fin 2048) :
    k0_pay6 (F := Ideal) a w (ix2 r n) = ∑ k : Fin 128, a (ix2 r k) * w (ix2 k n) := by
  unfold k0_pay6; simp only [shapeCast_self]; exact mm _ rfl a w r n
theorem pay27_at (a : FVec Ideal S1024x128 .bf16) (b : FVec Ideal S1024x2048 .bf16) (w : FVec Ideal S128x2048 .bf16) (r : Fin 1024) (n : Fin 2048) :
    k0_pay27 (F := Ideal) a b w (ix2 r n) = b (ix2 r n) + ∑ k : Fin 128, a (ix2 r k) * w (ix2 k n) := by
  unfold k0_pay27; simp only [shapeCast_self]; exact congrArg (b (ix2 r n) + ·) (mm _ rfl a w r n)
theorem pay1_at (a : FVec Ideal S1024x128 .bf16) (b : FVec Ideal S1024x2048 .bf16) (w : FVec Ideal S128x2048 .bf16) (r : Fin 1024) (n : Fin 2048) :
    k0_pay1 (F := Ideal) a b w (ix2 r n) = b (ix2 r n) + ∑ k : Fin 128, a (ix2 r k) * w (ix2 k n) := by
  unfold k0_pay1; simp only [shapeCast_self]; exact congrArg (b (ix2 r n) + ·) (mm _ rfl a w r n)
theorem pay4_at (x : FVec Ideal S1024x2048 .bf16) (w : FVec Ideal S2048x32 .bf16) (r : Fin 1024) (n : Fin 32) :
    k0_pay4 (F := Ideal) (k0_pay2 x) w (ix2 r n) = ∑ k : Fin 2048, x (ix2 r k) * w (ix2 k n) := by
  unfold k0_pay4 k0_pay2; simp only [shapeCast_self]; exact mm _ rfl x w r n

/-- The scaled rows' products: the scale comes out of the sum. -/
theorem scaled (x : FVec Ideal S512x2048 .bf16) (g : Fin 2048 → EReal) (r : Fin 512) :
    ∑ k : Fin 2048, k0_pay7 (F := Ideal) x (ix2 r k) * g k = (∑ k : Fin 2048, x (ix2 r k) * g k) * invScale := by
  rw [← sum_scale _ (inv_nonneg.mpr (Real.sqrt_nonneg _))]
  refine Finset.sum_congr rfl fun k _ => ?_
  have h : k0_pay7 (F := Ideal) x (ix2 r k) = x (ix2 r k) * invScale := by
    unfold k0_pay7; simp only [shapeCast_self]; rfl
  rw [h, mul_assoc, mul_assoc, mul_comm (g k)]
theorem pay8_at (x : FVec Ideal S512x2048 .bf16) (w : FVec Ideal S2048x2048 .f32) (r : Fin 512) (n : Fin 2048) :
    k0_pay8 (F := Ideal) x w (ix2 r n) = (∑ k : Fin 2048, x (ix2 r k) * w (ix2 k n)) * invScale := by
  rw [← scaled x (fun k => w (ix2 k n))]; unfold k0_pay8; exact mm _ rfl (k0_pay7 x) w r n
theorem pay9_at (x : FVec Ideal S512x2048 .bf16) (w : FVec Ideal S2048x512 .f32) (r : Fin 512) (n : Fin 512) :
    k0_pay9 (F := Ideal) x w (ix2 r n) = (∑ k : Fin 2048, x (ix2 r k) * w (ix2 k n)) * invScale := by
  rw [← scaled x (fun k => w (ix2 k n))]; unfold k0_pay9; exact mm _ rfl (k0_pay7 x) w r n

/-- The rows of the input that a device's queries use. -/
theorem xHalf_at (c : Dev nD) (x : FVec Ideal S1024x2048 .bf16) (r : Fin 512) (k : Fin 2048) :
    xHalf (F := Ideal) c x (ix2 r k) = x (ix2 (⟨512 * (c.val / 2) + r.val, by have : c.val < 4 := c.isLt; omega⟩ : Fin 1024) k) := by
  unfold xHalf
  refine congrArg x (funext fun a => Fin.ext ?_)
  have h : k0_off1 c = ![512 * (c.val / 2), 0] := k0_off1_eq c
  fin_cases a
  · show k0_off1 c 0 + 1 * r.val = _
    rw [h]; simp
  · show k0_off1 c 1 + 1 * k.val = _
    rw [h]; simp

/-! ## A device's blocks of the whole arrays -/

theorem coord_col : ∀ c : Dev nD, Layout.meshCoord [2, 2] c.val 1 * Layout.cutSize [2, 2] [] = c.val % 2 := by decide +kernel
theorem coord_row : ∀ c : Dev nD, Layout.meshCoord [2, 2] c.val 0 * Layout.cutSize [2, 2] [] = c.val / 2 := by decide +kernel

theorem cols_at (c : Dev nD) (v : (⟨2, ![2048, 256]⟩ : Shape).Idx → EReal) (k : Fin 2048) (j : Fin 128) :
    (Layout.blockN ⟨2, ![2048, 128]⟩ ⟨2, ![2048, 256]⟩ (Layout.meshBlock [2, 2] ![[], [1]] c) v : _ → EReal) (ix2 k j)
      = v (ix2 k (⟨c.val % 2 * 128 + j.val, by omega⟩ : Fin 256)) := by
  rw [Layout.blockN_apply]
  refine congrArg v (funext fun a => Fin.ext ?_)
  fin_cases a <;> simp [Layout.TilesN.idx_val, Layout.meshLin, coord_col, coord_row]
theorem rows_at (c : Dev nD) (v : (⟨2, ![256, 2048]⟩ : Shape).Idx → EReal) (j : Fin 128) (n : Fin 2048) :
    (Layout.blockN ⟨2, ![128, 2048]⟩ ⟨2, ![256, 2048]⟩ (Layout.meshBlock [2, 2] ![[1], []] c) v : _ → EReal) (ix2 j n)
      = v (ix2 (⟨c.val % 2 * 128 + j.val, by omega⟩ : Fin 256) n) := by
  rw [Layout.blockN_apply]
  refine congrArg v (funext fun a => Fin.ext ?_)
  fin_cases a <;> simp [Layout.TilesN.idx_val, Layout.meshLin, coord_col, coord_row]
theorem qrows_at (c : Dev nD) (v : (⟨2, ![1024, 2048]⟩ : Shape).Idx → EReal) (r : Fin 512) (n : Fin 2048) :
    (Layout.blockN ⟨2, ![512, 2048]⟩ ⟨2, ![1024, 2048]⟩ (Layout.meshBlock [2, 2] ![[0], []] c) v : _ → EReal) (ix2 r n)
      = v (ix2 (⟨512 * (c.val / 2) + r.val, by have : c.val < 4 := c.isLt; omega⟩ : Fin 1024) n) := by
  rw [Layout.blockN_apply]
  refine congrArg v (funext fun a => Fin.ext ?_)
  have : c.val < 4 := c.isLt
  fin_cases a
  · simp [Layout.TilesN.idx_val, Layout.meshLin, coord_col, coord_row]; omega
  · simp [Layout.TilesN.idx_val, Layout.meshLin, coord_col, coord_row]
theorem heads_at (c : Dev nD) (v : (⟨3, ![16, 1024, 32]⟩ : Shape).Idx → EReal) (h : Fin 16) (r : Fin 512) (n : Fin 32) :
    (Layout.blockN ⟨3, ![16, 512, 32]⟩ ⟨3, ![16, 1024, 32]⟩ (Layout.meshBlock [2, 2] ![[], [0], []] c) v : _ → EReal) (ix3 h r n)
      = v (ix3 h (⟨512 * (c.val / 2) + r.val, by have : c.val < 4 := c.isLt; omega⟩ : Fin 1024) n) := by
  rw [Layout.blockN_apply]
  refine congrArg v (funext fun a => Fin.ext ?_)
  have : c.val < 4 := c.isLt
  fin_cases a
  · simp [Layout.TilesN.idx_val, Layout.meshLin, coord_col, coord_row]
  · simp [Layout.TilesN.idx_val, Layout.meshLin, coord_col, coord_row]; omega
  · simp [Layout.TilesN.idx_val, Layout.meshLin, coord_col, coord_row]

end Cert.Meaning

end
-- ==== Proof.AttnSoftmax.lean ====
/- The softmax of finite scores over the extended reals: weighting by `exp (s - max s)`, divided through first, is weighting
   by `exp s`, divided at the end. The weighted values themselves may be infinite. -/
module

public import proofs.«01_k».proof.Proof.Values

@[expose] public section

noncomputable section

namespace Cert.AttnMeaning

open Idealize.ShloMosaic hiding ix2 ix3 eq_ix2 eq_ix3
open Idealize.ShloMosaic.ValueIdx
open Cert.Meaning (sum_scale)

/-! ## Real values among the extended reals -/

/-- A value is a real number. -/
def Real' (x : EReal) : Prop := ∃ r : ℝ, x = (r : EReal)

theorem Real'.of_abs {x : EReal} (h : max x (-x) < ⊤) : Real' x := by
  induction x using EReal.rec with
  | bot => simp at h
  | coe r => exact ⟨r, rfl⟩
  | top => simp at h
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.add {x y : EReal} (hx : Real' x) (hy : Real' y) : Real' (x + y) := by
  obtain ⟨a, rfl⟩ := hx; obtain ⟨b, rfl⟩ := hy; exact ⟨a + b, (EReal.coe_add a b).symm⟩
theorem coe_sum {ι : Type} [Fintype ι] (f : ι → ℝ) : ∑ k, (f k : EReal) = ((∑ k, f k : ℝ) : EReal) := by
  classical
  have h : ∀ S : Finset ι, ∑ k ∈ S, (f k : EReal) = ((∑ k ∈ S, f k : ℝ) : EReal) := by
    intro S
    induction S using Finset.induction_on with
    | empty => simp
    | insert a S ha ih => rw [Finset.sum_insert ha, Finset.sum_insert ha, ih, EReal.coe_add]
  exact h Finset.univ
theorem Real'.sum {ι : Type} [Fintype ι] {f : ι → EReal} (h : ∀ k, Real' (f k)) : Real' (∑ k, f k) := by
  choose g hg using h
  exact ⟨∑ k, g k, by rw [← coe_sum]; exact Finset.sum_congr rfl fun k _ => hg k⟩

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-- The greatest of finitely many reals (one at least) is a real. -/
theorem Real'.fold_max {n : ℕ} [NeZero n] {s : Fin n → EReal} (h : ∀ t, Real' (s t)) : Real' ((Finset.univ : Finset (Fin n)).fold max ⊥ s) := by
  have hb : ⊥ < (Finset.univ : Finset (Fin n)).fold max ⊥ s := by
    rw [Finset.lt_fold_max]
    obtain ⟨a, ha⟩ := h 0
    exact Or.inr ⟨0, Finset.mem_univ _, by rw [ha]; exact EReal.bot_lt_coe a⟩
  have ht : (Finset.univ : Finset (Fin n)).fold max ⊥ s < ⊤ := by
    rw [Finset.fold_max_lt]
    refine ⟨bot_lt_top, fun t _ => ?_⟩
    obtain ⟨a, ha⟩ := h t
    rw [ha]; exact EReal.coe_lt_top a
  exact ⟨EReal.toReal _, (EReal.coe_toReal ht.ne hb.ne').symm⟩

theorem div_coe (x : EReal) {d : ℝ} (hd : d ≠ 0) : Ideal.div x (d : EReal) = x * ((d⁻¹ : ℝ) : EReal) := by
  rw [Ideal.div, if_neg (by exact_mod_cast hd), EReal.coe_inv]

/-! ## The softmax -/

/-- Values weighted by the scores' exponentials, divided at the end by the weights' sum. -/
def weighted {n : ℕ} (s v : Fin n → EReal) : EReal := Ideal.div (∑ t, Ideal.exp (s t) * v t) (∑ t, Ideal.exp (s t))
/-- Values weighted by the softmax of the scores, each score first less the greatest. -/
def attended {n : ℕ} (s v : Fin n → EReal) : EReal :=
  ∑ t, v t * Ideal.div (Ideal.exp (s t - (Finset.univ : Finset (Fin n)).fold max ⊥ s))
    (∑ u, Ideal.exp (s u - (Finset.univ : Finset (Fin n)).fold max ⊥ s))

/-- On real scores the two agree. -/
theorem weighted_eq {n : ℕ} [NeZero n] (s v : Fin n → EReal) (h : ∀ t, Real' (s t)) : weighted s v = attended s v := by
  obtain ⟨μ, hμ⟩ := Real'.fold_max h
  choose σ hσ using h
  have hpos : 0 < ∑ t, Real.exp (σ t) := Finset.sum_pos (fun t _ => Real.exp_pos _) ⟨0, Finset.mem_univ _⟩
  have hshift : ∀ t, Ideal.exp (s t - (Finset.univ : Finset (Fin n)).fold max ⊥ s) = ((Real.exp (σ t) * Real.exp (-μ) : ℝ) : EReal) := by
    intro t
    rw [hμ, hσ t, ← EReal.coe_sub, Ideal.exp_coe, sub_eq_add_neg, Real.exp_add]
  have hexp : ∀ t, Ideal.exp (s t) = ((Real.exp (σ t) : ℝ) : EReal) := fun t => by rw [hσ t, Ideal.exp_coe]
  have hsum : ∑ u, Real.exp (σ u) * Real.exp (-μ) = (∑ u, Real.exp (σ u)) * Real.exp (-μ) := (Finset.sum_mul _ _ _).symm
  unfold weighted attended
  simp only [hshift, hexp, coe_sum]
  rw [hsum, div_coe _ hpos.ne', ← sum_scale _ (inv_nonneg.mpr hpos.le)]
  refine Finset.sum_congr rfl fun t _ => ?_
  rw [div_coe _ (mul_pos hpos (Real.exp_pos _)).ne', ← EReal.coe_mul]
  have hr : Real.exp (σ t) * Real.exp (-μ) * ((∑ u, Real.exp (σ u)) * Real.exp (-μ))⁻¹ = Real.exp (σ t) * (∑ u, Real.exp (σ u))⁻¹ := by
    have := (Real.exp_pos (-μ)).ne'
    field_simp
  rw [hr, EReal.coe_mul, mul_comm _ (v t), mul_assoc]

end Cert.AttnMeaning

end
-- ==== Proof.AttnValues.lean ====
/- What the attention kernel computes at the ideal values, element by element: a head's scores, its weighted values, the
   gathered rows, and the output projection. -/
module

public import proofs.«01_k».proof.Proof.AttnRun
public import proofs.«01_k».proof.Proof.Values
public import proofs.«01_k».proof.Proof.AttnSoftmax

@[expose] public section

noncomputable section

namespace Cert.AttnMeaning

open Idealize.ShloMosaic hiding ix1 ix2 ix3 eq_ix2 eq_ix3
open Idealize.ShloMosaic.ValueIdx Idealize.ShloMosaic.TcCoe
open Cert.KernelIdeal Cert.KernelIdeal.Gen Cert.KernelIdeal.Run1
open Cert.Meaning (mm)

/-- A product with the right operand's rows contracted, read at an index. -/
theorem mmT {M K N : ℕ} {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (i : Fin M) (j : Fin N) :
    matmul d none l r (constant ⟨2, ![M, N]⟩ .f32 0x00000000#32) (ix2 i j) = ∑ k : Fin K, l (ix2 i k) * r (ix2 j k) := by
  subst hd
  refine (Ideal.matmul_transposedRhs_apply none l r _ i j).trans ?_
  show Ideal.ofBits .f32 0x00000000#32 + _ = _
  rw [Ideal.ofBits_zero_f32, zero_add]

/-! ## A head's output at a point -/

/-- The score of a block's row against a column. -/
def scoreB (q : FVec Ideal S512x128 .bf16) (k : FVec Ideal S1024x128 .bf16) (qr : FVec Ideal S1x512x32 .bf16) (kr : FVec Ideal S1024x32 .bf16)
    (r : Fin 512) (t : Fin 1024) : EReal :=
  (∑ e : Fin 128, q (ix2 r e) * k (ix2 t e)) + ∑ e : Fin 32, qr (ix3 (0 : Fin 1) r e) * kr (ix2 t e)

theorem lift_row (r : Fin 512) (t : Fin 1024) (h : Shape.Reduces S512x1024 [1] S512) : h.lift (ix1 r) t = ix2 r t := by
  funext a; apply Fin.ext
  match a with
  | ⟨0, _⟩ => rfl
  | ⟨1, _⟩ => rfl

/-- A column of row values, repeated over the columns. -/
theorem spread (v : FVec Ideal S512 .f32) (r : Fin 512) (n : Fin 128) :
    broadcastTo S512x128 (shapeCast S512x1 v shapeCasts_S512_S512x1) broadcasts_S512x1_S512x128 (ix2 r n) = v (ix1 r) := by
  refine (broadcastTo_apply _ broadcasts_S512x1_S512x128 (ix2 r n) (ix2 r (0 : Fin 1)) fun ax => ?_).trans ?_
  · match ax with
    | ⟨0, _⟩ => rfl
    | ⟨1, _⟩ => rfl
  · refine shapeCast_apply v shapeCasts_S512_S512x1 _ _ ?_
    rw [Shape.rowMajor_val_two, Shape.rowMajor_val_one]
    show r.val = r.val * 1 + 0
    omega

/-- The scores of a block. -/
abbrev scores (q : FVec Ideal S512x128 .bf16) (k : FVec Ideal S1024x128 .bf16) (qr : FVec Ideal S1x512x32 .bf16) (kr : FVec Ideal S1024x32 .bf16) : FVec Ideal S512x1024 .f32 :=
  addf (matmul dot_S512x128_S1024x128_S512x1024_1_1_0_0_n_n none q k (constant S512x1024 .f32 0x00000000#32))
    (matmul dot_S512x32_S1024x32_S512x1024_1_1_0_0_n_n none (shapeCast S512x32 qr shapeCasts_S1x512x32_S512x32) kr (constant S512x1024 .f32 0x00000000#32))

theorem scores_at (q : FVec Ideal S512x128 .bf16) (k : FVec Ideal S1024x128 .bf16) (qr : FVec Ideal S1x512x32 .bf16) (kr : FVec Ideal S1024x32 .bf16)
    (r : Fin 512) (t : Fin 1024) : scores q k qr kr (ix2 r t) = scoreB q k qr kr r t := by
  refine congrArg₂ (· + ·) (mmT _ rfl q k r t) ?_
  refine (mmT _ rfl (shapeCast S512x32 qr shapeCasts_S1x512x32_S512x32) kr r t).trans ?_
  refine Finset.sum_congr rfl fun e _ => congrArg (· * kr (ix2 t e)) ?_
  exact shapeCast_1ab_ab_apply qr shapeCasts_S1x512x32_S512x32 r e

theorem pay38_at (q : FVec Ideal S512x128 .bf16) (k : FVec Ideal S1024x128 .bf16) (qr : FVec Ideal S1x512x32 .bf16) (kr : FVec Ideal S1024x32 .bf16)
    (v : FVec Ideal S1024x128 .bf16) (r : Fin 512) (n : Fin 128) :
    k1_pay38 (F := Ideal) q k qr kr v (ix2 r n) = weighted (scoreB q k qr kr r) (fun t => v (ix2 t n)) := by
  unfold k1_pay38
  simp only [shapeCast_self]
  refine congrArg₂ Ideal.div ?_ ?_
  · refine (mm _ rfl (truncf .bf16 (exp (scores q k qr kr)) bitsLt_bf16_f32) v r n).trans ?_
    exact Finset.sum_congr rfl fun t _ => congrArg (fun x => Ideal.exp x * v (ix2 t n)) (scores_at q k qr kr r t)
  · refine (spread _ r n).trans ?_
    refine (Ideal.multiReduction_add_single (exp (scores q k qr kr)) _ reduces_S512x1024_S512 _ _ (ix1 r)).trans ?_
    refine Finset.sum_congr rfl fun t _ => ?_
    refine (congrArg (exp (scores q k qr kr)) (lift_row r t _)).trans ?_
    exact congrArg Ideal.exp (scores_at q k qr kr r t)

theorem pay3_at (a : FVec Ideal S1024x2048 .bf16) (w : FVec Ideal S2048x2048 .f32) (r : Fin 1024) (n : Fin 2048) :
    k1_pay3 (F := Ideal) a w (ix3 (0 : Fin 1) r n) = ∑ j : Fin 2048, a (ix2 r j) * w (ix2 j n) := by
  unfold k1_pay3
  refine (shapeCast_ab_1ab_apply _ shapeCasts_S1024x2048_S1x1024x2048 (0 : Fin 1) r n).trans ?_
  exact mm _ rfl a (truncf .bf16 w bitsLt_bf16_f32) r n

/-! ## The blocks of a point -/

section
variable (V : Dev nD → Valuation τ sig (Elt Ideal))

theorem iblk_q (c : Dev nD) (h : Fin 16) (r : Fin 512) (e : Fin 128) :
    iblk V c 0 (pointOf h) (ix2 r e) = V c (Proc.devRef .tc main_v7_0) (ix2 r (⟨128 * h.val + e.val, by omega⟩ : Fin 2048)) := by
  unfold iblk
  refine congrArg (V c (Proc.devRef .tc main_v7_0)) (funext fun a => Fin.ext ?_)
  have ho : ∀ h : Fin 16, win1_0.index (pointOf h) = ![0, h.val] := by decide +kernel
  match a with
  | ⟨0, _⟩ => show win1_0.index (pointOf h) 0 * 512 + 1 * r.val = r.val; rw [ho]; show 0 * 512 + 1 * r.val = r.val; omega
  | ⟨1, _⟩ => show win1_0.index (pointOf h) 1 * 128 + 1 * e.val = 128 * h.val + e.val; rw [ho]; show h.val * 128 + 1 * e.val = 128 * h.val + e.val; omega
theorem iblk_k (c : Dev nD) (h : Fin 16) (t : Fin 1024) (e : Fin 128) :
    iblk V c 1 (pointOf h) (ix2 t e) = V c (Proc.devRef .tc main_v7_3) (ix2 t (⟨128 * h.val + e.val, by omega⟩ : Fin 2048)) := by
  unfold iblk
  refine congrArg (V c (Proc.devRef .tc main_v7_3)) (funext fun a => Fin.ext ?_)
  have ho : ∀ h : Fin 16, win1_1.index (pointOf h) = ![0, h.val] := by decide +kernel
  match a with
  | ⟨0, _⟩ => show win1_1.index (pointOf h) 0 * 1024 + 1 * t.val = t.val; rw [ho]; show 0 * 1024 + 1 * t.val = t.val; omega
  | ⟨1, _⟩ => show win1_1.index (pointOf h) 1 * 128 + 1 * e.val = 128 * h.val + e.val; rw [ho]; show h.val * 128 + 1 * e.val = 128 * h.val + e.val; omega
theorem iblk_v (c : Dev nD) (h : Fin 16) (t : Fin 1024) (e : Fin 128) :
    iblk V c 2 (pointOf h) (ix2 t e) = V c (Proc.devRef .tc main_v7_4) (ix2 t (⟨128 * h.val + e.val, by omega⟩ : Fin 2048)) := by
  unfold iblk
  refine congrArg (V c (Proc.devRef .tc main_v7_4)) (funext fun a => Fin.ext ?_)
  have ho : ∀ h : Fin 16, win1_2.index (pointOf h) = ![0, h.val] := by decide +kernel
  match a with
  | ⟨0, _⟩ => show win1_2.index (pointOf h) 0 * 1024 + 1 * t.val = t.val; rw [ho]; show 0 * 1024 + 1 * t.val = t.val; omega
  | ⟨1, _⟩ => show win1_2.index (pointOf h) 1 * 128 + 1 * e.val = 128 * h.val + e.val; rw [ho]; show h.val * 128 + 1 * e.val = 128 * h.val + e.val; omega
theorem iblk_qr (c : Dev nD) (h : Fin 16) (r : Fin 512) (e : Fin 32) :
    iblk V c 3 (pointOf h) (ix3 (0 : Fin 1) r e) = V c (Proc.devRef .tc main_v7_1) (ix3 h r e) := by
  unfold iblk
  refine congrArg (V c (Proc.devRef .tc main_v7_1)) (funext fun a => Fin.ext ?_)
  have ho : ∀ h : Fin 16, win1_3.index (pointOf h) = ![h.val, 0, 0] := by decide +kernel
  match a with
  | ⟨0, _⟩ => show win1_3.index (pointOf h) 0 * 1 + 1 * 0 = h.val; rw [ho]; show h.val * 1 + 1 * 0 = h.val; omega
  | ⟨1, _⟩ => show win1_3.index (pointOf h) 1 * 512 + 1 * r.val = r.val; rw [ho]; show 0 * 512 + 1 * r.val = r.val; omega
  | ⟨2, _⟩ => show win1_3.index (pointOf h) 2 * 32 + 1 * e.val = e.val; rw [ho]; show 0 * 32 + 1 * e.val = e.val; omega
theorem iblk_kr (c : Dev nD) (h : Fin 16) (t : Fin 1024) (e : Fin 32) :
    iblk V c 4 (pointOf h) (ix2 t e) = V c (Proc.devRef .tc main_v7_2) (ix2 t e) := by
  unfold iblk
  refine congrArg (V c (Proc.devRef .tc main_v7_2)) (funext fun a => Fin.ext ?_)
  have ho : ∀ h : Fin 16, win1_4.index (pointOf h) = ![0, 0] := by decide +kernel
  match a with
  | ⟨0, _⟩ => show win1_4.index (pointOf h) 0 * 1024 + 1 * t.val = t.val; rw [ho]; show 0 * 1024 + 1 * t.val = t.val; omega
  | ⟨1, _⟩ => show win1_4.index (pointOf h) 1 * 32 + 1 * e.val = e.val; rw [ho]; show 0 * 32 + 1 * e.val = e.val; omega

/-! ## The results over whole arrays -/

/-- The score of a head's row against a column, over the whole arrays. -/
def score (q k : FVec Ideal S1024x2048 .bf16) (qr : FVec Ideal ⟨3, ![16, 1024, 32]⟩ .bf16) (kr : FVec Ideal S1024x32 .bf16)
    (h : Fin 16) (r t : Fin 1024) : EReal :=
  (∑ e : Fin 128, q (ix2 r (⟨128 * h.val + e.val, by omega⟩ : Fin 2048)) * k (ix2 t (⟨128 * h.val + e.val, by omega⟩ : Fin 2048)))
    + ∑ e : Fin 32, qr (ix3 h r e) * kr (ix2 t e)

/-- The devices' arguments are blocks and copies of whole arrays. -/
structure Args (q k v : FVec Ideal S1024x2048 .bf16) (qr : FVec Ideal ⟨3, ![16, 1024, 32]⟩ .bf16) (kr : FVec Ideal S1024x32 .bf16) (wo : FVec Ideal S2048x2048 .f32) : Prop where
  q : ∀ c : Dev nD, V c (Proc.devRef .tc main_v7_0) = Layout.blockN ⟨2, ![512, 2048]⟩ ⟨2, ![1024, 2048]⟩ (Layout.meshBlock [2, 2] ![[0], []] c) q
  k : ∀ c : Dev nD, V c (Proc.devRef .tc main_v7_3) = k
  v : ∀ c : Dev nD, V c (Proc.devRef .tc main_v7_4) = v
  qr : ∀ c : Dev nD, V c (Proc.devRef .tc main_v7_1) = Layout.blockN ⟨3, ![16, 512, 32]⟩ ⟨3, ![16, 1024, 32]⟩ (Layout.meshBlock [2, 2] ![[], [0], []] c) qr
  kr : ∀ c : Dev nD, V c (Proc.devRef .tc main_v7_2) = kr
  wo : ∀ c : Dev nD, V c (Proc.devRef .tc main_arg7) = wo

variable {V} {q k v : FVec Ideal S1024x2048 .bf16} {qr : FVec Ideal ⟨3, ![16, 1024, 32]⟩ .bf16} {kr : FVec Ideal S1024x32 .bf16} {wo : FVec Ideal S2048x2048 .f32}

/-- A head's output at a device is the head's, at the device's rows. -/
theorem head_eq (A : Args V q k v qr kr wo) (c : Dev nD) (h : Fin 16) (r : Fin 512) (n : Fin 128) :
    (blocks V c (pointOf h)).out (ix2 r n)
      = weighted (score q k qr kr h (⟨512 * (c.val / 2) + r.val, by have : c.val < 4 := c.isLt; omega⟩ : Fin 1024))
          (fun t => v (ix2 t (⟨128 * h.val + n.val, by omega⟩ : Fin 2048))) := by
  refine (pay38_at (iblk V c 0 (pointOf h)) (iblk V c 1 (pointOf h)) (iblk V c 3 (pointOf h)) (iblk V c 4 (pointOf h)) (iblk V c 2 (pointOf h)) r n).trans ?_
  refine congrArg₂ weighted (funext fun t => ?_) (funext fun t => ?_)
  · refine congrArg₂ (· + ·) (Finset.sum_congr rfl fun e _ => congrArg₂ (· * ·) ?_ ?_) (Finset.sum_congr rfl fun e _ => congrArg₂ (· * ·) ?_ ?_)
    · rw [iblk_q, A.q c]; exact Cert.Meaning.qrows_at c q r _
    · rw [iblk_k, A.k c]
    · rw [iblk_qr, A.qr c]; exact Cert.Meaning.heads_at c qr h r e
    · rw [iblk_kr, A.kr c]
  · rw [iblk_v, A.v c]

/-- The gathered rows are every head's, at every row. -/
theorem asm_eq (A : Args V q k v qr kr wo) (c : Dev nD) (r : Fin 1024) (j : Fin 2048) :
    asm (mail V) c (ix2 r j) = weighted (score q k qr kr (⟨j.val / 128, by omega⟩ : Fin 16) r) (fun t => v (ix2 t j)) := by
  have hm : ∀ c : Dev nD, (mate1 c).val / 2 = 1 - c.val / 2 := by decide +kernel
  have hd : ∀ d : Dev nD, d.val / 2 = r.val / 512 →
      (blocks V d (pointOf (⟨j.val / 128, by omega⟩ : Fin 16))).out (ix2 (⟨r.val % 512, Nat.mod_lt _ (by decide)⟩ : Fin 512) (⟨j.val % 128, Nat.mod_lt _ (by decide)⟩ : Fin 128))
        = weighted (score q k qr kr (⟨j.val / 128, by omega⟩ : Fin 16) r) (fun t => v (ix2 t j)) := by
    intro d hd
    refine (head_eq A d _ _ _).trans ?_
    refine congrArg₂ weighted (congrArg (score q k qr kr _) (Fin.ext ?_)) (funext fun t => congrArg (fun x => v (ix2 t x)) (Fin.ext ?_))
    · show 512 * (d.val / 2) + r.val % 512 = r.val; omega
    · show 128 * (j.val / 128) + j.val % 128 = j.val; omega
  have hc : c.val < 4 := c.isLt
  unfold asm
  split_ifs with h
  · exact hd c h.symm
  · refine hd (mate1 c) ?_
    have h' : ¬ r.val / 512 = c.val / 2 := h
    rw [hm]; omega

/-- The attention call's result over whole arrays. -/
theorem out_eq (A : Args V q k v qr kr wo) (c : Dev nD) (r : Fin 1024) (n : Fin 2048) :
    outFin (mail V) c (ix3 (0 : Fin 1) r n)
      = ∑ j : Fin 2048, weighted (score q k qr kr (⟨j.val / 128, by omega⟩ : Fin 16) r) (fun t => v (ix2 t j)) * wo (ix2 j n) := by
  refine (pay3_at (asm (mail V) c) ((mail V).wo c) r n).trans (Finset.sum_congr rfl fun j _ => congrArg₂ (· * ·) (asm_eq A c r j) ?_)
  exact congrFun (A.wo c) _
end

end Cert.AttnMeaning

end
-- ==== Proof.Meaning.lean ====
/- What the projection call leaves, over whole arrays: each result element by element, and the call's results as a device's blocks
   and copies of whole arrays. -/
module

public import proofs.«01_k».proof.Proof.Values

@[expose] public section

noncomputable section

namespace Cert.Meaning

open Idealize.ShloMosaic hiding ix2 ix3 eq_ix2 eq_ix3
open Idealize.ShloMosaic.ValueIdx Idealize.ShloMosaic.TcCoe
open Cert.KernelIdeal Cert.KernelIdeal.Gen Cert.KernelIdeal.Run

abbrev S2048x256 : Shape := ⟨2, ![2048, 256]⟩
abbrev S256x2048 : Shape := ⟨2, ![256, 2048]⟩
abbrev S16x1024x32 : Shape := ⟨3, ![16, 1024, 32]⟩

/-! ## The projections over whole arrays -/

/-- A row of the input times a column of a weight. -/
def prod {N : ℕ} (x : FVec Ideal S1024x2048 .f32) (w : FVec Ideal ⟨2, ![2048, N]⟩ .f32) (r : Fin 1024) (n : Fin N) : EReal := ∑ k : Fin 2048, x (ix2 r k) * w (ix2 k n)
/-- Down and up: the input times a product of two weights. -/
def up (x : FVec Ideal S1024x2048 .f32) (d : FVec Ideal S2048x256 .f32) (w : FVec Ideal S256x2048 .f32) (r : Fin 1024) (n : Fin 2048) : EReal :=
  ∑ j : Fin 256, prod x d r j * w (ix2 j n)

/-- The scaled queries, the scaled rotary queries by head, the rotary keys, and the keys or values. -/
def wholeQ (x : FVec Ideal S1024x2048 .f32) (w : FVec Ideal S2048x2048 .f32) : FVec Ideal S1024x2048 .bf16 :=
  fun i => prod x w (i (0 : Fin 2)) (i (1 : Fin 2)) * invScale
def wholeQr (x : FVec Ideal S1024x2048 .f32) (w : FVec Ideal S2048x512 .f32) : FVec Ideal S16x1024x32 .bf16 :=
  fun i => prod x w (i (1 : Fin 3)) (⟨32 * (i (0 : Fin 3)).val + (i (2 : Fin 3)).val, by
    have h0 : (i (0 : Fin 3)).val < 16 := (i (0 : Fin 3)).isLt
    have h2 : (i (2 : Fin 3)).val < 32 := (i (2 : Fin 3)).isLt
    omega⟩ : Fin 512) * invScale
def wholeKr (x : FVec Ideal S1024x2048 .f32) (w : FVec Ideal S2048x32 .f32) : FVec Ideal S1024x32 .bf16 := fun i => prod x w (i (0 : Fin 2)) (i (1 : Fin 2))
def wholeUp (x : FVec Ideal S1024x2048 .f32) (d : FVec Ideal S2048x256 .f32) (w : FVec Ideal S256x2048 .f32) : FVec Ideal S1024x2048 .bf16 :=
  fun i => up x d w (i (0 : Fin 2)) (i (1 : Fin 2))

/-! ## The call's results are theirs -/

/-- A device's up projection, its partner's half of the contraction added, over the blocks of whole arrays. -/
theorem up_sum (c : Dev nD) (x : FVec Ideal S1024x2048 .f32) (d : FVec Ideal S2048x256 .f32) (w : FVec Ideal S256x2048 .f32)
    (dl : Dev nD → FVec Ideal S2048x128 .f32) (wl : Dev nD → FVec Ideal S128x2048 .f32)
    (hd : ∀ c k j, dl c (ix2 k j) = d (ix2 k (⟨c.val % 2 * 128 + j.val, by omega⟩ : Fin 256)))
    (hw : ∀ c j n, wl c (ix2 j n) = w (ix2 (⟨c.val % 2 * 128 + j.val, by omega⟩ : Fin 256) n)) (r : Fin 1024) (n : Fin 2048) :
    (∑ j : Fin 128, (∑ k : Fin 2048, x (ix2 r k) * dl c (ix2 k j)) * wl c (ix2 j n))
      + (∑ j : Fin 128, (∑ k : Fin 2048, x (ix2 r k) * dl (mate0 c) (ix2 k j)) * wl (mate0 c) (ix2 j n)) = up x d w r n := by
  unfold up prod
  have hm : ∀ c : Dev nD, (mate0 c).val % 2 = 1 - c.val % 2 := by decide +kernel
  simp only [hd, hw, hm]
  exact sum_halves (fun j => (∑ k : Fin 2048, x (ix2 r k) * d (ix2 k j)) * w (ix2 j n)) (c.val % 2) (Nat.mod_lt _ (by decide))

theorem ext2 {α : Type} {a b : ℕ} {f g : (⟨2, ![a, b]⟩ : Shape).Idx → α} (h : ∀ (i : Fin a) (j : Fin b), f (ix2 i j) = g (ix2 i j)) : f = g := by
  funext i; rw [eq_ix2 i]; exact h _ _
theorem ext3 {α : Type} {a b d : ℕ} {f g : (⟨3, ![a, b, d]⟩ : Shape).Idx → α} (h : ∀ (i : Fin a) (j : Fin b) (k : Fin d), f (ix3 i j k) = g (ix3 i j k)) : f = g := by
  funext i; rw [eq_ix3 i]; exact h _ _ _

section
variable (V : Dev nD → Valuation τ sig (Elt Ideal))

theorem q_eq (c : Dev nD) (x : FVec Ideal S1024x2048 .f32) (w : FVec Ideal S2048x2048 .f32)
    (hx : V c (Proc.devRef .tc main_v2) = x) (hw : V c (Proc.devRef .tc main_arg4) = w) :
    qFin V c = Layout.blockN ⟨2, ![512, 2048]⟩ ⟨2, ![1024, 2048]⟩ (Layout.meshBlock [2, 2] ![[0], []] c) (wholeQ x w) := by
  refine ext2 fun r n => ?_
  refine Eq.trans ?_ (qrows_at c (wholeQ x w) _ _).symm
  unfold qFin qOf
  rw [pay8_at]
  show _ = prod x w _ _ * invScale
  unfold prod
  refine congrArg (· * invScale) (Finset.sum_congr rfl fun k _ => ?_)
  rw [xHalf_at, hw, iblk_0, hx]
theorem qr_eq (c : Dev nD) (x : FVec Ideal S1024x2048 .f32) (w : FVec Ideal S2048x512 .f32)
    (hx : V c (Proc.devRef .tc main_v2) = x) (hw : V c (Proc.devRef .tc main_arg5) = w) :
    qrFin V c = Layout.blockN ⟨3, ![16, 512, 32]⟩ ⟨3, ![16, 1024, 32]⟩ (Layout.meshBlock [2, 2] ![[], [0], []] c) (wholeQr x w) := by
  refine ext3 fun h r e => ?_
  refine Eq.trans ?_ (heads_at c (wholeQr x w) _ _ _).symm
  unfold qrFin qrOf headRows
  refine (pay9_at _ _ _ _).trans ?_
  show _ = prod x w _ _ * invScale
  unfold prod
  refine congrArg (· * invScale) (Finset.sum_congr rfl fun k _ => ?_)
  rw [xHalf_at, hw, iblk_0, hx]
theorem kr_eq (c : Dev nD) (x : FVec Ideal S1024x2048 .f32) (w : FVec Ideal S2048x32 .f32)
    (hx : V c (Proc.devRef .tc main_v2) = x) (hw : V c (Proc.devRef .tc main_v6) = w) : krFin V c = wholeKr x w := by
  refine ext2 fun r n => ?_
  show _ = prod x w r n
  unfold krFin krOf prod
  rw [pay4_at, iblk_0, iblk_4, hx, hw]
theorem k_eq (c : Dev nD) (x : FVec Ideal S1024x2048 .f32) (d : FVec Ideal S2048x256 .f32) (w : FVec Ideal S256x2048 .f32)
    (hx : ∀ c : Dev nD, V c (Proc.devRef .tc main_v2) = x)
    (hd : ∀ c : Dev nD, V c (Proc.devRef .tc main_v3) = Layout.blockN ⟨2, ![2048, 128]⟩ ⟨2, ![2048, 256]⟩ (Layout.meshBlock [2, 2] ![[], [1]] c) d)
    (hw : ∀ c : Dev nD, V c (Proc.devRef .tc main_v4) = Layout.blockN ⟨2, ![128, 2048]⟩ ⟨2, ![256, 2048]⟩ (Layout.meshBlock [2, 2] ![[1], []] c) w) :
    kFin V c = wholeUp x d w := by
  refine ext2 fun r n => ?_
  refine Eq.trans ?_ (up_sum c x d w (fun c => Layout.blockN ⟨2, ![2048, 128]⟩ ⟨2, ![2048, 256]⟩ (Layout.meshBlock [2, 2] ![[], [1]] c) d)
    (fun c => Layout.blockN ⟨2, ![128, 2048]⟩ ⟨2, ![256, 2048]⟩ (Layout.meshBlock [2, 2] ![[1], []] c) w)
    (fun c k j => cols_at c d k j) (fun c j n => rows_at c w j n) r n)
  unfold kFin kOf mail
  rw [pay27_at, pay5_at]
  simp only [pay3_at, iblk_0, iblk_1, iblk_2, hx, hd, hw]
theorem v_eq (c : Dev nD) (x : FVec Ideal S1024x2048 .f32) (d : FVec Ideal S2048x256 .f32) (w : FVec Ideal S256x2048 .f32)
    (hx : ∀ c : Dev nD, V c (Proc.devRef .tc main_v2) = x)
    (hd : ∀ c : Dev nD, V c (Proc.devRef .tc main_v3) = Layout.blockN ⟨2, ![2048, 128]⟩ ⟨2, ![2048, 256]⟩ (Layout.meshBlock [2, 2] ![[], [1]] c) d)
    (hw : ∀ c : Dev nD, V c (Proc.devRef .tc main_v5) = Layout.blockN ⟨2, ![128, 2048]⟩ ⟨2, ![256, 2048]⟩ (Layout.meshBlock [2, 2] ![[1], []] c) w) :
    vFin V c = wholeUp x d w := by
  refine ext2 fun r n => ?_
  refine Eq.trans ?_ (up_sum c x d w (fun c => Layout.blockN ⟨2, ![2048, 128]⟩ ⟨2, ![2048, 256]⟩ (Layout.meshBlock [2, 2] ![[], [1]] c) d)
    (fun c => Layout.blockN ⟨2, ![128, 2048]⟩ ⟨2, ![256, 2048]⟩ (Layout.meshBlock [2, 2] ![[1], []] c) w)
    (fun c k j => cols_at c d k j) (fun c j n => rows_at c w j n) r n)
  unfold vFin vOf mail
  rw [pay1_at, pay6_at]
  simp only [pay3_at, iblk_0, iblk_1, iblk_3, hx, hd, hw]
end

end Cert.Meaning

end
-- ==== Proof.AttnMeaning.lean ====
/- The reference, element by element, and the kernel's result against it. -/
module

public import proofs.«01_k».proof.Defs
public import proofs.«01_k».proof.Proof.AttnValues
public import proofs.«01_k».proof.Proof.Final
public import proofs.«01_k».proof.Proof.Meaning
public import proofs.«01_k».proof.Proof.Gen.ReferenceIdeal.Run
public import proofs.«01_k».proof.Proof.Gen.Pre_finite_KernelIdeal

@[expose] public section

noncomputable section

namespace Cert.AttnMeaning

open Idealize.ShloMosaic hiding ix1 ix2 ix3 eq_ix2 eq_ix3
open Idealize.ShloMosaic.ValueIdx Idealize.ShloMosaic.TcCoe Idealize.SL.Sem
open Cert.ReferenceIdeal Cert.ReferenceIdeal.Gen
open Cert.Meaning (hostMm prod up wholeQ wholeQr wholeKr wholeUp invScale quotient sum_scale)

/-- A product with one contracted axis, read at an index, the operands' indices named. -/
theorem dotAt {sl sr so : Shape} {φ₁ φ₂ : FTy} (d : DotDims sl sr so) (K : ℕ) (hr : d.contr.rank = 1) (hs : d.contr.size ⟨0, by omega⟩ = K)
    (l : FVec Ideal sl φ₁) (r : FVec Ideal sr φ₂) (j : so.Idx) (L : Fin K → sl.Idx) (R : Fin K → sr.Idx)
    (hL : ∀ x : d.contr.Idx, ∀ k : Fin K, (x ⟨0, by omega⟩).val = k.val → d.lhsIdx j x = L k)
    (hR : ∀ x : d.contr.Idx, ∀ k : Fin K, (x ⟨0, by omega⟩).val = k.val → d.rhsIdx j x = R k) :
    Host.dotGeneral d none l r j = ∑ k : Fin K, l (L k) * r (R k) := by
  simp only [Host.dotGeneral]
  refine (Ideal.dotGeneral_apply d none _ l r j).trans ?_
  rw [← Equiv.sum_comp (contrEquiv1 d K hr hs).symm]
  refine Finset.sum_congr rfl fun k _ => ?_
  rw [hL _ k (contrEquiv1_symm_val d K hr hs k), hR _ k (contrEquiv1_symm_val d K hr hs k)]

/-! ## The reference's steps -/

/-- The columns of a head, as the reference's reshape reads them. -/
theorem cols_read (x : FVec Ideal S1024x2048 .f32) (r : Fin 1024) (h : Fin 16) (e : Fin 128) :
    shapeCast S1024x16x128 x shapeCasts_S1024x2048_S1024x16x128 (ix3 r h e) = x (ix2 r (⟨128 * h.val + e.val, by omega⟩ : Fin 2048)) := by
  refine shapeCast_apply x shapeCasts_S1024x2048_S1024x16x128 (ix3 r h e) (ix2 r (⟨128 * h.val + e.val, by omega⟩ : Fin 2048)) ?_
  rw [Shape.rowMajor_val_three, Shape.rowMajor_val_two]
  show r.val * 2048 + (128 * h.val + e.val) = (r.val * 16 + h.val) * 128 + e.val
  omega

/-- The columns of a head of the rotary queries. -/
theorem cols32_read (x : FVec Ideal S1024x512 .f32) (r : Fin 1024) (h : Fin 16) (e : Fin 32) :
    shapeCast S1024x16x32 x shapeCasts_S1024x512_S1024x16x32 (ix3 r h e) = x (ix2 r (⟨32 * h.val + e.val, by omega⟩ : Fin 512)) := by
  refine shapeCast_apply x shapeCasts_S1024x512_S1024x16x32 (ix3 r h e) (ix2 r (⟨32 * h.val + e.val, by omega⟩ : Fin 512)) ?_
  rw [Shape.rowMajor_val_three, Shape.rowMajor_val_two]
  show r.val * 512 + (32 * h.val + e.val) = (r.val * 16 + h.val) * 32 + e.val
  omega

/-- The reference's projections of the input. -/
abbrev refX (x : FVec Ideal S1x1024x2048 .f32) : FVec Ideal S1024x2048 .f32 := shapeCast S1024x2048 x shapeCasts_S1x1024x2048_S1024x2048
abbrev refQ (x : FVec Ideal S1024x2048 .f32) (w : FVec Ideal S2048x2048 .f32) : FVec Ideal S1024x2048 .f32 := Host.dotGeneral dot_S1024x2048_S2048x2048_S1024x2048_1_0_0_1_n_n none x w
abbrev refQr (x : FVec Ideal S1024x2048 .f32) (w : FVec Ideal S2048x512 .f32) : FVec Ideal S1024x512 .f32 := Host.dotGeneral dot_S1024x2048_S2048x512_S1024x512_1_0_0_1_n_n none x w
abbrev refKr (x : FVec Ideal S1024x2048 .f32) (w : FVec Ideal S2048x32 .f32) : FVec Ideal S1024x32 .f32 := Host.dotGeneral dot_S1024x2048_S2048x32_S1024x32_1_0_0_1_n_n none x w
abbrev refUp (x : FVec Ideal S1024x2048 .f32) (d : FVec Ideal S2048x256 .f32) (w : FVec Ideal S256x2048 .f32) : FVec Ideal S1024x2048 .f32 :=
  Host.dotGeneral dot_S1024x256_S256x2048_S1024x2048_1_0_0_1_n_n none (Host.dotGeneral dot_S1024x2048_S2048x256_S1024x256_1_0_0_1_n_n none x d) w

theorem refQ_at (x : FVec Ideal S1024x2048 .f32) (w : FVec Ideal S2048x2048 .f32) (r : Fin 1024) (n : Fin 2048) : refQ x w (ix2 r n) = prod x w r n :=
  hostMm dot_S1024x2048_S2048x2048_S1024x2048_1_0_0_1_n_n rfl x w r n
theorem refQr_at (x : FVec Ideal S1024x2048 .f32) (w : FVec Ideal S2048x512 .f32) (r : Fin 1024) (n : Fin 512) : refQr x w (ix2 r n) = prod x w r n :=
  hostMm dot_S1024x2048_S2048x512_S1024x512_1_0_0_1_n_n rfl x w r n
theorem refKr_at (x : FVec Ideal S1024x2048 .f32) (w : FVec Ideal S2048x32 .f32) (r : Fin 1024) (n : Fin 32) : refKr x w (ix2 r n) = prod x w r n :=
  hostMm dot_S1024x2048_S2048x32_S1024x32_1_0_0_1_n_n rfl x w r n
theorem refUp_at (x : FVec Ideal S1024x2048 .f32) (d : FVec Ideal S2048x256 .f32) (w : FVec Ideal S256x2048 .f32) (r : Fin 1024) (n : Fin 2048) :
    refUp x d w (ix2 r n) = up x d w r n := by
  refine (hostMm dot_S1024x256_S256x2048_S1024x2048_1_0_0_1_n_n rfl (Host.dotGeneral dot_S1024x2048_S2048x256_S1024x256_1_0_0_1_n_n none x d) w r n).trans ?_
  exact Finset.sum_congr rfl fun j _ => congrArg (· * w (ix2 j n)) (hostMm dot_S1024x2048_S2048x256_S1024x256_1_0_0_1_n_n rfl x d r j)

/-! ## The scores -/

/-- Scores of unscaled queries, scaled after. -/
abbrev refScores (q k : FVec Ideal S1024x2048 .f32) (qr : FVec Ideal S1024x512 .f32) (kr : FVec Ideal S1024x32 .f32) : FVec Ideal S16x1024x1024 .f32 :=
  mulf (addf (Host.dotGeneral dot_S1024x16x128_S1024x16x128_S16x1024x1024_2_2_0_0_1_1 none (shapeCast S1024x16x128 q shapeCasts_S1024x2048_S1024x16x128) (shapeCast S1024x16x128 k shapeCasts_S1024x2048_S1024x16x128))
    (transpose S16x1024x1024 [2, 1, 0] (Host.dotGeneral dot_S1024x32_S1024x16x32_S1024x1024x16_1_2_0_01_n_n none kr (shapeCast S1024x16x32 qr shapeCasts_S1024x512_S1024x16x32)) transposes_S1024x1024x16_S16x1024x1024_2_1_0))
    (broadcastInDim S16x1024x1024 ![] bcast_S_S16x1024x1024 (Host.divf (constant S_ .f32 0x3F800000#32) (Host.sqrt (constant S_ .f32 0x43200000#32))))

theorem refScores_at (q k : FVec Ideal S1024x2048 .f32) (qr : FVec Ideal S1024x512 .f32) (kr : FVec Ideal S1024x32 .f32) (h : Fin 16) (r t : Fin 1024) :
    refScores q k qr kr (ix3 h r t)
      = ((∑ e : Fin 128, q (ix2 r (⟨128 * h.val + e.val, by omega⟩ : Fin 2048)) * k (ix2 t (⟨128 * h.val + e.val, by omega⟩ : Fin 2048)))
          + ∑ e : Fin 32, kr (ix2 t e) * qr (ix2 r (⟨32 * h.val + e.val, by omega⟩ : Fin 512))) * invScale := by
  refine congrArg₂ (· * ·) (congrArg₂ (· + ·) ?_ ?_) quotient
  · refine (dotAt dot_S1024x16x128_S1024x16x128_S16x1024x1024_2_2_0_0_1_1 128 rfl rfl (shapeCast S1024x16x128 q shapeCasts_S1024x2048_S1024x16x128) (shapeCast S1024x16x128 k shapeCasts_S1024x2048_S1024x16x128) (ix3 h r t)
      (fun e => ix3 r h e) (fun e => ix3 t h e) ?_ ?_).trans ?_
    · intro x e hx; funext a; apply Fin.ext
      match a with
      | ⟨0, _⟩ => rfl
      | ⟨1, _⟩ => rfl
      | ⟨2, _⟩ => exact hx
    · intro x e hx; funext a; apply Fin.ext
      match a with
      | ⟨0, _⟩ => rfl
      | ⟨1, _⟩ => rfl
      | ⟨2, _⟩ => exact hx
    · exact Finset.sum_congr rfl fun e _ => congrArg₂ (· * ·) (cols_read q r h e) (cols_read k t h e)
  · refine (transpose_apply _ _ transposes_S1024x1024x16_S16x1024x1024_2_1_0 (ix3 h r t) (ix3 t r h) fun b => match b with | ⟨0, _⟩ => rfl | ⟨1, _⟩ => rfl | ⟨2, _⟩ => rfl).trans ?_
    refine (dotAt dot_S1024x32_S1024x16x32_S1024x1024x16_1_2_0_01_n_n 32 rfl rfl kr (shapeCast S1024x16x32 qr shapeCasts_S1024x512_S1024x16x32) (ix3 t r h)
      (fun e => ix2 t e) (fun e => ix3 r h e) ?_ ?_).trans ?_
    · intro x e hx; funext a; apply Fin.ext
      match a with
      | ⟨0, _⟩ => rfl
      | ⟨1, _⟩ => exact hx
    · intro x e hx; funext a; apply Fin.ext
      match a with
      | ⟨0, _⟩ => rfl
      | ⟨1, _⟩ => rfl
      | ⟨2, _⟩ => exact hx
    · exact Finset.sum_congr rfl fun e _ => congrArg (kr (ix2 t e) * ·) (cols32_read qr r h e)

/-- The reference's scores of the projections are the scores of the scaled projections. -/
theorem scores_eq (x : FVec Ideal S1024x2048 .f32) (d : FVec Ideal S2048x256 .f32) (wk : FVec Ideal S256x2048 .f32) (wq : FVec Ideal S2048x2048 .f32)
    (wqr : FVec Ideal S2048x512 .f32) (wkr : FVec Ideal S2048x32 .f32) (h : Fin 16) (r t : Fin 1024) :
    refScores (refQ x wq) (refUp x d wk) (refQr x wqr) (refKr x wkr) (ix3 h r t)
      = score (wholeQ x wq) (wholeUp x d wk) (wholeQr x wqr) (wholeKr x wkr) h r t := by
  have h0 : (0 : EReal) ≤ invScale := EReal.coe_nonneg.mpr (inv_nonneg.mpr (Real.sqrt_nonneg _))
  refine (refScores_at _ _ _ _ h r t).trans ?_
  rw [EReal.right_distrib_of_nonneg_of_ne_top h0 (EReal.coe_ne_top _), ← sum_scale _ (inv_nonneg.mpr (Real.sqrt_nonneg _)), ← sum_scale _ (inv_nonneg.mpr (Real.sqrt_nonneg _))]
  unfold score
  refine congrArg₂ (· + ·) (Finset.sum_congr rfl fun e _ => ?_) (Finset.sum_congr rfl fun e _ => ?_)
  · rw [refQ_at, refUp_at]
    exact mul_right_comm _ _ _
  · rw [refKr_at, refQr_at, mul_comm (prod x wkr t e)]
    exact mul_right_comm _ _ _

/-- A row's value, repeated over the columns. -/
theorem rows_spread (x : FVec Ideal S16x1024 .f32) (h : Fin 16) (r t : Fin 1024) :
    broadcastInDim S16x1024x1024 ![0, 1, 2] bcast_S16x1024x1_S16x1024x1024_0_1_2 (broadcastInDim S16x1024x1 ![0, 1] bcast_S16x1024_S16x1024x1_0_1 x) (ix3 h r t) = x (ix2 h r) := by
  refine (broadcastInDim_apply (t := S16x1024x1024) _ bcast_S16x1024x1_S16x1024x1024_0_1_2 _ (ix3 h r t) (ix3 h r (0 : Fin 1)) fun a => ?_).trans ?_
  · match a with
    | ⟨0, _⟩ => rfl
    | ⟨1, _⟩ => rfl
    | ⟨2, _⟩ => rfl
  · refine broadcastInDim_apply (t := S16x1024x1) _ bcast_S16x1024_S16x1024x1_0_1 x (ix3 h r (0 : Fin 1)) (ix2 h r) fun a => ?_
    match a with
    | ⟨0, _⟩ => rfl
    | ⟨1, _⟩ => rfl

theorem last_axis : Shape.Reduces S16x1024x1024 [2] S16x1024 := by decide +kernel
theorem lift_last (h : Fin 16) (r t : Fin 1024) : last_axis.lift (ix2 h r) t = ix3 h r t := by
  funext a; apply Fin.ext
  match a with
  | ⟨0, _⟩ => rfl
  | ⟨1, _⟩ => rfl
  | ⟨2, _⟩ => rfl

abbrev refMax (s : FVec Ideal S16x1024x1024 .f32) : FVec Ideal S16x1024 .f32 :=
  Host.reduce FloatOps.maximumf s (constant S_ .f32 0xFF800000#32) reducesTo_S16x1024x1024_S16x1024_d2 h_S_
theorem refMax_at (s : FVec Ideal S16x1024x1024 .f32) (h : Fin 16) (r : Fin 1024) :
    refMax s (ix2 h r) = (Finset.univ : Finset (Fin 1024)).fold max ⊥ (fun t => s (ix3 h r t)) := by
  refine (Host.reduce_eq_fold_single FloatOps.maximumf s _ reducesTo_S16x1024x1024_S16x1024_d2 last_axis h_S_ (ix2 h r)).trans ?_
  show (Finset.univ : Finset (Fin 1024)).fold max (Ideal.ofBits .f32 0xFF800000#32) (s ∘ last_axis.lift (ix2 h r)) = _
  rw [ofBits_negInf]
  exact congrArg ((Finset.univ : Finset (Fin 1024)).fold max ⊥) (funext fun t => congrArg s (lift_last h r t))
abbrev refSum (s : FVec Ideal S16x1024x1024 .f32) : FVec Ideal S16x1024 .f32 :=
  Host.reduceAdd s (constant S_ .f32 0x00000000#32) reducesTo_S16x1024x1024_S16x1024_d2 h_S_
theorem refSum_at (s : FVec Ideal S16x1024x1024 .f32) (h : Fin 16) (r : Fin 1024) :
    refSum s (ix2 h r) = ∑ t : Fin 1024, s (ix3 h r t) := by
  refine (Ideal.hostReduceAdd_single reducesTo_S16x1024x1024_S16x1024_d2 last_axis s _ (ix2 h r)).trans ?_
  show Ideal.ofBits .f32 0x00000000#32 + _ = _
  rw [Ideal.ofBits_zero_f32, zero_add]
  exact Finset.sum_congr rfl fun t _ => congrArg s (lift_last h r t)

abbrev overRows (x : FVec Ideal S16x1024 .f32) : FVec Ideal S16x1024x1024 .f32 :=
  broadcastInDim S16x1024x1024 ![0, 1, 2] bcast_S16x1024x1_S16x1024x1024_0_1_2 (broadcastInDim S16x1024x1 ![0, 1] bcast_S16x1024_S16x1024x1_0_1 x)
abbrev refExp (s : FVec Ideal S16x1024x1024 .f32) : FVec Ideal S16x1024x1024 .f32 := Host.exp (subf s (overRows (refMax s)))
abbrev refProbs (s : FVec Ideal S16x1024x1024 .f32) : FVec Ideal S16x1024x1024 .f32 := Host.divf (refExp s) (overRows (refSum (refExp s)))

theorem refExp_at (s : FVec Ideal S16x1024x1024 .f32) (h : Fin 16) (r t : Fin 1024) :
    refExp s (ix3 h r t) = Ideal.exp (s (ix3 h r t) - (Finset.univ : Finset (Fin 1024)).fold max ⊥ (fun t => s (ix3 h r t))) := by
  refine congrArg (fun x => Ideal.exp (s (ix3 h r t) - x)) ?_
  exact (rows_spread (refMax s) h r t).trans (refMax_at s h r)
theorem refProbs_at (s : FVec Ideal S16x1024x1024 .f32) (h : Fin 16) (r t : Fin 1024) :
    refProbs s (ix3 h r t) = Ideal.div (Ideal.exp (s (ix3 h r t) - (Finset.univ : Finset (Fin 1024)).fold max ⊥ (fun t => s (ix3 h r t))))
      (∑ u, Ideal.exp (s (ix3 h r u) - (Finset.univ : Finset (Fin 1024)).fold max ⊥ (fun t => s (ix3 h r t)))) := by
  refine congrArg₂ Ideal.div (refExp_at s h r t) ?_
  refine (rows_spread (refSum (refExp s)) h r t).trans ((refSum_at (refExp s) h r).trans ?_)
  exact Finset.sum_congr rfl fun u _ => refExp_at s h r u

abbrev refHeadsOut (s : FVec Ideal S16x1024x1024 .f32) (v : FVec Ideal S1024x2048 .f32) : FVec Ideal S1024x2048 .f32 :=
  shapeCast S1024x2048 (transpose S1024x16x128 [2, 0, 1] (Host.dotGeneral dot_S1024x16x128_S16x1024x1024_S16x128x1024_0_2_2_1_1_0 none (shapeCast S1024x16x128 v shapeCasts_S1024x2048_S1024x16x128) (refProbs s)) transposes_S16x128x1024_S1024x16x128_2_0_1) shapeCasts_S1024x16x128_S1024x2048

theorem refHeadsOut_at (s : FVec Ideal S16x1024x1024 .f32) (v : FVec Ideal S1024x2048 .f32) (r : Fin 1024) (j : Fin 2048) :
    refHeadsOut s v (ix2 r j) = attended (fun t => s (ix3 (⟨j.val / 128, by omega⟩ : Fin 16) r t)) (fun t => v (ix2 t j)) := by
  have hh : j.val / 128 < 16 := by omega
  have he : j.val % 128 < 128 := Nat.mod_lt _ (by decide)
  refine (shapeCast_apply _ shapeCasts_S1024x16x128_S1024x2048 (ix2 r j) (ix3 r (⟨j.val / 128, hh⟩ : Fin 16) (⟨j.val % 128, he⟩ : Fin 128)) ?_).trans ?_
  · rw [Shape.rowMajor_val_three, Shape.rowMajor_val_two]
    show (r.val * 16 + j.val / 128) * 128 + j.val % 128 = r.val * 2048 + j.val
    omega
  refine (transpose_apply _ _ transposes_S16x128x1024_S1024x16x128_2_0_1 (ix3 r (⟨j.val / 128, hh⟩ : Fin 16) (⟨j.val % 128, he⟩ : Fin 128)) (ix3 (⟨j.val / 128, hh⟩ : Fin 16) (⟨j.val % 128, he⟩ : Fin 128) r) fun b => match b with | ⟨0, _⟩ => rfl | ⟨1, _⟩ => rfl | ⟨2, _⟩ => rfl).trans ?_
  refine (dotAt dot_S1024x16x128_S16x1024x1024_S16x128x1024_0_2_2_1_1_0 1024 rfl rfl (shapeCast S1024x16x128 v shapeCasts_S1024x2048_S1024x16x128) (refProbs s) (ix3 (⟨j.val / 128, hh⟩ : Fin 16) (⟨j.val % 128, he⟩ : Fin 128) r)
    (fun t => ix3 t (⟨j.val / 128, hh⟩ : Fin 16) (⟨j.val % 128, he⟩ : Fin 128)) (fun t => ix3 (⟨j.val / 128, hh⟩ : Fin 16) r t) ?_ ?_).trans ?_
  · intro x t hx; funext a; apply Fin.ext
    match a with
    | ⟨0, _⟩ => exact hx
    | ⟨1, _⟩ => rfl
    | ⟨2, _⟩ => rfl
  · intro x t hx; funext a; apply Fin.ext
    match a with
    | ⟨0, _⟩ => rfl
    | ⟨1, _⟩ => rfl
    | ⟨2, _⟩ => exact hx
  unfold attended
  refine Finset.sum_congr rfl fun t _ => congrArg₂ (· * ·) ((cols_read v t _ _).trans ?_) (refProbs_at s _ r t)
  exact congrArg (fun x => v (ix2 t x)) (Fin.ext (by show 128 * (j.val / 128) + j.val % 128 = j.val; omega))

/-- The reference's result. -/
abbrev refOut (x : FVec Ideal S1x1024x2048 .f32) (d : FVec Ideal S2048x256 .f32) (wk wv : FVec Ideal S256x2048 .f32) (wq : FVec Ideal S2048x2048 .f32)
    (wqr : FVec Ideal S2048x512 .f32) (wkr : FVec Ideal S2048x32 .f32) (wo : FVec Ideal S2048x2048 .f32) : FVec Ideal S1x1024x2048 .bf16 :=
  broadcastInDim S1x1024x2048 ![1, 2] bcast_S1024x2048_S1x1024x2048_1_2 (truncf .bf16 (Host.dotGeneral dot_S1024x2048_S2048x2048_S1024x2048_1_0_0_1_n_n none
    (refHeadsOut (refScores (refQ (refX x) wq) (refUp (refX x) d wk) (refQr (refX x) wqr) (refKr (refX x) wkr)) (refUp (refX x) d wv)) wo) bitsLt_bf16_f32)

theorem refOut_at (x : FVec Ideal S1x1024x2048 .f32) (d : FVec Ideal S2048x256 .f32) (wk wv : FVec Ideal S256x2048 .f32) (wq : FVec Ideal S2048x2048 .f32)
    (wqr : FVec Ideal S2048x512 .f32) (wkr : FVec Ideal S2048x32 .f32) (wo : FVec Ideal S2048x2048 .f32) (u : Fin 1) (r : Fin 1024) (n : Fin 2048) :
    refOut x d wk wv wq wqr wkr wo (ix3 u r n)
      = ∑ j : Fin 2048, attended (score (wholeQ (refX x) wq) (wholeUp (refX x) d wk) (wholeQr (refX x) wqr) (wholeKr (refX x) wkr) (⟨j.val / 128, by omega⟩ : Fin 16) r)
          (fun t => wholeUp (refX x) d wv (ix2 t j)) * wo (ix2 j n) := by
  refine (broadcastInDim_apply (t := S1x1024x2048) _ bcast_S1024x2048_S1x1024x2048_1_2 _ (ix3 u r n) (ix2 r n) fun a => ?_).trans ?_
  · match a with
    | ⟨0, _⟩ => rfl
    | ⟨1, _⟩ => rfl
  refine (hostMm dot_S1024x2048_S2048x2048_S1024x2048_1_0_0_1_n_n rfl (φ₁ := .f32) (φ₂ := .f32) (refHeadsOut _ (refUp (refX x) d wv)) wo r n).trans ?_
  refine Finset.sum_congr rfl fun j _ => congrArg (· * wo (ix2 j n)) ?_
  refine (refHeadsOut_at _ (refUp (refX x) d wv) r j).trans ?_
  exact congrArg₂ attended (funext fun t => scores_eq (refX x) d wk wq wqr wkr _ r t) (funext fun t => refUp_at (refX x) d wv t j)

/-! ## Finite arguments have finite scores -/

theorem prod_real {N : ℕ} {x : FVec Ideal S1024x2048 .f32} {w : FVec Ideal ⟨2, ![2048, N]⟩ .f32} (hx : ∀ r k, Real' (x (ix2 r k))) (hw : ∀ k n, Real' (w (ix2 k n)))
    (r : Fin 1024) (n : Fin N) : Real' (prod x w r n) := Real'.sum fun k => (hx r k).mul (hw k n)

theorem score_real {x : FVec Ideal S1024x2048 .f32} {d : FVec Ideal S2048x256 .f32} {wk : FVec Ideal S256x2048 .f32} {wq : FVec Ideal S2048x2048 .f32}
    {wqr : FVec Ideal S2048x512 .f32} {wkr : FVec Ideal S2048x32 .f32}
    (hx : ∀ r k, Real' (x (ix2 r k))) (hd : ∀ k j, Real' (d (ix2 k j))) (hk : ∀ j n, Real' (wk (ix2 j n))) (hq : ∀ k n, Real' (wq (ix2 k n)))
    (hqr : ∀ k n, Real' (wqr (ix2 k n))) (hkr : ∀ k n, Real' (wkr (ix2 k n))) (h : Fin 16) (r t : Fin 1024) :
    Real' (score (wholeQ x wq) (wholeUp x d wk) (wholeQr x wqr) (wholeKr x wkr) h r t) := by
  unfold score
  refine Real'.add (Real'.sum fun e => Real'.mul ?_ ?_) (Real'.sum fun e => Real'.mul ?_ ?_)
  · exact (prod_real hx hq r _).mul ⟨_, rfl⟩
  · exact Real'.sum fun j => (prod_real hx hd t j).mul (hk j _)
  · exact (prod_real hx hqr r _).mul ⟨_, rfl⟩
  · exact prod_real hx hkr t e

/-- An entry that the test for finiteness passes is a real. -/
theorem of_test {s : Shape} {x : FVec Ideal s .f32} {h : S_.BroadcastsInDim s (![] : Fin 0 → Fin s.rank)} {i : s.Idx}
    (ht : cmpf .olt (Host.absf x) (broadcastInDim s ![] h (constant (F := Ideal) S_ .f32 0x7F800000#32)) i = 1#1) : Real' (x i) := by
  refine Real'.of_abs ?_
  have e : Ideal.cmp .olt (max (x i) (-(x i))) (Ideal.ofBits .f32 0x7F800000#32) = 1#1 := ht
  rw [ofBits_posInf] at e
  unfold Ideal.cmp at e
  by_contra hn
  simp [hn] at e

/-! ## The kernel's result is the reference's -/

section
variable {m : (ℓ : Loc Cert.KernelIdeal.nD Cert.KernelIdeal.τ Cert.KernelIdeal.sig) → Buf (Elt Ideal) ℓ}
variable {x : FVec Ideal S1x1024x2048 .f32} {d : FVec Ideal S2048x256 .f32} {wk wv : FVec Ideal S256x2048 .f32} {wq : FVec Ideal S2048x2048 .f32}
  {wqr : FVec Ideal S2048x512 .f32} {wkr : FVec Ideal S2048x32 .f32} {wo : FVec Ideal S2048x2048 .f32}

/-- The devices' arguments are blocks and copies of the whole arguments. -/
structure Given (m : (ℓ : Loc Cert.KernelIdeal.nD Cert.KernelIdeal.τ Cert.KernelIdeal.sig) → Buf (Elt Ideal) ℓ)
    (x : FVec Ideal S1x1024x2048 .f32) (d : FVec Ideal S2048x256 .f32) (wk wv : FVec Ideal S256x2048 .f32) (wq : FVec Ideal S2048x2048 .f32)
    (wqr : FVec Ideal S2048x512 .f32) (wkr : FVec Ideal S2048x32 .f32) (wo : FVec Ideal S2048x2048 .f32) : Prop where
  x : ∀ c : Dev Cert.KernelIdeal.nD, m ((c : Thread Cert.KernelIdeal.nD Cert.KernelIdeal.τ).loc Cert.KernelIdeal.main_arg0) = x
  d : ∀ c : Dev Cert.KernelIdeal.nD, m ((c : Thread Cert.KernelIdeal.nD Cert.KernelIdeal.τ).loc Cert.KernelIdeal.main_arg1) = Layout.blockN ⟨2, ![2048, 128]⟩ ⟨2, ![2048, 256]⟩ (Layout.meshBlock [2, 2] ![[], [1]] c) d
  wk : ∀ c : Dev Cert.KernelIdeal.nD, m ((c : Thread Cert.KernelIdeal.nD Cert.KernelIdeal.τ).loc Cert.KernelIdeal.main_arg2) = Layout.blockN ⟨2, ![128, 2048]⟩ ⟨2, ![256, 2048]⟩ (Layout.meshBlock [2, 2] ![[1], []] c) wk
  wv : ∀ c : Dev Cert.KernelIdeal.nD, m ((c : Thread Cert.KernelIdeal.nD Cert.KernelIdeal.τ).loc Cert.KernelIdeal.main_arg3) = Layout.blockN ⟨2, ![128, 2048]⟩ ⟨2, ![256, 2048]⟩ (Layout.meshBlock [2, 2] ![[1], []] c) wv
  wq : ∀ c : Dev Cert.KernelIdeal.nD, m ((c : Thread Cert.KernelIdeal.nD Cert.KernelIdeal.τ).loc Cert.KernelIdeal.main_arg4) = wq
  wqr : ∀ c : Dev Cert.KernelIdeal.nD, m ((c : Thread Cert.KernelIdeal.nD Cert.KernelIdeal.τ).loc Cert.KernelIdeal.main_arg5) = wqr
  wkr : ∀ c : Dev Cert.KernelIdeal.nD, m ((c : Thread Cert.KernelIdeal.nD Cert.KernelIdeal.τ).loc Cert.KernelIdeal.main_arg6) = wkr
  wo : ∀ c : Dev Cert.KernelIdeal.nD, m ((c : Thread Cert.KernelIdeal.nD Cert.KernelIdeal.τ).loc Cert.KernelIdeal.main_arg7) = wo

open Cert.KernelIdeal.Whole in
/-- What the projection call leaves for the attention call. -/
theorem Given.args (G : Given m x d wk wv wq wqr wkr wo) :
    Args (W2 m) (wholeQ (refX x) wq) (wholeUp (refX x) d wk) (wholeUp (refX x) d wv) (wholeQr (refX x) wqr) (wholeKr (refX x) wkr) wo := by
  have hx : ∀ c : Dev Cert.KernelIdeal.nD, W1 m c (Proc.devRef .tc Cert.KernelIdeal.main_v2) = refX x := fun c =>
    (W1_x m c).trans (congrArg (fun y => refX y) (G.x c))
  have hd := fun c : Dev Cert.KernelIdeal.nD => (W1_dkv m c).trans (G.d c)
  have hk := fun c : Dev Cert.KernelIdeal.nD => (W1_uk m c).trans (G.wk c)
  have hv := fun c : Dev Cert.KernelIdeal.nD => (W1_uv m c).trans (G.wv c)
  exact ⟨fun c => (W2_q m c).trans (Cert.Meaning.q_eq (W1 m) c (refX x) wq (hx c) ((W1_arg m c _ (by decide)).trans (G.wq c))),
    fun c => (W2_k m c).trans (Cert.Meaning.k_eq (W1 m) c (refX x) d wk hx hd hk),
    fun c => (W2_v m c).trans (Cert.Meaning.v_eq (W1 m) c (refX x) d wv hx hd hv),
    fun c => (W2_qr m c).trans (Cert.Meaning.qr_eq (W1 m) c (refX x) wqr (hx c) ((W1_arg m c _ (by decide)).trans (G.wqr c))),
    fun c => (W2_kr m c).trans (Cert.Meaning.kr_eq (W1 m) c (refX x) wkr (hx c) ((W1_wkr m c).trans (G.wkr c))),
    fun c => ((W2_of m c _ (by decide)).trans (W1_arg m c _ (by decide))).trans (G.wo c)⟩

theorem result_eq (G : Given m x d wk wv wq wqr wkr wo)
    (hx : ∀ r k, Real' (refX x (ix2 r k))) (hd : ∀ k j, Real' (d (ix2 k j))) (hk : ∀ j n, Real' (wk (ix2 j n))) (hq : ∀ k n, Real' (wq (ix2 k n)))
    (hqr : ∀ k n, Real' (wqr (ix2 k n))) (hkr : ∀ k n, Real' (wkr (ix2 k n)))
    (c : Dev Cert.KernelIdeal.nD) : Cert.KernelIdeal.Whole.W3 m c (Proc.devRef .tc Cert.KernelIdeal.main_v8) = refOut x d wk wv wq wqr wkr wo := by
  refine (Cert.KernelIdeal.Whole.W3_out m c).trans (funext fun i => ?_)
  rw [eq_ix3 i]
  obtain h0 : i (0 : Fin 3) = (0 : Fin 1) := Subsingleton.elim (α := Fin 1) _ _
  rw [h0]
  refine (out_eq G.args c _ _).trans (Eq.trans ?_ (refOut_at x d wk wv wq wqr wkr wo (0 : Fin 1) _ _).symm)
  exact Finset.sum_congr rfl fun j _ => congrArg (· * wo (ix2 j _)) (weighted_eq _ _ fun t => score_real hx hd hk hq hqr hkr _ _ t)
end

/-- The half of the latent axis that holds an index, as a device's block. -/
theorem owner (j : Fin 256) : ∃ c : Dev Cert.KernelIdeal.nD, ∃ i : Fin 128, (⟨c.val % 2 * 128 + i.val, by omega⟩ : Fin 256) = j := by
  by_cases h : j.val < 128
  · exact ⟨(0 : Fin 4), ⟨j.val, h⟩, Fin.ext (by show 0 % 2 * 128 + j.val = j.val; omega)⟩
  · exact ⟨(1 : Fin 4), ⟨j.val - 128, by omega⟩, Fin.ext (by show 1 % 2 * 128 + (j.val - 128) = j.val; omega)⟩

/-- The value claim: on finite arguments the kernel's result is the reference's, on every device. -/
theorem algebraic : Cert.algebraic_KernelIdeal_ReferenceIdeal_pre_finite_KernelIdeal (hPre_finite_KernelIdeal := Cert.Pre_finite_KernelIdeal.Gen.facts) := by
  intro m g m' g' hpre hargs
  have G : Given m (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) :=
    ⟨fun c => (hargs c).1, fun c => (hargs c).2.1, fun c => (hargs c).2.2.1, fun c => (hargs c).2.2.2.1, fun c => (hargs c).2.2.2.2.1, fun c => (hargs c).2.2.2.2.2.1, fun c => (hargs c).2.2.2.2.2.2.1, fun c => (hargs c).2.2.2.2.2.2.2⟩
  refine ⟨refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)), ?_, ?_⟩
  · have hx : ∀ r k, Real' (refX (m' (((0 : Dev Cert.ReferenceIdeal.nD).tc : Thread Cert.ReferenceIdeal.nD Cert.ReferenceIdeal.τ).loc Cert.ReferenceIdeal.main_arg0)) (ix2 r k)) := by
      intro r k
      have h := fun i => of_test (congrFun (hpre 0).1 i)
      rw [G.x 0] at h
      exact h _
    have hd : ∀ k j, Real' ((m' (((0 : Dev Cert.ReferenceIdeal.nD).tc : Thread Cert.ReferenceIdeal.nD Cert.ReferenceIdeal.τ).loc Cert.ReferenceIdeal.main_arg1) : FVec Ideal S2048x256 .f32) (ix2 k j)) := by
      intro k j
      obtain ⟨c, i, hi⟩ := owner j
      have h := of_test (congrFun (hpre c).2.1 (ix2 k i))
      rw [G.d c] at h
      refine (Cert.Meaning.cols_at c _ k i ▸ h : Real' _) |> fun h => ?_
      rw [hi] at h
      exact h
    have hk : ∀ j n, Real' ((m' (((0 : Dev Cert.ReferenceIdeal.nD).tc : Thread Cert.ReferenceIdeal.nD Cert.ReferenceIdeal.τ).loc Cert.ReferenceIdeal.main_arg2) : FVec Ideal S256x2048 .f32) (ix2 j n)) := by
      intro j n
      obtain ⟨c, i, hi⟩ := owner j
      have h := of_test (congrFun (hpre c).2.2.1 (ix2 i n))
      rw [G.wk c] at h
      refine (Cert.Meaning.rows_at c _ i n ▸ h : Real' _) |> fun h => ?_
      rw [hi] at h
      exact h
    have hq : ∀ k n, Real' ((m' (((0 : Dev Cert.ReferenceIdeal.nD).tc : Thread Cert.ReferenceIdeal.nD Cert.ReferenceIdeal.τ).loc Cert.ReferenceIdeal.main_arg4) : FVec Ideal S2048x2048 .f32) (ix2 k n)) := by
      intro k n
      have h := of_test (congrFun (hpre 0).2.2.2.1 (ix2 k n))
      rw [G.wq 0] at h
      exact h
    have hqr : ∀ k n, Real' ((m' (((0 : Dev Cert.ReferenceIdeal.nD).tc : Thread Cert.ReferenceIdeal.nD Cert.ReferenceIdeal.τ).loc Cert.ReferenceIdeal.main_arg5) : FVec Ideal S2048x512 .f32) (ix2 k n)) := by
      intro k n
      have h := of_test (congrFun (hpre 0).2.2.2.2.1 (ix2 k n))
      rw [G.wqr 0] at h
      exact h
    have hkr : ∀ k n, Real' ((m' (((0 : Dev Cert.ReferenceIdeal.nD).tc : Thread Cert.ReferenceIdeal.nD Cert.ReferenceIdeal.τ).loc Cert.ReferenceIdeal.main_arg6) : FVec Ideal S2048x32 .f32) (ix2 k n)) := by
      intro k n
      have h := of_test (congrFun (hpre 0).2.2.2.2.2 (ix2 k n))
      rw [G.wkr 0] at h
      exact h
    refine (θ_run _ _ _).mono (fun r h c => ?_) (Cert.KernelIdeal.Whole.run_main m g)
    exact ⟨(h.1 c Cert.KernelIdeal.main_v8 (by decide)).trans (result_eq G hx hd hk hq hqr hkr c), (h.1 c Cert.KernelIdeal.main_arg0 (by decide)).trans (Cert.KernelIdeal.Whole.W3_arg m c _ (by decide)), (h.1 c Cert.KernelIdeal.main_arg1 (by decide)).trans (Cert.KernelIdeal.Whole.W3_arg m c _ (by decide)), (h.1 c Cert.KernelIdeal.main_arg2 (by decide)).trans (Cert.KernelIdeal.Whole.W3_arg m c _ (by decide)), (h.1 c Cert.KernelIdeal.main_arg3 (by decide)).trans (Cert.KernelIdeal.Whole.W3_arg m c _ (by decide)), (h.1 c Cert.KernelIdeal.main_arg4 (by decide)).trans (Cert.KernelIdeal.Whole.W3_arg m c _ (by decide)), (h.1 c Cert.KernelIdeal.main_arg5 (by decide)).trans (Cert.KernelIdeal.Whole.W3_arg m c _ (by decide)), (h.1 c Cert.KernelIdeal.main_arg6 (by decide)).trans (Cert.KernelIdeal.Whole.W3_arg m c _ (by decide)), (h.1 c Cert.KernelIdeal.main_arg7 (by decide)).trans (Cert.KernelIdeal.Whole.W3_arg m c _ (by decide))⟩
  · refine (θ_run _ _ _).mono (fun r h => ?_) (Cert.ReferenceIdeal.Value.run m' g')
    exact ⟨(h 0).1, (h 0).2⟩

end Cert.AttnMeaning

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Gen.Proj
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Bits
public import proofs.«01_k».proof.Proof.ProjBits
public import proofs.«01_k».proof.Proof.ProjMeaning
public import proofs.«01_k».proof.Proof.AttnMeaning

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts, Cert.Pre_finite_KernelIdeal.Gen.facts, Cert.Pre_finite_ReferenceIdeal.Gen.facts, by
  refine ⟨?_, ?_, ?_, ?_, ?_, ?_, ?_, Cert.ProjMeaning.reference_frame, ?_, Cert.AttnMeaning.algebraic, ?_, Cert.ProjMeaning.algebraic⟩
  · exact fun m g _ => Cert.Kernel.Whole.run_args m g
  · exact fun m g _ => Cert.KernelIdeal.Whole.run_args m g
  · exact fun m g _ => Cert.KernelIdeal.Whole.run_args m g
  · intro m g _
    exact (θ_run _ _ _).mono (fun r h => ⟨fun c => (h c).2, sem_eq_zero_of_no_sems rfl _⟩) (Cert.ReferenceIdeal.Value.run m g)
  · intro m g _
    exact (θ_run _ _ _).mono (fun r h => ⟨fun c => (h c).2, sem_eq_zero_of_no_sems rfl _⟩) (Cert.ReferenceIdeal.Value.run m g)
  · exact fun m g _ => Cert.Proj.Run.run_args m g
  · exact fun m g _ => (θ_run _ _ _).mono (fun r h => ⟨fun c => (h.1 c).2, h.2⟩) (Cert.ProjIdeal.Run.run_all m g)
  · exact IdealRules.named_const.statement Cert.KernelIdeal.κ "inv_sqrt_160" .bf16 0x3DA2#16 (((Real.sqrt 160)⁻¹ : ℝ) : EReal) rfl
  · exact IdealRules.named_const.statement Cert.ProjIdeal.κ "inv_sqrt_160" .bf16 0x3DA2#16 (((Real.sqrt 160)⁻¹ : ℝ) : EReal) rfl⟩

end Cert.Proof

end
